-- ==== Defs.lean ====
def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormIdeal_norm_finite [hPre_norm_finite : Cert.Pre_norm_finite.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.2.2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.2.2.2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.2.2.2.2.1 = (fun _ => 1#1)
    ∧ (Cert.Pre_norm_finite.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7))).2.2.2.2.2.2.2 = (fun _ => 1#1)

def Pre_ConvNormRefIdeal (m : (ℓ : Loc Cert.ConvNormRefIdeal.nD Cert.ConvNormRefIdeal.τ Cert.ConvNormRefIdeal.sig) → Buf (Elt Ideal) ℓ) : Prop :=
  True

def Pre_ConvNormRefIdeal_norm_finite [hPre_norm_finite : Cert.Pre_norm_finite.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.2.2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.2.2.2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.2.2.2.2.1 = (fun _ => 1#1)
    ∧ (Cert.Pre_norm_finite.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7))).2.2.2.2.2.2.2 = (fun _ => 1#1)

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormIdeal_out_finite [hPre_out_finite : Cert.Pre_out_finite.Facts] (m : (ℓ : Loc Cert.OutNormIdeal.nD Cert.OutNormIdeal.τ Cert.OutNormIdeal.sig) → Buf (Elt Ideal) ℓ) : Prop :=
  ∀ c : Dev Cert.OutNormIdeal.nD,
    (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.2.1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.2.2.1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.2.2.2.1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.2.2.2.2.1 = (fun _ => 1#1)
    ∧ (Cert.Pre_out_finite.fn (F := Ideal) (m ((c.tc : Thread Cert.OutNormIdeal.nD Cert.OutNormIdeal.τ).loc Cert.OutNormIdeal.main_arg0)) (m ((c.tc : Thread Cert.OutNormIdeal.nD Cert.OutNormIdeal.τ).loc Cert.OutNormIdeal.main_arg1)) (m ((c.tc : Thread Cert.OutNormIdeal.nD Cert.OutNormIdeal.τ).loc Cert.OutNormIdeal.main_arg2)) (m ((c.tc : Thread Cert.OutNormIdeal.nD Cert.OutNormIdeal.τ).loc Cert.OutNormIdeal.main_arg3)) (m ((c.tc : Thread Cert.OutNormIdeal.nD Cert.OutNormIdeal.τ).loc Cert.OutNormIdeal.main_arg4)) (m ((c.tc : Thread Cert.OutNormIdeal.nD Cert.OutNormIdeal.τ).loc Cert.OutNormIdeal.main_arg5)) (m ((c.tc : Thread Cert.OutNormIdeal.nD Cert.OutNormIdeal.τ).loc Cert.OutNormIdeal.main_arg6))).2.2.2.2.2.2 = (fun _ => 1#1)

def Pre_OutNormRefIdeal (m : (ℓ : Loc Cert.OutNormRefIdeal.nD Cert.OutNormRefIdeal.τ Cert.OutNormRefIdeal.sig) → Buf (Elt Ideal) ℓ) : Prop :=
  True

def Pre_OutNormRefIdeal_out_finite [hPre_out_finite : Cert.Pre_out_finite.Facts] (m : (ℓ : Loc Cert.OutNormRefIdeal.nD Cert.OutNormRefIdeal.τ Cert.OutNormRefIdeal.sig) → Buf (Elt Ideal) ℓ) : Prop :=
  ∀ c : Dev Cert.OutNormRefIdeal.nD,
    (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.2.1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.2.2.1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.2.2.2.1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.2.2.2.2.1 = (fun _ => 1#1)
    ∧ (Cert.Pre_out_finite.fn (F := Ideal) (m ((c.tc : Thread Cert.OutNormRefIdeal.nD Cert.OutNormRefIdeal.τ).loc Cert.OutNormRefIdeal.main_arg0)) (m ((c.tc : Thread Cert.OutNormRefIdeal.nD Cert.OutNormRefIdeal.τ).loc Cert.OutNormRefIdeal.main_arg1)) (m ((c.tc : Thread Cert.OutNormRefIdeal.nD Cert.OutNormRefIdeal.τ).loc Cert.OutNormRefIdeal.main_arg2)) (m ((c.tc : Thread Cert.OutNormRefIdeal.nD Cert.OutNormRefIdeal.τ).loc Cert.OutNormRefIdeal.main_arg3)) (m ((c.tc : Thread Cert.OutNormRefIdeal.nD Cert.OutNormRefIdeal.τ).loc Cert.OutNormRefIdeal.main_arg4)) (m ((c.tc : Thread Cert.OutNormRefIdeal.nD Cert.OutNormRefIdeal.τ).loc Cert.OutNormRefIdeal.main_arg5)) (m ((c.tc : Thread Cert.OutNormRefIdeal.nD Cert.OutNormRefIdeal.τ).loc Cert.OutNormRefIdeal.main_arg6))).2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2.2.2.2.2 = (fun _ => 1#1)

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def Pre_ConvTaps (m : (ℓ : Loc Cert.ConvTaps.nD Cert.ConvTaps.τ Cert.ConvTaps.sig) → Buf (Elt Bits) ℓ) : Prop :=
  True

def Pre_ConvTapsIdeal (m : (ℓ : Loc Cert.ConvTapsIdeal.nD Cert.ConvTapsIdeal.τ Cert.ConvTapsIdeal.sig) → Buf (Elt Ideal) ℓ) : Prop :=
  True

def Pre_ConvTapsRefIdeal (m : (ℓ : Loc Cert.ConvTapsRefIdeal.nD Cert.ConvTapsRefIdeal.τ Cert.ConvTapsRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4)
      ∧ r.2.mem ((c.tc : Thread Cert.ConvNorm.nD Cert.ConvNorm.τ).loc Cert.ConvNorm.main_arg5) = m ((c.tc : Thread Cert.ConvNorm.nD Cert.ConvNorm.τ).loc Cert.ConvNorm.main_arg5)
      ∧ r.2.mem ((c.tc : Thread Cert.ConvNorm.nD Cert.ConvNorm.τ).loc Cert.ConvNorm.main_arg6) = m ((c.tc : Thread Cert.ConvNorm.nD Cert.ConvNorm.τ).loc Cert.ConvNorm.main_arg6)
      ∧ r.2.mem ((c.tc : Thread Cert.ConvNorm.nD Cert.ConvNorm.τ).loc Cert.ConvNorm.main_arg7) = m ((c.tc : Thread Cert.ConvNorm.nD Cert.ConvNorm.τ).loc Cert.ConvNorm.main_arg7))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5)
      ∧ r.2.mem ((c.tc : Thread Cert.ConvNormIdeal.nD Cert.ConvNormIdeal.τ).loc Cert.ConvNormIdeal.main_arg6) = m ((c.tc : Thread Cert.ConvNormIdeal.nD Cert.ConvNormIdeal.τ).loc Cert.ConvNormIdeal.main_arg6)
      ∧ r.2.mem ((c.tc : Thread Cert.ConvNormIdeal.nD Cert.ConvNormIdeal.τ).loc Cert.ConvNormIdeal.main_arg7) = m ((c.tc : Thread Cert.ConvNormIdeal.nD Cert.ConvNormIdeal.τ).loc Cert.ConvNormIdeal.main_arg7))
      ∧ r.2.sem = fun _ => 0)

def quiescent_ConvNormIdeal_pre_norm_finite [hConvNormIdeal : Cert.ConvNormIdeal.Facts] [hPre_norm_finite : Cert.Pre_norm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal_norm_finite m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5)
      ∧ r.2.mem ((c.tc : Thread Cert.ConvNormIdeal.nD Cert.ConvNormIdeal.τ).loc Cert.ConvNormIdeal.main_arg6) = m ((c.tc : Thread Cert.ConvNormIdeal.nD Cert.ConvNormIdeal.τ).loc Cert.ConvNormIdeal.main_arg6)
      ∧ r.2.mem ((c.tc : Thread Cert.ConvNormIdeal.nD Cert.ConvNormIdeal.τ).loc Cert.ConvNormIdeal.main_arg7) = m ((c.tc : Thread Cert.ConvNormIdeal.nD Cert.ConvNormIdeal.τ).loc Cert.ConvNormIdeal.main_arg7))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5)
      ∧ r.2.mem ((c.tc : Thread Cert.ConvNormRefIdeal.nD Cert.ConvNormRefIdeal.τ).loc Cert.ConvNormRefIdeal.main_arg6) = m ((c.tc : Thread Cert.ConvNormRefIdeal.nD Cert.ConvNormRefIdeal.τ).loc Cert.ConvNormRefIdeal.main_arg6)
      ∧ r.2.mem ((c.tc : Thread Cert.ConvNormRefIdeal.nD Cert.ConvNormRefIdeal.τ).loc Cert.ConvNormRefIdeal.main_arg7) = m ((c.tc : Thread Cert.ConvNormRefIdeal.nD Cert.ConvNormRefIdeal.τ).loc Cert.ConvNormRefIdeal.main_arg7))
      ∧ r.2.sem = fun _ => 0)

def quiescent_ConvNormRefIdeal_pre_norm_finite [hConvNormRefIdeal : Cert.ConvNormRefIdeal.Facts] [hPre_norm_finite : Cert.Pre_norm_finite.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal_norm_finite m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5)
      ∧ r.2.mem ((c.tc : Thread Cert.ConvNormRefIdeal.nD Cert.ConvNormRefIdeal.τ).loc Cert.ConvNormRefIdeal.main_arg6) = m ((c.tc : Thread Cert.ConvNormRefIdeal.nD Cert.ConvNormRefIdeal.τ).loc Cert.ConvNormRefIdeal.main_arg6)
      ∧ r.2.mem ((c.tc : Thread Cert.ConvNormRefIdeal.nD Cert.ConvNormRefIdeal.τ).loc Cert.ConvNormRefIdeal.main_arg7) = m ((c.tc : Thread Cert.ConvNormRefIdeal.nD Cert.ConvNormRefIdeal.τ).loc Cert.ConvNormRefIdeal.main_arg7))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4)
      ∧ r.2.mem ((c.tc : Thread Cert.OutNorm.nD Cert.OutNorm.τ).loc Cert.OutNorm.main_arg5) = m ((c.tc : Thread Cert.OutNorm.nD Cert.OutNorm.τ).loc Cert.OutNorm.main_arg5)
      ∧ r.2.mem ((c.tc : Thread Cert.OutNorm.nD Cert.OutNorm.τ).loc Cert.OutNorm.main_arg6) = m ((c.tc : Thread Cert.OutNorm.nD Cert.OutNorm.τ).loc Cert.OutNorm.main_arg6))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
      ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
      ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ r.2.sem = fun _ => 0)

def quiescent_OutNormIdeal_pre_out_finite [hOutNormIdeal : Cert.OutNormIdeal.Facts] [hPre_out_finite : Cert.Pre_out_finite.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal_out_finite m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
      ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
      ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4)
      ∧ r.2.mem ((c.tc : Thread Cert.OutNormRefIdeal.nD Cert.OutNormRefIdeal.τ).loc Cert.OutNormRefIdeal.main_arg5) = m ((c.tc : Thread Cert.OutNormRefIdeal.nD Cert.OutNormRefIdeal.τ).loc Cert.OutNormRefIdeal.main_arg5)
      ∧ r.2.mem ((c.tc : Thread Cert.OutNormRefIdeal.nD Cert.OutNormRefIdeal.τ).loc Cert.OutNormRefIdeal.main_arg6) = m ((c.tc : Thread Cert.OutNormRefIdeal.nD Cert.OutNormRefIdeal.τ).loc Cert.OutNormRefIdeal.main_arg6))
      ∧ r.2.sem = fun _ => 0)

def quiescent_OutNormRefIdeal_pre_out_finite [hOutNormRefIdeal : Cert.OutNormRefIdeal.Facts] [hPre_out_finite : Cert.Pre_out_finite.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal_out_finite m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4)
      ∧ r.2.mem ((c.tc : Thread Cert.OutNormRefIdeal.nD Cert.OutNormRefIdeal.τ).loc Cert.OutNormRefIdeal.main_arg5) = m ((c.tc : Thread Cert.OutNormRefIdeal.nD Cert.OutNormRefIdeal.τ).loc Cert.OutNormRefIdeal.main_arg5)
      ∧ r.2.mem ((c.tc : Thread Cert.OutNormRefIdeal.nD Cert.OutNormRefIdeal.τ).loc Cert.OutNormRefIdeal.main_arg6) = m ((c.tc : Thread Cert.OutNormRefIdeal.nD Cert.OutNormRefIdeal.τ).loc Cert.OutNormRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0)
      ∧ r.2.mem ((c.tc : Thread Cert.RelBias.nD Cert.RelBias.τ).loc Cert.RelBias.main_arg1) = m ((c.tc : Thread Cert.RelBias.nD Cert.RelBias.τ).loc Cert.RelBias.main_arg1))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
      ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0)
      ∧ r.2.mem ((c.tc : Thread Cert.RelBiasRefIdeal.nD Cert.RelBiasRefIdeal.τ).loc Cert.RelBiasRefIdeal.main_arg1) = m ((c.tc : Thread Cert.RelBiasRefIdeal.nD Cert.RelBiasRefIdeal.τ).loc Cert.RelBiasRefIdeal.main_arg1))
      ∧ r.2.sem = fun _ => 0)

def quiescent_ConvTaps [hConvTaps : Cert.ConvTaps.Facts] : Prop :=
  ∀ (m : (ℓ : Loc Cert.ConvTaps.nD Cert.ConvTaps.τ Cert.ConvTaps.sig) → Buf (Elt Bits) ℓ) (g : Dev Cert.ConvTaps.nD → PrngReg), Pre_ConvTaps m →
    θ_run (Cert.ConvTaps.defs (F := Bits)) (onTc (τ := Cert.ConvTaps.τ) (Cert.ConvTaps.main (F := Bits))) ⟨m, fun _ => 0, g⟩ (fun r => (∀ c : Dev Cert.ConvTaps.nD,
      r.2.mem ((c.tc : Thread Cert.ConvTaps.nD Cert.ConvTaps.τ).loc Cert.ConvTaps.main_arg0) = m ((c.tc : Thread Cert.ConvTaps.nD Cert.ConvTaps.τ).loc Cert.ConvTaps.main_arg0)
      ∧ r.2.mem ((c.tc : Thread Cert.ConvTaps.nD Cert.ConvTaps.τ).loc Cert.ConvTaps.main_arg1) = m ((c.tc : Thread Cert.ConvTaps.nD Cert.ConvTaps.τ).loc Cert.ConvTaps.main_arg1)
      ∧ r.2.mem ((c.tc : Thread Cert.ConvTaps.nD Cert.ConvTaps.τ).loc Cert.ConvTaps.main_arg2) = m ((c.tc : Thread Cert.ConvTaps.nD Cert.ConvTaps.τ).loc Cert.ConvTaps.main_arg2))
      ∧ r.2.sem = fun _ => 0)

def quiescent_ConvTapsIdeal [hConvTapsIdeal : Cert.ConvTapsIdeal.Facts] : Prop :=
  ∀ (m : (ℓ : Loc Cert.ConvTapsIdeal.nD Cert.ConvTapsIdeal.τ Cert.ConvTapsIdeal.sig) → Buf (Elt Ideal) ℓ) (g : Dev Cert.ConvTapsIdeal.nD → PrngReg), Pre_ConvTapsIdeal m →
    θ_run (Cert.ConvTapsIdeal.defs (F := Ideal)) (onTc (τ := Cert.ConvTapsIdeal.τ) (Cert.ConvTapsIdeal.main (F := Ideal))) ⟨m, fun _ => 0, g⟩ (fun r => (∀ c : Dev Cert.ConvTapsIdeal.nD,
      r.2.mem ((c.tc : Thread Cert.ConvTapsIdeal.nD Cert.ConvTapsIdeal.τ).loc Cert.ConvTapsIdeal.main_arg0) = m ((c.tc : Thread Cert.ConvTapsIdeal.nD Cert.ConvTapsIdeal.τ).loc Cert.ConvTapsIdeal.main_arg0)
      ∧ r.2.mem ((c.tc : Thread Cert.ConvTapsIdeal.nD Cert.ConvTapsIdeal.τ).loc Cert.ConvTapsIdeal.main_arg1) = m ((c.tc : Thread Cert.ConvTapsIdeal.nD Cert.ConvTapsIdeal.τ).loc Cert.ConvTapsIdeal.main_arg1)
      ∧ r.2.mem ((c.tc : Thread Cert.ConvTapsIdeal.nD Cert.ConvTapsIdeal.τ).loc Cert.ConvTapsIdeal.main_arg2) = m ((c.tc : Thread Cert.ConvTapsIdeal.nD Cert.ConvTapsIdeal.τ).loc Cert.ConvTapsIdeal.main_arg2))
      ∧ r.2.sem = fun _ => 0)

def quiescent_ConvTapsRefIdeal [hConvTapsRefIdeal : Cert.ConvTapsRefIdeal.Facts] : Prop :=
  ∀ (m : (ℓ : Loc Cert.ConvTapsRefIdeal.nD Cert.ConvTapsRefIdeal.τ Cert.ConvTapsRefIdeal.sig) → Buf (Elt Ideal) ℓ) (g : Dev Cert.ConvTapsRefIdeal.nD → PrngReg), Pre_ConvTapsRefIdeal m →
    θ_run (Cert.ConvTapsRefIdeal.defs (F := Ideal)) (onTc (τ := Cert.ConvTapsRefIdeal.τ) (Cert.ConvTapsRefIdeal.main (F := Ideal))) ⟨m, fun _ => 0, g⟩ (fun r => (∀ c : Dev Cert.ConvTapsRefIdeal.nD,
      r.2.mem ((c.tc : Thread Cert.ConvTapsRefIdeal.nD Cert.ConvTapsRefIdeal.τ).loc Cert.ConvTapsRefIdeal.main_arg0) = m ((c.tc : Thread Cert.ConvTapsRefIdeal.nD Cert.ConvTapsRefIdeal.τ).loc Cert.ConvTapsRefIdeal.main_arg0)
      ∧ r.2.mem ((c.tc : Thread Cert.ConvTapsRefIdeal.nD Cert.ConvTapsRefIdeal.τ).loc Cert.ConvTapsRefIdeal.main_arg1) = m ((c.tc : Thread Cert.ConvTapsRefIdeal.nD Cert.ConvTapsRefIdeal.τ).loc Cert.ConvTapsRefIdeal.main_arg1)
      ∧ r.2.mem ((c.tc : Thread Cert.ConvTapsRefIdeal.nD Cert.ConvTapsRefIdeal.τ).loc Cert.ConvTapsRefIdeal.main_arg2) = m ((c.tc : Thread Cert.ConvTapsRefIdeal.nD Cert.ConvTapsRefIdeal.τ).loc Cert.ConvTapsRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6)
      ∧ r.2.mem ((c.tc : Thread Cert.InGrad.nD Cert.InGrad.τ).loc Cert.InGrad.main_arg7) = m ((c.tc : Thread Cert.InGrad.nD Cert.InGrad.τ).loc Cert.InGrad.main_arg7))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5)
      ∧ r.2.mem ((c.tc : Thread Cert.InGradRefIdeal.nD Cert.InGradRefIdeal.τ).loc Cert.InGradRefIdeal.main_arg6) = m ((c.tc : Thread Cert.InGradRefIdeal.nD Cert.InGradRefIdeal.τ).loc Cert.InGradRefIdeal.main_arg6)
      ∧ r.2.mem ((c.tc : Thread Cert.InGradRefIdeal.nD Cert.InGradRefIdeal.τ).loc Cert.InGradRefIdeal.main_arg7) = m ((c.tc : Thread Cert.InGradRefIdeal.nD Cert.InGradRefIdeal.τ).loc Cert.InGradRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def preserves_ConvNorm_ConvNormIdeal : Prop :=
  True

def algebraic_ConvNormIdeal_ConvNormRefIdeal_pre_norm_finite [hConvNormIdeal : Cert.ConvNormIdeal.Facts] [hConvNormRefIdeal : Cert.ConvNormRefIdeal.Facts] [hPre_norm_finite : Cert.Pre_norm_finite.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal_norm_finite m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)
      ∧ m' ((c.tc : Thread Cert.ConvNormRefIdeal.nD Cert.ConvNormRefIdeal.τ).loc Cert.ConvNormRefIdeal.main_arg5) = m ((c.tc : Thread Cert.ConvNormIdeal.nD Cert.ConvNormIdeal.τ).loc Cert.ConvNormIdeal.main_arg5)
      ∧ m' ((c.tc : Thread Cert.ConvNormRefIdeal.nD Cert.ConvNormRefIdeal.τ).loc Cert.ConvNormRefIdeal.main_arg6) = m ((c.tc : Thread Cert.ConvNormIdeal.nD Cert.ConvNormIdeal.τ).loc Cert.ConvNormIdeal.main_arg6)
      ∧ m' ((c.tc : Thread Cert.ConvNormRefIdeal.nD Cert.ConvNormRefIdeal.τ).loc Cert.ConvNormRefIdeal.main_arg7) = m ((c.tc : Thread Cert.ConvNormIdeal.nD Cert.ConvNormIdeal.τ).loc Cert.ConvNormIdeal.main_arg7)) →
    ∃ (v0 : (c : Dev Cert.ConvNormIdeal.nD) → Buf (Elt Ideal) ((c.tc : Thread Cert.ConvNormIdeal.nD Cert.ConvNormIdeal.τ).loc Cert.ConvNormIdeal.main_v31_0)) (v1 : (c : Dev Cert.ConvNormIdeal.nD) → Buf (Elt Ideal) ((c.tc : Thread Cert.ConvNormIdeal.nD Cert.ConvNormIdeal.τ).loc Cert.ConvNormIdeal.main_v31_1)) (v2 : (c : Dev Cert.ConvNormIdeal.nD) → Buf (Elt Ideal) ((c.tc : Thread Cert.ConvNormIdeal.nD Cert.ConvNormIdeal.τ).loc Cert.ConvNormIdeal.main_v31_2)) (v3 : (c : Dev Cert.ConvNormIdeal.nD) → Buf (Elt Ideal) ((c.tc : Thread Cert.ConvNormIdeal.nD Cert.ConvNormIdeal.τ).loc Cert.ConvNormIdeal.main_v31_3)) (v4 : (c : Dev Cert.ConvNormIdeal.nD) → Buf (Elt Ideal) ((c.tc : Thread Cert.ConvNormIdeal.nD Cert.ConvNormIdeal.τ).loc Cert.ConvNormIdeal.main_v31_4)) (v5 : (c : Dev Cert.ConvNormIdeal.nD) → Buf (Elt Ideal) ((c.tc : Thread Cert.ConvNormIdeal.nD Cert.ConvNormIdeal.τ).loc Cert.ConvNormIdeal.main_v31_5)) (v6 : (c : Dev Cert.ConvNormIdeal.nD) → Buf (Elt Ideal) ((c.tc : Thread Cert.ConvNormIdeal.nD Cert.ConvNormIdeal.τ).loc Cert.ConvNormIdeal.main_v31_6)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v31_0) = v0 c
          ∧ r.2.mem ((c.tc : Thread Cert.ConvNormIdeal.nD Cert.ConvNormIdeal.τ).loc Cert.ConvNormIdeal.main_v31_1) = v1 c
          ∧ r.2.mem ((c.tc : Thread Cert.ConvNormIdeal.nD Cert.ConvNormIdeal.τ).loc Cert.ConvNormIdeal.main_v31_2) = v2 c
          ∧ r.2.mem ((c.tc : Thread Cert.ConvNormIdeal.nD Cert.ConvNormIdeal.τ).loc Cert.ConvNormIdeal.main_v31_3) = v3 c
          ∧ r.2.mem ((c.tc : Thread Cert.ConvNormIdeal.nD Cert.ConvNormIdeal.τ).loc Cert.ConvNormIdeal.main_v31_4) = v4 c
          ∧ r.2.mem ((c.tc : Thread Cert.ConvNormIdeal.nD Cert.ConvNormIdeal.τ).loc Cert.ConvNormIdeal.main_v31_5) = v5 c
          ∧ r.2.mem ((c.tc : Thread Cert.ConvNormIdeal.nD Cert.ConvNormIdeal.τ).loc Cert.ConvNormIdeal.main_v31_6) = v6 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
          ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5)
          ∧ r.2.mem ((c.tc : Thread Cert.ConvNormIdeal.nD Cert.ConvNormIdeal.τ).loc Cert.ConvNormIdeal.main_arg6) = m ((c.tc : Thread Cert.ConvNormIdeal.nD Cert.ConvNormIdeal.τ).loc Cert.ConvNormIdeal.main_arg6)
          ∧ r.2.mem ((c.tc : Thread Cert.ConvNormIdeal.nD Cert.ConvNormIdeal.τ).loc Cert.ConvNormIdeal.main_arg7) = m ((c.tc : Thread Cert.ConvNormIdeal.nD Cert.ConvNormIdeal.τ).loc Cert.ConvNormIdeal.main_arg7))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v97) = v0 c
          ∧ r.2.mem ((c.tc : Thread Cert.ConvNormRefIdeal.nD Cert.ConvNormRefIdeal.τ).loc Cert.ConvNormRefIdeal.main_v98) = v1 c
          ∧ r.2.mem ((c.tc : Thread Cert.ConvNormRefIdeal.nD Cert.ConvNormRefIdeal.τ).loc Cert.ConvNormRefIdeal.main_v89) = v2 c
          ∧ r.2.mem ((c.tc : Thread Cert.ConvNormRefIdeal.nD Cert.ConvNormRefIdeal.τ).loc Cert.ConvNormRefIdeal.main_v51) = v3 c
          ∧ r.2.mem ((c.tc : Thread Cert.ConvNormRefIdeal.nD Cert.ConvNormRefIdeal.τ).loc Cert.ConvNormRefIdeal.main_v91) = v4 c
          ∧ r.2.mem ((c.tc : Thread Cert.ConvNormRefIdeal.nD Cert.ConvNormRefIdeal.τ).loc Cert.ConvNormRefIdeal.main_v90) = v5 c
          ∧ r.2.mem ((c.tc : Thread Cert.ConvNormRefIdeal.nD Cert.ConvNormRefIdeal.τ).loc Cert.ConvNormRefIdeal.main_v95) = v6 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4)
          ∧ r.2.mem ((c.tc : Thread Cert.ConvNormRefIdeal.nD Cert.ConvNormRefIdeal.τ).loc Cert.ConvNormRefIdeal.main_arg5) = m' ((c.tc : Thread Cert.ConvNormRefIdeal.nD Cert.ConvNormRefIdeal.τ).loc Cert.ConvNormRefIdeal.main_arg5)
          ∧ r.2.mem ((c.tc : Thread Cert.ConvNormRefIdeal.nD Cert.ConvNormRefIdeal.τ).loc Cert.ConvNormRefIdeal.main_arg6) = m' ((c.tc : Thread Cert.ConvNormRefIdeal.nD Cert.ConvNormRefIdeal.τ).loc Cert.ConvNormRefIdeal.main_arg6)
          ∧ r.2.mem ((c.tc : Thread Cert.ConvNormRefIdeal.nD Cert.ConvNormRefIdeal.τ).loc Cert.ConvNormRefIdeal.main_arg7) = m' ((c.tc : Thread Cert.ConvNormRefIdeal.nD Cert.ConvNormRefIdeal.τ).loc Cert.ConvNormRefIdeal.main_arg7))

def preserves_OutNorm_OutNormIdeal : Prop :=
  True

def algebraic_OutNormIdeal_OutNormRefIdeal_pre_out_finite [hOutNormIdeal : Cert.OutNormIdeal.Facts] [hOutNormRefIdeal : Cert.OutNormRefIdeal.Facts] [hPre_out_finite : Cert.Pre_out_finite.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal_out_finite m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)
      ∧ m' ((c.tc : Thread Cert.OutNormRefIdeal.nD Cert.OutNormRefIdeal.τ).loc Cert.OutNormRefIdeal.main_arg4) = m ((c.tc : Thread Cert.OutNormIdeal.nD Cert.OutNormIdeal.τ).loc Cert.OutNormIdeal.main_arg4)
      ∧ m' ((c.tc : Thread Cert.OutNormRefIdeal.nD Cert.OutNormRefIdeal.τ).loc Cert.OutNormRefIdeal.main_arg5) = m ((c.tc : Thread Cert.OutNormIdeal.nD Cert.OutNormIdeal.τ).loc Cert.OutNormIdeal.main_arg5)
      ∧ m' ((c.tc : Thread Cert.OutNormRefIdeal.nD Cert.OutNormRefIdeal.τ).loc Cert.OutNormRefIdeal.main_arg6) = m ((c.tc : Thread Cert.OutNormIdeal.nD Cert.OutNormIdeal.τ).loc Cert.OutNormIdeal.main_arg6)) →
    ∃ (v0 : (c : Dev Cert.OutNormIdeal.nD) → Buf (Elt Ideal) ((c.tc : Thread Cert.OutNormIdeal.nD Cert.OutNormIdeal.τ).loc Cert.OutNormIdeal.main_v2_0)) (v1 : (c : Dev Cert.OutNormIdeal.nD) → Buf (Elt Ideal) ((c.tc : Thread Cert.OutNormIdeal.nD Cert.OutNormIdeal.τ).loc Cert.OutNormIdeal.main_v2_1)) (v2 : (c : Dev Cert.OutNormIdeal.nD) → Buf (Elt Ideal) ((c.tc : Thread Cert.OutNormIdeal.nD Cert.OutNormIdeal.τ).loc Cert.OutNormIdeal.main_v2_2)) (v3 : (c : Dev Cert.OutNormIdeal.nD) → Buf (Elt Ideal) ((c.tc : Thread Cert.OutNormIdeal.nD Cert.OutNormIdeal.τ).loc Cert.OutNormIdeal.main_v2_3)) (v4 : (c : Dev Cert.OutNormIdeal.nD) → Buf (Elt Ideal) ((c.tc : Thread Cert.OutNormIdeal.nD Cert.OutNormIdeal.τ).loc Cert.OutNormIdeal.main_v2_4)) (v5 : (c : Dev Cert.OutNormIdeal.nD) → Buf (Elt Ideal) ((c.tc : Thread Cert.OutNormIdeal.nD Cert.OutNormIdeal.τ).loc Cert.OutNormIdeal.main_v2_5)) (v6 : (c : Dev Cert.OutNormIdeal.nD) → Buf (Elt Ideal) ((c.tc : Thread Cert.OutNormIdeal.nD Cert.OutNormIdeal.τ).loc Cert.OutNormIdeal.main_v2_6)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v2_0) = v0 c
          ∧ r.2.mem ((c.tc : Thread Cert.OutNormIdeal.nD Cert.OutNormIdeal.τ).loc Cert.OutNormIdeal.main_v2_1) = v1 c
          ∧ r.2.mem ((c.tc : Thread Cert.OutNormIdeal.nD Cert.OutNormIdeal.τ).loc Cert.OutNormIdeal.main_v2_2) = v2 c
          ∧ r.2.mem ((c.tc : Thread Cert.OutNormIdeal.nD Cert.OutNormIdeal.τ).loc Cert.OutNormIdeal.main_v2_3) = v3 c
          ∧ r.2.mem ((c.tc : Thread Cert.OutNormIdeal.nD Cert.OutNormIdeal.τ).loc Cert.OutNormIdeal.main_v2_4) = v4 c
          ∧ r.2.mem ((c.tc : Thread Cert.OutNormIdeal.nD Cert.OutNormIdeal.τ).loc Cert.OutNormIdeal.main_v2_5) = v5 c
          ∧ r.2.mem ((c.tc : Thread Cert.OutNormIdeal.nD Cert.OutNormIdeal.τ).loc Cert.OutNormIdeal.main_v2_6) = v6 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
          ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
          ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v87) = v0 c
          ∧ r.2.mem ((c.tc : Thread Cert.OutNormRefIdeal.nD Cert.OutNormRefIdeal.τ).loc Cert.OutNormRefIdeal.main_v96) = v1 c
          ∧ r.2.mem ((c.tc : Thread Cert.OutNormRefIdeal.nD Cert.OutNormRefIdeal.τ).loc Cert.OutNormRefIdeal.main_v97) = v2 c
          ∧ r.2.mem ((c.tc : Thread Cert.OutNormRefIdeal.nD Cert.OutNormRefIdeal.τ).loc Cert.OutNormRefIdeal.main_v98) = v3 c
          ∧ r.2.mem ((c.tc : Thread Cert.OutNormRefIdeal.nD Cert.OutNormRefIdeal.τ).loc Cert.OutNormRefIdeal.main_v89) = v4 c
          ∧ r.2.mem ((c.tc : Thread Cert.OutNormRefIdeal.nD Cert.OutNormRefIdeal.τ).loc Cert.OutNormRefIdeal.main_v88) = v5 c
          ∧ r.2.mem ((c.tc : Thread Cert.OutNormRefIdeal.nD Cert.OutNormRefIdeal.τ).loc Cert.OutNormRefIdeal.main_v94) = v6 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3)
          ∧ r.2.mem ((c.tc : Thread Cert.OutNormRefIdeal.nD Cert.OutNormRefIdeal.τ).loc Cert.OutNormRefIdeal.main_arg4) = m' ((c.tc : Thread Cert.OutNormRefIdeal.nD Cert.OutNormRefIdeal.τ).loc Cert.OutNormRefIdeal.main_arg4)
          ∧ r.2.mem ((c.tc : Thread Cert.OutNormRefIdeal.nD Cert.OutNormRefIdeal.τ).loc Cert.OutNormRefIdeal.main_arg5) = m' ((c.tc : Thread Cert.OutNormRefIdeal.nD Cert.OutNormRefIdeal.τ).loc Cert.OutNormRefIdeal.main_arg5)
          ∧ r.2.mem ((c.tc : Thread Cert.OutNormRefIdeal.nD Cert.OutNormRefIdeal.τ).loc Cert.OutNormRefIdeal.main_arg6) = m' ((c.tc : Thread Cert.OutNormRefIdeal.nD Cert.OutNormRefIdeal.τ).loc Cert.OutNormRefIdeal.main_arg6))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v88_0)) (v1 : (c : Dev Cert.AttnIdeal.nD) → Buf (Elt Ideal) ((c.tc : Thread Cert.AttnIdeal.nD Cert.AttnIdeal.τ).loc Cert.AttnIdeal.main_v88_1)) (v2 : (c : Dev Cert.AttnIdeal.nD) → Buf (Elt Ideal) ((c.tc : Thread Cert.AttnIdeal.nD Cert.AttnIdeal.τ).loc Cert.AttnIdeal.main_v88_2)) (v3 : (c : Dev Cert.AttnIdeal.nD) → Buf (Elt Ideal) ((c.tc : Thread Cert.AttnIdeal.nD Cert.AttnIdeal.τ).loc Cert.AttnIdeal.main_v88_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v88_0) = v0 c
          ∧ r.2.mem ((c.tc : Thread Cert.AttnIdeal.nD Cert.AttnIdeal.τ).loc Cert.AttnIdeal.main_v88_1) = v1 c
          ∧ r.2.mem ((c.tc : Thread Cert.AttnIdeal.nD Cert.AttnIdeal.τ).loc Cert.AttnIdeal.main_v88_2) = v2 c
          ∧ r.2.mem ((c.tc : Thread Cert.AttnIdeal.nD Cert.AttnIdeal.τ).loc Cert.AttnIdeal.main_v88_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v150) = v0 c
          ∧ r.2.mem ((c.tc : Thread Cert.AttnRefIdeal.nD Cert.AttnRefIdeal.τ).loc Cert.AttnRefIdeal.main_v151) = v1 c
          ∧ r.2.mem ((c.tc : Thread Cert.AttnRefIdeal.nD Cert.AttnRefIdeal.τ).loc Cert.AttnRefIdeal.main_v124) = v2 c
          ∧ r.2.mem ((c.tc : Thread Cert.AttnRefIdeal.nD Cert.AttnRefIdeal.τ).loc Cert.AttnRefIdeal.main_v152) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_RelBias_RelBiasIdeal : Prop :=
  True

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)
      ∧ m' ((c.tc : Thread Cert.RelBiasRefIdeal.nD Cert.RelBiasRefIdeal.τ).loc Cert.RelBiasRefIdeal.main_arg1) = m ((c.tc : Thread Cert.RelBiasIdeal.nD Cert.RelBiasIdeal.τ).loc Cert.RelBiasIdeal.main_arg1)) →
    ∃ (v0 : (c : Dev Cert.RelBiasIdeal.nD) → Buf (Elt Ideal) ((c.tc : Thread Cert.RelBiasIdeal.nD Cert.RelBiasIdeal.τ).loc Cert.RelBiasIdeal.main_v35)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v35) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
          ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v52) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0)
          ∧ r.2.mem ((c.tc : Thread Cert.RelBiasRefIdeal.nD Cert.RelBiasRefIdeal.τ).loc Cert.RelBiasRefIdeal.main_arg1) = m' ((c.tc : Thread Cert.RelBiasRefIdeal.nD Cert.RelBiasRefIdeal.τ).loc Cert.RelBiasRefIdeal.main_arg1))

def preserves_ConvTaps_ConvTapsIdeal : Prop :=
  True

def algebraic_ConvTapsIdeal_ConvTapsRefIdeal [hConvTapsIdeal : Cert.ConvTapsIdeal.Facts] [hConvTapsRefIdeal : Cert.ConvTapsRefIdeal.Facts] : Prop :=
  ∀ (m : (ℓ : Loc Cert.ConvTapsIdeal.nD Cert.ConvTapsIdeal.τ Cert.ConvTapsIdeal.sig) → Buf (Elt Ideal) ℓ) (g : Dev Cert.ConvTapsIdeal.nD → PrngReg)
    (m' : (ℓ : Loc Cert.ConvTapsRefIdeal.nD Cert.ConvTapsRefIdeal.τ Cert.ConvTapsRefIdeal.sig) → Buf (Elt Ideal) ℓ) (g' : Dev Cert.ConvTapsRefIdeal.nD → PrngReg), Pre_ConvTapsIdeal m →
    (∀ c : Dev Cert.ConvTapsIdeal.nD,
      m' ((c.tc : Thread Cert.ConvTapsRefIdeal.nD Cert.ConvTapsRefIdeal.τ).loc Cert.ConvTapsRefIdeal.main_arg0) = m ((c.tc : Thread Cert.ConvTapsIdeal.nD Cert.ConvTapsIdeal.τ).loc Cert.ConvTapsIdeal.main_arg0)
      ∧ m' ((c.tc : Thread Cert.ConvTapsRefIdeal.nD Cert.ConvTapsRefIdeal.τ).loc Cert.ConvTapsRefIdeal.main_arg1) = m ((c.tc : Thread Cert.ConvTapsIdeal.nD Cert.ConvTapsIdeal.τ).loc Cert.ConvTapsIdeal.main_arg1)
      ∧ m' ((c.tc : Thread Cert.ConvTapsRefIdeal.nD Cert.ConvTapsRefIdeal.τ).loc Cert.ConvTapsRefIdeal.main_arg2) = m ((c.tc : Thread Cert.ConvTapsIdeal.nD Cert.ConvTapsIdeal.τ).loc Cert.ConvTapsIdeal.main_arg2)) →
    ∃ (v0 : (c : Dev Cert.ConvTapsIdeal.nD) → Buf (Elt Ideal) ((c.tc : Thread Cert.ConvTapsIdeal.nD Cert.ConvTapsIdeal.τ).loc Cert.ConvTapsIdeal.main_v2_0)) (v1 : (c : Dev Cert.ConvTapsIdeal.nD) → Buf (Elt Ideal) ((c.tc : Thread Cert.ConvTapsIdeal.nD Cert.ConvTapsIdeal.τ).loc Cert.ConvTapsIdeal.main_v2_1)),
      θ_run (Cert.ConvTapsIdeal.defs (F := Ideal)) (onTc (τ := Cert.ConvTapsIdeal.τ) (Cert.ConvTapsIdeal.main (F := Ideal))) ⟨m, fun _ => 0, g⟩ (fun r => ∀ c : Dev Cert.ConvTapsIdeal.nD,
          r.2.mem ((c.tc : Thread Cert.ConvTapsIdeal.nD Cert.ConvTapsIdeal.τ).loc Cert.ConvTapsIdeal.main_v2_0) = v0 c
          ∧ r.2.mem ((c.tc : Thread Cert.ConvTapsIdeal.nD Cert.ConvTapsIdeal.τ).loc Cert.ConvTapsIdeal.main_v2_1) = v1 c
          ∧ r.2.mem ((c.tc : Thread Cert.ConvTapsIdeal.nD Cert.ConvTapsIdeal.τ).loc Cert.ConvTapsIdeal.main_arg0) = m ((c.tc : Thread Cert.ConvTapsIdeal.nD Cert.ConvTapsIdeal.τ).loc Cert.ConvTapsIdeal.main_arg0)
          ∧ r.2.mem ((c.tc : Thread Cert.ConvTapsIdeal.nD Cert.ConvTapsIdeal.τ).loc Cert.ConvTapsIdeal.main_arg1) = m ((c.tc : Thread Cert.ConvTapsIdeal.nD Cert.ConvTapsIdeal.τ).loc Cert.ConvTapsIdeal.main_arg1)
          ∧ r.2.mem ((c.tc : Thread Cert.ConvTapsIdeal.nD Cert.ConvTapsIdeal.τ).loc Cert.ConvTapsIdeal.main_arg2) = m ((c.tc : Thread Cert.ConvTapsIdeal.nD Cert.ConvTapsIdeal.τ).loc Cert.ConvTapsIdeal.main_arg2))
      ∧ θ_run (Cert.ConvTapsRefIdeal.defs (F := Ideal)) (onTc (τ := Cert.ConvTapsRefIdeal.τ) (Cert.ConvTapsRefIdeal.main (F := Ideal))) ⟨m', fun _ => 0, g'⟩ (fun r => ∀ c : Dev Cert.ConvTapsRefIdeal.nD,
          r.2.mem ((c.tc : Thread Cert.ConvTapsRefIdeal.nD Cert.ConvTapsRefIdeal.τ).loc Cert.ConvTapsRefIdeal.main_v580) = v0 c
          ∧ r.2.mem ((c.tc : Thread Cert.ConvTapsRefIdeal.nD Cert.ConvTapsRefIdeal.τ).loc Cert.ConvTapsRefIdeal.main_v583) = v1 c
          ∧ r.2.mem ((c.tc : Thread Cert.ConvTapsRefIdeal.nD Cert.ConvTapsRefIdeal.τ).loc Cert.ConvTapsRefIdeal.main_arg0) = m' ((c.tc : Thread Cert.ConvTapsRefIdeal.nD Cert.ConvTapsRefIdeal.τ).loc Cert.ConvTapsRefIdeal.main_arg0)
          ∧ r.2.mem ((c.tc : Thread Cert.ConvTapsRefIdeal.nD Cert.ConvTapsRefIdeal.τ).loc Cert.ConvTapsRefIdeal.main_arg1) = m' ((c.tc : Thread Cert.ConvTapsRefIdeal.nD Cert.ConvTapsRefIdeal.τ).loc Cert.ConvTapsRefIdeal.main_arg1)
          ∧ r.2.mem ((c.tc : Thread Cert.ConvTapsRefIdeal.nD Cert.ConvTapsRefIdeal.τ).loc Cert.ConvTapsRefIdeal.main_arg2) = m' ((c.tc : Thread Cert.ConvTapsRefIdeal.nD Cert.ConvTapsRefIdeal.τ).loc Cert.ConvTapsRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)
      ∧ m' ((c.tc : Thread Cert.InGradRefIdeal.nD Cert.InGradRefIdeal.τ).loc Cert.InGradRefIdeal.main_arg6) = m ((c.tc : Thread Cert.InGradIdeal.nD Cert.InGradIdeal.τ).loc Cert.InGradIdeal.main_arg6)
      ∧ m' ((c.tc : Thread Cert.InGradRefIdeal.nD Cert.InGradRefIdeal.τ).loc Cert.InGradRefIdeal.main_arg7) = m ((c.tc : Thread Cert.InGradIdeal.nD Cert.InGradIdeal.τ).loc Cert.InGradIdeal.main_arg7)) →
    ∃ (v0 : (c : Dev Cert.InGradIdeal.nD) → Buf (Elt Ideal) ((c.tc : Thread Cert.InGradIdeal.nD Cert.InGradIdeal.τ).loc Cert.InGradIdeal.main_v3_0)) (v1 : (c : Dev Cert.InGradIdeal.nD) → Buf (Elt Ideal) ((c.tc : Thread Cert.InGradIdeal.nD Cert.InGradIdeal.τ).loc Cert.InGradIdeal.main_v3_1)) (v2 : (c : Dev Cert.InGradIdeal.nD) → Buf (Elt Ideal) ((c.tc : Thread Cert.InGradIdeal.nD Cert.InGradIdeal.τ).loc Cert.InGradIdeal.main_v3_2)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v3_0) = v0 c
          ∧ r.2.mem ((c.tc : Thread Cert.InGradIdeal.nD Cert.InGradIdeal.τ).loc Cert.InGradIdeal.main_v3_1) = v1 c
          ∧ r.2.mem ((c.tc : Thread Cert.InGradIdeal.nD Cert.InGradIdeal.τ).loc Cert.InGradIdeal.main_v3_2) = v2 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
          ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v27) = v0 c
          ∧ r.2.mem ((c.tc : Thread Cert.InGradRefIdeal.nD Cert.InGradRefIdeal.τ).loc Cert.InGradRefIdeal.main_v21) = v1 c
          ∧ r.2.mem ((c.tc : Thread Cert.InGradRefIdeal.nD Cert.InGradRefIdeal.τ).loc Cert.InGradRefIdeal.main_v24) = v2 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5)
          ∧ r.2.mem ((c.tc : Thread Cert.InGradRefIdeal.nD Cert.InGradRefIdeal.τ).loc Cert.InGradRefIdeal.main_arg6) = m' ((c.tc : Thread Cert.InGradRefIdeal.nD Cert.InGradRefIdeal.τ).loc Cert.InGradRefIdeal.main_arg6)
          ∧ r.2.mem ((c.tc : Thread Cert.InGradRefIdeal.nD Cert.InGradRefIdeal.τ).loc Cert.InGradRefIdeal.main_arg7) = m' ((c.tc : Thread Cert.InGradRefIdeal.nD Cert.InGradRefIdeal.τ).loc Cert.InGradRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v11) = v0 c
          ∧ r.2.mem ((c.tc : Thread Cert.InProjRefIdeal.nD Cert.InProjRefIdeal.τ).loc Cert.InProjRefIdeal.main_v13) = v1 c
          ∧ r.2.mem ((c.tc : Thread Cert.InProjRefIdeal.nD Cert.InProjRefIdeal.τ).loc Cert.InProjRefIdeal.main_v14) = v2 c
          ∧ r.2.mem ((c.tc : Thread Cert.InProjRefIdeal.nD Cert.InProjRefIdeal.τ).loc Cert.InProjRefIdeal.main_v15) = v3 c
          ∧ r.2.mem ((c.tc : Thread Cert.InProjRefIdeal.nD Cert.InProjRefIdeal.τ).loc Cert.InProjRefIdeal.main_v16) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Mixer_MixerIdeal : Prop :=
  IdealRules.named_const.Statement Cert.MixerIdeal.κ "mask" .f32 0xF149F2CA#32 ⊥

def Claim : Prop :=
  ∃ (hConvNorm : Cert.ConvNorm.Facts) (hConvNormIdeal : Cert.ConvNormIdeal.Facts) (hConvNormRefIdeal : Cert.ConvNormRefIdeal.Facts) (hOutNorm : Cert.OutNorm.Facts) (hOutNormIdeal : Cert.OutNormIdeal.Facts) (hOutNormRefIdeal : Cert.OutNormRefIdeal.Facts) (hAttn : Cert.Attn.Facts) (hAttnIdeal : Cert.AttnIdeal.Facts) (hAttnRefIdeal : Cert.AttnRefIdeal.Facts) (hRelBias : Cert.RelBias.Facts) (hRelBiasIdeal : Cert.RelBiasIdeal.Facts) (hRelBiasRefIdeal : Cert.RelBiasRefIdeal.Facts) (hConvTaps : Cert.ConvTaps.Facts) (hConvTapsIdeal : Cert.ConvTapsIdeal.Facts) (hConvTapsRefIdeal : Cert.ConvTapsRefIdeal.Facts) (hInGrad : Cert.InGrad.Facts) (hInGradIdeal : Cert.InGradIdeal.Facts) (hInGradRefIdeal : Cert.InGradRefIdeal.Facts) (hInProj : Cert.InProj.Facts) (hInProjIdeal : Cert.InProjIdeal.Facts) (hInProjRefIdeal : Cert.InProjRefIdeal.Facts) (hMixer : Cert.Mixer.Facts) (hMixerIdeal : Cert.MixerIdeal.Facts) (hMixerRefIdeal : Cert.MixerRefIdeal.Facts) (hPre_norm_finite : Cert.Pre_norm_finite.Facts) (hPre_out_finite : Cert.Pre_out_finite.Facts) (hPre_attn_finite : Cert.Pre_attn_finite.Facts),
    quiescent_ConvNorm (hConvNorm := hConvNorm)
    ∧ quiescent_ConvNormIdeal (hConvNormIdeal := hConvNormIdeal)
    ∧ quiescent_ConvNormIdeal_pre_norm_finite (hConvNormIdeal := hConvNormIdeal) (hPre_norm_finite := hPre_norm_finite)
    ∧ quiescent_ConvNormRefIdeal (hConvNormRefIdeal := hConvNormRefIdeal)
    ∧ quiescent_ConvNormRefIdeal_pre_norm_finite (hConvNormRefIdeal := hConvNormRefIdeal) (hPre_norm_finite := hPre_norm_finite)
    ∧ quiescent_OutNorm (hOutNorm := hOutNorm)
    ∧ quiescent_OutNormIdeal (hOutNormIdeal := hOutNormIdeal)
    ∧ quiescent_OutNormIdeal_pre_out_finite (hOutNormIdeal := hOutNormIdeal) (hPre_out_finite := hPre_out_finite)
    ∧ quiescent_OutNormRefIdeal (hOutNormRefIdeal := hOutNormRefIdeal)
    ∧ quiescent_OutNormRefIdeal_pre_out_finite (hOutNormRefIdeal := hOutNormRefIdeal) (hPre_out_finite := hPre_out_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ quiescent_ConvTaps (hConvTaps := hConvTaps)
    ∧ quiescent_ConvTapsIdeal (hConvTapsIdeal := hConvTapsIdeal)
    ∧ quiescent_ConvTapsRefIdeal (hConvTapsRefIdeal := hConvTapsRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InProj (hInProj := hInProj)
    ∧ quiescent_InProjIdeal (hInProjIdeal := hInProjIdeal)
    ∧ quiescent_InProjRefIdeal (hInProjRefIdeal := hInProjRefIdeal)
    ∧ quiescent_Mixer (hMixer := hMixer)
    ∧ quiescent_MixerIdeal (hMixerIdeal := hMixerIdeal)
    ∧ quiescent_MixerRefIdeal (hMixerRefIdeal := hMixerRefIdeal)
    ∧ preserves_ConvNorm_ConvNormIdeal
    ∧ algebraic_ConvNormIdeal_ConvNormRefIdeal_pre_norm_finite (hConvNormIdeal := hConvNormIdeal) (hConvNormRefIdeal := hConvNormRefIdeal) (hPre_norm_finite := hPre_norm_finite)
    ∧ preserves_OutNorm_OutNormIdeal
    ∧ algebraic_OutNormIdeal_OutNormRefIdeal_pre_out_finite (hOutNormIdeal := hOutNormIdeal) (hOutNormRefIdeal := hOutNormRefIdeal) (hPre_out_finite := hPre_out_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_RelBias_RelBiasIdeal
    ∧ algebraic_RelBiasIdeal_RelBiasRefIdeal (hRelBiasIdeal := hRelBiasIdeal) (hRelBiasRefIdeal := hRelBiasRefIdeal)
    ∧ preserves_ConvTaps_ConvTapsIdeal
    ∧ algebraic_ConvTapsIdeal_ConvTapsRefIdeal (hConvTapsIdeal := hConvTapsIdeal) (hConvTapsRefIdeal := hConvTapsRefIdeal)
    ∧ preserves_InGrad_InGradIdeal
    ∧ algebraic_InGradIdeal_InGradRefIdeal (hInGradIdeal := hInGradIdeal) (hInGradRefIdeal := hInGradRefIdeal)
    ∧ preserves_InProj_InProjIdeal
    ∧ algebraic_InProjIdeal_InProjRefIdeal (hInProjIdeal := hInProjIdeal) (hInProjRefIdeal := hInProjRefIdeal)
    ∧ preserves_Mixer_MixerIdeal
-- ==== Pre_attn_finite.lean ====
abbrev S8192x1024 : Shape := ⟨2, ![8192, 1024]⟩
abbrev S8192x256 : Shape := ⟨2, ![8192, 256]⟩
abbrev S16x128x256 : Shape := ⟨3, ![16, 128, 256]⟩
abbrev S1x16 : Shape := ⟨2, ![1, 16]⟩
abbrev S8192x2048 : Shape := ⟨2, ![8192, 2048]⟩
abbrev S_ : Shape := ⟨0, ![]⟩

class Facts : Prop where
  slices_S8192x2048_S8192x1024_0_0 : S8192x2048.Slices ![0, 0] S8192x1024
  bitsLt_bf16_f32 : FTy.bits .bf16 < FTy.bits .f32
  bcast_S_S8192x1024 : S_.BroadcastsInDim S8192x1024 (![] : Fin 0 → Fin S8192x1024.rank)
  bcast_S_S8192x256 : S_.BroadcastsInDim S8192x256 (![] : Fin 0 → Fin S8192x256.rank)
  bcast_S_S16x128x256 : S_.BroadcastsInDim S16x128x256 (![] : Fin 0 → Fin S16x128x256.rank)
  bcast_S_S1x16 : S_.BroadcastsInDim S1x16 (![] : Fin 0 → Fin S1x16.rank)

variable [Facts]

def fn_part1 {F : FTy → Type} [FloatOps F] (main_v1 : FVec F S8192x1024 .f32) (main_v4 : IVec S8192x1024 1) (main_v7 : IVec S8192x256 1) (main_v10 : IVec S8192x256 1) (main_v13 : IVec S8192x1024 1) (main_v16 : IVec S16x128x256 1) (main_v17 : FVec F S1x16 .f32) (main_cst_4 : FVec F S_ .f32) : IVec S8192x1024 1 × IVec S8192x256 1 × IVec S8192x256 1 × IVec S8192x1024 1 × IVec S16x128x256 1 × IVec S1x16 1 × IVec S8192x1024 1 :=
  let main_v18 : FVec F S1x16 .f32 := broadcastInDim S1x16 ![] bcast_S_S1x16 main_cst_4
  let main_v19 : IVec S1x16 1 := cmpf .olt main_v17 main_v18
  let main_v20 : FVec F S8192x1024 .f32 := Host.absf main_v1
  let main_cst_5 : FVec F S_ .f32 := constant S_ .f32 0x7F800000#32
  let main_v21 : FVec F S8192x1024 .f32 := broadcastInDim S8192x1024 ![] bcast_S_S8192x1024 main_cst_5
  let main_v22 : IVec S8192x1024 1 := cmpf .olt main_v20 main_v21
  (main_v4, main_v7, main_v10, main_v13, main_v16, main_v19, main_v22)

def fn {F : FTy → Type} [FloatOps F] (main_arg0 : FVec F S8192x1024 .f32) (main_arg1 : FVec F S8192x256 .f32) (main_arg2 : FVec F S8192x256 .f32) (main_arg3 : FVec F S8192x1024 .f32) (main_arg4 : FVec F S16x128x256 .f32) (main_arg5 : FVec F S1x16 .f32) (main_arg6 : FVec F S8192x2048 .bf16) : IVec S8192x1024 1 × IVec S8192x256 1 × IVec S8192x256 1 × IVec S8192x1024 1 × IVec S16x128x256 1 × IVec S1x16 1 × IVec S8192x1024 1 :=
  let main_v0 : FVec F S8192x1024 .bf16 := (extractStridedSlice S8192x1024 ![0, 0] · slices_S8192x2048_S8192x1024_0_0) main_arg6
  let main_v1 : FVec F S8192x1024 .f32 := (extf .f32 · bitsLt_bf16_f32) main_v0
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x256 .f32 := Host.absf main_arg1
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : FVec F S8192x256 .f32 := Host.absf main_arg2
  let main_cst_1 : FVec F S_ .f32 := constant S_ .f32 0x7F800000#32
  let main_v9 : FVec F S8192x256 .f32 := broadcastInDim S8192x256 ![] bcast_S_S8192x256 main_cst_1
  let main_v10 : IVec S8192x256 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S16x128x256 .f32 := Host.absf main_arg4
  let main_cst_3 : FVec F S_ .f32 := constant S_ .f32 0x7F800000#32
  let main_v15 : FVec F S16x128x256 .f32 := broadcastInDim S16x128x256 ![] bcast_S_S16x128x256 main_cst_3
  let main_v16 : IVec S16x128x256 1 := cmpf .olt main_v14 main_v15
  let main_v17 : FVec F S1x16 .f32 := Host.absf main_arg5
  let main_cst_4 : FVec F S_ .f32 := constant S_ .f32 0x7F800000#32
  fn_part1 (F := F) main_v1 main_v4 main_v7 main_v10 main_v13 main_v16 main_v17 main_cst_4
-- ==== Pre_norm_finite.lean ====
abbrev S8192x1024 : Shape := ⟨2, ![8192, 1024]⟩
abbrev S1x1024 : Shape := ⟨2, ![1, 1024]⟩
abbrev S1x1024x1024 : Shape := ⟨3, ![1, 1024, 1024]⟩
abbrev S8192x2048 : Shape := ⟨2, ![8192, 2048]⟩
abbrev S_ : Shape := ⟨0, ![]⟩

class Facts : Prop where
  slices_S8192x2048_S8192x1024_0_1024 : S8192x2048.Slices ![0, 1024] S8192x1024
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn_part1 {F : FTy → Type} [FloatOps F] (main_arg6 : FVec F S8192x1024 .f32) (main_v0 : FVec F S8192x1024 .f32) (main_v3 : IVec S8192x1024 1) (main_v6 : IVec S1x1024 1) (main_v9 : IVec S1x1024 1) (main_v12 : IVec S1x1024 1) (main_v15 : IVec S1x1024x1024 1) (main_v16 : FVec F S1x1024 .f32) (main_v17 : FVec F S1x1024 .f32) : IVec S8192x1024 1 × IVec S1x1024 1 × IVec S1x1024 1 × IVec S1x1024 1 × IVec S1x1024x1024 1 × IVec S1x1024 1 × IVec S8192x1024 1 × IVec S8192x1024 1 :=
  let main_v18 : IVec S1x1024 1 := cmpf .olt main_v16 main_v17
  let main_v19 : FVec F S8192x1024 .f32 := Host.absf main_arg6
  let main_cst_5 : FVec F S_ .f32 := constant S_ .f32 0x7F800000#32
  let main_v20 : FVec F S8192x1024 .f32 := broadcastInDim S8192x1024 ![] bcast_S_S8192x1024 main_cst_5
  let main_v21 : IVec S8192x1024 1 := cmpf .olt main_v19 main_v20
  let main_v22 : FVec F S8192x1024 .f32 := Host.absf main_v0
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  (main_v3, main_v6, main_v9, main_v12, main_v15, main_v18, main_v21, main_v24)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024x1024 .f32) (main_arg5 : FVec F S1x1024 .f32) (main_arg6 : FVec F S8192x1024 .f32) (main_arg7 : FVec F S8192x2048 .f32) : IVec S8192x1024 1 × IVec S1x1024 1 × IVec S1x1024 1 × IVec S1x1024 1 × IVec S1x1024x1024 1 × IVec S1x1024 1 × IVec S8192x1024 1 × IVec S8192x1024 1 :=
  let main_v0 : FVec F S8192x1024 .f32 := (extractStridedSlice S8192x1024 ![0, 1024] · slices_S8192x2048_S8192x1024_0_1024) main_arg7
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024x1024 .f32 := Host.absf main_arg4
  let main_cst_3 : FVec F S_ .f32 := constant S_ .f32 0x7F800000#32
  let main_v14 : FVec F S1x1024x1024 .f32 := broadcastInDim S1x1024x1024 ![] bcast_S_S1x1024x1024 main_cst_3
  let main_v15 : IVec S1x1024x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_arg6 main_v0 main_v3 main_v6 main_v9 main_v12 main_v15 main_v16 main_v17
-- ==== Pre_out_finite.lean ====
abbrev S8192x2048 : Shape := ⟨2, ![8192, 2048]⟩
abbrev S1x2048x2048 : Shape := ⟨3, ![1, 2048, 2048]⟩
abbrev S1x6144 : Shape := ⟨2, ![1, 6144]⟩
abbrev S1x2048 : Shape := ⟨2, ![1, 2048]⟩
abbrev S_ : Shape := ⟨0, ![]⟩

class Facts : Prop where
  bitsLt_bf16_f32 : FTy.bits .bf16 < FTy.bits .f32
  slices_S1x6144_S1x2048_0_4096 : S1x6144.Slices ![0, 4096] S1x2048
  bcast_S_S8192x2048 : S_.BroadcastsInDim S8192x2048 (![] : Fin 0 → Fin S8192x2048.rank)
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn_part1 {F : FTy → Type} [FloatOps F] (main_arg6 : FVec F S1x2048 .f32) (main_v4 : IVec S8192x2048 1) (main_v7 : IVec S1x2048x2048 1) (main_v10 : IVec S8192x2048 1) (main_v13 : IVec S8192x2048 1) (main_v16 : IVec S1x2048 1) (main_v17 : FVec F S1x2048 .f32) (main_cst_4 : FVec F S_ .f32) : IVec S8192x2048 1 × IVec S1x2048x2048 1 × IVec S8192x2048 1 × IVec S8192x2048 1 × IVec S1x2048 1 × IVec S1x2048 1 × IVec S1x2048 1 :=
  let main_v18 : FVec F S1x2048 .f32 := broadcastInDim S1x2048 ![] bcast_S_S1x2048 main_cst_4
  let main_v19 : IVec S1x2048 1 := cmpf .olt main_v17 main_v18
  let main_v20 : FVec F S1x2048 .f32 := Host.absf main_arg6
  let main_cst_5 : FVec F S_ .f32 := constant S_ .f32 0x7F800000#32
  let main_v21 : FVec F S1x2048 .f32 := broadcastInDim S1x2048 ![] bcast_S_S1x2048 main_cst_5
  let main_v22 : IVec S1x2048 1 := cmpf .olt main_v20 main_v21
  (main_v4, main_v7, main_v10, main_v13, main_v16, main_v19, main_v22)

def fn {F : FTy → Type} [FloatOps F] (main_arg0 : FVec F S8192x2048 .bf16) (main_arg1 : FVec F S1x2048x2048 .f32) (main_arg2 : FVec F S8192x2048 .f32) (main_arg3 : FVec F S8192x2048 .f32) (main_arg4 : FVec F S1x6144 .f32) (main_arg5 : FVec F S1x2048 .f32) (main_arg6 : FVec F S1x2048 .f32) : IVec S8192x2048 1 × IVec S1x2048x2048 1 × IVec S8192x2048 1 × IVec S8192x2048 1 × IVec S1x2048 1 × IVec S1x2048 1 × IVec S1x2048 1 :=
  let main_v0 : FVec F S8192x2048 .f32 := (extf .f32 · bitsLt_bf16_f32) main_arg0
  let main_v1 : FVec F S1x2048 .f32 := (extractStridedSlice S1x2048 ![0, 4096] · slices_S1x6144_S1x2048_0_4096) main_arg4
  let main_v2 : FVec F S8192x2048 .f32 := Host.absf main_v0
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S1x2048x2048 .f32 := Host.absf main_arg1
  let main_cst_0 : FVec F S_ .f32 := constant S_ .f32 0x7F800000#32
  let main_v6 : FVec F S1x2048x2048 .f32 := broadcastInDim S1x2048x2048 ![] bcast_S_S1x2048x2048 main_cst_0
  let main_v7 : IVec S1x2048x2048 1 := cmpf .olt main_v5 main_v6
  let main_v8 : FVec F S8192x2048 .f32 := Host.absf main_arg2
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S8192x2048 .f32 := Host.absf main_arg3
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  let main_v14 : FVec F S1x2048 .f32 := Host.absf main_v1
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  let main_v17 : FVec F S1x2048 .f32 := Host.absf main_arg5
  let main_cst_4 : FVec F S_ .f32 := constant S_ .f32 0x7F800000#32
  fn_part1 (F := F) main_arg6 main_v4 main_v7 main_v10 main_v13 main_v16 main_v17 main_cst_4
-- ==== ConvNorm.lean ====
abbrev S8192x1024 : Shape := ⟨2, ![8192, 1024]⟩
abbrev S1x1024 : Shape := ⟨2, ![1, 1024]⟩
abbrev S1x1024x1024 : Shape := ⟨3, ![1, 1024, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S256x1024 : Shape := ⟨2, ![256, 1024]⟩
abbrev S1024 : Shape := ⟨1, ![1024]⟩
abbrev S256 : Shape := ⟨1, ![256]⟩
abbrev S256x1 : Shape := ⟨2, ![256, 1]⟩

abbrev nBuf : Space → Nat
  | .hbm => 59
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S1024x1024, .bf16⟩
  | .hbm, ⟨52, _⟩ => ⟨S1024x1024, .bf16⟩
  | .hbm, ⟨53, _⟩ => ⟨S8192x1024, .bf16⟩
  | .hbm, ⟨54, _⟩ => ⟨S8192x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v31_3 : Ref sig .tc := ⟨.hbm, 55, rfl⟩
abbrev main_v31_4 : Ref sig .tc := ⟨.hbm, 56, rfl⟩
abbrev main_v31_5 : Ref sig .tc := ⟨.hbm, 57, rfl⟩
abbrev main_v31_6 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v120 : BitVec 1 := Scalar.cmpi .eq arg0 c31_i32
  let v121 : BitVec 32 := Scalar.extui v120
  let c0_i32_62 : BitVec 32 := 0#32
  let v122 : BitVec 1 := Scalar.cmpi .ne v121 c0_i32_62
  v122

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvNormRefIdeal.lean ====
abbrev S8192x1024 : Shape := ⟨2, ![8192, 1024]⟩
abbrev S1x1024 : Shape := ⟨2, ![1, 1024]⟩
abbrev S1x1024x1024 : Shape := ⟨3, ![1, 1024, 1024]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024x1024, .f32⟩
  | 5 => ⟨S1x1024, .f32⟩
  | 6 => ⟨S8192x1024, .f32⟩
  | 7 => ⟨S8192x2048, .f32⟩
  | 8 => ⟨S1024, .f32⟩
  | 9 => ⟨S1x1024, .f32⟩
  | 10 => ⟨S8192x1024, .f32⟩
  | 11 => ⟨S8192x1024, .f32⟩
  | 12 => ⟨S1024, .f32⟩
  | 13 => ⟨S1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S8192x1024, .f32⟩
  | 62 => ⟨S8192x1024, .f32⟩
  | 63 => ⟨S1024x1024, .f32⟩
  | 64 => ⟨S8192x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S1x1024, .f32⟩
  | 96 => ⟨S1024x1024, .f32⟩
  | 97 => ⟨S1024x1024, .f32⟩
  | 98 => ⟨S8192x1024, .f32⟩
  | 99 => ⟨S1x1024x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S_, .f32⟩
  | 108 => ⟨S1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S_, .f32⟩
  | 116 => ⟨S1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S8192x1024, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192, .f32⟩
  | 18 => ⟨S8192x1024, .f32⟩
  | 19 => ⟨S8192x1024, .f32⟩
  | 20 => ⟨S1x1024, .f32⟩
  | 21 => ⟨S1x1024, .f32⟩
  | 22 => ⟨S_, .f32⟩
  | 23 => ⟨S1024, .f32⟩
  | 24 => ⟨S1x1024, .f32⟩
  | 25 => ⟨S_, .f32⟩
  | 26 => ⟨S1024, .f32⟩
  | 27 => ⟨S1x1024, .f32⟩
  | 28 => ⟨S1024x1024, .f32⟩
  | 29 => ⟨S1024x1024, .bf16⟩
  | 30 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v35_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v35_1 : Ref sig .tc := ⟨.hbm, 61, rfl⟩
abbrev main_v35_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_v42_2 : Ref sig .tc := ⟨.hbm, 76, rfl⟩
abbrev main_call1_cst_1 : Ref sig .tc := ⟨.hbm, 77, rfl⟩
abbrev main_call1_v6 : Ref sig .tc := ⟨.hbm, 78, rfl⟩
abbrev main_call1_v7 : Ref sig .tc := ⟨.hbm, 79, rfl⟩
abbrev main_v42_1 : Ref sig .tc := ⟨.hbm, 80, rfl⟩
abbrev main_v42_0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v47 : Ref sig .tc := ⟨.hbm, 89, rfl⟩
abbrev main_cst_6 : Ref sig .tc := ⟨.hbm, 90, rfl⟩
abbrev main_v48 : Ref sig .tc := ⟨.hbm, 91, rfl⟩
abbrev main_v49 : Ref sig .tc := ⟨.hbm, 92, rfl⟩
abbrev main_cst_7 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v56 : Ref sig .tc := ⟨.hbm, 103, rfl⟩
abbrev main_cst_8 : Ref sig .tc := ⟨.hbm, 104, rfl⟩
abbrev main_v57 : Ref sig .tc := ⟨.hbm, 105, rfl⟩
abbrev main_v58 : Ref sig .tc := ⟨.hbm, 106, rfl⟩
abbrev main_cst_9 : Ref sig .tc := ⟨.hbm, 107, rfl⟩
abbrev main_v59 : Ref sig .tc := ⟨.hbm, 108, rfl⟩
abbrev main_v60 : Ref sig .tc := ⟨.hbm, 109, rfl⟩
abbrev main_cst_10 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_11 : Ref sig .tc := ⟨.hbm, 115, rfl⟩
abbrev main_v65 : Ref sig .tc := ⟨.hbm, 116, rfl⟩
abbrev main_v66 : Ref sig .tc := ⟨.hbm, 117, rfl⟩
abbrev main_cst_12 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_13 : Ref sig .tc := ⟨.hbm, 125, rfl⟩
abbrev main_v73 : Ref sig .tc := ⟨.hbm, 126, rfl⟩
abbrev main_v74 : Ref sig .tc := ⟨.hbm, 127, rfl⟩
abbrev main_cst_14 : Ref sig .tc := ⟨.hbm, 128, rfl⟩
abbrev main_v75 : Ref sig .tc := ⟨.hbm, 129, rfl⟩
abbrev main_v76 : Ref sig .tc := ⟨.hbm, 130, rfl⟩
abbrev main_cst_15 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_16 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_17 : Ref sig .tc := ⟨.hbm, 141, rfl⟩
abbrev main_v85 : Ref sig .tc := ⟨.hbm, 142, rfl⟩
abbrev main_v86 : Ref sig .tc := ⟨.hbm, 143, rfl⟩
abbrev main_cst_18 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_19 : Ref sig .tc := ⟨.hbm, 150, rfl⟩
abbrev main_v92 : Ref sig .tc := ⟨.hbm, 151, rfl⟩
abbrev main_v93 : Ref sig .tc := ⟨.hbm, 152, rfl⟩
abbrev main_cst_20 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩

abbrev nD : Nat := 1
abbrev τ : Topo := Topo.v7x

variable {F : FTy → Type} [FloatOps F]
-- ==== OutNorm.lean ====
abbrev S8192x2048 : Shape := ⟨2, ![8192, 2048]⟩
abbrev S1x2048x2048 : Shape := ⟨3, ![1, 2048, 2048]⟩
abbrev S1x6144 : Shape := ⟨2, ![1, 6144]⟩
abbrev S1x2048 : Shape := ⟨2, ![1, 2048]⟩
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 16
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S8192x2048, .f32⟩
  | .hbm, ⟨10, _⟩ => ⟨S8192x2048, .bf16⟩
  | .hbm, ⟨11, _⟩ => ⟨S8192x2048, .bf16⟩
  | .hbm, ⟨12, _⟩ => ⟨S8x128, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S8x128, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutNormRefIdeal.lean ====
abbrev S8192x2048 : Shape := ⟨2, ![8192, 2048]⟩
abbrev S1x2048x2048 : Shape := ⟨3, ![1, 2048, 2048]⟩
abbrev S1x6144 : Shape := ⟨2, ![1, 6144]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩
abbrev S8x128 : Shape := ⟨2, ![8, 128]⟩

abbrev nBuf : Space → Nat
  | .hbm => 134
  | .vmem => 0
  | .smem => 0
  | _ => 0

abbrev hbmTy0_0 (i : Nat) : BufTy := match i % 128 with
  | 0 => ⟨S8192x2048, .bf16⟩
  | 1 => ⟨S1x2048x2048, .f32⟩
  | 2 => ⟨S8192x2048, .f32⟩
  | 3 => ⟨S8192x2048, .f32⟩
  | 4 => ⟨S1x6144, .f32⟩
  | 5 => ⟨S1x2048, .f32⟩
  | 6 => ⟨S1x2048, .f32⟩
  | 7 => ⟨S8192x2048, .f32⟩
  | 8 => ⟨S2048x2048, .f32⟩
  | 9 => ⟨S8192x2048, .f32⟩
  | 10 => ⟨S1x2048, .f32⟩
  | 11 => ⟨S_, .f32⟩
  | 12 => ⟨S8192x2048, .f32⟩
  | 13 => ⟨S8192x2048, .f32⟩
  | 14 => ⟨S8192x2048, .f32⟩
  | 15 => ⟨S8192x2048, .f32⟩
  | 16 => ⟨S8192x2048, .f32⟩
  | 17 => ⟨S2048, .f32⟩
  | 18 => ⟨S2048, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x2048, .f32⟩
  | 26 => ⟨S8192x2048, .f32⟩
  | 27 => ⟨S8192x2048, .f32⟩
  | 28 => ⟨S_, .f32⟩
  | 29 => ⟨S8192x2048, .f32⟩
  | 30 => ⟨S8192x2048, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x2048, .f32⟩
  | 38 => ⟨S8192x2048, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x2048, .f32⟩
  | 48 => ⟨S8192x2048, .f32⟩
  | 49 => ⟨S1x2048, .f32⟩
  | 50 => ⟨S8192x2048, .f32⟩
  | 51 => ⟨S8192x2048, .f32⟩
  | 52 => ⟨S1x2048, .f32⟩
  | 53 => ⟨S8192x2048, .f32⟩
  | 54 => ⟨S8192x2048, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x2048, .f32⟩
  | 77 => ⟨S8192x2048, .f32⟩
  | 78 => ⟨S_, .f32⟩
  | 79 => ⟨S2048, .f32⟩
  | 80 => ⟨S1x2048, .f32⟩
  | 81 => ⟨S_, .f32⟩
  | 82 => ⟨S2048, .f32⟩
  | 83 => ⟨S8192x2048, .f32⟩
  | 84 => ⟨S_, .f32⟩
  | 85 => ⟨S2048, .f32⟩
  | 86 => ⟨S1x2048, .f32⟩
  | 87 => ⟨S8192x2048, .f32⟩
  | 88 => ⟨S8192x2048, .f32⟩
  | 89 => ⟨S_, .f32⟩
  | 90 => ⟨S2048, .f32⟩
  | 91 => ⟨S8192x2048, .f32⟩
  | 92 => ⟨S_, .f32⟩
  | 93 => ⟨S8192, .f32⟩
  | 94 => ⟨S8192x1, .f32⟩
  | 95 => ⟨S8192x2048, .f32⟩
  | 96 => ⟨S8192x2048, .f32⟩
  | 97 => ⟨S8192x1, .f32⟩
  | 98 => ⟨S8192x2048, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x2048, .f32⟩
  | 108 => ⟨S8192x2048, .f32⟩
  | 109 => ⟨S8192x2048, .f32⟩
  | 110 => ⟨S_, .f32⟩
  | 111 => ⟨S8192, .f32⟩
  | 112 => ⟨S8192x1, .f32⟩
  | 113 => ⟨S8192x2048, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x2048, .f32⟩
  | 121 => ⟨S8192x2048, .f32⟩
  | 122 => ⟨S1x2048, .f32⟩
  | 123 => ⟨S1x2048, .f32⟩
  | 124 => ⟨S8192x2048, .f32⟩
  | 125 => ⟨S8192x2048, .f32⟩
  | 126 => ⟨S8192x2048, .f32⟩
  | 127 => ⟨S_, .f32⟩
  | _ => ⟨S8192x2048, .bf16⟩

abbrev hbmTy0_1 (i : Nat) : BufTy := match i % 128 with
  | 0 => ⟨S2048, .f32⟩
  | 1 => ⟨S1x2048, .f32⟩
  | 2 => ⟨S8192x2048, .f32⟩
  | 3 => ⟨S8192x2048, .bf16⟩
  | 4 => ⟨S8192x2048, .bf16⟩
  | 5 => ⟨S8x128, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_cst_12 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_20 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_cst_22 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_23 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_24 : Ref sig .tc := ⟨.hbm, 115, rfl⟩
abbrev main_v83 : Ref sig .tc := ⟨.hbm, 116, rfl⟩
abbrev main_v84 : Ref sig .tc := ⟨.hbm, 117, rfl⟩
abbrev main_cst_25 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_26 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Attn.lean ====
abbrev S8192x1024 : Shape := ⟨2, ![8192, 1024]⟩
abbrev S8192x256 : Shape := ⟨2, ![8192, 256]⟩
abbrev S16x128x256 : Shape := ⟨3, ![16, 128, 256]⟩
abbrev S1x16 : Shape := ⟨2, ![1, 16]⟩
abbrev S8192x2048 : Shape := ⟨2, ![8192, 2048]⟩
abbrev S8192x1536 : Shape := ⟨2, ![8192, 1536]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S4x4x128x256 : Shape := ⟨4, ![4, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x4x4x128x256 : Shape := ⟨5, ![1, 4, 4, 128, 256]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S8x128 : Shape := ⟨2, ![8, 128]⟩
abbrev S128x1024 : Shape := ⟨2, ![128, 1024]⟩
abbrev S128x1536 : Shape := ⟨2, ![128, 1536]⟩
abbrev S256x256 : Shape := ⟨2, ![256, 256]⟩
abbrev S4x512x1 : Shape := ⟨3, ![4, 512, 1]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S4x128x256 : Shape := ⟨3, ![4, 128, 256]⟩
abbrev S512x1 : Shape := ⟨2, ![512, 1]⟩
abbrev S1x1 : Shape := ⟨2, ![1, 1]⟩
abbrev S512 : Shape := ⟨1, ![512]⟩
abbrev S1x512x1 : Shape := ⟨3, ![1, 512, 1]⟩
abbrev S1x128 : Shape := ⟨2, ![1, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 122
  | .vmem => 30
  | .smem => 1
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S16x128x256, .f32⟩
  | .hbm, ⟨5, _⟩ => ⟨S1x16, .f32⟩
  | .hbm, ⟨6, _⟩ => ⟨S8192x2048, .bf16⟩
  | .hbm, ⟨7, _⟩ => ⟨S8192x1536, .f32⟩
  | .hbm, ⟨8, _⟩ => ⟨S8192x1536, .bf16⟩
  | .hbm, ⟨9, _⟩ => ⟨S128, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S256, .i32⟩
  | .hbm, ⟨15, _⟩ => ⟨S1x256, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S_, .f32⟩
  | .hbm, ⟨27, _⟩ => ⟨S_, .f32⟩
  | .hbm, ⟨28, _⟩ => ⟨S16x128x256, .i1⟩
  | .hbm, ⟨29, _⟩ => ⟨S16x128x256, .f32⟩
  | .hbm, ⟨30, _⟩ => ⟨S16x128x256, .f32⟩
  | .hbm, ⟨31, _⟩ => ⟨S64x128x4x4x64, .f32⟩
  | .hbm, ⟨32, _⟩ => ⟨S64x128x4x64, .f32⟩
  | .hbm, ⟨33, _⟩ => ⟨S64x128x4x64, .f32⟩
  | .hbm, ⟨34, _⟩ => ⟨S1x128x4x64, .f32⟩
  | .hbm, ⟨35, _⟩ => ⟨S_, .f32⟩
  | .hbm, ⟨36, _⟩ => ⟨S1x128x4x64, .f32⟩
  | .hbm, ⟨37, _⟩ => ⟨S63x128x4x64, .f32⟩
  | .hbm, ⟨38, _⟩ => ⟨S64x128x4x64, .f32⟩
  | .hbm, ⟨39, _⟩ => ⟨S64x256x4x64, .f32⟩
  | .hbm, ⟨40, _⟩ => ⟨S1x128x4x64, .f32⟩
  | .hbm, ⟨41, _⟩ => ⟨S_, .f32⟩
  | .hbm, ⟨42, _⟩ => ⟨S1x128x4x64, .f32⟩
  | .hbm, ⟨43, _⟩ => ⟨S63x128x4x64, .f32⟩
  | .hbm, ⟨44, _⟩ => ⟨S64x128x4x64, .f32⟩
  | .hbm, ⟨45, _⟩ => ⟨S64x256x4x64, .f32⟩
  | .hbm, ⟨46, _⟩ => ⟨S64x4x256x128x4, .f32⟩
  | .hbm, ⟨47, _⟩ => ⟨S64x4x4x128x256, .f32⟩
  | .hbm, ⟨48, _⟩ => ⟨S_, .f32⟩
  | .hbm, ⟨49, _⟩ => ⟨S64x4x4x128x256, .f32⟩
  | .hbm, ⟨50, _⟩ => ⟨S64x4x4x128x256, .f32⟩
  | .hbm, ⟨51, _⟩ => ⟨S128, .i32⟩
  | .hbm, ⟨52, _⟩ => ⟨S128x1, .i32⟩
  | .hbm, ⟨53, _⟩ => ⟨S256, .i32⟩
  | .hbm, ⟨54, _⟩ => ⟨S1x256, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x256, .i32⟩
  | .hbm, ⟨59, _⟩ => ⟨S128x256, .i32⟩
  | .hbm, ⟨60, _⟩ => ⟨S128x256, .i32⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S_, .i32⟩
  | .hbm, ⟨65, _⟩ => ⟨S128x256, .i32⟩
  | .hbm, ⟨66, _⟩ => ⟨S128x256, .i1⟩
  | .hbm, ⟨67, _⟩ => ⟨S128x256, .i1⟩
  | .hbm, ⟨68, _⟩ => ⟨S4x4x128x256, .f32⟩
  | .hbm, ⟨69, _⟩ => ⟨S64, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S_, .i32⟩
  | .hbm, ⟨75, _⟩ => ⟨S64x1, .i32⟩
  | .hbm, ⟨76, _⟩ => ⟨S64x1, .i32⟩
  | .hbm, ⟨77, _⟩ => ⟨S64x256, .i32⟩
  | .hbm, ⟨78, _⟩ => ⟨S64x256, .i32⟩
  | .hbm, ⟨79, _⟩ => ⟨S64x256, .i32⟩
  | .hbm, ⟨80, _⟩ => ⟨S1x128x256, .i1⟩
  | .hbm, ⟨81, _⟩ => ⟨S64x1x256, .i32⟩
  | .hbm, ⟨82, _⟩ => ⟨S_, .i32⟩
  | .hbm, ⟨83, _⟩ => ⟨S64x1x256, .i32⟩
  | .hbm, ⟨84, _⟩ => ⟨S64x1x256, .i1⟩
  | .hbm, ⟨85, _⟩ => ⟨S64x128x256, .i1⟩
  | .hbm, ⟨86, _⟩ => ⟨S64x128x256, .i1⟩
  | .hbm, ⟨87, _⟩ => ⟨S64x128x256, .i1⟩
  | .hbm, ⟨88, _⟩ => ⟨S64x1x1x128x256, .i1⟩
  | .hbm, ⟨89, _⟩ => ⟨S1x4x4x128x256, .f32⟩
  | .hbm, ⟨90, _⟩ => ⟨S64x4x4x128x256, .f32⟩
  | .hbm, ⟨91, _⟩ => ⟨S64x4x4x128x256, .f32⟩
  | .hbm, ⟨92, _⟩ => ⟨S_, .f32⟩
  | .hbm, ⟨93, _⟩ => ⟨S_, .f32⟩
  | .hbm, ⟨94, _⟩ => ⟨S64x4x4x128x256, .i1⟩
  | .hbm, ⟨95, _⟩ => ⟨S64x4x4x128x256, .f32⟩
  | .hbm, ⟨96, _⟩ => ⟨S64x4x4x128x256, .f32⟩
  | .hbm, ⟨97, _⟩ => ⟨S1x4x4x1x1, .f32⟩
  | .hbm, ⟨98, _⟩ => ⟨S64x4x4x128x1, .f32⟩
  | .hbm, ⟨99, _⟩ => ⟨S64x4x4x128x257, .f32⟩
  | .hbm, ⟨100, _⟩ => ⟨S_, .f32⟩
  | .hbm, ⟨101, _⟩ => ⟨S64x4x4x128, .f32⟩
  | .hbm, ⟨102, _⟩ => ⟨S_, .f32⟩
  | .hbm, ⟨103, _⟩ => ⟨S64x4x4x128, .f32⟩
  | .hbm, ⟨104, _⟩ => ⟨S64x4x4x128, .f32⟩
  | .hbm, ⟨105, _⟩ => ⟨S64x4x4x128x1, .f32⟩
  | .hbm, ⟨106, _⟩ => ⟨S64x4x4x128x257, .f32⟩
  | .hbm, ⟨107, _⟩ => ⟨S64x4x4x128x257, .f32⟩
  | .hbm, ⟨108, _⟩ => ⟨S64x4x4x128x257, .f32⟩
  | .hbm, ⟨109, _⟩ => ⟨S_, .f32⟩
  | .hbm, ⟨110, _⟩ => ⟨S64x4x4x128, .f32⟩
  | .hbm, ⟨111, _⟩ => ⟨S64x4x4x128x1, .f32⟩
  | .hbm, ⟨112, _⟩ => ⟨S64x4x4x128x257, .f32⟩
  | .hbm, ⟨113, _⟩ => ⟨S64x4x4x128x257, .f32⟩
  | .hbm, ⟨114, _⟩ => ⟨S64x4x4x128x256, .f32⟩
  | .hbm, ⟨115, _⟩ => ⟨S64x4x64x4x128, .f32⟩
  | .hbm, ⟨116, _⟩ => ⟨S64x128x4x4x64, .f32⟩
  | .hbm, ⟨117, _⟩ => ⟨S8192x1024, .f32⟩
  | .hbm, ⟨118, _⟩ => ⟨S8192x1536, .bf16⟩
  | .hbm, ⟨119, _⟩ => ⟨S8192x1024, .bf16⟩
  | .hbm, ⟨120, _⟩ => ⟨S16x128x256, .f32⟩
  | .hbm, ⟨121, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .bf16⟩
  | .local _ .vmem, ⟨16, _⟩ => ⟨S16x128x256, .f32⟩
  | .local _ .vmem, ⟨17, _⟩ => ⟨S128x1536, .bf16⟩
  | .local _ .vmem, ⟨18, _⟩ => ⟨S128x1536, .bf16⟩
  | .local _ .vmem, ⟨19, _⟩ => ⟨S128x1024, .bf16⟩
  | .local _ .vmem, ⟨20, _⟩ => ⟨S128x1024, .bf16⟩
  | .local _ .vmem, ⟨21, _⟩ => ⟨S16x128x256, .f32⟩
  | .local _ .vmem, ⟨22, _⟩ => ⟨S8x128, .f32⟩
  | .local _ .vmem, ⟨23, _⟩ => ⟨S128x1024, .bf16⟩
  | .local _ .vmem, ⟨24, _⟩ => ⟨S128x1024, .bf16⟩
  | .local _ .vmem, ⟨25, _⟩ => ⟨S128x256, .f32⟩
  | .local _ .vmem, ⟨26, _⟩ => ⟨S128x256, .f32⟩
  | .local _ .vmem, ⟨27, _⟩ => ⟨S256x256, .f32⟩
  | .local _ .vmem, ⟨28, _⟩ => ⟨S256x256, .f32⟩
  | .local _ .vmem, ⟨29, _⟩ => ⟨S4x512x1, .f32⟩
  | .local _ .smem, ⟨0, _⟩ => ⟨S1x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88_0 : Ref sig .tc := ⟨.hbm, 118, rfl⟩
abbrev main_v88_1 : Ref sig .tc := ⟨.hbm, 119, rfl⟩
abbrev main_v88_2 : Ref sig .tc := ⟨.hbm, 120, rfl⟩
abbrev main_v88_3 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg0 : BitVec 32 := BitVec.ofNat 32 (i 0).val
  let c64_i32_28 : BitVec 32 := 64#32
  let v33 : BitVec 1 := Scalar.cmpi .eq arg0 c64_i32_28
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S8192x1024 : Shape := ⟨2, ![8192, 1024]⟩
abbrev S8192x256 : Shape := ⟨2, ![8192, 256]⟩
abbrev S16x128x256 : Shape := ⟨3, ![16, 128, 256]⟩
abbrev S1x16 : Shape := ⟨2, ![1, 16]⟩
abbrev S8192x2048 : Shape := ⟨2, ![8192, 2048]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x128x256 : Shape := ⟨4, ![4, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x4x4x128x256 : Shape := ⟨5, ![1, 4, 4, 128, 256]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S64x4x64x256 : Shape := ⟨4, ![64, 4, 64, 256]⟩
abbrev S4x4 : Shape := ⟨2, ![4, 4]⟩
abbrev S64x4x128x4x64 : Shape := ⟨5, ![64, 4, 128, 4, 64]⟩
abbrev S64x4x256x64 : Shape := ⟨4, ![64, 4, 256, 64]⟩
abbrev S1x112 : Shape := ⟨2, ![1, 112]⟩
abbrev S1x128 : Shape := ⟨2, ![1, 128]⟩
abbrev S8192x1536 : Shape := ⟨2, ![8192, 1536]⟩
abbrev S8x128 : Shape := ⟨2, ![8, 128]⟩

abbrev nBuf : Space → Nat
  | .hbm => 214
  | .vmem => 0
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S8192x1024, .f32⟩
  | 4 => ⟨S16x128x256, .f32⟩
  | 5 => ⟨S1x16, .f32⟩
  | 6 => ⟨S8192x2048, .bf16⟩
  | 7 => ⟨S64x128x4x4x64, .f32⟩
  | 8 => ⟨S64x128x4x64, .f32⟩
  | 9 => ⟨S64x128x4x64, .f32⟩
  | 10 => ⟨S1x128x4x64, .f32⟩
  | 11 => ⟨S_, .f32⟩
  | 12 => ⟨S1x128x4x64, .f32⟩
  | 13 => ⟨S63x128x4x64, .f32⟩
  | 14 => ⟨S64x128x4x64, .f32⟩
  | 15 => ⟨S_, .f32⟩
  | 16 => ⟨S1x128x4x64, .f32⟩
  | 17 => ⟨S64x256x4x64, .f32⟩
  | 18 => ⟨S1x128x4x64, .f32⟩
  | 19 => ⟨S_, .f32⟩
  | 20 => ⟨S1x128x4x64, .f32⟩
  | 21 => ⟨S63x128x4x64, .f32⟩
  | 22 => ⟨S64x128x4x64, .f32⟩
  | 23 => ⟨S_, .f32⟩
  | 24 => ⟨S1x128x4x64, .f32⟩
  | 25 => ⟨S64x256x4x64, .f32⟩
  | 26 => ⟨S64x4x256x128x4, .f32⟩
  | 27 => ⟨S64x4x4x128x256, .f32⟩
  | 28 => ⟨S_, .f32⟩
  | 29 => ⟨S64x4x4x128x256, .f32⟩
  | 30 => ⟨S64x4x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S4x4x128x256, .f32⟩
  | 49 => ⟨S64, .i32⟩
  | 50 => ⟨S64x1, .i32⟩
  | 51 => ⟨S_, .i32⟩
  | 52 => ⟨S64x1, .i32⟩
  | 53 => ⟨S64x1, .i32⟩
  | 54 => ⟨S_, .i32⟩
  | 55 => ⟨S64x1, .i32⟩
  | 56 => ⟨S64x1, .i32⟩
  | 57 => ⟨S64x256, .i32⟩
  | 58 => ⟨S64x256, .i32⟩
  | 59 => ⟨S64x256, .i32⟩
  | 60 => ⟨S1x128x256, .i1⟩
  | 61 => ⟨S64x1x256, .i32⟩
  | 62 => ⟨S_, .i32⟩
  | 63 => ⟨S64x1x256, .i32⟩
  | 64 => ⟨S64x1x256, .i1⟩
  | 65 => ⟨S64x128x256, .i1⟩
  | 66 => ⟨S64x128x256, .i1⟩
  | 67 => ⟨S64x128x256, .i1⟩
  | 68 => ⟨S64x1x1x128x256, .i1⟩
  | 69 => ⟨S1x4x4x128x256, .f32⟩
  | 70 => ⟨S64x4x4x128x256, .f32⟩
  | 71 => ⟨S64x4x4x128x256, .f32⟩
  | 72 => ⟨S_, .f32⟩
  | 73 => ⟨S_, .f32⟩
  | 74 => ⟨S64x4x4x128x256, .i1⟩
  | 75 => ⟨S64x4x4x128x256, .f32⟩
  | 76 => ⟨S64x4x4x128x256, .f32⟩
  | 77 => ⟨S_, .f32⟩
  | 78 => ⟨S64x4x4x128x256, .f32⟩
  | 79 => ⟨S1x4x4x1x1, .f32⟩
  | 80 => ⟨S64x4x4x128x1, .f32⟩
  | 81 => ⟨S64x4x4x128x257, .f32⟩
  | 82 => ⟨S_, .f32⟩
  | 83 => ⟨S64x4x4x128, .f32⟩
  | 84 => ⟨S64x4x4x128x1, .f32⟩
  | 85 => ⟨S64x4x4x128x257, .f32⟩
  | 86 => ⟨S64x4x4x128x257, .i1⟩
  | 87 => ⟨S64x4x4x128x257, .f32⟩
  | 88 => ⟨S_, .f32⟩
  | 89 => ⟨S64x4x4x128, .f32⟩
  | 90 => ⟨S_, .f32⟩
  | 91 => ⟨S64x4x4x128, .f32⟩
  | 92 => ⟨S64x4x4x128, .f32⟩
  | 93 => ⟨S_, .f32⟩
  | 94 => ⟨S64x4x4x128, .f32⟩
  | 95 => ⟨S64x4x4x128, .i1⟩
  | 96 => ⟨S_, .f32⟩
  | 97 => ⟨S64x4x4x128, .f32⟩
  | 98 => ⟨S64x4x4x128, .i1⟩
  | 99 => ⟨S_, .f32⟩
  | 100 => ⟨S64x4x4x128, .f32⟩
  | 101 => ⟨S_, .f32⟩
  | 102 => ⟨S64x4x4x128, .f32⟩
  | 103 => ⟨S_, .f32⟩
  | 104 => ⟨S64x4x4x128, .f32⟩
  | 105 => ⟨S64x4x4x128, .f32⟩
  | 106 => ⟨S64x4x4x128, .f32⟩
  | 107 => ⟨S64x4x4x128x1, .f32⟩
  | 108 => ⟨S64x4x4x128x257, .f32⟩
  | 109 => ⟨S64x4x4x128x257, .f32⟩
  | 110 => ⟨S64x4x4x128x257, .f32⟩
  | 111 => ⟨S_, .f32⟩
  | 112 => ⟨S64x4x4x128, .f32⟩
  | 113 => ⟨S64x4x4x128x1, .f32⟩
  | 114 => ⟨S64x4x4x128x257, .f32⟩
  | 115 => ⟨S64x4x4x128x257, .f32⟩
  | 116 => ⟨S64x4x4x128x1, .f32⟩
  | 117 => ⟨S_, .f32⟩
  | 118 => ⟨S64x4x4x128x1, .f32⟩
  | 119 => ⟨S64x4x4x128x1, .f32⟩
  | 120 => ⟨S64x4x4x128x256, .f32⟩
  | 121 => ⟨S64x4x64x4x128, .f32⟩
  | 122 => ⟨S64x128x4x4x64, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .bf16⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S64x128x4x4x64, .f32⟩
  | 19 => ⟨S64x4x64x4x128, .f32⟩
  | 20 => ⟨S64x4x4x128x256, .f32⟩
  | 21 => ⟨S64x4x64x256, .f32⟩
  | 22 => ⟨S64x256x4x64, .f32⟩
  | 23 => ⟨S_, .f32⟩
  | 24 => ⟨S64x4x4x128x257, .f32⟩
  | 25 => ⟨S64x4x4x128x257, .f32⟩
  | 26 => ⟨S64x4x4x128x257, .f32⟩
  | 27 => ⟨S64x4x4x128x257, .f32⟩
  | 28 => ⟨S_, .f32⟩
  | 29 => ⟨S64x4x4x128, .f32⟩
  | 30 => ⟨S64x4x4x128x1, .f32⟩
  | 31 => ⟨S64x4x4x128x1, .f32⟩
  | 32 => ⟨S64x4x4x128x257, .f32⟩
  | 33 => ⟨S64x4x4x128x257, .f32⟩
  | 34 => ⟨S_, .f32⟩
  | 35 => ⟨S64x4x4x128, .f32⟩
  | 36 => ⟨S64x4x4x128x257, .f32⟩
  | 37 => ⟨S64x4x4x128x257, .f32⟩
  | 38 => ⟨S64x4x4x128x257, .f32⟩
  | 39 => ⟨S64x4x4x128x256, .f32⟩
  | 40 => ⟨S64x4x4x128x1, .f32⟩
  | 41 => ⟨S_, .f32⟩
  | 42 => ⟨S4x4, .f32⟩
  | 43 => ⟨S1x4x4x1x1, .f32⟩
  | 44 => ⟨S1x16, .f32⟩
  | 45 => ⟨S_, .f32⟩
  | 46 => ⟨S64x4x4x128x256, .f32⟩
  | 47 => ⟨S64x4x4x128x256, .f32⟩
  | 48 => ⟨S_, .f32⟩
  | 49 => ⟨S4x4x128x256, .f32⟩
  | 50 => ⟨S1x4x4x128x256, .f32⟩
  | 51 => ⟨S_, .f32⟩
  | 52 => ⟨S4x4x128x256, .f32⟩
  | 53 => ⟨S16x128x256, .f32⟩
  | 54 => ⟨S_, .f32⟩
  | 55 => ⟨S64x4x4x128x256, .f32⟩
  | 56 => ⟨S64x4x4x128x256, .f32⟩
  | 57 => ⟨S64x4x256x128x4, .f32⟩
  | 58 => ⟨S64x4x128x4x64, .f32⟩
  | 59 => ⟨S64x128x4x4x64, .f32⟩
  | 60 => ⟨S64x4x256x64, .f32⟩
  | 61 => ⟨S64x256x4x64, .f32⟩
  | 62 => ⟨S64x128x4x64, .f32⟩
  | 63 => ⟨S64x128x4x64, .f32⟩
  | 64 => ⟨S1x128x4x64, .f32⟩
  | 65 => ⟨S63x128x4x64, .f32⟩
  | 66 => ⟨S_, .f32⟩
  | 67 => ⟨S64x128x4x64, .f32⟩
  | 68 => ⟨S64x128x4x64, .f32⟩
  | 69 => ⟨S64x128x4x64, .f32⟩
  | 70 => ⟨S64x128x4x64, .f32⟩
  | 71 => ⟨S1x128x4x64, .f32⟩
  | 72 => ⟨S63x128x4x64, .f32⟩
  | 73 => ⟨S_, .f32⟩
  | 74 => ⟨S64x128x4x64, .f32⟩
  | 75 => ⟨S64x128x4x64, .f32⟩
  | 76 => ⟨S8192x256, .f32⟩
  | 77 => ⟨S8192x256, .f32⟩
  | 78 => ⟨S8192x1024, .f32⟩
  | 79 => ⟨S_, .f32⟩
  | 80 => ⟨S1x112, .f32⟩
  | 81 => ⟨S1x128, .f32⟩
  | 82 => ⟨S8192x1536, .f32⟩
  | 83 => ⟨S8192x1536, .bf16⟩
  | 84 => ⟨S8192x1024, .bf16⟩
  | 85 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_call0_v0 : Ref sig .tc := ⟨.hbm, 73, rfl⟩
abbrev main_v54_1 : Ref sig .tc := ⟨.hbm, 74, rfl⟩
abbrev main_call0_v2 : Ref sig .tc := ⟨.hbm, 75, rfl⟩
abbrev main_v54_0 : Ref sig .tc := ⟨.hbm, 76, rfl⟩
abbrev main_call0_cst : Ref sig .tc := ⟨.hbm, 77, rfl⟩
abbrev main_v54_2 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_v90_2 : Ref sig .tc := ⟨.hbm, 131, rfl⟩
abbrev main_call1_cst_1 : Ref sig .tc := ⟨.hbm, 132, rfl⟩
abbrev main_call1_v6 : Ref sig .tc := ⟨.hbm, 133, rfl⟩
abbrev main_call1_v7 : Ref sig .tc := ⟨.hbm, 134, rfl⟩
abbrev main_v90_1 : Ref sig .tc := ⟨.hbm, 135, rfl⟩
abbrev main_v90_0 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_20 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_21 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_22 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_23 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_call3_cst : Ref sig .tc := ⟨.hbm, 173, rfl⟩
abbrev main_call3_v0 : Ref sig .tc := ⟨.hbm, 174, rfl⟩
abbrev main_v120 : Ref sig .tc := ⟨.hbm, 175, rfl⟩
abbrev main_cst_24 : Ref sig .tc := ⟨.hbm, 176, rfl⟩
abbrev main_v121 : Ref sig .tc := ⟨.hbm, 177, rfl⟩
abbrev main_v122 : Ref sig .tc := ⟨.hbm, 178, rfl⟩
abbrev main_cst_25 : Ref sig .tc := ⟨.hbm, 179, rfl⟩
abbrev main_v123 : Ref sig .tc := ⟨.hbm, 180, rfl⟩
abbrev main_v124 : Ref sig .tc := ⟨.hbm, 181, rfl⟩
abbrev main_cst_26 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_27 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_28 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_29 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩

abbrev nD : Nat := 1
abbrev τ : Topo := Topo.v7x

variable {F : FTy → Type} [FloatOps F]
-- ==== RelBias.lean ====
abbrev S32x16 : Shape := ⟨2, ![32, 16]⟩
abbrev S16x128x256 : Shape := ⟨3, ![16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x8x128 : Shape := ⟨3, ![16, 8, 128]⟩
abbrev S1x128x256 : Shape := ⟨3, ![1, 128, 256]⟩
abbrev S1x8x128 : Shape := ⟨3, ![1, 8, 128]⟩
abbrev S1x128 : Shape := ⟨2, ![1, 128]⟩
abbrev S1 : Shape := ⟨1, ![1]⟩
abbrev S1x1x1 : Shape := ⟨3, ![1, 1, 1]⟩
abbrev S8x128 : Shape := ⟨2, ![8, 128]⟩

abbrev nBuf : Space → Nat
  | .hbm => 52
  | .vmem => 5
  | .smem => 0
  | _ => 0

abbrev bufTy : (tb : Table) → Fin (tcTables nBuf tb) → BufTy
  | .hbm, ⟨0, _⟩ => ⟨S32x16, .f32⟩
  | .hbm, ⟨1, _⟩ => ⟨S16x128x256, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i32⟩
  | .hbm, ⟨47, _⟩ => ⟨S_, .i32⟩
  | .hbm, ⟨48, _⟩ => ⟨S_, .i32⟩
  | .hbm, ⟨49, _⟩ => ⟨S128x256, .i32⟩
  | .hbm, ⟨50, _⟩ => ⟨S128x256, .i32⟩
  | .hbm, ⟨51, _⟩ => ⟨S16x8x128, .f32⟩
  | .local _ .vmem, ⟨0, _⟩ => ⟨S1x128x256, .f32⟩
  | .local _ .vmem, ⟨1, _⟩ => ⟨S1x128x256, .f32⟩
  | .local _ .vmem, ⟨2, _⟩ => ⟨S128x256, .i32⟩
  | .local _ .vmem, ⟨3, _⟩ => ⟨S1x8x128, .f32⟩
  | .local _ .vmem, ⟨4, _⟩ => ⟨S1x8x128, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RelBiasRefIdeal.lean ====
abbrev S32x16 : Shape := ⟨2, ![32, 16]⟩
abbrev S16x128x256 : Shape := ⟨3, ![16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S1x128x256 : Shape := ⟨3, ![1, 128, 256]⟩
abbrev S16x32 : Shape := ⟨2, ![16, 32]⟩
abbrev S16x96 : Shape := ⟨2, ![16, 96]⟩
abbrev S16x128 : Shape := ⟨2, ![16, 128]⟩
abbrev S16x1x128 : Shape := ⟨3, ![16, 1, 128]⟩
abbrev S16x8x128 : Shape := ⟨3, ![16, 8, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S16x128x256, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S128x256x1, .i32⟩
  | .hbm, ⟨55, _⟩ => ⟨S128x256x16, .f32⟩
  | .hbm, ⟨56, _⟩ => ⟨S1x128x256, .i1⟩
  | .hbm, ⟨57, _⟩ => ⟨S16x128x256, .f32⟩
  | .hbm, ⟨58, _⟩ => ⟨S_, .f32⟩
  | .hbm, ⟨59, _⟩ => ⟨S16x128x256, .i1⟩
  | .hbm, ⟨60, _⟩ => ⟨S16x128x256, .f32⟩
  | .hbm, ⟨61, _⟩ => ⟨S16x128x256, .f32⟩
  | .hbm, ⟨62, _⟩ => ⟨S_, .f32⟩
  | .hbm, ⟨63, _⟩ => ⟨S16x128x256, .f32⟩
  | .hbm, ⟨64, _⟩ => ⟨S_, .f32⟩
  | .hbm, ⟨65, _⟩ => ⟨S16x128x256, .f32⟩
  | .hbm, ⟨66, _⟩ => ⟨S16x128x256, .f32⟩
  | .hbm, ⟨67, _⟩ => ⟨S128x256x16, .f32⟩
  | .hbm, ⟨68, _⟩ => ⟨S_, .f32⟩
  | .hbm, ⟨69, _⟩ => ⟨S32x16, .f32⟩
  | .hbm, ⟨70, _⟩ => ⟨S32x16, .f32⟩
  | .hbm, ⟨71, _⟩ => ⟨S16x32, .f32⟩
  | .hbm, ⟨72, _⟩ => ⟨S_, .f32⟩
  | .hbm, ⟨73, _⟩ => ⟨S16x96, .f32⟩
  | .hbm, ⟨74, _⟩ => ⟨S16x128, .f32⟩
  | .hbm, ⟨75, _⟩ => ⟨S16x1x128, .f32⟩
  | .hbm, ⟨76, _⟩ => ⟨S16x8x128, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_c_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43_1 : Ref sig .tc := ⟨.hbm, 59, rfl⟩
abbrev main_call1_v1 : Ref sig .tc := ⟨.hbm, 60, rfl⟩
abbrev main_v43_0 : Ref sig .tc := ⟨.hbm, 61, rfl⟩
abbrev main_call1_cst : Ref sig .tc := ⟨.hbm, 62, rfl⟩
abbrev main_v43_2 : Ref sig .tc := ⟨.hbm, 63, rfl⟩
abbrev main_call2_cst : Ref sig .tc := ⟨.hbm, 64, rfl⟩
abbrev main_call2_v0 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== ConvTaps.lean ====
abbrev S8192x2048 : Shape := ⟨2, ![8192, 2048]⟩
abbrev S1x31x1024 : Shape := ⟨3, ![1, 31, 1024]⟩
abbrev S8192x1024 : Shape := ⟨2, ![8192, 1024]⟩
abbrev S31x1024 : Shape := ⟨2, ![31, 1024]⟩
abbrev S_ : Shape := ⟨0, ![]⟩
abbrev S32x1024 : Shape := ⟨2, ![32, 1024]⟩
abbrev S256x1024 : Shape := ⟨2, ![256, 1024]⟩
abbrev S256x2048 : Shape := ⟨2, ![256, 2048]⟩
abbrev S256x128 : Shape := ⟨2, ![256, 128]⟩
abbrev S32x128 : Shape := ⟨2, ![32, 128]⟩
abbrev S288x128 : Shape := ⟨2, ![288, 128]⟩
abbrev S1x128 : Shape := ⟨2, ![1, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x31x1024, .f32⟩
  | .hbm, ⟨2, _⟩ => ⟨S8192x1024, .f32⟩
  | .hbm, ⟨3, _⟩ => ⟨S31x1024, .f32⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S8192x2048, .bf16⟩
  | .hbm, ⟨8, _⟩ => ⟨S32x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S32x1024, .f32⟩
  | .local _ .vmem, ⟨9, _⟩ => ⟨S256x2048, .bf16⟩
  | .local _ .vmem, ⟨10, _⟩ => ⟨S256x2048, .bf16⟩
  | .local _ .vmem, ⟨11, _⟩ => ⟨S32x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvTapsRefIdeal.lean ====
abbrev S8192x2048 : Shape := ⟨2, ![8192, 2048]⟩
abbrev S1x31x1024 : Shape := ⟨3, ![1, 31, 1024]⟩
abbrev S8192x1024 : Shape := ⟨2, ![8192, 1024]⟩
abbrev S_ : Shape := ⟨0, ![]⟩
abbrev S30x1024 : Shape := ⟨2, ![30, 1024]⟩
abbrev S8222x1024 : Shape := ⟨2, ![8222, 1024]⟩
abbrev S1x1x1024 : Shape := ⟨3, ![1, 1, 1024]⟩
abbrev S1024 : Shape := ⟨1, ![1024]⟩
abbrev S1x1024 : Shape := ⟨2, ![1, 1024]⟩
abbrev S31x1024 : Shape := ⟨2, ![31, 1024]⟩
abbrev S32x1024 : Shape := ⟨2, ![32, 1024]⟩

abbrev nBuf : Space → Nat
  | .hbm => 719
  | .vmem => 0
  | .smem => 0
  | _ => 0

abbrev hbmTy0_0 (i : Nat) : BufTy := match i % 128 with
  | 0 => ⟨S8192x2048, .f32⟩
  | 1 => ⟨S1x31x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S30x1024, .f32⟩
  | 20 => ⟨S8222x1024, .f32⟩
  | 21 => ⟨S_, .f32⟩
  | 22 => ⟨S30x1024, .f32⟩
  | 23 => ⟨S8192x1024, .f32⟩
  | 24 => ⟨S1x1x1024, .f32⟩
  | 25 => ⟨S1024, .f32⟩
  | 26 => ⟨S1x1024, .f32⟩
  | 27 => ⟨S8192x1024, .f32⟩
  | 28 => ⟨S8192x1024, .f32⟩
  | 29 => ⟨S8192x1024, .f32⟩
  | 30 => ⟨S1x1x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S1x1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S1x1x1024, .f32⟩
  | 43 => ⟨S1024, .f32⟩
  | 44 => ⟨S1x1024, .f32⟩
  | 45 => ⟨S8192x1024, .f32⟩
  | 46 => ⟨S8192x1024, .f32⟩
  | 47 => ⟨S8192x1024, .f32⟩
  | 48 => ⟨S1x1x1024, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S1x1x1024, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S1x1x1024, .f32⟩
  | 61 => ⟨S1024, .f32⟩
  | 62 => ⟨S1x1024, .f32⟩
  | 63 => ⟨S8192x1024, .f32⟩
  | 64 => ⟨S8192x1024, .f32⟩
  | 65 => ⟨S8192x1024, .f32⟩
  | 66 => ⟨S1x1x1024, .f32⟩
  | 67 => ⟨S1024, .f32⟩
  | 68 => ⟨S1x1024, .f32⟩
  | 69 => ⟨S8192x1024, .f32⟩
  | 70 => ⟨S8192x1024, .f32⟩
  | 71 => ⟨S8192x1024, .f32⟩
  | 72 => ⟨S1x1x1024, .f32⟩
  | 73 => ⟨S1024, .f32⟩
  | 74 => ⟨S1x1024, .f32⟩
  | 75 => ⟨S8192x1024, .f32⟩
  | 76 => ⟨S8192x1024, .f32⟩
  | 77 => ⟨S8192x1024, .f32⟩
  | 78 => ⟨S1x1x1024, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S1x1x1024, .f32⟩
  | 85 => ⟨S1024, .f32⟩
  | 86 => ⟨S1x1024, .f32⟩
  | 87 => ⟨S8192x1024, .f32⟩
  | 88 => ⟨S8192x1024, .f32⟩
  | 89 => ⟨S8192x1024, .f32⟩
  | 90 => ⟨S1x1x1024, .f32⟩
  | 91 => ⟨S1024, .f32⟩
  | 92 => ⟨S1x1024, .f32⟩
  | 93 => ⟨S8192x1024, .f32⟩
  | 94 => ⟨S8192x1024, .f32⟩
  | 95 => ⟨S8192x1024, .f32⟩
  | 96 => ⟨S1x1x1024, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S1x1x1024, .f32⟩
  | 103 => ⟨S1024, .f32⟩
  | 104 => ⟨S1x1024, .f32⟩
  | 105 => ⟨S8192x1024, .f32⟩
  | 106 => ⟨S8192x1024, .f32⟩
  | 107 => ⟨S8192x1024, .f32⟩
  | 108 => ⟨S1x1x1024, .f32⟩
  | 109 => ⟨S1024, .f32⟩
  | 110 => ⟨S1x1024, .f32⟩
  | 111 => ⟨S8192x1024, .f32⟩
  | 112 => ⟨S8192x1024, .f32⟩
  | 113 => ⟨S8192x1024, .f32⟩
  | 114 => ⟨S1x1x1024, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S1x1x1024, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S1x1x1024, .f32⟩
  | 127 => ⟨S1024, .f32⟩
  | _ => ⟨S8192x2048, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S1x1x1024, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S1x1x1024, .f32⟩
  | 11 => ⟨S1024, .f32⟩
  | 12 => ⟨S1x1024, .f32⟩
  | 13 => ⟨S8192x1024, .f32⟩
  | 14 => ⟨S8192x1024, .f32⟩
  | 15 => ⟨S8192x1024, .f32⟩
  | 16 => ⟨S1x1x1024, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S1x1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S1x1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S1x1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S1x1x1024, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S1x1x1024, .f32⟩
  | 47 => ⟨S1024, .f32⟩
  | 48 => ⟨S1x1024, .f32⟩
  | 49 => ⟨S8192x1024, .f32⟩
  | 50 => ⟨S8192x1024, .f32⟩
  | 51 => ⟨S8192x1024, .f32⟩
  | 52 => ⟨S1x1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S1x1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S1x1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S1x1x1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S1x1x1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S1x1x1024, .f32⟩
  | 122 => ⟨S_, .f32⟩
  | 123 => ⟨S1x31x1024, .f32⟩
  | 124 => ⟨S_, .f32⟩
  | 125 => ⟨S8222x1024, .f32⟩
  | 126 => ⟨S8192x1024, .f32⟩
  | 127 => ⟨S_, .f32⟩
  | _ => ⟨S8192x2048, .f32⟩

abbrev hbmTy0_2 (i : Nat) : BufTy := match i % 128 with
  | 0 => ⟨S1024, .f32⟩
  | 1 => ⟨S1x1024, .f32⟩
  | 2 => ⟨S8192x1024, .f32⟩
  | 3 => ⟨S8192x1024, .f32⟩
  | 4 => ⟨S_, .f32⟩
  | 5 => ⟨S1024, .f32⟩
  | 6 => ⟨S1x1x1024, .f32⟩
  | 7 => ⟨S_, .f32⟩
  | 8 => ⟨S1x31x1024, .f32⟩
  | 9 => ⟨S1x31x1024, .f32⟩
  | 10 => ⟨S_, .f32⟩
  | 11 => ⟨S8222x1024, .f32⟩
  | 12 => ⟨S8222x1024, .f32⟩
  | 13 => ⟨S8192x1024, .f32⟩
  | 14 => ⟨S_, .f32⟩
  | 15 => ⟨S1024, .f32⟩
  | 16 => ⟨S1x1024, .f32⟩
  | 17 => ⟨S8192x1024, .f32⟩
  | 18 => ⟨S8192x1024, .f32⟩
  | 19 => ⟨S_, .f32⟩
  | 20 => ⟨S1024, .f32⟩
  | 21 => ⟨S1x1x1024, .f32⟩
  | 22 => ⟨S_, .f32⟩
  | 23 => ⟨S1x31x1024, .f32⟩
  | 24 => ⟨S1x31x1024, .f32⟩
  | 25 => ⟨S_, .f32⟩
  | 26 => ⟨S8222x1024, .f32⟩
  | 27 => ⟨S8222x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S1x1x1024, .f32⟩
  | 37 => ⟨S_, .f32⟩
  | 38 => ⟨S1x31x1024, .f32⟩
  | 39 => ⟨S1x31x1024, .f32⟩
  | 40 => ⟨S_, .f32⟩
  | 41 => ⟨S8222x1024, .f32⟩
  | 42 => ⟨S8222x1024, .f32⟩
  | 43 => ⟨S8192x1024, .f32⟩
  | 44 => ⟨S_, .f32⟩
  | 45 => ⟨S1024, .f32⟩
  | 46 => ⟨S1x1024, .f32⟩
  | 47 => ⟨S8192x1024, .f32⟩
  | 48 => ⟨S8192x1024, .f32⟩
  | 49 => ⟨S_, .f32⟩
  | 50 => ⟨S1024, .f32⟩
  | 51 => ⟨S1x1x1024, .f32⟩
  | 52 => ⟨S_, .f32⟩
  | 53 => ⟨S1x31x1024, .f32⟩
  | 54 => ⟨S1x31x1024, .f32⟩
  | 55 => ⟨S_, .f32⟩
  | 56 => ⟨S8222x1024, .f32⟩
  | 57 => ⟨S8222x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S1024, .f32⟩
  | 66 => ⟨S1x1x1024, .f32⟩
  | 67 => ⟨S_, .f32⟩
  | 68 => ⟨S1x31x1024, .f32⟩
  | 69 => ⟨S1x31x1024, .f32⟩
  | 70 => ⟨S_, .f32⟩
  | 71 => ⟨S8222x1024, .f32⟩
  | 72 => ⟨S8222x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S1x1x1024, .f32⟩
  | 82 => ⟨S_, .f32⟩
  | 83 => ⟨S1x31x1024, .f32⟩
  | 84 => ⟨S1x31x1024, .f32⟩
  | 85 => ⟨S_, .f32⟩
  | 86 => ⟨S8222x1024, .f32⟩
  | 87 => ⟨S8222x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S1x1x1024, .f32⟩
  | 97 => ⟨S_, .f32⟩
  | 98 => ⟨S1x31x1024, .f32⟩
  | 99 => ⟨S1x31x1024, .f32⟩
  | 100 => ⟨S_, .f32⟩
  | 101 => ⟨S8222x1024, .f32⟩
  | 102 => ⟨S8222x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S_, .f32⟩
  | 110 => ⟨S1024, .f32⟩
  | 111 => ⟨S1x1x1024, .f32⟩
  | 112 => ⟨S_, .f32⟩
  | 113 => ⟨S1x31x1024, .f32⟩
  | 114 => ⟨S1x31x1024, .f32⟩
  | 115 => ⟨S_, .f32⟩
  | 116 => ⟨S8222x1024, .f32⟩
  | 117 => ⟨S8222x1024, .f32⟩
  | 118 => ⟨S8192x1024, .f32⟩
  | 119 => ⟨S_, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S1024, .f32⟩
  | 126 => ⟨S1x1x1024, .f32⟩
  | 127 => ⟨S_, .f32⟩
  | _ => ⟨S8192x2048, .f32⟩

abbrev hbmTy0_3 (i : Nat) : BufTy := match i % 128 with
  | 0 => ⟨S1x31x1024, .f32⟩
  | 1 => ⟨S1x31x1024, .f32⟩
  | 2 => ⟨S_, .f32⟩
  | 3 => ⟨S8222x1024, .f32⟩
  | 4 => ⟨S8222x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S_, .f32⟩
  | 12 => ⟨S1024, .f32⟩
  | 13 => ⟨S1x1x1024, .f32⟩
  | 14 => ⟨S_, .f32⟩
  | 15 => ⟨S1x31x1024, .f32⟩
  | 16 => ⟨S1x31x1024, .f32⟩
  | 17 => ⟨S_, .f32⟩
  | 18 => ⟨S8222x1024, .f32⟩
  | 19 => ⟨S8222x1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S1024, .f32⟩
  | 28 => ⟨S1x1x1024, .f32⟩
  | 29 => ⟨S_, .f32⟩
  | 30 => ⟨S1x31x1024, .f32⟩
  | 31 => ⟨S1x31x1024, .f32⟩
  | 32 => ⟨S_, .f32⟩
  | 33 => ⟨S8222x1024, .f32⟩
  | 34 => ⟨S8222x1024, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S8192x1024, .f32⟩
  | 41 => ⟨S_, .f32⟩
  | 42 => ⟨S1024, .f32⟩
  | 43 => ⟨S1x1x1024, .f32⟩
  | 44 => ⟨S_, .f32⟩
  | 45 => ⟨S1x31x1024, .f32⟩
  | 46 => ⟨S1x31x1024, .f32⟩
  | 47 => ⟨S_, .f32⟩
  | 48 => ⟨S8222x1024, .f32⟩
  | 49 => ⟨S8222x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S1x1x1024, .f32⟩
  | 59 => ⟨S_, .f32⟩
  | 60 => ⟨S1x31x1024, .f32⟩
  | 61 => ⟨S1x31x1024, .f32⟩
  | 62 => ⟨S_, .f32⟩
  | 63 => ⟨S8222x1024, .f32⟩
  | 64 => ⟨S8222x1024, .f32⟩
  | 65 => ⟨S8192x1024, .f32⟩
  | 66 => ⟨S_, .f32⟩
  | 67 => ⟨S1024, .f32⟩
  | 68 => ⟨S1x1024, .f32⟩
  | 69 => ⟨S8192x1024, .f32⟩
  | 70 => ⟨S8192x1024, .f32⟩
  | 71 => ⟨S_, .f32⟩
  | 72 => ⟨S1024, .f32⟩
  | 73 => ⟨S1x1x1024, .f32⟩
  | 74 => ⟨S_, .f32⟩
  | 75 => ⟨S1x31x1024, .f32⟩
  | 76 => ⟨S1x31x1024, .f32⟩
  | 77 => ⟨S_, .f32⟩
  | 78 => ⟨S8222x1024, .f32⟩
  | 79 => ⟨S8222x1024, .f32⟩
  | 80 => ⟨S8192x1024, .f32⟩
  | 81 => ⟨S_, .f32⟩
  | 82 => ⟨S1024, .f32⟩
  | 83 => ⟨S1x1024, .f32⟩
  | 84 => ⟨S8192x1024, .f32⟩
  | 85 => ⟨S8192x1024, .f32⟩
  | 86 => ⟨S_, .f32⟩
  | 87 => ⟨S1024, .f32⟩
  | 88 => ⟨S1x1x1024, .f32⟩
  | 89 => ⟨S_, .f32⟩
  | 90 => ⟨S1x31x1024, .f32⟩
  | 91 => ⟨S1x31x1024, .f32⟩
  | 92 => ⟨S_, .f32⟩
  | 93 => ⟨S8222x1024, .f32⟩
  | 94 => ⟨S8222x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S1x1x1024, .f32⟩
  | 104 => ⟨S_, .f32⟩
  | 105 => ⟨S1x31x1024, .f32⟩
  | 106 => ⟨S1x31x1024, .f32⟩
  | 107 => ⟨S_, .f32⟩
  | 108 => ⟨S8222x1024, .f32⟩
  | 109 => ⟨S8222x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S_, .f32⟩
  | 117 => ⟨S1024, .f32⟩
  | 118 => ⟨S1x1x1024, .f32⟩
  | 119 => ⟨S_, .f32⟩
  | 120 => ⟨S1x31x1024, .f32⟩
  | 121 => ⟨S1x31x1024, .f32⟩
  | 122 => ⟨S_, .f32⟩
  | 123 => ⟨S8222x1024, .f32⟩
  | 124 => ⟨S8222x1024, .f32⟩
  | 125 => ⟨S8192x1024, .f32⟩
  | 126 => ⟨S_, .f32⟩
  | 127 => ⟨S1024, .f32⟩
  | _ => ⟨S8192x2048, .f32⟩

abbrev hbmTy0_4 (i : Nat) : BufTy := match i % 128 with
  | 0 => ⟨S1x1024, .f32⟩
  | 1 => ⟨S8192x1024, .f32⟩
  | 2 => ⟨S8192x1024, .f32⟩
  | 3 => ⟨S_, .f32⟩
  | 4 => ⟨S1024, .f32⟩
  | 5 => ⟨S1x1x1024, .f32⟩
  | 6 => ⟨S_, .f32⟩
  | 7 => ⟨S1x31x1024, .f32⟩
  | 8 => ⟨S1x31x1024, .f32⟩
  | 9 => ⟨S_, .f32⟩
  | 10 => ⟨S8222x1024, .f32⟩
  | 11 => ⟨S8222x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S_, .f32⟩
  | 19 => ⟨S1024, .f32⟩
  | 20 => ⟨S1x1x1024, .f32⟩
  | 21 => ⟨S_, .f32⟩
  | 22 => ⟨S1x31x1024, .f32⟩
  | 23 => ⟨S1x31x1024, .f32⟩
  | 24 => ⟨S_, .f32⟩
  | 25 => ⟨S8222x1024, .f32⟩
  | 26 => ⟨S8222x1024, .f32⟩
  | 27 => ⟨S8192x1024, .f32⟩
  | 28 => ⟨S_, .f32⟩
  | 29 => ⟨S1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S1x1x1024, .f32⟩
  | 36 => ⟨S_, .f32⟩
  | 37 => ⟨S1x31x1024, .f32⟩
  | 38 => ⟨S1x31x1024, .f32⟩
  | 39 => ⟨S_, .f32⟩
  | 40 => ⟨S8222x1024, .f32⟩
  | 41 => ⟨S8222x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S1024, .f32⟩
  | 50 => ⟨S1x1x1024, .f32⟩
  | 51 => ⟨S_, .f32⟩
  | 52 => ⟨S1x31x1024, .f32⟩
  | 53 => ⟨S1x31x1024, .f32⟩
  | 54 => ⟨S_, .f32⟩
  | 55 => ⟨S8222x1024, .f32⟩
  | 56 => ⟨S8222x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S1024, .f32⟩
  | 65 => ⟨S1x1x1024, .f32⟩
  | 66 => ⟨S_, .f32⟩
  | 67 => ⟨S1x31x1024, .f32⟩
  | 68 => ⟨S1x31x1024, .f32⟩
  | 69 => ⟨S_, .f32⟩
  | 70 => ⟨S8222x1024, .f32⟩
  | 71 => ⟨S8222x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S1x1x1024, .f32⟩
  | 81 => ⟨S_, .f32⟩
  | 82 => ⟨S1x31x1024, .f32⟩
  | 83 => ⟨S1x31x1024, .f32⟩
  | 84 => ⟨S_, .f32⟩
  | 85 => ⟨S8222x1024, .f32⟩
  | 86 => ⟨S8222x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S1024, .f32⟩
  | 95 => ⟨S1x1x1024, .f32⟩
  | 96 => ⟨S_, .f32⟩
  | 97 => ⟨S1x31x1024, .f32⟩
  | 98 => ⟨S1x31x1024, .f32⟩
  | 99 => ⟨S_, .f32⟩
  | 100 => ⟨S8222x1024, .f32⟩
  | 101 => ⟨S8222x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S1x1x1024, .f32⟩
  | 111 => ⟨S_, .f32⟩
  | 112 => ⟨S1x31x1024, .f32⟩
  | 113 => ⟨S1x31x1024, .f32⟩
  | 114 => ⟨S_, .f32⟩
  | 115 => ⟨S8222x1024, .f32⟩
  | 116 => ⟨S8222x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S1x1x1024, .f32⟩
  | 126 => ⟨S_, .f32⟩
  | 127 => ⟨S1x31x1024, .f32⟩
  | _ => ⟨S8192x2048, .f32⟩

abbrev hbmTy0_5 (i : Nat) : BufTy := match i % 128 with
  | 0 => ⟨S1x31x1024, .f32⟩
  | 1 => ⟨S_, .f32⟩
  | 2 => ⟨S8222x1024, .f32⟩
  | 3 => ⟨S8222x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S1x1x1024, .f32⟩
  | 13 => ⟨S_, .f32⟩
  | 14 => ⟨S1x31x1024, .f32⟩
  | 15 => ⟨S1x31x1024, .f32⟩
  | 16 => ⟨S_, .f32⟩
  | 17 => ⟨S8222x1024, .f32⟩
  | 18 => ⟨S8222x1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S_, .f32⟩
  | 26 => ⟨S1024, .f32⟩
  | 27 => ⟨S1x1x1024, .f32⟩
  | 28 => ⟨S_, .f32⟩
  | 29 => ⟨S1x31x1024, .f32⟩
  | 30 => ⟨S1x31x1024, .f32⟩
  | 31 => ⟨S_, .f32⟩
  | 32 => ⟨S8222x1024, .f32⟩
  | 33 => ⟨S8222x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S8192x1024, .f32⟩
  | 40 => ⟨S_, .f32⟩
  | 41 => ⟨S1024, .f32⟩
  | 42 => ⟨S1x1x1024, .f32⟩
  | 43 => ⟨S_, .f32⟩
  | 44 => ⟨S1x31x1024, .f32⟩
  | 45 => ⟨S1x31x1024, .f32⟩
  | 46 => ⟨S_, .f32⟩
  | 47 => ⟨S8222x1024, .f32⟩
  | 48 => ⟨S8222x1024, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S8192x1024, .f32⟩
  | 55 => ⟨S_, .f32⟩
  | 56 => ⟨S1024, .f32⟩
  | 57 => ⟨S1x1x1024, .f32⟩
  | 58 => ⟨S_, .f32⟩
  | 59 => ⟨S1x31x1024, .f32⟩
  | 60 => ⟨S1x31x1024, .f32⟩
  | 61 => ⟨S_, .f32⟩
  | 62 => ⟨S8222x1024, .f32⟩
  | 63 => ⟨S8222x1024, .f32⟩
  | 64 => ⟨S30x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x2048, .f32⟩
  | 71 => ⟨S_, .f32⟩
  | 72 => ⟨S8192x2048, .f32⟩
  | 73 => ⟨S8192x2048, .f32⟩
  | 74 => ⟨S8192x2048, .bf16⟩
  | 75 => ⟨S31x1024, .f32⟩
  | 76 => ⟨S_, .f32⟩
  | 77 => ⟨S1x1024, .f32⟩
  | 78 => ⟨S32x1024, .f32⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_4 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_5 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_cst_7 : Ref sig .tc := ⟨.hbm, 252, rfl⟩
abbrev main_v241 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_9 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_v261 : Ref sig .tc := ⟨.hbm, 280, rfl⟩
abbrev main_cst_15 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_v272 : Ref sig .tc := ⟨.hbm, 295, rfl⟩
abbrev main_cst_19 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_v283 : Ref sig .tc := ⟨.hbm, 310, rfl⟩
abbrev main_cst_23 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_v294 : Ref sig .tc := ⟨.hbm, 325, rfl⟩
abbrev main_cst_27 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_v305 : Ref sig .tc := ⟨.hbm, 340, rfl⟩
abbrev main_cst_31 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_v316 : Ref sig .tc := ⟨.hbm, 355, rfl⟩
abbrev main_cst_35 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_v327 : Ref sig .tc := ⟨.hbm, 370, rfl⟩
abbrev main_cst_39 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_v338 : Ref sig .tc := ⟨.hbm, 385, rfl⟩
abbrev main_cst_43 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_v349 : Ref sig .tc := ⟨.hbm, 400, rfl⟩
abbrev main_cst_47 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_v360 : Ref sig .tc := ⟨.hbm, 415, rfl⟩
abbrev main_cst_51 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_v371 : Ref sig .tc := ⟨.hbm, 430, rfl⟩
abbrev main_cst_55 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_v382 : Ref sig .tc := ⟨.hbm, 445, rfl⟩
abbrev main_cst_59 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_v393 : Ref sig .tc := ⟨.hbm, 460, rfl⟩
abbrev main_cst_63 : Ref sig .tc := ⟨.hbm, 461, rfl⟩
abbrev main_v394 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_v404 : Ref sig .tc := ⟨.hbm, 475, rfl⟩
abbrev main_cst_67 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_v415 : Ref sig .tc := ⟨.hbm, 490, rfl⟩
abbrev main_cst_71 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_v426 : Ref sig .tc := ⟨.hbm, 505, rfl⟩
abbrev main_cst_75 : Ref sig .tc := ⟨.hbm, 506, rfl⟩
abbrev main_v427 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_v437 : Ref sig .tc := ⟨.hbm, 520, rfl⟩
abbrev main_cst_79 : Ref sig .tc := ⟨.hbm, 521, rfl⟩
abbrev main_v438 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_v448 : Ref sig .tc := ⟨.hbm, 535, rfl⟩
abbrev main_cst_83 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_v459 : Ref sig .tc := ⟨.hbm, 550, rfl⟩
abbrev main_cst_87 : Ref sig .tc := ⟨.hbm, 551, rfl⟩
abbrev main_v460 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_v470 : Ref sig .tc := ⟨.hbm, 565, rfl⟩
abbrev main_cst_91 : Ref sig .tc := ⟨.hbm, 566, rfl⟩
abbrev main_v471 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_v481 : Ref sig .tc := ⟨.hbm, 580, rfl⟩
abbrev main_cst_95 : Ref sig .tc := ⟨.hbm, 581, rfl⟩
abbrev main_v482 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_v492 : Ref sig .tc := ⟨.hbm, 595, rfl⟩
abbrev main_cst_99 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_v503 : Ref sig .tc := ⟨.hbm, 610, rfl⟩
abbrev main_cst_103 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_v514 : Ref sig .tc := ⟨.hbm, 625, rfl⟩
abbrev main_cst_107 : Ref sig .tc := ⟨.hbm, 626, rfl⟩
abbrev main_v515 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_v525 : Ref sig .tc := ⟨.hbm, 640, rfl⟩
abbrev main_cst_111 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_v536 : Ref sig .tc := ⟨.hbm, 655, rfl⟩
abbrev main_cst_115 : Ref sig .tc := ⟨.hbm, 656, rfl⟩
abbrev main_v537 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_v547 : Ref sig .tc := ⟨.hbm, 670, rfl⟩
abbrev main_cst_119 : Ref sig .tc := ⟨.hbm, 671, rfl⟩
abbrev main_v548 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_v558 : Ref sig .tc := ⟨.hbm, 685, rfl⟩
abbrev main_cst_123 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_cst_128 : Ref sig .tc := ⟨.hbm, 709, rfl⟩
abbrev main_v577 : Ref sig .tc := ⟨.hbm, 710, rfl⟩
abbrev main_cst_129 : Ref sig .tc := ⟨.hbm, 711, rfl⟩
abbrev main_v578 : Ref sig .tc := ⟨.hbm, 712, rfl⟩
abbrev main_v579 : Ref sig .tc := ⟨.hbm, 713, rfl⟩
abbrev main_v580 : Ref sig .tc := ⟨.hbm, 714, rfl⟩
abbrev main_v581 : Ref sig .tc := ⟨.hbm, 715, rfl⟩
abbrev main_cst_130 : Ref sig .tc := ⟨.hbm, 716, rfl⟩
abbrev main_v582 : Ref sig .tc := ⟨.hbm, 717, rfl⟩
abbrev main_v583 : Ref sig .tc := ⟨.hbm, 718, rfl⟩

abbrev nD : Nat := 1
abbrev τ : Topo := Topo.v7x

variable {F : FTy → Type} [FloatOps F]
-- ==== InGrad.lean ====
abbrev S8192x2048 : Shape := ⟨2, ![8192, 2048]⟩
abbrev S1x6144 : Shape := ⟨2, ![1, 6144]⟩
abbrev S1x2048x5632 : Shape := ⟨3, ![1, 2048, 5632]⟩
abbrev S8192x1536 : Shape := ⟨2, ![8192, 1536]⟩
abbrev S8192x1024 : Shape := ⟨2, ![8192, 1024]⟩
abbrev S2048x5632 : Shape := ⟨2, ![2048, 5632]⟩
abbrev S5632x2048 : Shape := ⟨2, ![5632, 2048]⟩
abbrev S1x2048 : Shape := ⟨2, ![1, 2048]⟩
abbrev S256x1536 : Shape := ⟨2, ![256, 1536]⟩
abbrev S256x1024 : Shape := ⟨2, ![256, 1024]⟩
abbrev S256x2048 : Shape := ⟨2, ![256, 2048]⟩
abbrev S4 : Shape := ⟨1, ![4]⟩
abbrev S1 : Shape := ⟨1, ![1]⟩
abbrev S_ : Shape := ⟨0, ![]⟩
abbrev S1536x2048 : Shape := ⟨2, ![1536, 2048]⟩
abbrev S1024x2048 : Shape := ⟨2, ![1024, 2048]⟩
abbrev S2048x2048 : Shape := ⟨2, ![2048, 2048]⟩
abbrev S2048 : Shape := ⟨1, ![2048]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048x5632, .f32⟩
  | .hbm, ⟨3, _⟩ => ⟨S8192x2048, .f32⟩
  | .hbm, ⟨4, _⟩ => ⟨S8192x1536, .bf16⟩
  | .hbm, ⟨5, _⟩ => ⟨S8192x1024, .bf16⟩
  | .hbm, ⟨6, _⟩ => ⟨S8192x2048, .bf16⟩
  | .hbm, ⟨7, _⟩ => ⟨S8192x1024, .bf16⟩
  | .hbm, ⟨8, _⟩ => ⟨S2048x5632, .f32⟩
  | .hbm, ⟨9, _⟩ => ⟨S5632x2048, .f32⟩
  | .hbm, ⟨10, _⟩ => ⟨S5632x2048, .bf16⟩
  | .hbm, ⟨11, _⟩ => ⟨S8192x2048, .f32⟩
  | .hbm, ⟨12, _⟩ => ⟨S1x2048, .f32⟩
  | .hbm, ⟨13, _⟩ => ⟨S1x2048, .f32⟩
  | .local _ .vmem, ⟨0, _⟩ => ⟨S256x1536, .bf16⟩
  | .local _ .vmem, ⟨1, _⟩ => ⟨S256x1536, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S1x2048, .f32⟩
  | .local _ .vmem, ⟨17, _⟩ => ⟨S5632x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InGradRefIdeal.lean ====
abbrev S8192x2048 : Shape := ⟨2, ![8192, 2048]⟩
abbrev S1x6144 : Shape := ⟨2, ![1, 6144]⟩
abbrev S1x2048x5632 : Shape := ⟨3, ![1, 2048, 5632]⟩
abbrev S8192x1536 : Shape := ⟨2, ![8192, 1536]⟩
abbrev S8192x1024 : Shape := ⟨2, ![8192, 1024]⟩
abbrev S8192x5632 : Shape := ⟨2, ![8192, 5632]⟩
abbrev S1x2048 : Shape := ⟨2, ![1, 2048]⟩
abbrev S_ : Shape := ⟨0, ![]⟩
abbrev S2048x5632 : Shape := ⟨2, ![2048, 5632]⟩
abbrev S2048 : Shape := ⟨1, ![2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048x5632, .f32⟩
  | .hbm, ⟨3, _⟩ => ⟨S8192x2048, .f32⟩
  | .hbm, ⟨4, _⟩ => ⟨S8192x1536, .bf16⟩
  | .hbm, ⟨5, _⟩ => ⟨S8192x1024, .bf16⟩
  | .hbm, ⟨6, _⟩ => ⟨S8192x2048, .bf16⟩
  | .hbm, ⟨7, _⟩ => ⟨S8192x1024, .bf16⟩
  | .hbm, ⟨8, _⟩ => ⟨S8192x1536, .f32⟩
  | .hbm, ⟨9, _⟩ => ⟨S8192x1024, .f32⟩
  | .hbm, ⟨10, _⟩ => ⟨S8192x2048, .f32⟩
  | .hbm, ⟨11, _⟩ => ⟨S8192x1024, .f32⟩
  | .hbm, ⟨12, _⟩ => ⟨S8192x5632, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048x5632, .f32⟩
  | .hbm, ⟨23, _⟩ => ⟨S8192x5632, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== InProj.lean ====
abbrev S8192x2048 : Shape := ⟨2, ![8192, 2048]⟩
abbrev S1x6144 : Shape := ⟨2, ![1, 6144]⟩
abbrev S1x2048x5632 : Shape := ⟨3, ![1, 2048, 5632]⟩
abbrev S2048x5632 : Shape := ⟨2, ![2048, 5632]⟩
abbrev S5632x2048 : Shape := ⟨2, ![5632, 2048]⟩
abbrev S8192x1536 : Shape := ⟨2, ![8192, 1536]⟩
abbrev S8192x1024 : Shape := ⟨2, ![8192, 1024]⟩
abbrev S256x2048 : Shape := ⟨2, ![256, 2048]⟩
abbrev S1x2048 : Shape := ⟨2, ![1, 2048]⟩
abbrev S256x1536 : Shape := ⟨2, ![256, 1536]⟩
abbrev S256x1024 : Shape := ⟨2, ![256, 1024]⟩
abbrev S1536x2048 : Shape := ⟨2, ![1536, 2048]⟩
abbrev S1024x2048 : Shape := ⟨2, ![1024, 2048]⟩
abbrev S2048x2048 : Shape := ⟨2, ![2048, 2048]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S8192x2048, .bf16⟩
  | .hbm, ⟨7, _⟩ => ⟨S8192x1536, .bf16⟩
  | .hbm, ⟨8, _⟩ => ⟨S8192x1024, .f32⟩
  | .hbm, ⟨9, _⟩ => ⟨S8192x2048, .f32⟩
  | .hbm, ⟨10, _⟩ => ⟨S8192x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S5632x2048, .bf16⟩
  | .local _ .vmem, ⟨5, _⟩ => ⟨S256x2048, .bf16⟩
  | .local _ .vmem, ⟨6, _⟩ => ⟨S256x2048, .bf16⟩
  | .local _ .vmem, ⟨7, _⟩ => ⟨S256x1536, .bf16⟩
  | .local _ .vmem, ⟨8, _⟩ => ⟨S256x1536, .bf16⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S8192x2048 : Shape := ⟨2, ![8192, 2048]⟩
abbrev S1x6144 : Shape := ⟨2, ![1, 6144]⟩
abbrev S1x2048x5632 : Shape := ⟨3, ![1, 2048, 5632]⟩
abbrev S1x2048 : Shape := ⟨2, ![1, 2048]⟩
abbrev S_ : Shape := ⟨0, ![]⟩
abbrev S2048x5632 : Shape := ⟨2, ![2048, 5632]⟩
abbrev S8192x5632 : Shape := ⟨2, ![8192, 5632]⟩
abbrev S8192x1536 : Shape := ⟨2, ![8192, 1536]⟩
abbrev S8192x1024 : Shape := ⟨2, ![8192, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x6144, .f32⟩
  | .hbm, ⟨2, _⟩ => ⟨S1x2048x5632, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S8192x5632, .f32⟩
  | .hbm, ⟨15, _⟩ => ⟨S8192x2048, .bf16⟩
  | .hbm, ⟨16, _⟩ => ⟨S8192x1536, .f32⟩
  | .hbm, ⟨17, _⟩ => ⟨S8192x1536, .bf16⟩
  | .hbm, ⟨18, _⟩ => ⟨S8192x1024, .f32⟩
  | .hbm, ⟨19, _⟩ => ⟨S8192x2048, .f32⟩
  | .hbm, ⟨20, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Mixer.lean ====
abbrev S8192x1536 : Shape := ⟨2, ![8192, 1536]⟩
abbrev S8192x1024 : Shape := ⟨2, ![8192, 1024]⟩
abbrev S8192x2048 : Shape := ⟨2, ![8192, 2048]⟩
abbrev S16x128x256 : Shape := ⟨3, ![16, 128, 256]⟩
abbrev S1x16 : Shape := ⟨2, ![1, 16]⟩
abbrev S1x31x1024 : Shape := ⟨3, ![1, 31, 1024]⟩
abbrev S1x1024 : Shape := ⟨2, ![1, 1024]⟩
abbrev S1x1024x1024 : Shape := ⟨3, ![1, 1024, 1024]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S31x1024 : Shape := ⟨2, ![31, 1024]⟩
abbrev S32x1024 : Shape := ⟨2, ![32, 1024]⟩
abbrev S1024x1024 : Shape := ⟨2, ![1024, 1024]⟩
abbrev S256x1024 : Shape := ⟨2, ![256, 1024]⟩
abbrev S256x256 : Shape := ⟨2, ![256, 256]⟩
abbrev S256x2048 : Shape := ⟨2, ![256, 2048]⟩
abbrev S288x1024 : Shape := ⟨2, ![288, 1024]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S4x128x256 : Shape := ⟨3, ![4, 128, 256]⟩
abbrev S512x1 : Shape := ⟨2, ![512, 1]⟩
abbrev S1x1 : Shape := ⟨2, ![1, 1]⟩
abbrev S512 : Shape := ⟨1, ![512]⟩
abbrev S288x128 : Shape := ⟨2, ![288, 128]⟩
abbrev S256x128 : Shape := ⟨2, ![256, 128]⟩
abbrev S1x128 : Shape := ⟨2, ![1, 128]⟩
abbrev S256x1 : Shape := ⟨2, ![256, 1]⟩

abbrev nBuf : Space → Nat
  | .hbm => 44
  | .vmem => 38
  | .smem => 1
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S16x128x256, .f32⟩
  | .hbm, ⟨5, _⟩ => ⟨S1x16, .f32⟩
  | .hbm, ⟨6, _⟩ => ⟨S1x31x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x1024, .f32⟩
  | .hbm, ⟨11, _⟩ => ⟨S1x1024, .f32⟩
  | .hbm, ⟨12, _⟩ => ⟨S128, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S256, .i32⟩
  | .hbm, ⟨18, _⟩ => ⟨S1x256, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S128x256, .i1⟩
  | .hbm, ⟨29, _⟩ => ⟨S_, .f32⟩
  | .hbm, ⟨30, _⟩ => ⟨S_, .f32⟩
  | .hbm, ⟨31, _⟩ => ⟨S16x128x256, .i1⟩
  | .hbm, ⟨32, _⟩ => ⟨S16x128x256, .f32⟩
  | .hbm, ⟨33, _⟩ => ⟨S16x128x256, .f32⟩
  | .hbm, ⟨34, _⟩ => ⟨S31x1024, .f32⟩
  | .hbm, ⟨35, _⟩ => ⟨S_, .i32⟩
  | .hbm, ⟨36, _⟩ => ⟨S_, .f32⟩
  | .hbm, ⟨37, _⟩ => ⟨S32x1024, .f32⟩
  | .hbm, ⟨38, _⟩ => ⟨S1024x1024, .f32⟩
  | .hbm, ⟨39, _⟩ => ⟨S1024x1024, .bf16⟩
  | .hbm, ⟨40, _⟩ => ⟨S8192x2048, .bf16⟩
  | .hbm, ⟨41, _⟩ => ⟨S8192x1024, .f32⟩
  | .hbm, ⟨42, _⟩ => ⟨S8192x1024, .f32⟩
  | .hbm, ⟨43, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S256x1024, .f32⟩
  | .local _ .vmem, ⟨11, _⟩ => ⟨S256x1024, .f32⟩
  | .local _ .vmem, ⟨12, _⟩ => ⟨S16x128x256, .f32⟩
  | .local _ .vmem, ⟨13, _⟩ => ⟨S256x1024, .f32⟩
  | .local _ .vmem, ⟨14, _⟩ => ⟨S256x1024, .f32⟩
  | .local _ .vmem, ⟨15, _⟩ => ⟨S32x1024, .f32⟩
  | .local _ .vmem, ⟨16, _⟩ => ⟨S32x1024, .f32⟩
  | .local _ .vmem, ⟨17, _⟩ => ⟨S256x1024, .f32⟩
  | .local _ .vmem, ⟨18, _⟩ => ⟨S256x1024, .f32⟩
  | .local _ .vmem, ⟨19, _⟩ => ⟨S32x1024, .f32⟩
  | .local _ .vmem, ⟨20, _⟩ => ⟨S32x1024, .f32⟩
  | .local _ .vmem, ⟨21, _⟩ => ⟨S256x1024, .f32⟩
  | .local _ .vmem, ⟨22, _⟩ => ⟨S256x1024, .f32⟩
  | .local _ .vmem, ⟨23, _⟩ => ⟨S32x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S1x1024, .f32⟩
  | .local _ .vmem, ⟨29, _⟩ => ⟨S256x2048, .bf16⟩
  | .local _ .vmem, ⟨30, _⟩ => ⟨S256x2048, .bf16⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S288x1024, .f32⟩
  | .local _ .smem, ⟨0, _⟩ => ⟨S1x16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_call1_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v19_2 : Ref sig .tc := ⟨.hbm, 42, rfl⟩
abbrev main_v19_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_scratch0 : Ref sig .tc := ⟨.vmem, 37, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== MixerIdeal.lean ====
variable {F : FTy → Type} [FloatOps F] [Named F]
def κ : String → Option EReal := fun
  | "mask" => some ⊥
  | _ => none
-- ==== MixerRefIdeal.lean ====
abbrev S8192x1536 : Shape := ⟨2, ![8192, 1536]⟩
abbrev S8192x1024 : Shape := ⟨2, ![8192, 1024]⟩
abbrev S8192x2048 : Shape := ⟨2, ![8192, 2048]⟩
abbrev S16x128x256 : Shape := ⟨3, ![16, 128, 256]⟩
abbrev S1x16 : Shape := ⟨2, ![1, 16]⟩
abbrev S1x31x1024 : Shape := ⟨3, ![1, 31, 1024]⟩
abbrev S1x1024 : Shape := ⟨2, ![1, 1024]⟩
abbrev S1x1024x1024 : Shape := ⟨3, ![1, 1024, 1024]⟩
abbrev S8192x256 : Shape := ⟨2, ![8192, 256]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x128x256 : Shape := ⟨4, ![4, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S1x4x4x128x256 : Shape := ⟨5, ![1, 4, 4, 128, 256]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S30x1024 : Shape := ⟨2, ![30, 1024]⟩
abbrev S8222x1024 : Shape := ⟨2, ![8222, 1024]⟩
abbrev S1x1x1024 : Shape := ⟨3, ![1, 1, 1024]⟩
abbrev S1024 : Shape := ⟨1, ![1024]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 407
  | .vmem => 0
  | .smem => 0
  | _ => 0

abbrev hbmTy0_0 (i : Nat) : BufTy := match i % 128 with
  | 0 => ⟨S8192x1536, .bf16⟩
  | 1 => ⟨S8192x1024, .f32⟩
  | 2 => ⟨S8192x2048, .f32⟩
  | 3 => ⟨S8192x1024, .f32⟩
  | 4 => ⟨S16x128x256, .f32⟩
  | 5 => ⟨S1x16, .f32⟩
  | 6 => ⟨S1x31x1024, .f32⟩
  | 7 => ⟨S1x1024, .f32⟩
  | 8 => ⟨S1x1024, .f32⟩
  | 9 => ⟨S1x1024, .f32⟩
  | 10 => ⟨S1x1024x1024, .f32⟩
  | 11 => ⟨S1x1024, .f32⟩
  | 12 => ⟨S8192x1024, .bf16⟩
  | 13 => ⟨S8192x256, .bf16⟩
  | 14 => ⟨S8192x256, .bf16⟩
  | 15 => ⟨S8192x1024, .f32⟩
  | 16 => ⟨S64x128x4x4x64, .f32⟩
  | 17 => ⟨S8192x256, .f32⟩
  | 18 => ⟨S64x128x4x64, .f32⟩
  | 19 => ⟨S8192x256, .f32⟩
  | 20 => ⟨S64x128x4x64, .f32⟩
  | 21 => ⟨S1x128x4x64, .f32⟩
  | 22 => ⟨S_, .f32⟩
  | 23 => ⟨S1x128x4x64, .f32⟩
  | 24 => ⟨S63x128x4x64, .f32⟩
  | 25 => ⟨S64x128x4x64, .f32⟩
  | 26 => ⟨S64x256x4x64, .f32⟩
  | 27 => ⟨S1x128x4x64, .f32⟩
  | 28 => ⟨S_, .f32⟩
  | 29 => ⟨S1x128x4x64, .f32⟩
  | 30 => ⟨S63x128x4x64, .f32⟩
  | 31 => ⟨S64x128x4x64, .f32⟩
  | 32 => ⟨S64x256x4x64, .f32⟩
  | 33 => ⟨S64x4x256x128x4, .f32⟩
  | 34 => ⟨S64x4x4x128x256, .f32⟩
  | 35 => ⟨S_, .f32⟩
  | 36 => ⟨S64x4x4x128x256, .f32⟩
  | 37 => ⟨S64x4x4x128x256, .f32⟩
  | 38 => ⟨S128, .i32⟩
  | 39 => ⟨S128x1, .i32⟩
  | 40 => ⟨S256, .i32⟩
  | 41 => ⟨S1x256, .i32⟩
  | 42 => ⟨S_, .i32⟩
  | 43 => ⟨S128x1, .i32⟩
  | 44 => ⟨S128x1, .i32⟩
  | 45 => ⟨S128x256, .i32⟩
  | 46 => ⟨S128x256, .i32⟩
  | 47 => ⟨S128x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S4x4x128x256, .f32⟩
  | 56 => ⟨S64, .i32⟩
  | 57 => ⟨S64x1, .i32⟩
  | 58 => ⟨S_, .i32⟩
  | 59 => ⟨S64x1, .i32⟩
  | 60 => ⟨S64x1, .i32⟩
  | 61 => ⟨S_, .i32⟩
  | 62 => ⟨S64x1, .i32⟩
  | 63 => ⟨S64x1, .i32⟩
  | 64 => ⟨S64x256, .i32⟩
  | 65 => ⟨S64x256, .i32⟩
  | 66 => ⟨S64x256, .i32⟩
  | 67 => ⟨S1x128x256, .i1⟩
  | 68 => ⟨S64x1x256, .i32⟩
  | 69 => ⟨S_, .i32⟩
  | 70 => ⟨S64x1x256, .i32⟩
  | 71 => ⟨S64x1x256, .i1⟩
  | 72 => ⟨S64x128x256, .i1⟩
  | 73 => ⟨S64x128x256, .i1⟩
  | 74 => ⟨S64x128x256, .i1⟩
  | 75 => ⟨S64x1x1x128x256, .i1⟩
  | 76 => ⟨S1x4x4x128x256, .f32⟩
  | 77 => ⟨S64x4x4x128x256, .f32⟩
  | 78 => ⟨S64x4x4x128x256, .f32⟩
  | 79 => ⟨S_, .f32⟩
  | 80 => ⟨S_, .f32⟩
  | 81 => ⟨S64x4x4x128x256, .i1⟩
  | 82 => ⟨S64x4x4x128x256, .f32⟩
  | 83 => ⟨S64x4x4x128x256, .f32⟩
  | 84 => ⟨S1x4x4x1x1, .f32⟩
  | 85 => ⟨S64x4x4x128x1, .f32⟩
  | 86 => ⟨S64x4x4x128x257, .f32⟩
  | 87 => ⟨S_, .f32⟩
  | 88 => ⟨S64x4x4x128, .f32⟩
  | 89 => ⟨S_, .f32⟩
  | 90 => ⟨S64x4x4x128, .f32⟩
  | 91 => ⟨S64x4x4x128, .f32⟩
  | 92 => ⟨S64x4x4x128x1, .f32⟩
  | 93 => ⟨S64x4x4x128x257, .f32⟩
  | 94 => ⟨S64x4x4x128x257, .f32⟩
  | 95 => ⟨S64x4x4x128x257, .f32⟩
  | 96 => ⟨S_, .f32⟩
  | 97 => ⟨S64x4x4x128, .f32⟩
  | 98 => ⟨S64x4x4x128x1, .f32⟩
  | 99 => ⟨S64x4x4x128x257, .f32⟩
  | 100 => ⟨S64x4x4x128x257, .f32⟩
  | 101 => ⟨S64x4x4x128x256, .f32⟩
  | 102 => ⟨S64x4x64x4x128, .f32⟩
  | 103 => ⟨S64x128x4x4x64, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S_, .f32⟩
  | 117 => ⟨S30x1024, .f32⟩
  | 118 => ⟨S8222x1024, .f32⟩
  | 119 => ⟨S8192x1024, .f32⟩
  | 120 => ⟨S1x1x1024, .f32⟩
  | 121 => ⟨S1024, .f32⟩
  | 122 => ⟨S1x1024, .f32⟩
  | 123 => ⟨S8192x1024, .f32⟩
  | 124 => ⟨S8192x1024, .f32⟩
  | 125 => ⟨S8192x1024, .f32⟩
  | 126 => ⟨S1x1x1024, .f32⟩
  | 127 => ⟨S1024, .f32⟩
  | _ => ⟨S8192x1536, .bf16⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S1x1x1024, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S1x1x1024, .f32⟩
  | 11 => ⟨S1024, .f32⟩
  | 12 => ⟨S1x1024, .f32⟩
  | 13 => ⟨S8192x1024, .f32⟩
  | 14 => ⟨S8192x1024, .f32⟩
  | 15 => ⟨S8192x1024, .f32⟩
  | 16 => ⟨S1x1x1024, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S1x1x1024, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S1x1x1024, .f32⟩
  | 29 => ⟨S1024, .f32⟩
  | 30 => ⟨S1x1024, .f32⟩
  | 31 => ⟨S8192x1024, .f32⟩
  | 32 => ⟨S8192x1024, .f32⟩
  | 33 => ⟨S8192x1024, .f32⟩
  | 34 => ⟨S1x1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S1x1x1024, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S1x1x1024, .f32⟩
  | 47 => ⟨S1024, .f32⟩
  | 48 => ⟨S1x1024, .f32⟩
  | 49 => ⟨S8192x1024, .f32⟩
  | 50 => ⟨S8192x1024, .f32⟩
  | 51 => ⟨S8192x1024, .f32⟩
  | 52 => ⟨S1x1x1024, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S1x1x1024, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S1x1x1024, .f32⟩
  | 65 => ⟨S1024, .f32⟩
  | 66 => ⟨S1x1024, .f32⟩
  | 67 => ⟨S8192x1024, .f32⟩
  | 68 => ⟨S8192x1024, .f32⟩
  | 69 => ⟨S8192x1024, .f32⟩
  | 70 => ⟨S1x1x1024, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S1x1x1024, .f32⟩
  | 77 => ⟨S1024, .f32⟩
  | 78 => ⟨S1x1024, .f32⟩
  | 79 => ⟨S8192x1024, .f32⟩
  | 80 => ⟨S8192x1024, .f32⟩
  | 81 => ⟨S8192x1024, .f32⟩
  | 82 => ⟨S1x1x1024, .f32⟩
  | 83 => ⟨S1024, .f32⟩
  | 84 => ⟨S1x1024, .f32⟩
  | 85 => ⟨S8192x1024, .f32⟩
  | 86 => ⟨S8192x1024, .f32⟩
  | 87 => ⟨S8192x1024, .f32⟩
  | 88 => ⟨S1x1x1024, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S1x1x1024, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S1x1x1024, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S1x1x1024, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S1x1x1024, .f32⟩
  | 113 => ⟨S1024, .f32⟩
  | 114 => ⟨S1x1024, .f32⟩
  | 115 => ⟨S8192x1024, .f32⟩
  | 116 => ⟨S8192x1024, .f32⟩
  | 117 => ⟨S8192x1024, .f32⟩
  | 118 => ⟨S1x1x1024, .f32⟩
  | 119 => ⟨S1024, .f32⟩
  | 120 => ⟨S1x1024, .f32⟩
  | 121 => ⟨S8192x1024, .f32⟩
  | 122 => ⟨S8192x1024, .f32⟩
  | 123 => ⟨S8192x1024, .f32⟩
  | 124 => ⟨S1x1x1024, .f32⟩
  | 125 => ⟨S1024, .f32⟩
  | 126 => ⟨S1x1024, .f32⟩
  | 127 => ⟨S8192x1024, .f32⟩
  | _ => ⟨S8192x1536, .bf16⟩

abbrev hbmTy0_2 (i : Nat) : BufTy := match i % 128 with
  | 0 => ⟨S8192x1024, .f32⟩
  | 1 => ⟨S8192x1024, .f32⟩
  | 2 => ⟨S1x1x1024, .f32⟩
  | 3 => ⟨S1024, .f32⟩
  | 4 => ⟨S1x1024, .f32⟩
  | 5 => ⟨S8192x1024, .f32⟩
  | 6 => ⟨S8192x1024, .f32⟩
  | 7 => ⟨S8192x1024, .f32⟩
  | 8 => ⟨S1x1x1024, .f32⟩
  | 9 => ⟨S1024, .f32⟩
  | 10 => ⟨S1x1024, .f32⟩
  | 11 => ⟨S8192x1024, .f32⟩
  | 12 => ⟨S8192x1024, .f32⟩
  | 13 => ⟨S8192x1024, .f32⟩
  | 14 => ⟨S1x1x1024, .f32⟩
  | 15 => ⟨S1024, .f32⟩
  | 16 => ⟨S1x1024, .f32⟩
  | 17 => ⟨S8192x1024, .f32⟩
  | 18 => ⟨S8192x1024, .f32⟩
  | 19 => ⟨S8192x1024, .f32⟩
  | 20 => ⟨S1x1x1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S1x1x1024, .f32⟩
  | 27 => ⟨S1024, .f32⟩
  | 28 => ⟨S1x1024, .f32⟩
  | 29 => ⟨S8192x1024, .f32⟩
  | 30 => ⟨S8192x1024, .f32⟩
  | 31 => ⟨S8192x1024, .f32⟩
  | 32 => ⟨S1x1x1024, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S1x1x1024, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S1x1x1024, .f32⟩
  | 45 => ⟨S1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S1024, .f32⟩
  | 80 => ⟨S1x1024, .f32⟩
  | 81 => ⟨S8192x1024, .f32⟩
  | 82 => ⟨S8192x1024, .f32⟩
  | 83 => ⟨S1024, .f32⟩
  | 84 => ⟨S1024, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S8192x1024, .f32⟩
  | 101 => ⟨S8192x1024, .f32⟩
  | 102 => ⟨S_, .f32⟩
  | 103 => ⟨S8192x1, .f32⟩
  | 104 => ⟨S8192x1, .f32⟩
  | 105 => ⟨S8192x1, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x1024, .f32⟩
  | 123 => ⟨S1024x1024, .f32⟩
  | 124 => ⟨S8192x1024, .f32⟩
  | 125 => ⟨S1024, .f32⟩
  | 126 => ⟨S1x1024, .f32⟩
  | 127 => ⟨S8192x1024, .f32⟩
  | _ => ⟨S8192x1536, .bf16⟩

abbrev hbmTy0_3 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8192x2048, .f32⟩
  | 22 => ⟨S8192x2048, .bf16⟩
  | _ => ⟨S8192x1536, .bf16⟩

abbrev hbmTy (i : Nat) : BufTy := match i / 128 with
  | 0 => hbmTy0_0 i
  | 1 => hbmTy0_1 i
  | 2 => hbmTy0_2 i
  | 3 => hbmTy0_3 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_2 : Ref sig .tc := ⟨.hbm, 48, rfl⟩
abbrev main_v32 : Ref sig .tc := ⟨.hbm, 49, rfl⟩
abbrev main_v33 : Ref sig .tc := ⟨.hbm, 50, rfl⟩
abbrev main_c_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_cst_14 : Ref sig .tc := ⟨.hbm, 341, rfl⟩
abbrev main_v310 : Ref sig .tc := ⟨.hbm, 342, rfl⟩
abbrev main_v311 : Ref sig .tc := ⟨.hbm, 343, rfl⟩
abbrev main_cst_15 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_cst_16 : Ref sig .tc := ⟨.hbm, 350, rfl⟩
abbrev main_v317 : Ref sig .tc := ⟨.hbm, 351, rfl⟩
abbrev main_v318 : Ref sig .tc := ⟨.hbm, 352, rfl⟩
abbrev main_cst_17 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_cst_18 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_call1_v0 : Ref sig .tc := ⟨.hbm, 370, rfl⟩
abbrev main_call1_v1 : Ref sig .tc := ⟨.hbm, 371, rfl⟩
abbrev main_call1_cst : Ref sig .tc := ⟨.hbm, 372, rfl⟩
abbrev main_call1_v2 : Ref sig .tc := ⟨.hbm, 373, rfl⟩
abbrev main_call1_v3 : Ref sig .tc := ⟨.hbm, 374, rfl⟩
abbrev main_call1_cst_0 : Ref sig .tc := ⟨.hbm, 375, rfl⟩
abbrev main_call1_v4 : Ref sig .tc := ⟨.hbm, 376, rfl⟩
abbrev main_call1_v5 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_call2_v0 : Ref sig .tc := ⟨.hbm, 385, rfl⟩
abbrev main_call2_v1 : Ref sig .tc := ⟨.hbm, 386, rfl⟩
abbrev main_call2_cst : Ref sig .tc := ⟨.hbm, 387, rfl⟩
abbrev main_call2_v2 : Ref sig .tc := ⟨.hbm, 388, rfl⟩
abbrev main_call2_v3 : Ref sig .tc := ⟨.hbm, 389, rfl⟩
abbrev main_call2_cst_0 : Ref sig .tc := ⟨.hbm, 390, rfl⟩
abbrev main_call2_v4 : Ref sig .tc := ⟨.hbm, 391, rfl⟩
abbrev main_call2_v5 : Ref sig .tc := ⟨.hbm, 392, rfl⟩
abbrev main_v341 : Ref sig .tc := ⟨.hbm, 393, rfl⟩
abbrev main_v342 : Ref sig .tc := ⟨.hbm, 394, rfl⟩
abbrev main_call3_v0 : Ref sig .tc := ⟨.hbm, 395, rfl⟩
abbrev main_call3_v1 : Ref sig .tc := ⟨.hbm, 396, rfl⟩
abbrev main_call3_cst : Ref sig .tc := ⟨.hbm, 397, rfl⟩
abbrev main_call3_v2 : Ref sig .tc := ⟨.hbm, 398, rfl⟩
abbrev main_call3_v3 : Ref sig .tc := ⟨.hbm, 399, rfl⟩
abbrev main_call3_cst_0 : Ref sig .tc := ⟨.hbm, 400, rfl⟩
abbrev main_call3_v4 : Ref sig .tc := ⟨.hbm, 401, rfl⟩
abbrev main_call3_v5 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩

abbrev nD : Nat := 1
abbrev τ : Topo := Topo.v7x

variable {F : FTy → Type} [FloatOps F]
-- ==== Proof.RealRow.lean ====
module

public import Idealize.ShloMosaic.Lib.Pointwise
public import Mathlib.Analysis.SpecialFunctions.Exp
public import Mathlib.Analysis.SpecialFunctions.Pow.Real

@[expose] public section

set_option maxRecDepth 16384

noncomputable section

/-! Finite extended reals computed as reals, and the layer norm of one row with its gradient over the reals. -/

namespace Cert.RealRow

open Idealize.ShloMosaic

/-! ## Extended reals that are reals -/

theorem coe_sum {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

theorem div_coe (x : ℝ) {y : ℝ} (h : y ≠ 0) : Ideal.div (x : EReal) (y : EReal) = ((x / y : ℝ) : EReal) := by
  rw [Ideal.div_coe h, ← EReal.coe_mul]; congr 1; ring

theorem rsqrt_coe {x : ℝ} (h : 0 < x) : Ideal.rsqrt (x : EReal) = (((Real.sqrt x)⁻¹ : ℝ) : EReal) := by
  rw [Ideal.rsqrt_coe, if_neg (not_lt.mpr h.le), if_neg h.ne']

theorem coe_one : (1 : EReal) = ((1 : ℝ) : EReal) := rfl
theorem coe_zero : (0 : EReal) = ((0 : ℝ) : EReal) := rfl

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm
theorem div_lanes (x : ℝ) : Ideal.div (x : EReal) ((1024 : ℝ) : EReal) = ((x / 1024 : ℝ) : EReal) := div_coe x (by norm_num)
theorem div_lanes' (x : ℝ) : Ideal.div (x : EReal) ((2048 : ℝ) : EReal) = ((x / 2048 : ℝ) : EReal) := div_coe x (by norm_num)
theorem div_exp (x y : ℝ) : Ideal.div (x : EReal) ((1 + Real.exp y : ℝ) : EReal) = ((x / (1 + Real.exp y) : ℝ) : EReal) :=
  div_coe x (by positivity)

theorem lanes : Ideal.ofBits .f32 0x44800000#32 = ((1024 : ℝ) : EReal) := by
  simp [Ideal.ofBits, Ideal.ieee]; rw [← EReal.coe_mul]; norm_num
theorem lanes' : Ideal.ofBits .f32 0x45000000#32 = ((2048 : ℝ) : EReal) := by
  simp [Ideal.ofBits, Ideal.ieee]; rw [← EReal.coe_mul]; norm_num
theorem per_lane' : Ideal.ofBits .f32 0x3A000000#32 = ((1 / 2048 : ℝ) : EReal) := by
  simp [Ideal.ofBits, Ideal.ieee]; rw [← EReal.coe_mul]; norm_num
theorem half : Ideal.ofBits .f32 0x3F000000#32 = ((1 / 2 : ℝ) : EReal) := by
  simp [Ideal.ofBits, Ideal.ieee]; rw [← EReal.coe_mul]; norm_num
theorem one : Ideal.ofBits .f32 0x3F800000#32 = ((1 : ℝ) : EReal) := by
  simp [Ideal.ofBits, Ideal.ieee]; rw [← EReal.coe_mul]; norm_num
theorem minus_half : Ideal.ofBits .f32 0xBF000000#32 = ((-1 / 2 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num

/-- The residual's factor, the number its word reads as. -/
def alpha : ℝ := (Ideal.ofBits .f32 0x3F9837F0#32).toReal

theorem alpha_coe : Ideal.ofBits .f32 0x3F9837F0#32 = (alpha : EReal) := by
  have e : Ideal.ofBits .f32 0x3F9837F0#32 = ((9975792 / 2 ^ 23 : ℝ) : EReal) := by
    simp [Ideal.ofBits, Ideal.ieee]; rw [← EReal.coe_mul]; norm_num
  rw [alpha, e, EReal.toReal_coe]

/-- The layer norm's epsilon, the number its word reads as. -/
def eps : ℝ := (Ideal.ofBits .f32 0x3727C5AC#32).toReal

theorem eps_eq : Ideal.ofBits .f32 0x3727C5AC#32 = ((10995116 / 2 ^ 40 : ℝ) : EReal) := by
  simp [Ideal.ofBits, Ideal.ieee]; rw [← EReal.coe_mul]; norm_num
theorem eps_coe : Ideal.ofBits .f32 0x3727C5AC#32 = (eps : EReal) := by
  rw [eps, eps_eq, EReal.toReal_coe]
theorem eps_pos : 0 < eps := by
  rw [eps, eps_eq, EReal.toReal_coe]; norm_num

/-- A number of which the precondition's comparison holds is a real. -/
theorem real_of_abs_lt {a : EReal} (h : Ideal.cmp .olt (max a (-a)) (Ideal.ofBits .f32 0x7F800000#32) = 1#1) :
    a = ((a.toReal : ℝ) : EReal) := by
  have ht : Ideal.ofBits .f32 0x7F800000#32 = (⊤ : EReal) := by simp [Ideal.ofBits, Ideal.ieee]
  have hl : max a (-a) < ⊤ := by
    by_contra hn
    rw [ht, Ideal.cmp] at h
    simp [hn] at h
  refine (EReal.coe_toReal ?_ ?_).symm
  · rintro rfl; exact absurd (lt_of_le_of_lt (le_max_left _ _) hl) (lt_irrefl _)
  · rintro rfl; exact absurd (lt_of_le_of_lt (le_max_right _ _) hl) (by simp)

/-! ## The layer norm of one row of `n` numbers -/

/-- The number of a row's lanes as the programs' constants write it. -/
class Lanes (n : ℕ) where
  num : ℝ
  count : (n : ℝ) = num
  num_pos : 0 < num

instance : Lanes 1024 := ⟨1024, by norm_num, by norm_num⟩
instance : Lanes 2048 := ⟨2048, by norm_num, by norm_num⟩

variable {n : ℕ} [Lanes n] (x : Fin n → ℝ)

def mean : ℝ := (∑ k, x k) / Lanes.num n
def var : ℝ := (∑ k, (x k - mean x) * (x k - mean x)) / Lanes.num n
def rstd : ℝ := (Real.sqrt (var x + eps))⁻¹
def hat (k : Fin n) : ℝ := (x k - mean x) * rstd x

theorem var_nonneg : 0 ≤ var x := div_nonneg (Finset.sum_nonneg fun _ _ => mul_self_nonneg _) (Lanes.num_pos (n := n)).le
theorem pos : 0 < var x + eps := add_pos_of_nonneg_of_pos (var_nonneg x) eps_pos
theorem rstd_sq : rstd x * rstd x = 1 / (var x + eps) := by
  rw [rstd, ← mul_inv, Real.mul_self_sqrt (pos x).le, one_div]

theorem sum_centred : ∑ k, (x k - mean x) = 0 := by
  rw [Finset.sum_sub_distrib, Finset.sum_const, Finset.card_univ, Fintype.card_fin, mean, nsmul_eq_mul, Lanes.count (n := n), mul_div_cancel₀ _ (Lanes.num_pos (n := n)).ne', sub_self]

/-- The gradient into the row, from the gradient `d` into its normalized row. -/
def grad (d : Fin n → ℝ) (k : Fin n) : ℝ :=
  rstd x * (d k - (∑ l, d l) / Lanes.num n - hat x k * ((∑ l, d l * hat x l) / Lanes.num n))

/-- The same gradient as the chain rule writes it: through the variance, then through the mean. -/
theorem grad_eq (d : Fin n → ℝ) (k : Fin n) (q : ℝ)
    (hq : q = (∑ l, (x l - mean x) * d l) * (-1 / 2 * (rstd x / (var x + eps))) / Lanes.num n) :
    d k * rstd x + q * (2 * (x k - mean x))
      + ((∑ l, -(d l * rstd x)) + ∑ l, -(q * (2 * (x l - mean x)))) / Lanes.num n = grad x d k := by
  have h2 : ∑ l, -(q * (2 * (x l - mean x))) = 0 := by
    rw [Finset.sum_neg_distrib, ← Finset.mul_sum, ← Finset.mul_sum, sum_centred]; simp
  have h1 : ∑ l, -(d l * rstd x) = -((∑ l, d l) * rstd x) := by
    rw [Finset.sum_neg_distrib, ← Finset.sum_mul]
  have h3 : ∑ l, d l * hat x l = (∑ l, (x l - mean x) * d l) * rstd x := by
    rw [Finset.sum_mul]; exact Finset.sum_congr rfl fun l _ => by rw [hat]; ring
  have h4 : rstd x / (var x + eps) = rstd x * (rstd x * rstd x) := by rw [rstd_sq]; ring
  rw [h2, h1, hq, grad, h3, hat, h4]; ring

/-! ## The logistic function and the gradient of silu -/

def sgm (y : ℝ) : ℝ := 1 / (1 + Real.exp (-y))
def dsilu (y : ℝ) : ℝ := sgm y * (1 + y * (1 - sgm y))

theorem one_add_coe (y : ℝ) : 1 + (y : EReal) = ((1 + y : ℝ) : EReal) := add_coe 1 y
theorem one_sub_coe (y : ℝ) : 1 - (y : EReal) = ((1 - y : ℝ) : EReal) := sub_coe 1 y

theorem sgm_coe (y : ℝ) : Ideal.div 1 (1 + Ideal.exp (-(y : EReal))) = (sgm y : EReal) := by
  rw [neg_coe, Ideal.exp_coe, one_add_coe, coe_one, div_exp, sgm]

theorem sgm_coe_sub (y : ℝ) : Ideal.div 1 (1 + Ideal.exp (0 - (y : EReal))) = (sgm y : EReal) := by
  rw [zero_sub, sgm_coe]

/-! ## One row of the conv branch: layer norm, silu, pointwise product, gate -/

variable (G B : Fin n → ℝ) (W : Fin n → Fin n → ℝ) (D C : Fin n → ℝ)

/-- The normalized, scaled and shifted row. -/
def act (k : Fin n) : ℝ := hat x k * G k + B k
/-- The cotangent behind the gate. -/
def gate (k : Fin n) : ℝ := D k * (C k * sgm (C k))
/-- The cotangent at the silu's argument. -/
def pre (k : Fin n) : ℝ := (∑ o, gate D C o * W k o) * dsilu (act x G B k)

/-! ## One row of the output: projection, residual, layer norm, squared error -/

variable (L S Tg : Fin n → ℝ)

/-- The row's error against its target. -/
def err (k : Fin n) : ℝ := act x L S k - Tg k
/-- The loss's gradient into the normalized row. -/
def derr (k : Fin n) : ℝ := err x L S Tg k * (1 / Lanes.num n) * L k

end Cert.RealRow
-- ==== Proof.NormPays.lean ====
module

public import proofs.«01_k».proof.Proof.Gen.ConvNormIdeal.Skeleton
public import proofs.«01_k».proof.Proof.RealRow

@[expose] public section

set_option maxRecDepth 16384

noncomputable section

namespace Cert.ConvNormIdeal.Pays

open Cert.ConvNormIdeal Cert.ConvNormIdeal.Gen Idealize.ShloMosaic Idealize.ShloMosaic.TcCoe Cert.RealRow

variable (u : Vec Ideal S256x1024 .f32) (U : Fin 256 → Fin 1024 → ℝ) (hu : ∀ i k, u (ix2 i k) = (U i k : EReal))
include hu

theorem centred (i : Fin 256) (k : Fin 1024) : k0_pay14 u (ix2 i k) = ((U i k - mean (U i) : ℝ) : EReal) := by
  pointwise [k0_pay14, hu, coe_sum, lanes, div_lanes, sub_coe]
  rfl

theorem scale (i : Fin 256) : k0_pay15 u (ix2 i (0 : Fin 1)) = ((rstd (U i) : ℝ) : EReal) := by
  pointwise [k0_pay15, centred u U hu, mul_coe, coe_sum, lanes, div_lanes, eps_coe, add_coe]
  exact rsqrt_coe (pos (U i))

theorem unit (i : Fin 256) (k : Fin 1024) : k0_pay16 u (ix2 i k) = ((hat (U i) k : ℝ) : EReal) := by
  pointwise [k0_pay16, centred u U hu, scale u U hu, mul_coe]
  rfl

variable (g b : Vec Ideal S1x1024 .f32) (G B : Fin 1024 → ℝ) (hg : ∀ k, g (ix2 (0 : Fin 1) k) = (G k : EReal))
  (hb : ∀ k, b (ix2 (0 : Fin 1) k) = (B k : EReal))
include hg hb

theorem normed (i : Fin 256) (k : Fin 1024) : k0_pay17 u g b (ix2 i k) = ((act (U i) G B k : ℝ) : EReal) := by
  pointwise [k0_pay17, unit u U hu, hg, hb, mul_coe, add_coe]
  rfl

theorem logistic (i : Fin 256) (k : Fin 1024) : k0_pay18 u g b (ix2 i k) = ((sgm (act (U i) G B k) : ℝ) : EReal) := by
  pointwise [k0_pay18, normed u U hu g b G B hg hb]
  exact sgm_coe_sub _

omit hu hg hb

variable (d c p : Vec Ideal S256x1024 .f32) (D C Y : Fin 256 → Fin 1024 → ℝ) (hd : ∀ i k, d (ix2 i k) = (D i k : EReal))
  (hc : ∀ i k, c (ix2 i k) = (C i k : EReal)) (hp : ∀ i k, p (ix2 i k) = (Y i k : EReal))

include hc in
theorem gate_logistic (i : Fin 256) (k : Fin 1024) : k0_pay8 c (ix2 i k) = ((sgm (C i k) : ℝ) : EReal) := by
  pointwise [k0_pay8, hc]
  exact sgm_coe_sub _

include hd hc in
theorem gated (i : Fin 256) (k : Fin 1024) : k0_pay9 d c (ix2 i k) = ((gate (D i) (C i) k : ℝ) : EReal) := by
  pointwise [k0_pay9, gate_logistic c C hc, hc, hd, mul_coe]
  rfl

include hd hc hp in
theorem dgate (i : Fin 256) (k : Fin 1024) : k0_pay10 d c p (ix2 i k) = ((D i k * Y i k * dsilu (C i k) : ℝ) : EReal) := by
  pointwise [k0_pay10, gate_logistic c C hc, hc, hd, hp, one_sub_coe, mul_coe, one_add_coe]
  rfl

include hd hc in
theorem bias_step (a : Vec Ideal S1x1024 .f32) (k : Fin 1024) :
    k0_pay11 d c a (ix2 (0 : Fin 1) k) = a (ix2 (0 : Fin 1) k) + ((∑ i, gate (D i) (C i) k : ℝ) : EReal) := by
  pointwise [k0_pay11, gated d c D C hd hc, coe_sum]

variable (w : Vec Ideal S1024x1024 .bf16) (W : Fin 1024 → Fin 1024 → ℝ) (hw : ∀ k o, w (ix2 k o) = (W k o : EReal))

include hd hc hw in
theorem back (i : Fin 256) (k : Fin 1024) :
    k0_pay13 (k0_pay12 d c) w (ix2 i k) = ((∑ o, gate (D i) (C i) o * W k o : ℝ) : EReal) := by
  pointwise [k0_pay13, k0_pay12, gated d c D C hd hc, hw, mul_coe, coe_sum]

include hu hg hb hd hc hw

theorem dact (i : Fin 256) (k : Fin 1024) :
    k0_pay21 (k0_pay13 (k0_pay12 d c) w) (k0_pay17 u g b) (k0_pay18 u g b) (ix2 i k) = ((pre (U i) G B W (D i) (C i) k : ℝ) : EReal) := by
  pointwise [k0_pay21, back d c D C hd hc w W hw, normed u U hu g b G B hg hb, logistic u U hu g b G B hg hb, one_sub_coe, mul_coe, one_add_coe]
  rfl

theorem drow (i : Fin 256) (k : Fin 1024) :
    k0_pay24 (k0_pay13 (k0_pay12 d c) w) (k0_pay15 u) (k0_pay16 u) g (k0_pay17 u g b) (k0_pay18 u g b) (ix2 i k)
      = ((grad (U i) (fun l => pre (U i) G B W (D i) (C i) l * G l) k : ℝ) : EReal) := by
  pointwise [k0_pay24, dact u U hu g b G B hg hb d c D C hd hc w W hw, scale u U hu, unit u U hu, hg, mul_coe, sub_coe, coe_sum, lanes, div_lanes]
  rfl

theorem conv_bias_step (a : Vec Ideal S1x1024 .f32) (k : Fin 1024) :
    k0_pay1 (k0_pay24 (k0_pay13 (k0_pay12 d c) w) (k0_pay15 u) (k0_pay16 u) g (k0_pay17 u g b) (k0_pay18 u g b)) a (ix2 (0 : Fin 1) k)
      = a (ix2 (0 : Fin 1) k) + ((∑ i, grad (U i) (fun l => pre (U i) G B W (D i) (C i) l * G l) k : ℝ) : EReal) := by
  pointwise [k0_pay1, drow u U hu g b G B hg hb d c D C hd hc w W hw, coe_sum]

theorem norm_gain_step (a : Vec Ideal S1x1024 .f32) (k : Fin 1024) :
    k0_pay22 (k0_pay13 (k0_pay12 d c) w) (k0_pay16 u) (k0_pay17 u g b) (k0_pay18 u g b) a (ix2 (0 : Fin 1) k)
      = a (ix2 (0 : Fin 1) k) + ((∑ i, pre (U i) G B W (D i) (C i) k * hat (U i) k : ℝ) : EReal) := by
  pointwise [k0_pay22, dact u U hu g b G B hg hb d c D C hd hc w W hw, unit u U hu, mul_coe, coe_sum]

theorem norm_bias_step (a : Vec Ideal S1x1024 .f32) (k : Fin 1024) :
    k0_pay23 (k0_pay13 (k0_pay12 d c) w) (k0_pay17 u g b) (k0_pay18 u g b) a (ix2 (0 : Fin 1) k)
      = a (ix2 (0 : Fin 1) k) + ((∑ i, pre (U i) G B W (D i) (C i) k : ℝ) : EReal) := by
  pointwise [k0_pay23, dact u U hu g b G B hg hb d c D C hd hc w W hw, coe_sum]

omit hw in
theorem weight_step (a : Vec Ideal S1024x1024 .f32) (k o : Fin 1024) :
    k0_pay20 (k0_pay19 (k0_pay12 d c) u g b a) (ix2 k o)
      = a (ix2 k o) + ((∑ i, act (U i) G B k * sgm (act (U i) G B k) * gate (D i) (C i) o : ℝ) : EReal) := by
  pointwise [k0_pay20, k0_pay19, k0_pay12, gated d c D C hd hc, normed u U hu g b G B hg hb, logistic u U hu g b G B hg hb, mul_coe, coe_sum]

end Cert.ConvNormIdeal.Pays
-- ==== Proof.NormPoints.lean ====
module

public import proofs.«01_k».proof.Proof.Gen.ConvNormIdeal.Value
public import Idealize.ShloMosaic.Lib.Tactic

@[expose] public section

set_option maxRecDepth 16384
set_option maxHeartbeats 4000000

noncomputable section

namespace Cert.ConvNormIdeal.Step

open Cert.ConvNormIdeal Cert.ConvNormIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- A whole scratch buffer reads back what it is made to hold. -/
theorem scratch_read (v : Vec F S1024x1024 .f32) :
    View.read (Elt F) (View.whole cc0_scratch0) ((Memref.isWhole_whole cc0_scratch0).unread v) = v :=
  (Memref.isWhole_whole cc0_scratch0).read_unread v

abbrev du3 (c : Dev nD) (t : Fin cfg0.N) : FVec F S256x1024 .f32 := k0_pay13 (k0_pay12 (iblk m c 0 t) (iblk m c 1 t)) (iblk m c 6 t)
abbrev u2 (c : Dev nD) (t : Fin cfg0.N) : FVec F S256x1024 .f32 := k0_pay17 (iblk m c 3 t) (iblk m c 4 t) (iblk m c 5 t)
abbrev s2 (c : Dev nD) (t : Fin cfg0.N) : FVec F S256x1024 .f32 := k0_pay18 (iblk m c 3 t) (iblk m c 4 t) (iblk m c 5 t)
abbrev uh (c : Dev nD) (t : Fin cfg0.N) : FVec F S256x1024 .f32 := k0_pay16 (iblk m c 3 t)
abbrev du1 (c : Dev nD) (t : Fin cfg0.N) : FVec F S256x1024 .f32 :=
  k0_pay24 (du3 m c t) (k0_pay15 (iblk m c 3 t)) (uh m c t) (iblk m c 4 t) (u2 m c t) (s2 m c t)

/-- What the body leaves at point `t` in the four row sums and in the carried product, over what they held. -/
abbrev after (c : Dev nD) (t : Fin cfg0.N) (gw : FVec F S1024x1024 .bf16) (a b d e : Vec F S1x1024 .f32) (s : Vec F S1024x1024 .f32) :
    Vec F S1024x1024 .bf16 × Vec F S256x1024 .bf16 × Vec F S256x1024 .f32 × Vec F S1x1024 .f32 × Vec F S1x1024 .f32 × Vec F S1x1024 .f32 × Vec F S1x1024 .f32 × Vec F S1024x1024 .f32 :=
  (gw, k0_pay10 (iblk m c 0 t) (iblk m c 1 t) (iblk m c 2 t), du1 m c t,
    k0_pay11 (iblk m c 0 t) (iblk m c 1 t) a, k0_pay22 (du3 m c t) (uh m c t) (u2 m c t) (s2 m c t) b,
    k0_pay23 (du3 m c t) (u2 m c t) (s2 m c t) d, k0_pay1 (du1 m c t) e,
    k0_pay20 (k0_pay19 (k0_pay12 (iblk m c 0 t) (iblk m c 1 t)) (iblk m c 3 t) (iblk m c 4 t) (iblk m c 5 t) s))

/-- A middle point: everything is read, and the row sums and the product grow. -/
theorem after_B (c : Dev nD) (t : Fin cfg0.N) (h0 : ¬t.val % 32 = 0) (h1 : ¬t.val % 32 = 31) (p : _)
    (hp : p = outsAt0 m c (t.val - 1) (Nat.lt_of_le_of_lt (Nat.sub_le _ _) t.isLt)) (gw : _) :
    (outsAt0 m c t.val t.isLt).2 = (after m c t gw p.2.2.2.1 p.2.2.2.2.1 p.2.2.2.2.2.1 p.2.2.2.2.2.2.1 p.2.2.2.2.2.2.2).2 := by
  rw [outsAt0_B m c t h0 h1, ← hp]
  dsimp only
  refine Prod.ext ?_ (Prod.ext ?_ (Prod.ext ?_ (Prod.ext ?_ (Prod.ext ?_ (Prod.ext ?_ ?_)))))
  all_goals
    dsimp only
    first | unfold out0_B_8 | unfold out0_B_9 | unfold out0_B_10 | unfold out0_B_11 | unfold out0_B_12 | unfold out0_B_13 | unfold sout0_B_0
    rw [View.read_writes_eq_canon]
    on_goal 2 =>
      intro y
      first | apply cover0_B_8 | apply cover0_B_9 | apply cover0_B_10 | apply cover0_B_11 | apply cover0_B_12 | apply cover0_B_13 | apply scover0_B_0
    unfold kernelRun0_B
    dsimp only
    sl_unfold_words
    rw [View.canon_unit_zero hz]
    simp only [View.readAt_eq_ld, Memref.IsWhole.read_unread, scratch_read, View.ld_unit_zero (S := S256x1024) hz, View.ld_unit_zero (S := S1x1024) hz,
      View.ld_unit_zero (S := S1024x1024) hz]

/-- The first point: the row sums and the product start at zero. -/
theorem after_A (c : Dev nD) (t : Fin cfg0.N) (h0 : t.val % 32 = 0) (h1 : ¬t.val % 32 = 31) (gw : _) :
    (outsAt0 m c t.val t.isLt).2 = (after m c t gw k0_pay3 k0_pay4 k0_pay5 k0_pay6 k0_pay7).2 := by
  rw [outsAt0_A m c t h0 h1]
  dsimp only
  refine Prod.ext ?_ (Prod.ext ?_ (Prod.ext ?_ (Prod.ext ?_ (Prod.ext ?_ (Prod.ext ?_ ?_)))))
  all_goals
    dsimp only
    first | unfold out0_A_8 | unfold out0_A_9 | unfold out0_A_10 | unfold out0_A_11 | unfold out0_A_12 | unfold out0_A_13 | unfold sout0_A_0
    rw [View.read_writes_eq_canon]
    on_goal 2 =>
      intro y
      first | apply cover0_A_8 | apply cover0_A_9 | apply cover0_A_10 | apply cover0_A_11 | apply cover0_A_12 | apply cover0_A_13 | apply scover0_A_0
    unfold kernelRun0_A
    dsimp only
    sl_unfold_words
    first | rw [View.canon_unit_zero hz] | rw [View.canon_cons_unit_zero hz]
    simp only [View.readAt_eq_ld, Memref.IsWhole.read_unread, scratch_read, View.ld_unit_zero (S := S256x1024) hz, View.ld_unit_zero (S := S1x1024) hz,
      View.ld_unit_zero (S := S1024x1024) hz, View.readCov_unit_zero (S := S1x1024) _ hz, View.readCov_unit_zero (S := S1024x1024) _ hz]

/-- The last point: as a middle one, and the product is written out. -/
theorem after_C (c : Dev nD) (t : Fin cfg0.N) (h0 : ¬t.val % 32 = 0) (h1 : t.val % 32 = 31) (p : _)
    (hp : p = outsAt0 m c (t.val - 1) (Nat.lt_of_le_of_lt (Nat.sub_le _ _) t.isLt)) :
    outsAt0 m c t.val t.isLt = after m c t
      (k0_pay2 (k0_pay20 (k0_pay19 (k0_pay12 (iblk m c 0 t) (iblk m c 1 t)) (iblk m c 3 t) (iblk m c 4 t) (iblk m c 5 t) p.2.2.2.2.2.2.2)))
      p.2.2.2.1 p.2.2.2.2.1 p.2.2.2.2.2.1 p.2.2.2.2.2.2.1 p.2.2.2.2.2.2.2 := by
  rw [outsAt0_C m c t h0 h1, ← hp]
  refine Prod.ext ?_ (Prod.ext ?_ (Prod.ext ?_ (Prod.ext ?_ (Prod.ext ?_ (Prod.ext ?_ (Prod.ext ?_ ?_))))))
  all_goals
    dsimp only
    first | unfold out0_C_7 | unfold out0_C_8 | unfold out0_C_9 | unfold out0_C_10 | unfold out0_C_11 | unfold out0_C_12 | unfold out0_C_13 | unfold sout0_C_0
    rw [View.read_writes_eq_canon]
    on_goal 2 =>
      intro y
      first | apply cover0_C_7 | apply cover0_C_8 | apply cover0_C_9 | apply cover0_C_10 | apply cover0_C_11 | apply cover0_C_12 | apply cover0_C_13 | apply scover0_C_0
    unfold kernelRun0_C
    dsimp only
    sl_unfold_words
    rw [View.canon_unit_zero hz]
    simp only [View.readAt_eq_ld, Memref.IsWhole.read_unread, scratch_read, View.ld_unit_zero (S := S256x1024) hz, View.ld_unit_zero (S := S1x1024) hz,
      View.ld_unit_zero (S := S1024x1024) hz, View.readCov_unit_zero (S := S1024x1024) _ hz]

end Cert.ConvNormIdeal.Step
-- ==== Proof.NormRead.lean ====
module

public import proofs.«01_k».proof.Proof.Gen.ConvNormRefIdeal.Read
public import proofs.«01_k».proof.Proof.RealRow

@[expose] public section

set_option maxRecDepth 16384

noncomputable section

/-! The reference's values at an index, over finite arguments. -/

namespace Cert.ConvNormRefIdeal.Reals

open Cert.ConvNormRefIdeal Cert.ConvNormRefIdeal.Gen Cert.ConvNormRefIdeal.Read Idealize.ShloMosaic Idealize.ShloMosaic.TcCoe Cert.RealRow

/-- The arguments are reals. -/
structure Finite (x0 : FVec Ideal S8192x1024 .f32) (x1 x2 x3 : FVec Ideal S1x1024 .f32) (x4 : FVec Ideal S1x1024x1024 .f32)
    (x5 : FVec Ideal S1x1024 .f32) (x6 : FVec Ideal S8192x1024 .f32) (x7 : FVec Ideal S8192x2048 .f32)
    (X : Fin 8192 → Fin 1024 → ℝ) (V G B : Fin 1024 → ℝ) (W : Fin 1024 → Fin 1024 → ℝ) (P : Fin 1024 → ℝ)
    (C D : Fin 8192 → Fin 1024 → ℝ) : Prop where
  conv : ∀ r k, x0 (ix2 r k) = (X r k : EReal)
  shift : ∀ k, x1 (ix2 (0 : Fin 1) k) = (V k : EReal)
  gain : ∀ k, x2 (ix2 (0 : Fin 1) k) = (G k : EReal)
  bias : ∀ k, x3 (ix2 (0 : Fin 1) k) = (B k : EReal)
  weight : ∀ k o, x4 (ix3 (0 : Fin 1) k o) = (W k o : EReal)
  out_bias : ∀ k, x5 (ix2 (0 : Fin 1) k) = (P k : EReal)
  gate : ∀ r k, x6 (ix2 r k) = (C r k : EReal)
  cot : ∀ r (k : Fin 1024), x7 (ix2 r (⟨1024 + k.val, by omega⟩ : Fin 2048)) = (D r k : EReal)

variable {x0 : FVec Ideal S8192x1024 .f32} {x1 x2 x3 : FVec Ideal S1x1024 .f32} {x4 : FVec Ideal S1x1024x1024 .f32}
  {x5 : FVec Ideal S1x1024 .f32} {x6 : FVec Ideal S8192x1024 .f32} {x7 : FVec Ideal S8192x2048 .f32}
  {X : Fin 8192 → Fin 1024 → ℝ} {V G B : Fin 1024 → ℝ} {W : Fin 1024 → Fin 1024 → ℝ} {P : Fin 1024 → ℝ}
  {C D : Fin 8192 → Fin 1024 → ℝ} (h : Finite x0 x1 x2 x3 x4 x5 x6 x7 X V G B W P C D)
include h

/-- Row `r` of the normalized array. -/
abbrev row (X : Fin 8192 → Fin 1024 → ℝ) (V : Fin 1024 → ℝ) (r : Fin 8192) : Fin 1024 → ℝ := fun k => X r k + V k

theorem v3 (r : Fin 8192) (k : Fin 1024) : val_main_v3 (F := Ideal) x0 x1 (ix2 r k) = ((row X V r k : ℝ) : EReal) := by
  pointwise [val_main_v3, val_main_v2, val_main_v1, val_main_v0, h.conv, h.shift, add_coe]

theorem v9 (r : Fin 8192) : val_main_v9 (F := Ideal) x0 x1 (ix2 r (0 : Fin 1)) = ((mean (row X V r) : ℝ) : EReal) := by
  pointwise [val_main_v9, val_main_v8, val_main_v7, val_main_v6, val_main_cst_0, val_main_cst, v3 h, coe_sum, lanes, div_lanes, zero_add]
  rfl

theorem v11 (r : Fin 8192) (k : Fin 1024) :
    val_main_v11 (F := Ideal) x0 x1 (ix2 r k) = ((row X V r k - mean (row X V r) : ℝ) : EReal) := by
  pointwise [val_main_v11, val_main_v10, v9 h, v3 h, sub_coe]

theorem v20 (r : Fin 8192) (k : Fin 1024) :
    val_main_v20 (F := Ideal) x0 x1 (ix2 r k) = ((row X V r k - mean (row X V r) : ℝ) : EReal) := by
  pointwise [val_main_v20, val_main_v19, v9 h, v3 h, sub_coe]

theorem v22 (r : Fin 8192) :
    val_main_v22 (F := Ideal) x0 x1 (ix2 r (0 : Fin 1)) = ((var (row X V r) + eps : ℝ) : EReal) := by
  pointwise [val_main_v22, val_main_v21, val_main_v18, val_main_v17, val_main_v16, val_main_v15, val_main_v12, val_main_cst_2,
    val_main_cst_3, val_main_cst_4, v11 h, mul_coe, coe_sum, lanes, div_lanes, zero_add, eps_coe, add_coe]
  rfl

theorem v23 (r : Fin 8192) : val_main_v23 (F := Ideal) x0 x1 (ix2 r (0 : Fin 1)) = ((rstd (row X V r) : ℝ) : EReal) := by
  pointwise [val_main_v23, v22 h]
  exact rsqrt_coe (pos _)

theorem v26 (r : Fin 8192) : val_main_v26 (F := Ideal) x0 x1 (ix2 r (0 : Fin 1))
    = ((-1 / 2 * (rstd (row X V r) / (var (row X V r) + eps)) : ℝ) : EReal) := by
  pointwise [val_main_v26, val_main_v25, val_main_v24, val_main_cst_5, v22 h, v23 h, minus_half]
  rw [div_coe _ (pos _).ne', mul_coe]

theorem v28 (r : Fin 8192) (k : Fin 1024) : val_main_v28 (F := Ideal) x0 x1 (ix2 r k) = ((hat (row X V r) k : ℝ) : EReal) := by
  pointwise [val_main_v28, val_main_v27, v20 h, v23 h, mul_coe]
  rfl

theorem v34 (r : Fin 8192) (k : Fin 1024) :
    val_main_v34 (F := Ideal) x0 x1 x2 x3 (ix2 r k) = ((act (row X V r) G B k : ℝ) : EReal) := by
  pointwise [val_main_v34, val_main_v33, val_main_v32, val_main_v31, val_main_v30, val_main_v29, val_main_v5, val_main_v4,
    v28 h, h.gain, h.bias, mul_coe, add_coe]
  rfl

theorem v35_2 (r : Fin 8192) (k : Fin 1024) :
    val_main_v35_2 (F := Ideal) x0 x1 x2 x3 (ix2 r k) = ((sgm (act (row X V r) G B k) : ℝ) : EReal) := by
  pointwise [val_main_v35_2, val_main_call0_v4, val_main_call0_v3, val_main_call0_v2, val_main_call0_v1, val_main_call0_v0,
    val_main_call0_cst, val_main_call0_cst_0, v34 h]
  exact sgm_coe _

theorem v35_0 (r : Fin 8192) (k : Fin 1024) : val_main_v35_0 (F := Ideal) x0 x1 x2 x3 (ix2 r k)
    = ((act (row X V r) G B k * sgm (act (row X V r) G B k) : ℝ) : EReal) := by
  pointwise [val_main_v35_0, v34 h, v35_2 h, mul_coe]

theorem v41 (r : Fin 8192) (o : Fin 1024) : val_main_v41 (F := Ideal) x0 x1 x2 x3 x4 x5 (ix2 r o)
    = (((∑ k, act (row X V r) G B k * sgm (act (row X V r) G B k) * W k o) + P o : ℝ) : EReal) := by
  pointwise [val_main_v41, val_main_v40, val_main_v39, val_main_v38, val_main_v37, val_main_v36, v35_0 h, h.weight, h.out_bias,
    mul_coe, coe_sum, add_coe]

theorem v42_2 (r : Fin 8192) (k : Fin 1024) : val_main_v42_2 (F := Ideal) x6 (ix2 r k) = ((sgm (C r k) : ℝ) : EReal) := by
  pointwise [val_main_v42_2, val_main_call1_v4, val_main_call1_v3, val_main_call1_v2, val_main_call1_v1, val_main_call1_v0,
    val_main_call1_cst, val_main_call1_cst_0, h.gate]
  exact sgm_coe _

theorem v46 (r : Fin 8192) (k : Fin 1024) :
    val_main_v46 (F := Ideal) x6 x7 (ix2 r k) = ((RealRow.gate (D r) (C r) k : ℝ) : EReal) := by
  pointwise [val_main_v46, val_main_v44, val_main_v42_0, h.gate, h.cot, v42_2 h, mul_coe]
  rfl

/-- The gate's gradient. -/
theorem v98 (r : Fin 8192) (o : Fin 1024) : val_main_v98 (F := Ideal) x0 x1 x2 x3 x4 x5 x6 x7 (ix2 r o)
    = ((D r o * ((∑ k, act (row X V r) G B k * sgm (act (row X V r) G B k) * W k o) + P o) * dsilu (C r o) : ℝ) : EReal) := by
  pointwise [val_main_v98, val_main_v47, val_main_call2_v2, val_main_call2_v1, val_main_call2_v0, val_main_v45, val_main_v44,
    val_main_v42_1, val_main_call1_v7, val_main_call1_v6, val_main_call1_cst_1, v42_2 h, h.gate, h.cot, v41 h, one_sub_coe, mul_coe, add_coe]
  rw [dsilu]; congr 1; ring

/-- The output bias's gradient. -/
theorem v51 (k : Fin 1024) : val_main_v51 (F := Ideal) x6 x7 (ix2 (0 : Fin 1) k)
    = ((∑ r, RealRow.gate (D r) (C r) k : ℝ) : EReal) := by
  pointwise [val_main_v51, val_main_v50, val_main_v49, val_main_v48, val_main_cst_6, val_main_cst_7, v46 h, coe_sum, zero_add,
    Fin.sum_univ_one]

/-- The pointwise weight's gradient. -/
theorem v97 (k o : Fin 1024) : val_main_v97 (F := Ideal) x0 x1 x2 x3 x6 x7 (ix2 k o)
    = ((∑ r, act (row X V r) G B k * sgm (act (row X V r) G B k) * RealRow.gate (D r) (C r) o : ℝ) : EReal) := by
  pointwise [val_main_v97, val_main_v96, val_main_v55, val_main_v53, val_main_v52, v46 h, v35_0 h, mul_coe, coe_sum]
  congr 1; exact Finset.sum_congr rfl fun r _ => mul_comm _ _

theorem v56 (r : Fin 8192) (k : Fin 1024) : val_main_v56 (F := Ideal) x0 x1 x2 x3 x4 x6 x7 (ix2 r k)
    = ((pre (row X V r) G B W (D r) (C r) k : ℝ) : EReal) := by
  pointwise [val_main_v56, val_main_call3_v2, val_main_call3_v1, val_main_call3_v0, val_main_v54, val_main_v36, val_main_v35_1,
    val_main_call0_v7, val_main_call0_v6, val_main_call0_cst_1, v34 h, v35_2 h, v46 h, h.weight, mul_coe, coe_sum, one_sub_coe, add_coe]
  rw [pre, dsilu]; congr 1; ring

/-- The layer norm's bias's gradient. -/
theorem v90 (k : Fin 1024) : val_main_v90 (F := Ideal) x0 x1 x2 x3 x4 x6 x7 (ix2 (0 : Fin 1) k)
    = ((∑ r, pre (row X V r) G B W (D r) (C r) k : ℝ) : EReal) := by
  pointwise [val_main_v90, val_main_v59, val_main_v58, val_main_v57, val_main_cst_8, val_main_cst_9, v56 h, coe_sum, zero_add,
    Fin.sum_univ_one]

/-- The layer norm's gain's gradient. -/
theorem v91 (k : Fin 1024) : val_main_v91 (F := Ideal) x0 x1 x2 x3 x4 x6 x7 (ix2 (0 : Fin 1) k)
    = ((∑ r, pre (row X V r) G B W (D r) (C r) k * hat (row X V r) k : ℝ) : EReal) := by
  pointwise [val_main_v91, val_main_v65, val_main_v62, val_main_v61, val_main_v60, val_main_cst_10, val_main_cst_11, v56 h, v28 h,
    mul_coe, coe_sum, zero_add, Fin.sum_univ_one]
  congr 1; exact Finset.sum_congr rfl fun r _ => mul_comm _ _

theorem v64 (r : Fin 8192) (k : Fin 1024) : val_main_v64 (F := Ideal) x0 x1 x2 x3 x4 x6 x7 (ix2 r k)
    = ((pre (row X V r) G B W (D r) (C r) k * G k : ℝ) : EReal) := by
  pointwise [val_main_v64, val_main_v63, val_main_v29, val_main_v4, v56 h, h.gain, mul_coe]

theorem v70 (r : Fin 8192) (k : Fin 1024) : val_main_v70 (F := Ideal) x0 x1 x2 x3 x4 x6 x7 (ix2 r k)
    = ((pre (row X V r) G B W (D r) (C r) k * G k * rstd (row X V r) : ℝ) : EReal) := by
  pointwise [val_main_v70, val_main_v69, v64 h, v23 h, mul_coe]

/-- What flows through the variance of row `r`. -/
abbrev through (X : Fin 8192 → Fin 1024 → ℝ) (V G B : Fin 1024 → ℝ) (W : Fin 1024 → Fin 1024 → ℝ) (C D : Fin 8192 → Fin 1024 → ℝ)
    (r : Fin 8192) : ℝ :=
  (∑ l, (row X V r l - mean (row X V r)) * (pre (row X V r) G B W (D r) (C r) l * G l))
    * (-1 / 2 * (rstd (row X V r) / (var (row X V r) + eps))) / 1024

theorem v79 (r : Fin 8192) (k : Fin 1024) : val_main_v79 (F := Ideal) x0 x1 x2 x3 x4 x6 x7 (ix2 r k)
    = ((through X V G B W C D r * (2 * (row X V r k - mean (row X V r))) : ℝ) : EReal) := by
  pointwise [val_main_v79, val_main_v78, val_main_v77, val_main_v76, val_main_v75, val_main_v71, val_main_v68, val_main_v67,
    val_main_v66, val_main_v14, val_main_v13, val_main_cst_1, val_main_cst_12, val_main_cst_14, val_main_cst_15, v64 h, v20 h, v11 h,
    v26 h, two, mul_coe, coe_sum, zero_add, lanes, div_lanes, Fin.sum_univ_one]

/-- The gradient into the depthwise convolution's output. -/
theorem v89 (r : Fin 8192) (k : Fin 1024) : val_main_v89 (F := Ideal) x0 x1 x2 x3 x4 x6 x7 (ix2 r k)
    = ((grad (row X V r) (fun l => pre (row X V r) G B W (D r) (C r) l * G l) k : ℝ) : EReal) := by
  pointwise [val_main_v89, val_main_v88, val_main_v87, val_main_v86, val_main_v85, val_main_v84, val_main_v83, val_main_v82,
    val_main_v81, val_main_v80, val_main_v74, val_main_v73, val_main_v72, val_main_cst_13, val_main_cst_16, val_main_cst_17,
    val_main_cst_18, v70 h, v79 h, neg_coe, mul_coe, add_coe, coe_sum, zero_add, lanes, div_lanes, Fin.sum_univ_one]
  rw [← grad_eq (row X V r) (fun l => pre (row X V r) G B W (D r) (C r) l * G l) k _ rfl]
  rfl

/-- The convolution bias's gradient. -/
theorem v95 (k : Fin 1024) : val_main_v95 (F := Ideal) x0 x1 x2 x3 x4 x6 x7 (ix2 (0 : Fin 1) k)
    = ((∑ r, grad (row X V r) (fun l => pre (row X V r) G B W (D r) (C r) l * G l) k : ℝ) : EReal) := by
  pointwise [val_main_v95, val_main_v94, val_main_v93, val_main_v92, val_main_cst_19, val_main_cst_20, v89 h, coe_sum, zero_add,
    Fin.sum_univ_one]

end Cert.ConvNormRefIdeal.Reals
-- ==== Proof.NormBlocks.lean ====
module

public import proofs.«01_k».proof.Proof.NormPays
public import proofs.«01_k».proof.Proof.NormPoints
public import proofs.«01_k».proof.Proof.NormRead
public import Idealize.ShloMosaic.Lib.Pipeline.ValueKit
public import Idealize.ShloMosaic.Lib.Claim

@[expose] public section

set_option maxRecDepth 16384

noncomputable section

/-! The blocks the body reads, over finite arguments. -/

namespace Cert.ConvNormIdeal.Blocks

open Cert.ConvNormIdeal Cert.ConvNormIdeal.Gen Idealize.ShloMosaic Idealize.ShloMosaic.TcCoe Idealize.SL.Sem Cert.RealRow
open Cert.ConvNormRefIdeal.Reals (Finite row)

variable (m : (ℓ : Loc nD τ sig) → Buf (Elt Ideal) ℓ) (c : Dev nD)

/-- The arguments are reals. -/
abbrev Args (X : Fin 8192 → Fin 1024 → ℝ) (V G B : Fin 1024 → ℝ) (W : Fin 1024 → Fin 1024 → ℝ) (P : Fin 1024 → ℝ)
    (C D : Fin 8192 → Fin 1024 → ℝ) : Prop :=
  Finite (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) X V G B W P C D

variable {X : Fin 8192 → Fin 1024 → ℝ} {V G B : Fin 1024 → ℝ} {W : Fin 1024 → Fin 1024 → ℝ} {P : Fin 1024 → ℝ}
  {C D : Fin 8192 → Fin 1024 → ℝ} (h : Args m c X V G B W P C D)

theorem idx : ∀ t : Fin cfg0.N, win0_0.index t = ![t.val, 1] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ t.val < 32 :=
  (by decide +kernel : ∀ t : Fin grid0.N, _)

/-- Row `i` of tile `t`. -/
abbrev at_ (t : Fin cfg0.N) (i : Fin 256) : Fin 8192 := ⟨t.val * 256 + i.val, by have := (idx t).2.2.2.2.2.2.2; omega⟩

include h

theorem u1_entry (r : Fin 8192) (k : Fin 1024) :
    (show FVec Ideal S8192x1024 .f32 from Gen.V m c main_v1) (ix2 r k) = ((row X V r k : ℝ) : EReal) := by
  dsimp only
  simp only [Gen.V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp
  pointwise [h.conv, h.shift, add_coe]

theorem w_entry (k o : Fin 1024) :
    (show FVec Ideal S1024x1024 .bf16 from Gen.V m c main_v30) (ix2 k o) = ((W k o : ℝ) : EReal) := by
  dsimp only
  simp only [Gen.V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp
  pointwise [h.weight]

theorem p_entry (r : Fin 8192) (o : Fin 1024) :
    (show FVec Ideal S8192x1024 .f32 from Gen.V m c main_v28) (ix2 r o)
      = (((∑ k, act (row X V r) G B k * sgm (act (row X V r) G B k) * W k o) + P o : ℝ) : EReal) := by
  dsimp only
  simp only [Gen.V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp
  pointwise [h.conv, h.shift, add_coe, sub_coe, mul_coe, coe_sum, zero_add, lanes, div_lanes, eps_coe]
  have rs : Ideal.rsqrt ((((∑ k, (X r k + V k - (∑ k, (X r k + V k)) / 1024) * (X r k + V k - (∑ k, (X r k + V k)) / 1024)) / 1024 + eps
      : ℝ)) : EReal) = ((rstd (row X V r) : ℝ) : EReal) := rsqrt_coe (pos (row X V r))
  have hg : ∀ k : Fin 1024, m (c, Proc.tc.devRef main_arg2) (ix2 (0 : Fin 1) k) = ((G k : ℝ) : EReal) := h.gain
  have hb : ∀ k : Fin 1024, m (c, Proc.tc.devRef main_arg3) (ix2 (0 : Fin 1) k) = ((B k : ℝ) : EReal) := h.bias
  have hw : ∀ k o : Fin 1024, m (c, Proc.tc.devRef main_arg4) (ix3 (0 : Fin 1) k o) = ((W k o : ℝ) : EReal) := h.weight
  have hp : ∀ k : Fin 1024, m (c, Proc.tc.devRef main_arg5) (ix2 (0 : Fin 1) k) = ((P k : ℝ) : EReal) := h.out_bias
  simp only [rs, hg, hb, hw, hp, mul_coe, add_coe, sgm_coe, coe_sum]
  rfl

theorem block0 (t : Fin cfg0.N) (i : Fin 256) (k : Fin 1024) : iblk m c 0 t (ix2 i k) = ((D (at_ t i) k : ℝ) : EReal) := by
  rw [← h.cot]
  blk_point [iblk, Gen.V, idx t]

theorem block3 (t : Fin cfg0.N) (i : Fin 256) (k : Fin 1024) : iblk m c 3 t (ix2 i k) = ((row X V (at_ t i) k : ℝ) : EReal) := by
  rw [← u1_entry m c h]
  blk_point [iblk, idx t]

theorem block1 (t : Fin cfg0.N) (i : Fin 256) (k : Fin 1024) : iblk m c 1 t (ix2 i k) = ((C (at_ t i) k : ℝ) : EReal) := by
  rw [← h.gate]
  blk_point [iblk, Gen.V, idx t]

theorem block2 (t : Fin cfg0.N) (i : Fin 256) (o : Fin 1024) : iblk m c 2 t (ix2 i o)
    = (((∑ k, act (row X V (at_ t i)) G B k * sgm (act (row X V (at_ t i)) G B k) * W k o) + P o : ℝ) : EReal) := by
  rw [← p_entry m c h]
  blk_point [iblk, idx t]

theorem block4 (t : Fin cfg0.N) (k : Fin 1024) : iblk m c 4 t (ix2 (0 : Fin 1) k) = ((G k : ℝ) : EReal) := by
  rw [← h.gain]
  blk_point [iblk, Gen.V, idx t]

theorem block5 (t : Fin cfg0.N) (k : Fin 1024) : iblk m c 5 t (ix2 (0 : Fin 1) k) = ((B k : ℝ) : EReal) := by
  rw [← h.bias]
  blk_point [iblk, Gen.V, idx t]

theorem block6 (t : Fin cfg0.N) (k o : Fin 1024) : iblk m c 6 t (ix2 k o) = ((W k o : ℝ) : EReal) := by
  rw [← w_entry m c h]
  blk_point [iblk, idx t]

end Cert.ConvNormIdeal.Blocks
-- ==== Proof.NormValue.lean ====
module

public import proofs.«01_k».proof.Proof.NormBlocks

@[expose] public section

set_option maxRecDepth 16384

noncomputable section

/-! The kernel's seven results over finite arguments. -/

namespace Cert.ConvNormIdeal.Reals

open Cert.ConvNormIdeal Cert.ConvNormIdeal.Gen Idealize.ShloMosaic Idealize.ShloMosaic.TcCoe Idealize.SL.Sem Cert.RealRow
open Cert.ConvNormIdeal.Step Cert.ConvNormIdeal.Blocks
open Cert.ConvNormRefIdeal.Reals (Finite row)

variable (m : (ℓ : Loc nD τ sig) → Buf (Elt Ideal) ℓ) (c : Dev nD)

theorem last_lt : 31 < cfg0.N := lt_of_lt_of_eq (by decide) N_0.symm

/-- What starts at the first tile's sum and grows by every tile's ends at the sum over all the rows. -/
theorem acc (f : (n : ℕ) → n < cfg0.N → EReal) (F : Fin 8192 → ℝ)
    (h0 : ∀ t : Fin cfg0.N, t.val % 32 = 0 → f t.val t.isLt = 0 + ((∑ i, F (at_ t i) : ℝ) : EReal))
    (hs : ∀ t : Fin cfg0.N, ¬t.val % 32 = 0 →
      f t.val t.isLt = f (t.val - 1) (Nat.lt_of_le_of_lt (Nat.sub_le _ _) t.isLt) + ((∑ i, F (at_ t i) : ℝ) : EReal)) :
    f 31 last_lt = ((∑ r, F r : ℝ) : EReal) := by
  have e := Pipeline.eq_sum_fin_of_reset_step_apply_last (ι := Unit) (fun n hn _ => f n hn) 32 (fun _ => 0)
    (fun t _ => ((∑ i, F (at_ t i) : ℝ) : EReal)) (fun t ht _ => h0 t ht) (fun t ht _ => hs t ht) (le_of_eq N_0) ⟨31, last_lt⟩
    (show 31 + 1 = cfg0.N from N_0.symm) ()
  refine e.trans ?_
  rw [coe_sum, zero_add]
  refine congrArg _ ?_
  rw [show ∑ r, F r = ∑ k : Fin (32 * 256), F k from rfl, Fin.sum_univ_tiles 32 256 rfl]
  exact Fintype.sum_equiv (finCongr N_0) _ _ fun t => Finset.sum_congr rfl fun i _ => rfl

/-- Every point but the first grows what the point before it left. -/
theorem after_step (t : Fin cfg0.N) (h0 : ¬t.val % 32 = 0) (p : _)
    (hp : p = outsAt0 m c (t.val - 1) (Nat.lt_of_le_of_lt (Nat.sub_le _ _) t.isLt)) (gw : _) :
    (outsAt0 m c t.val t.isLt).2 = (after m c t gw p.2.2.2.1 p.2.2.2.2.1 p.2.2.2.2.2.1 p.2.2.2.2.2.2.1 p.2.2.2.2.2.2.2).2 := by
  by_cases h1 : t.val % 32 = 31
  · exact (congrArg Prod.snd (after_C m c t h0 h1 p hp)).trans rfl
  · exact after_B m c t h0 h1 p hp gw

variable {X : Fin 8192 → Fin 1024 → ℝ} {V G B : Fin 1024 → ℝ} {W : Fin 1024 → Fin 1024 → ℝ} {P : Fin 1024 → ℝ}
  {C D : Fin 8192 → Fin 1024 → ℝ} (h : Args m c X V G B W P C D)
include h

/-- A row sum's component: zero, then one tile more at each point. -/
theorem bias_last (k : Fin 1024) : (outsAt0 m c 31 last_lt).2.2.2.1 (ix2 (0 : Fin 1) k) = ((∑ r, gate (D r) (C r) k : ℝ) : EReal) := by
  have st := fun (t : Fin cfg0.N) a => Pays.bias_step _ _ _ _ (block0 m c h t) (block1 m c h t) a k
  refine acc (fun n hn => (outsAt0 m c n hn).2.2.2.1 (ix2 (0 : Fin 1) k)) (fun r => gate (D r) (C r) k) (fun t ht => ?_) (fun t ht => ?_)
  · rw [after_A m c t ht (by omega) (k0_pay2 (k0_pay7 (F := Ideal)))]
    exact (st t _).trans (congrArg (· + _) (by pointwise [k0_pay3]))
  · rw [after_step m c t ht _ rfl (k0_pay2 (k0_pay7 (F := Ideal)))]
    exact st t _

theorem gain_last (k : Fin 1024) : (outsAt0 m c 31 last_lt).2.2.2.2.1 (ix2 (0 : Fin 1) k)
    = ((∑ r, pre (row X V r) G B W (D r) (C r) k * hat (row X V r) k : ℝ) : EReal) := by
  have st := fun (t : Fin cfg0.N) a => Pays.norm_gain_step _ _ (block3 m c h t) _ _ _ _ (block4 m c h t) (block5 m c h t)
    _ _ _ _ (block0 m c h t) (block1 m c h t) _ _ (block6 m c h t) a k
  refine acc (fun n hn => (outsAt0 m c n hn).2.2.2.2.1 (ix2 (0 : Fin 1) k))
    (fun r => pre (row X V r) G B W (D r) (C r) k * hat (row X V r) k) (fun t ht => ?_) (fun t ht => ?_)
  · rw [after_A m c t ht (by omega) (k0_pay2 (k0_pay7 (F := Ideal)))]
    exact (st t _).trans (congrArg (· + _) (by pointwise [k0_pay4]))
  · rw [after_step m c t ht _ rfl (k0_pay2 (k0_pay7 (F := Ideal)))]
    exact st t _

theorem shift_last (k : Fin 1024) : (outsAt0 m c 31 last_lt).2.2.2.2.2.1 (ix2 (0 : Fin 1) k)
    = ((∑ r, pre (row X V r) G B W (D r) (C r) k : ℝ) : EReal) := by
  have st := fun (t : Fin cfg0.N) a => Pays.norm_bias_step _ _ (block3 m c h t) _ _ _ _ (block4 m c h t) (block5 m c h t)
    _ _ _ _ (block0 m c h t) (block1 m c h t) _ _ (block6 m c h t) a k
  refine acc (fun n hn => (outsAt0 m c n hn).2.2.2.2.2.1 (ix2 (0 : Fin 1) k))
    (fun r => pre (row X V r) G B W (D r) (C r) k) (fun t ht => ?_) (fun t ht => ?_)
  · rw [after_A m c t ht (by omega) (k0_pay2 (k0_pay7 (F := Ideal)))]
    exact (st t _).trans (congrArg (· + _) (by pointwise [k0_pay5]))
  · rw [after_step m c t ht _ rfl (k0_pay2 (k0_pay7 (F := Ideal)))]
    exact st t _

theorem conv_bias_last (k : Fin 1024) : (outsAt0 m c 31 last_lt).2.2.2.2.2.2.1 (ix2 (0 : Fin 1) k)
    = ((∑ r, grad (row X V r) (fun l => pre (row X V r) G B W (D r) (C r) l * G l) k : ℝ) : EReal) := by
  have st := fun (t : Fin cfg0.N) a => Pays.conv_bias_step _ _ (block3 m c h t) _ _ _ _ (block4 m c h t) (block5 m c h t)
    _ _ _ _ (block0 m c h t) (block1 m c h t) _ _ (block6 m c h t) a k
  refine acc (fun n hn => (outsAt0 m c n hn).2.2.2.2.2.2.1 (ix2 (0 : Fin 1) k))
    (fun r => grad (row X V r) (fun l => pre (row X V r) G B W (D r) (C r) l * G l) k) (fun t ht => ?_) (fun t ht => ?_)
  · rw [after_A m c t ht (by omega) (k0_pay2 (k0_pay7 (F := Ideal)))]
    exact (st t _).trans (congrArg (· + _) (by pointwise [k0_pay6]))
  · rw [after_step m c t ht _ rfl (k0_pay2 (k0_pay7 (F := Ideal)))]
    exact st t _

theorem weight_last (k o : Fin 1024) : (outsAt0 m c 31 last_lt).2.2.2.2.2.2.2 (ix2 k o)
    = ((∑ r, act (row X V r) G B k * sgm (act (row X V r) G B k) * gate (D r) (C r) o : ℝ) : EReal) := by
  have st := fun (t : Fin cfg0.N) a => Pays.weight_step _ _ (block3 m c h t) _ _ _ _ (block4 m c h t) (block5 m c h t)
    _ _ _ _ (block0 m c h t) (block1 m c h t) a k o
  refine acc (fun n hn => (outsAt0 m c n hn).2.2.2.2.2.2.2 (ix2 k o))
    (fun r => act (row X V r) G B k * sgm (act (row X V r) G B k) * gate (D r) (C r) o) (fun t ht => ?_) (fun t ht => ?_)
  · rw [after_A m c t ht (by omega) (k0_pay2 (k0_pay7 (F := Ideal)))]
    exact (st t _).trans (congrArg (· + _) (by pointwise [k0_pay7]))
  · rw [after_step m c t ht _ rfl (k0_pay2 (k0_pay7 (F := Ideal)))]
    exact st t _

/-- The product is written out at the last point, as it then stands. -/
theorem weight_out (k o : Fin 1024) : (outsAt0 m c 31 last_lt).1 (ix2 k o)
    = ((∑ r, act (row X V r) G B k * sgm (act (row X V r) G B k) * gate (D r) (C r) o : ℝ) : EReal) := by
  have e := after_C m c ⟨31, last_lt⟩ (by decide) rfl _ rfl
  have w := weight_last m c h k o
  rw [show outsAt0 m c 31 last_lt = _ from e] at w ⊢
  exact w

/-- The two tiled results at each point. -/
theorem tiles (t : Fin cfg0.N) : (outsAt0 m c t.val t.isLt).2.1 = k0_pay10 (iblk m c 0 t) (iblk m c 1 t) (iblk m c 2 t)
    ∧ (outsAt0 m c t.val t.isLt).2.2.1 = du1 m c t := by
  by_cases ht : t.val % 32 = 0
  · rw [after_A m c t ht (by omega) (k0_pay2 (k0_pay7 (F := Ideal)))]; exact ⟨rfl, rfl⟩
  · rw [after_step m c t ht _ rfl (k0_pay2 (k0_pay7 (F := Ideal)))]; exact ⟨rfl, rfl⟩

theorem gate_tile (t : Fin cfg0.N) (i : Fin 256) (o : Fin 1024) : (outsAt0 m c t.val t.isLt).2.1 (ix2 i o)
    = ((D (at_ t i) o * ((∑ k, act (row X V (at_ t i)) G B k * sgm (act (row X V (at_ t i)) G B k) * W k o) + P o) * dsilu (C (at_ t i) o)
      : ℝ) : EReal) := by
  rw [(tiles m c h t).1]
  exact Pays.dgate _ _ _ _ _ _ (block0 m c h t) (block1 m c h t) (block2 m c h t) i o

theorem row_tile (t : Fin cfg0.N) (i : Fin 256) (k : Fin 1024) : (outsAt0 m c t.val t.isLt).2.2.1 (ix2 i k)
    = ((grad (row X V (at_ t i)) (fun l => pre (row X V (at_ t i)) G B W (D (at_ t i)) (C (at_ t i)) l * G l) k : ℝ) : EReal) := by
  rw [(tiles m c h t).2]
  exact Pays.drow _ _ (block3 m c h t) _ _ _ _ (block4 m c h t) (block5 m c h t) _ _ _ _ (block0 m c h t) (block1 m c h t) _ _
    (block6 m c h t) i k

end Cert.ConvNormIdeal.Reals
-- ==== Proof.NormClaim.lean ====
module

public import proofs.«01_k».proof.Defs
public import proofs.«01_k».proof.Proof.NormValue
public import proofs.«01_k».proof.Proof.Gen.ConvNorm.Frame
public import proofs.«01_k».proof.Proof.Gen.ConvNormRefIdeal.Run
public import proofs.«01_k».proof.Proof.Gen.Pre_norm_finite
public import Idealize.ShloMosaic.Adequacy
public import Idealize.ShloMosaic.Init

@[expose] public section

set_option maxRecDepth 16384

noncomputable section

/-! The claims about the conv branch's norm, silu, pointwise product and gate. -/

namespace Cert.ConvNormIdeal.Reals

open Cert.ConvNormIdeal Cert.ConvNormIdeal.Gen Cert.ConvNormIdeal.Value Idealize.ShloMosaic Idealize.ShloMosaic.TcCoe Idealize.SL.Sem Cert.RealRow
open Cert.ConvNormIdeal.Blocks
open Cert.ConvNormRefIdeal.Reals (Finite row)

variable (m : (ℓ : Loc nD τ sig) → Buf (Elt Ideal) ℓ) (c : Dev nD)

/-- What each array of the precondition's arguments reads as over the reals. -/
abbrev X (r : Fin 8192) (k : Fin 1024) : ℝ := (show FVec Ideal S8192x1024 .f32 from m ((c : Thread nD τ).loc main_arg0)) (ix2 r k) |>.toReal
abbrev V (k : Fin 1024) : ℝ := (show FVec Ideal S1x1024 .f32 from m ((c : Thread nD τ).loc main_arg1)) (ix2 (0 : Fin 1) k) |>.toReal
abbrev G (k : Fin 1024) : ℝ := (show FVec Ideal S1x1024 .f32 from m ((c : Thread nD τ).loc main_arg2)) (ix2 (0 : Fin 1) k) |>.toReal
abbrev B (k : Fin 1024) : ℝ := (show FVec Ideal S1x1024 .f32 from m ((c : Thread nD τ).loc main_arg3)) (ix2 (0 : Fin 1) k) |>.toReal
abbrev W (k o : Fin 1024) : ℝ := (show FVec Ideal S1x1024x1024 .f32 from m ((c : Thread nD τ).loc main_arg4)) (ix3 (0 : Fin 1) k o) |>.toReal
abbrev P (k : Fin 1024) : ℝ := (show FVec Ideal S1x1024 .f32 from m ((c : Thread nD τ).loc main_arg5)) (ix2 (0 : Fin 1) k) |>.toReal
abbrev C (r : Fin 8192) (k : Fin 1024) : ℝ := (show FVec Ideal S8192x1024 .f32 from m ((c : Thread nD τ).loc main_arg6)) (ix2 r k) |>.toReal
abbrev D (r : Fin 8192) (k : Fin 1024) : ℝ :=
  (show FVec Ideal S8192x2048 .f32 from m ((c : Thread nD τ).loc main_arg7)) (ix2 r (⟨1024 + k.val, by omega⟩ : Fin 2048)) |>.toReal

/-- The precondition says that the arguments are reals. -/
theorem args (hpre : Cert.Pre_ConvNormIdeal_norm_finite m) :
    Args m c (X m c) (V m c) (G m c) (B m c) (W m c) (P m c) (C m c) (D m c) := by
  obtain ⟨h0, h1, h2, h3, h4, h5, h6, h7⟩ := hpre c
  constructor
  · exact fun r k => real_of_abs_lt (congrFun h0 (ix2 r k))
  · exact fun k => real_of_abs_lt (congrFun h1 (ix2 (0 : Fin 1) k))
  · exact fun k => real_of_abs_lt (congrFun h2 (ix2 (0 : Fin 1) k))
  · exact fun k => real_of_abs_lt (congrFun h3 (ix2 (0 : Fin 1) k))
  · exact fun k o => real_of_abs_lt (congrFun h4 (ix3 (0 : Fin 1) k o))
  · exact fun k => real_of_abs_lt (congrFun h5 (ix2 (0 : Fin 1) k))
  · exact fun r k => real_of_abs_lt (congrFun h6 (ix2 r k))
  · intro r k
    have e := congrFun h7 (ix2 r k)
    refine real_of_abs_lt (Eq.trans ?_ e)
    symm
    pointwise [Cert.Pre_norm_finite.fn, Cert.Pre_norm_finite.fn_part1]
    rfl

/-- Two matrices with the same entries are one. -/
theorem ext2 {a b : ℕ} {α : Type} {f g : (⟨2, ![a, b]⟩ : Shape).Idx → α} (h : ∀ (i : Fin a) (j : Fin b), f (ix2 i j) = g (ix2 i j)) : f = g :=
  funext fun i => by rw [eq_ix2 i]; exact h _ _

theorem ext_row {b : ℕ} {α : Type} {f g : (⟨2, ![1, b]⟩ : Shape).Idx → α} (h : ∀ (j : Fin b), f (ix2 (0 : Fin 1) j) = g (ix2 (0 : Fin 1) j)) : f = g :=
  ext2 fun i j => by rw [Subsingleton.elim i 0]; exact h j

/-- What the tiled results hold in row `r`: what its tile's point leaves there. -/
theorem tile_lt (r : Fin 8192) : r.val / 256 < cfg0.N := lt_of_lt_of_eq (show r.val / 256 < 32 by omega) N_0.symm

theorem G8_at (r : Fin 8192) (k : Fin 1024) :
    G8 m c (ix2 r k) = (outsAt0 m c (r.val / 256) (tile_lt r)).2.1 (ix2 (⟨r.val % 256, by omega⟩ : Fin 256) k) := by
  have hp : pt8Of (ix2 r k) = r.val / 256 := by
    show 1 * (r.val / 256 - 0) + 1 * (k.val / 1024 - 0) = _
    omega
  have hl : loc8Of (ix2 r k) = ix2 (⟨r.val % 256, by omega⟩ : Fin 256) k := by
    funext a; apply Fin.ext
    match a with
    | ⟨0, _⟩ => rfl
    | ⟨1, _⟩ => show k.val % 1024 = k.val; omega
  unfold G8
  rw [dif_pos (by rw [hp]; exact tile_lt r), hl, fold0_congr m c _ _ _ (by rw [Nat.zero_add]; exact tile_lt r) hp, ← outsAt0_sweep]

theorem G9_at (r : Fin 8192) (k : Fin 1024) :
    G9 m c (ix2 r k) = (outsAt0 m c (r.val / 256) (tile_lt r)).2.2.1 (ix2 (⟨r.val % 256, by omega⟩ : Fin 256) k) := by
  have hp : pt9Of (ix2 r k) = r.val / 256 := by
    show 1 * (r.val / 256 - 0) + 1 * (k.val / 1024 - 0) = _
    omega
  have hl : loc9Of (ix2 r k) = ix2 (⟨r.val % 256, by omega⟩ : Fin 256) k := by
    funext a; apply Fin.ext
    match a with
    | ⟨0, _⟩ => rfl
    | ⟨1, _⟩ => show k.val % 1024 = k.val; omega
  unfold G9
  rw [dif_pos (by rw [hp]; exact tile_lt r), hl, fold0_congr m c _ _ _ (by rw [Nat.zero_add]; exact tile_lt r) hp, ← outsAt0_sweep]

theorem row_of (r : Fin 8192) : at_ ⟨r.val / 256, tile_lt r⟩ (⟨r.val % 256, by omega⟩ : Fin 256) = r :=
  Fin.ext (by show r.val / 256 * 256 + r.val % 256 = r.val; omega)

variable {X : Fin 8192 → Fin 1024 → ℝ} {V G B : Fin 1024 → ℝ} {W : Fin 1024 → Fin 1024 → ℝ} {P : Fin 1024 → ℝ}
  {C D : Fin 8192 → Fin 1024 → ℝ} (h : Args m c X V G B W P C D)
include h

open Cert.ConvNormRefIdeal.Read Cert.ConvNormRefIdeal.Reals

/-- The kernel's results are the reference's values at the same arguments. -/
theorem results :
    G7 m c = val_main_v97 (F := Ideal) (m ((c : Thread nD τ).loc main_arg0)) (m ((c : Thread nD τ).loc main_arg1))
        (m ((c : Thread nD τ).loc main_arg2)) (m ((c : Thread nD τ).loc main_arg3)) (m ((c : Thread nD τ).loc main_arg6))
        (m ((c : Thread nD τ).loc main_arg7))
    ∧ G8 m c = val_main_v98 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
    ∧ G9 m c = val_main_v89 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7))
    ∧ G10 m c = val_main_v51 (F := Ideal) (m ((c : Thread nD τ).loc main_arg6)) (m ((c : Thread nD τ).loc main_arg7))
    ∧ G11 m c = val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7))
    ∧ G12 m c = val_main_v90 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7))
    ∧ G13 m c = val_main_v95 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7)) := by
  refine ⟨?_, ?_, ?_, ?_, ?_, ?_, ?_⟩
  · refine (G7_last m c).trans (ext2 fun k o => ?_)
    rw [← outsAt0_sweep]
    exact (weight_out m c h k o).trans (v97 h k o).symm
  · refine ext2 fun r k => ?_
    rw [G8_at]
    refine (gate_tile m c h ⟨r.val / 256, tile_lt r⟩ _ k).trans (.trans ?_ (v98 h r k).symm)
    rw [row_of]
  · refine ext2 fun r k => ?_
    rw [G9_at]
    refine (row_tile m c h ⟨r.val / 256, tile_lt r⟩ _ k).trans (.trans ?_ (v89 h r k).symm)
    rw [row_of]
  · refine (G10_last m c).trans (ext_row fun k => ?_)
    rw [← outsAt0_sweep]
    exact (bias_last m c h k).trans (v51 h k).symm
  · refine (G11_last m c).trans (ext_row fun k => ?_)
    rw [← outsAt0_sweep]
    exact (gain_last m c h k).trans (v91 h k).symm
  · refine (G12_last m c).trans (ext_row fun k => ?_)
    rw [← outsAt0_sweep]
    exact (shift_last m c h k).trans (v90 h k).symm
  · refine (G13_last m c).trans (ext_row fun k => ?_)
    rw [← outsAt0_sweep]
    exact (conv_bias_last m c h k).trans (v95 h k).symm

end Cert.ConvNormIdeal.Reals

namespace Cert.Proof.Norm

open Idealize.ShloMosaic Idealize.SL.Sem Cert.ConvNormRefIdeal.Read

theorem frame_reference : Cert.quiescent_ConvNormRefIdeal := fun m ρ _ =>
  (θ_run Cert.ConvNormRefIdeal.defs _ _).mono (fun r h => ⟨fun c => (h c).2.2.2.2.2.2.2, sem_eq_zero_of_no_sems (by decide) r.2⟩)
    (Cert.ConvNormRefIdeal.Value.run (F := Ideal) m ρ)

theorem algebraic : Cert.algebraic_ConvNormIdeal_ConvNormRefIdeal_pre_norm_finite := by
  intro m ρ m' ρ' hpre hagree
  refine ⟨Cert.ConvNormIdeal.Value.G7 m, Cert.ConvNormIdeal.Value.G8 m, Cert.ConvNormIdeal.Value.G9 m, Cert.ConvNormIdeal.Value.G10 m,
    Cert.ConvNormIdeal.Value.G11 m, Cert.ConvNormIdeal.Value.G12 m, Cert.ConvNormIdeal.Value.G13 m,
    Cert.ConvNormIdeal.Value.run (F := Ideal) m ρ, ?_⟩
  refine (θ_run Cert.ConvNormRefIdeal.defs _ _).mono (fun _ h c => ?_) (Cert.ConvNormRefIdeal.Value.run (F := Ideal) m' ρ')
  obtain ⟨e0, e1, e2, e3, e4, e5, e6, e7⟩ := hagree c
  obtain ⟨r0, r1, r2, r3, r4, r5, r6⟩ := Cert.ConvNormIdeal.Reals.results m c (Cert.ConvNormIdeal.Reals.args m c hpre)
  obtain ⟨s0, s1, s2, s3, s4, s5, s6, rest⟩ := h c
  refine ⟨s0.trans ?_, s1.trans ?_, s2.trans ?_, s3.trans ?_, s4.trans ?_, s5.trans ?_, s6.trans ?_, rest⟩
  · rw [r0, ← e0, ← e1, ← e2, ← e3, ← e6, ← e7]; exact val_main_v97_eq m' c
  · rw [r1, ← e0, ← e1, ← e2, ← e3, ← e4, ← e5, ← e6, ← e7]; exact val_main_v98_eq m' c
  · rw [r2, ← e0, ← e1, ← e2, ← e3, ← e4, ← e6, ← e7]; exact val_main_v89_eq m' c
  · rw [r3, ← e6, ← e7]; exact val_main_v51_eq _ _
  · rw [r4, ← e0, ← e1, ← e2, ← e3, ← e4, ← e6, ← e7]; exact val_main_v91_eq m' c
  · rw [r5, ← e0, ← e1, ← e2, ← e3, ← e4, ← e6, ← e7]; exact val_main_v90_eq m' c
  · rw [r6, ← e0, ← e1, ← e2, ← e3, ← e4, ← e6, ← e7]; exact val_main_v95_eq m' c

end Cert.Proof.Norm

end
-- ==== Proof.OutPays.lean ====
module

public import proofs.«01_k».proof.Proof.Gen.OutNormIdeal.Skeleton
public import proofs.«01_k».proof.Proof.RealRow

@[expose] public section

set_option maxRecDepth 16384

noncomputable section

namespace Cert.OutNormIdeal.Pays

open Cert.OutNormIdeal Cert.OutNormIdeal.Gen Idealize.ShloMosaic Idealize.ShloMosaic.TcCoe Cert.RealRow

variable (w : Vec Ideal S2048x2048 .bf16) (yc : Vec Ideal S256x2048 .bf16) (g : Vec Ideal S1x2048 .f32) (x : Vec Ideal S256x2048 .f32)
  (W : Fin 2048 → Fin 2048 → ℝ) (Y : Fin 256 → Fin 2048 → ℝ) (M : Fin 2048 → ℝ) (X : Fin 256 → Fin 2048 → ℝ)
  (hw : ∀ k o, w (ix2 k o) = (W k o : EReal)) (hy : ∀ i k, yc (ix2 i k) = (Y i k : EReal))
  (hg : ∀ k, g (ix2 (0 : Fin 1) k) = (M k : EReal)) (hx : ∀ i k, x (ix2 i k) = (X i k : EReal))

include hw hy in
theorem product (i : Fin 256) (k : Fin 2048) : k0_pay10 w yc (ix2 i k) = ((∑ l, Y i l * W l k : ℝ) : EReal) := by
  pointwise [k0_pay10, k0_pay9, hw, hy, mul_coe, coe_sum]

/-- Row `i` of the residual. -/
abbrev row (W : Fin 2048 → Fin 2048 → ℝ) (Y : Fin 256 → Fin 2048 → ℝ) (M : Fin 2048 → ℝ) (X : Fin 256 → Fin 2048 → ℝ) (i : Fin 256) :
    Fin 2048 → ℝ := fun k => alpha * X i k + M k * ∑ l, Y i l * W l k

include hw hy hg hx

theorem centred (i : Fin 256) (k : Fin 2048) :
    k0_pay11 w yc g x (ix2 i k) = ((row W Y M X i k - mean (row W Y M X i) : ℝ) : EReal) := by
  pointwise [k0_pay11, product w yc W Y hw hy, hg, hx, alpha_coe, mul_coe, add_coe, coe_sum, lanes', div_lanes', sub_coe]
  rfl

theorem scale (i : Fin 256) : k0_pay12 w yc g x (ix2 i (0 : Fin 1)) = ((rstd (row W Y M X i) : ℝ) : EReal) := by
  pointwise [k0_pay12, centred w yc g x W Y M X hw hy hg hx, mul_coe, coe_sum, lanes', div_lanes', eps_coe, add_coe]
  exact rsqrt_coe (pos _)

theorem unit (i : Fin 256) (k : Fin 2048) : k0_pay13 w yc g x (ix2 i k) = ((hat (row W Y M X i) k : ℝ) : EReal) := by
  pointwise [k0_pay13, centred w yc g x W Y M X hw hy hg hx, scale w yc g x W Y M X hw hy hg hx, mul_coe]
  rfl

variable (lg lb : Vec Ideal S1x2048 .f32) (G B : Fin 2048 → ℝ) (hlg : ∀ k, lg (ix2 (0 : Fin 1) k) = (G k : EReal))
  (hlb : ∀ k, lb (ix2 (0 : Fin 1) k) = (B k : EReal))
include hlg hlb

theorem normed (i : Fin 256) (k : Fin 2048) : k0_pay14 w yc g x lg lb (ix2 i k) = ((act (row W Y M X i) G B k : ℝ) : EReal) := by
  pointwise [k0_pay14, unit w yc g x W Y M X hw hy hg hx, hlg, hlb, mul_coe, add_coe]
  rfl

variable (t : Vec Ideal S256x2048 .f32) (T : Fin 256 → Fin 2048 → ℝ) (ht : ∀ i k, t (ix2 i k) = (T i k : EReal))
include ht

theorem error (i : Fin 256) (k : Fin 2048) :
    k0_pay15 (k0_pay14 w yc g x lg lb) t (ix2 i k) = ((err (row W Y M X i) G B (T i) k : ℝ) : EReal) := by
  pointwise [k0_pay15, normed w yc g x W Y M X hw hy hg hx lg lb G B hlg hlb, ht, sub_coe]
  rfl

theorem dout (i : Fin 256) (k : Fin 2048) :
    k0_pay17 (k0_pay14 w yc g x lg lb) t (ix2 i k) = ((err (row W Y M X i) G B (T i) k * (1 / 2048) : ℝ) : EReal) := by
  pointwise [k0_pay17, error w yc g x W Y M X hw hy hg hx lg lb G B hlg hlb t T ht, per_lane', mul_coe]

theorem loss_step (s : Vec Ideal S8x128 .f32) (a : Fin 8) (b : Fin 128) :
    k0_pay16 (k0_pay14 w yc g x lg lb) t s (ix2 a b) = s (ix2 a b)
      + ((∑ i, 1 / 2 * ((∑ k, err (row W Y M X i) G B (T i) k * err (row W Y M X i) G B (T i) k) / 2048) : ℝ) : EReal) := by
  pointwise [k0_pay16, error w yc g x W Y M X hw hy hg hx lg lb G B hlg hlb t T ht, half, lanes', mul_coe, coe_sum, div_lanes',
    Fin.sum_univ_one]
  refine congrArg _ (congrArg _ ?_)
  rw [← Finset.mul_sum, ← Finset.sum_div]; ring

theorem gain_step (a : Vec Ideal S1x2048 .f32) (k : Fin 2048) :
    k0_pay18 (k0_pay13 w yc g x) (k0_pay14 w yc g x lg lb) t a (ix2 (0 : Fin 1) k) = a (ix2 (0 : Fin 1) k)
      + ((∑ i, err (row W Y M X i) G B (T i) k * (1 / 2048) * hat (row W Y M X i) k : ℝ) : EReal) := by
  pointwise [k0_pay18, dout w yc g x W Y M X hw hy hg hx lg lb G B hlg hlb t T ht, unit w yc g x W Y M X hw hy hg hx, mul_coe, coe_sum]

theorem shift_step (a : Vec Ideal S1x2048 .f32) (k : Fin 2048) :
    k0_pay19 (k0_pay14 w yc g x lg lb) t a (ix2 (0 : Fin 1) k) = a (ix2 (0 : Fin 1) k)
      + ((∑ i, err (row W Y M X i) G B (T i) k * (1 / 2048) : ℝ) : EReal) := by
  pointwise [k0_pay19, dout w yc g x W Y M X hw hy hg hx lg lb G B hlg hlb t T ht, coe_sum]

theorem dhat (i : Fin 256) (k : Fin 2048) :
    k0_pay20 lg (k0_pay14 w yc g x lg lb) t (ix2 i k) = ((derr (row W Y M X i) G B (T i) k : ℝ) : EReal) := by
  pointwise [k0_pay20, dout w yc g x W Y M X hw hy hg hx lg lb G B hlg hlb t T ht, hlg, mul_coe]
  rfl

theorem dsum (i : Fin 256) :
    k0_pay21 lg (k0_pay14 w yc g x lg lb) t (ix2 i (0 : Fin 1)) = ((∑ k, derr (row W Y M X i) G B (T i) k : ℝ) : EReal) := by
  pointwise [k0_pay21, dhat w yc g x W Y M X hw hy hg hx lg lb G B hlg hlb t T ht, coe_sum]

/-- The gradient into row `i` of the residual. -/
abbrev dres (W : Fin 2048 → Fin 2048 → ℝ) (Y : Fin 256 → Fin 2048 → ℝ) (M : Fin 2048 → ℝ) (X : Fin 256 → Fin 2048 → ℝ)
    (G B : Fin 2048 → ℝ) (T : Fin 256 → Fin 2048 → ℝ) (i : Fin 256) : Fin 2048 → ℝ :=
  grad (row W Y M X i) (derr (row W Y M X i) G B (T i))

theorem drow (i : Fin 256) (k : Fin 2048) :
    k0_pay1 (k0_pay12 w yc g x) (k0_pay13 w yc g x) (k0_pay20 lg (k0_pay14 w yc g x lg lb) t)
      (k0_pay21 lg (k0_pay14 w yc g x lg lb) t) (Ideal.ofBits .f32 0x45000000#32) (ix2 i k)
      = ((dres W Y M X G B T i k : ℝ) : EReal) := by
  pointwise [k0_pay1, dhat w yc g x W Y M X hw hy hg hx lg lb G B hlg hlb t T ht, dsum w yc g x W Y M X hw hy hg hx lg lb G B hlg hlb t T ht,
    scale w yc g x W Y M X hw hy hg hx, unit w yc g x W Y M X hw hy hg hx, mul_coe, sub_coe, coe_sum, lanes', div_lanes']
  rfl

theorem gate_step (a : Vec Ideal S1x2048 .f32) (k : Fin 2048) :
    k0_pay2 (k0_pay10 w yc) (k0_pay12 w yc g x) (k0_pay13 w yc g x) (k0_pay20 lg (k0_pay14 w yc g x lg lb) t)
      (k0_pay21 lg (k0_pay14 w yc g x lg lb) t) (Ideal.ofBits .f32 0x45000000#32) a (ix2 (0 : Fin 1) k) = a (ix2 (0 : Fin 1) k)
      + ((∑ i, dres W Y M X G B T i k * ∑ l, Y i l * W l k : ℝ) : EReal) := by
  pointwise [k0_pay2, drow w yc g x W Y M X hw hy hg hx lg lb G B hlg hlb t T ht, product w yc W Y hw hy, mul_coe, coe_sum]

theorem dproduct (i : Fin 256) (k : Fin 2048) :
    k0_pay3 g (k0_pay12 w yc g x) (k0_pay13 w yc g x) (k0_pay20 lg (k0_pay14 w yc g x lg lb) t)
      (k0_pay21 lg (k0_pay14 w yc g x lg lb) t) (Ideal.ofBits .f32 0x45000000#32) (ix2 i k)
      = ((dres W Y M X G B T i k * M k : ℝ) : EReal) := by
  pointwise [k0_pay3, drow w yc g x W Y M X hw hy hg hx lg lb G B hlg hlb t T ht, hg, mul_coe]

theorem dinput (i : Fin 256) (k : Fin 2048) :
    k0_pay4 (k0_pay9 w) g (k0_pay12 w yc g x) (k0_pay13 w yc g x) (k0_pay20 lg (k0_pay14 w yc g x lg lb) t)
      (k0_pay21 lg (k0_pay14 w yc g x lg lb) t) (Ideal.ofBits .f32 0x45000000#32) (ix2 i k)
      = ((∑ o, dres W Y M X G B T i o * M o * W k o : ℝ) : EReal) := by
  pointwise [k0_pay4, k0_pay9, dproduct w yc g x W Y M X hw hy hg hx lg lb G B hlg hlb t T ht, hw, mul_coe, coe_sum]

end Cert.OutNormIdeal.Pays
-- ==== Proof.OutPoints.lean ====
module

public import proofs.«01_k».proof.Proof.Gen.OutNormIdeal.Value
public import Idealize.ShloMosaic.Lib.Tactic

@[expose] public section

set_option maxRecDepth 16384
set_option maxHeartbeats 4000000

noncomputable section

namespace Cert.OutNormIdeal.Step

open Cert.OutNormIdeal Cert.OutNormIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

abbrev y (c : Dev nD) (t : Fin cfg0.N) : FVec F S256x2048 .f32 := k0_pay10 (iblk m c 1 t) (iblk m c 0 t)
abbrev rs (c : Dev nD) (t : Fin cfg0.N) : FVec F S256x1 .f32 := k0_pay12 (iblk m c 1 t) (iblk m c 0 t) (iblk m c 4 t) (iblk m c 2 t)
abbrev zh (c : Dev nD) (t : Fin cfg0.N) : FVec F S256x2048 .f32 := k0_pay13 (iblk m c 1 t) (iblk m c 0 t) (iblk m c 4 t) (iblk m c 2 t)
abbrev out (c : Dev nD) (t : Fin cfg0.N) : FVec F S256x2048 .f32 :=
  k0_pay14 (iblk m c 1 t) (iblk m c 0 t) (iblk m c 4 t) (iblk m c 2 t) (iblk m c 5 t) (iblk m c 6 t)
abbrev dzh (c : Dev nD) (t : Fin cfg0.N) : FVec F S256x2048 .f32 := k0_pay20 (iblk m c 5 t) (out m c t) (iblk m c 3 t)
abbrev sum (c : Dev nD) (t : Fin cfg0.N) : FVec F S256x1 .f32 := k0_pay21 (iblk m c 5 t) (out m c t) (iblk m c 3 t)
abbrev num : F .f32 := Scalar.ofBits .f32 0x45000000#32

/-- What the body leaves at point `t`: three tiles, and the four sums over what they held. -/
abbrev after (c : Dev nD) (t : Fin cfg0.N) (s : Vec F S8x128 .f32) (a b d : Vec F S1x2048 .f32) :
    Vec F S256x2048 .f32 × Vec F S256x2048 .bf16 × Vec F S256x2048 .bf16 × Vec F S8x128 .f32 × Vec F S1x2048 .f32 × Vec F S1x2048 .f32 × Vec F S1x2048 .f32 :=
  (k0_pay1 (rs m c t) (zh m c t) (dzh m c t) (sum m c t) num,
    k0_pay3 (iblk m c 4 t) (rs m c t) (zh m c t) (dzh m c t) (sum m c t) num,
    k0_pay4 (k0_pay9 (iblk m c 1 t)) (iblk m c 4 t) (rs m c t) (zh m c t) (dzh m c t) (sum m c t) num,
    k0_pay16 (out m c t) (iblk m c 3 t) s, k0_pay18 (zh m c t) (out m c t) (iblk m c 3 t) a,
    k0_pay19 (out m c t) (iblk m c 3 t) b, k0_pay2 (y m c t) (rs m c t) (zh m c t) (dzh m c t) (sum m c t) num d)

/-- A later point: the sums are read and grow. -/
theorem after_B (c : Dev nD) (t : Fin cfg0.N) (h0 : ¬t.val % 32 = 0) (p : _)
    (hp : p = outsAt0 m c (t.val - 1) (Nat.lt_of_le_of_lt (Nat.sub_le _ _) t.isLt)) :
    outsAt0 m c t.val t.isLt = after m c t p.2.2.2.1 p.2.2.2.2.1 p.2.2.2.2.2.1 p.2.2.2.2.2.2 := by
  rw [outsAt0_B m c t h0, ← hp]
  refine Prod.ext ?_ (Prod.ext ?_ (Prod.ext ?_ (Prod.ext ?_ (Prod.ext ?_ (Prod.ext ?_ ?_)))))
  all_goals
    dsimp only
    first | unfold out0_B_7 | unfold out0_B_8 | unfold out0_B_9 | unfold out0_B_10 | unfold out0_B_11 | unfold out0_B_12 | unfold out0_B_13
    rw [View.read_writes_eq_canon]
    on_goal 2 =>
      intro y
      first | apply cover0_B_7 | apply cover0_B_8 | apply cover0_B_9 | apply cover0_B_10 | apply cover0_B_11 | apply cover0_B_12 | apply cover0_B_13
    unfold kernelRun0_B
    dsimp only
    sl_unfold_words
    rw [View.canon_unit_zero hz]
    simp only [View.readAt_eq_ld, Memref.IsWhole.read_unread, View.ld_unit_zero (S := S256x2048) hz, View.ld_unit_zero (S := S1x2048) hz,
      View.ld_unit_zero (S := S2048x2048) hz, View.ld_unit_zero (S := S8x128) hz]

/-- The first point: the sums start at zero. -/
theorem after_A (c : Dev nD) (t : Fin cfg0.N) (h0 : t.val % 32 = 0) :
    outsAt0 m c t.val t.isLt = after m c t k0_pay5 k0_pay6 k0_pay7 k0_pay8 := by
  rw [outsAt0_A m c t h0]
  refine Prod.ext ?_ (Prod.ext ?_ (Prod.ext ?_ (Prod.ext ?_ (Prod.ext ?_ (Prod.ext ?_ ?_)))))
  all_goals
    dsimp only
    first | unfold out0_A_7 | unfold out0_A_8 | unfold out0_A_9 | unfold out0_A_10 | unfold out0_A_11 | unfold out0_A_12 | unfold out0_A_13
    rw [View.read_writes_eq_canon]
    on_goal 2 =>
      intro y
      first | apply cover0_A_7 | apply cover0_A_8 | apply cover0_A_9 | apply cover0_A_10 | apply cover0_A_11 | apply cover0_A_12 | apply cover0_A_13
    unfold kernelRun0_A
    dsimp only
    sl_unfold_words
    first | rw [View.canon_unit_zero hz] | rw [View.canon_cons_unit_zero hz]
    simp only [View.readAt_eq_ld, Memref.IsWhole.read_unread, View.ld_unit_zero (S := S256x2048) hz, View.ld_unit_zero (S := S1x2048) hz,
      View.ld_unit_zero (S := S2048x2048) hz, View.ld_unit_zero (S := S8x128) hz, View.readCov_unit_zero (S := S1x2048) _ hz,
      View.readCov_unit_zero (S := S8x128) _ hz]

end Cert.OutNormIdeal.Step
-- ==== Proof.OutRead.lean ====
module

public import proofs.«01_k».proof.Proof.Gen.OutNormRefIdeal.Read
public import proofs.«01_k».proof.Proof.RealRow

@[expose] public section

set_option maxRecDepth 16384

noncomputable section

/-! The reference's values at an index, over finite arguments. -/

namespace Cert.OutNormRefIdeal.Reals

open Cert.OutNormRefIdeal Cert.OutNormRefIdeal.Gen Cert.OutNormRefIdeal.Read Idealize.ShloMosaic Idealize.ShloMosaic.TcCoe Cert.RealRow

/-- The arguments are reals. -/
structure Finite (x0 : FVec Ideal S8192x2048 .bf16) (x1 : FVec Ideal S1x2048x2048 .f32) (x2 x3 : FVec Ideal S8192x2048 .f32)
    (x4 : FVec Ideal S1x6144 .f32) (x5 x6 : FVec Ideal S1x2048 .f32)
    (Y : Fin 8192 → Fin 2048 → ℝ) (W : Fin 2048 → Fin 2048 → ℝ) (X T : Fin 8192 → Fin 2048 → ℝ) (M G B : Fin 2048 → ℝ) : Prop where
  cat : ∀ r k, x0 (ix2 r k) = (Y r k : EReal)
  weight : ∀ k o, x1 (ix3 (0 : Fin 1) k o) = (W k o : EReal)
  resid : ∀ r k, x2 (ix2 r k) = (X r k : EReal)
  target : ∀ r k, x3 (ix2 r k) = (T r k : EReal)
  gate : ∀ k : Fin 2048, x4 (ix2 (0 : Fin 1) (⟨4096 + k.val, by omega⟩ : Fin 6144)) = (M k : EReal)
  gain : ∀ k, x5 (ix2 (0 : Fin 1) k) = (G k : EReal)
  bias : ∀ k, x6 (ix2 (0 : Fin 1) k) = (B k : EReal)

variable {x0 : FVec Ideal S8192x2048 .bf16} {x1 : FVec Ideal S1x2048x2048 .f32} {x2 x3 : FVec Ideal S8192x2048 .f32}
  {x4 : FVec Ideal S1x6144 .f32} {x5 x6 : FVec Ideal S1x2048 .f32}
  {Y : Fin 8192 → Fin 2048 → ℝ} {W : Fin 2048 → Fin 2048 → ℝ} {X T : Fin 8192 → Fin 2048 → ℝ} {M G B : Fin 2048 → ℝ}
  (h : Finite x0 x1 x2 x3 x4 x5 x6 Y W X T M G B)
include h

/-- Row `r` of the residual. -/
abbrev row (Y : Fin 8192 → Fin 2048 → ℝ) (W : Fin 2048 → Fin 2048 → ℝ) (X : Fin 8192 → Fin 2048 → ℝ) (M : Fin 2048 → ℝ) (r : Fin 8192) :
    Fin 2048 → ℝ := fun k => alpha * X r k + M k * ∑ l, Y r l * W l k

theorem v2 (r : Fin 8192) (k : Fin 2048) : val_main_v2 (F := Ideal) x0 x1 (ix2 r k) = ((∑ l, Y r l * W l k : ℝ) : EReal) := by
  pointwise [val_main_v2, val_main_v1, val_main_v0, h.cat, h.weight, mul_coe, coe_sum]

theorem v8 (r : Fin 8192) (k : Fin 2048) : val_main_v8 (F := Ideal) x0 x1 x2 x4 (ix2 r k) = ((row Y W X M r k : ℝ) : EReal) := by
  pointwise [val_main_v8, val_main_v7, val_main_v6, val_main_v5, val_main_v4, val_main_v3, val_main_cst, v2 h, h.resid, h.gate,
    alpha_coe, mul_coe, add_coe]

theorem v14 (r : Fin 8192) : val_main_v14 (F := Ideal) x0 x1 x2 x4 (ix2 r (0 : Fin 1)) = ((mean (row Y W X M r) : ℝ) : EReal) := by
  pointwise [val_main_v14, val_main_v13, val_main_v12, val_main_v11, val_main_cst_0, val_main_cst_1, v8 h, coe_sum, lanes', div_lanes', zero_add]
  rfl

theorem v16 (r : Fin 8192) (k : Fin 2048) :
    val_main_v16 (F := Ideal) x0 x1 x2 x4 (ix2 r k) = ((row Y W X M r k - mean (row Y W X M r) : ℝ) : EReal) := by
  pointwise [val_main_v16, val_main_v15, v14 h, v8 h, sub_coe]

theorem v25 (r : Fin 8192) (k : Fin 2048) :
    val_main_v25 (F := Ideal) x0 x1 x2 x4 (ix2 r k) = ((row Y W X M r k - mean (row Y W X M r) : ℝ) : EReal) := by
  pointwise [val_main_v25, val_main_v24, v14 h, v8 h, sub_coe]

theorem v27 (r : Fin 8192) :
    val_main_v27 (F := Ideal) x0 x1 x2 x4 (ix2 r (0 : Fin 1)) = ((var (row Y W X M r) + eps : ℝ) : EReal) := by
  pointwise [val_main_v27, val_main_v26, val_main_v23, val_main_v22, val_main_v21, val_main_v20, val_main_v17, val_main_cst_3,
    val_main_cst_4, val_main_cst_5, v16 h, mul_coe, coe_sum, lanes', div_lanes', zero_add, eps_coe, add_coe]
  rfl

theorem v28 (r : Fin 8192) : val_main_v28 (F := Ideal) x0 x1 x2 x4 (ix2 r (0 : Fin 1)) = ((rstd (row Y W X M r) : ℝ) : EReal) := by
  pointwise [val_main_v28, v27 h]
  exact rsqrt_coe (pos _)

theorem v31 (r : Fin 8192) : val_main_v31 (F := Ideal) x0 x1 x2 x4 (ix2 r (0 : Fin 1))
    = ((-1 / 2 * (rstd (row Y W X M r) / (var (row Y W X M r) + eps)) : ℝ) : EReal) := by
  pointwise [val_main_v31, val_main_v30, val_main_v29, val_main_cst_6, v27 h, v28 h, minus_half]
  rw [div_coe _ (pos _).ne', mul_coe]

theorem v33 (r : Fin 8192) (k : Fin 2048) : val_main_v33 (F := Ideal) x0 x1 x2 x4 (ix2 r k) = ((hat (row Y W X M r) k : ℝ) : EReal) := by
  pointwise [val_main_v33, val_main_v32, v25 h, v28 h, mul_coe]
  rfl

theorem v40 (r : Fin 8192) (k : Fin 2048) :
    val_main_v40 (F := Ideal) x0 x1 x2 x3 x4 x5 x6 (ix2 r k) = ((err (row Y W X M r) G B (T r) k : ℝ) : EReal) := by
  pointwise [val_main_v40, val_main_v39, val_main_v38, val_main_v37, val_main_v36, val_main_v35, val_main_v34, val_main_v9, val_main_v10,
    v33 h, h.gain, h.bias, h.target, mul_coe, add_coe, sub_coe]
  rfl

/-- The loss, in every entry of its array. -/
theorem v98 (a : Fin 8) (b : Fin 128) : val_main_v98 (F := Ideal) x0 x1 x2 x3 x4 x5 x6 (ix2 a b)
    = ((∑ r, 1 / 2 * ((∑ k, err (row Y W X M r) G B (T r) k * err (row Y W X M r) G B (T r) k) / 2048) : ℝ) : EReal) := by
  pointwise [val_main_v98, val_main_v48, val_main_v47, val_main_v46, val_main_v45, val_main_v44, val_main_v41, val_main_cst_8,
    val_main_cst_9, val_main_cst_10, val_main_cst_11, v40 h, half, lanes', div_lanes', mul_coe, coe_sum, zero_add]
  rw [Finset.mul_sum]

theorem v54 (r : Fin 8192) (k : Fin 2048) : val_main_v54 (F := Ideal) x0 x1 x2 x3 x4 x5 x6 (ix2 r k)
    = ((err (row Y W X M r) G B (T r) k * (1 / 2048) : ℝ) : EReal) := by
  pointwise [val_main_v54, val_main_v53, val_main_v52, val_main_v51, val_main_v50, val_main_v49, val_main_v43, val_main_v42,
    val_main_cst_7, val_main_cst_12, val_main_cst_13, val_main_cst_14, v40 h, half, one, two, lanes', div_lanes', mul_coe]
  congr 1; ring

/-- The layer norm's bias's gradient. -/
theorem v88 (k : Fin 2048) : val_main_v88 (F := Ideal) x0 x1 x2 x3 x4 x5 x6 (ix2 (0 : Fin 1) k)
    = ((∑ r, err (row Y W X M r) G B (T r) k * (1 / 2048) : ℝ) : EReal) := by
  pointwise [val_main_v88, val_main_v57, val_main_v56, val_main_v55, val_main_cst_15, val_main_cst_16, v54 h, coe_sum, zero_add,
    Fin.sum_univ_one]

/-- The layer norm's gain's gradient. -/
theorem v89 (k : Fin 2048) : val_main_v89 (F := Ideal) x0 x1 x2 x3 x4 x5 x6 (ix2 (0 : Fin 1) k)
    = ((∑ r, err (row Y W X M r) G B (T r) k * (1 / 2048) * hat (row Y W X M r) k : ℝ) : EReal) := by
  pointwise [val_main_v89, val_main_v63, val_main_v60, val_main_v59, val_main_v58, val_main_cst_17, val_main_cst_18, v54 h, v33 h,
    mul_coe, coe_sum, zero_add, Fin.sum_univ_one]
  congr 1; exact Finset.sum_congr rfl fun r _ => mul_comm _ _

theorem v62 (r : Fin 8192) (k : Fin 2048) : val_main_v62 (F := Ideal) x0 x1 x2 x3 x4 x5 x6 (ix2 r k)
    = ((derr (row Y W X M r) G B (T r) k : ℝ) : EReal) := by
  pointwise [val_main_v62, val_main_v61, val_main_v34, val_main_v9, v54 h, h.gain, mul_coe]
  rfl

theorem v68 (r : Fin 8192) (k : Fin 2048) : val_main_v68 (F := Ideal) x0 x1 x2 x3 x4 x5 x6 (ix2 r k)
    = ((derr (row Y W X M r) G B (T r) k * rstd (row Y W X M r) : ℝ) : EReal) := by
  pointwise [val_main_v68, val_main_v67, v62 h, v28 h, mul_coe]

/-- What flows through the variance of a row. -/
abbrev through (x G B T : Fin 2048 → ℝ) : ℝ := (∑ l, (x l - mean x) * derr x G B T l) * (-1 / 2 * (rstd x / (var x + eps))) / 2048

theorem v77 (r : Fin 8192) (k : Fin 2048) : val_main_v77 (F := Ideal) x0 x1 x2 x3 x4 x5 x6 (ix2 r k)
    = ((through (row Y W X M r) G B (T r) * (2 * (row Y W X M r k - mean (row Y W X M r))) : ℝ) : EReal) := by
  pointwise [val_main_v77, val_main_v76, val_main_v75, val_main_v74, val_main_v73, val_main_v69, val_main_v66, val_main_v65,
    val_main_v64, val_main_v19, val_main_v18, val_main_cst_2, val_main_cst_19, val_main_cst_21, val_main_cst_22, v62 h, v25 h, v16 h,
    v31 h, two, mul_coe, coe_sum, zero_add, lanes', div_lanes', Fin.sum_univ_one]

/-- The gradient into the residual. -/
theorem v87 (r : Fin 8192) (k : Fin 2048) : val_main_v87 (F := Ideal) x0 x1 x2 x3 x4 x5 x6 (ix2 r k)
    = ((grad (row Y W X M r) (derr (row Y W X M r) G B (T r)) k : ℝ) : EReal) := by
  pointwise [val_main_v87, val_main_v86, val_main_v85, val_main_v84, val_main_v83, val_main_v82, val_main_v81, val_main_v80,
    val_main_v79, val_main_v78, val_main_v72, val_main_v71, val_main_v70, val_main_cst_20, val_main_cst_23, val_main_cst_24,
    val_main_cst_25, v68 h, v77 h, neg_coe, mul_coe, add_coe, coe_sum, zero_add, lanes', div_lanes', Fin.sum_univ_one]
  rw [← grad_eq (row Y W X M r) (derr (row Y W X M r) G B (T r)) k _ rfl]
  rfl

theorem v91 (r : Fin 8192) (k : Fin 2048) : val_main_v91 (F := Ideal) x0 x1 x2 x3 x4 x5 x6 (ix2 r k)
    = ((grad (row Y W X M r) (derr (row Y W X M r) G B (T r)) k * M k : ℝ) : EReal) := by
  pointwise [val_main_v91, val_main_v90, val_main_v3, v87 h, h.gate, mul_coe]
  rw [mul_comm]

/-- The gradient into the projection. -/
theorem v96 (r : Fin 8192) (k : Fin 2048) : val_main_v96 (F := Ideal) x0 x1 x2 x3 x4 x5 x6 (ix2 r k)
    = ((grad (row Y W X M r) (derr (row Y W X M r) G B (T r)) k * M k : ℝ) : EReal) := by
  pointwise [val_main_v96, v91 h]

/-- The gradient into the projection's argument. -/
theorem v97 (r : Fin 8192) (k : Fin 2048) : val_main_v97 (F := Ideal) x0 x1 x2 x3 x4 x5 x6 (ix2 r k)
    = ((∑ o, grad (row Y W X M r) (derr (row Y W X M r) G B (T r)) o * M o * W k o : ℝ) : EReal) := by
  pointwise [val_main_v97, val_main_v95, val_main_v1, v91 h, h.weight, mul_coe, coe_sum]

/-- The gate's gradient. -/
theorem v94 (k : Fin 2048) : val_main_v94 (F := Ideal) x0 x1 x2 x3 x4 x5 x6 (ix2 (0 : Fin 1) k)
    = ((∑ r, grad (row Y W X M r) (derr (row Y W X M r) G B (T r)) k * ∑ l, Y r l * W l k : ℝ) : EReal) := by
  pointwise [val_main_v94, val_main_v93, val_main_v92, val_main_cst_26, v87 h, v2 h, mul_coe, coe_sum, zero_add, Fin.sum_univ_one]

end Cert.OutNormRefIdeal.Reals
-- ==== Proof.Tiles.lean ====
module

public import proofs.«01_k».proof.Proof.RealRow
public import Idealize.ShloMosaic.Lib.Pipeline.ValueKit
public import Idealize.ShloMosaic.Lib.Claim

@[expose] public section

set_option maxRecDepth 16384

noncomputable section

/-! Sums carried over a grid of row tiles, and matrices by their entries. -/

namespace Cert.Tiles

open Idealize.ShloMosaic Cert.RealRow

/-- What starts at the first tile's sum and grows by every tile's ends at the sum over all the rows. -/
theorem acc {N T : ℕ} (hT : 0 < N) (row : Fin N → Fin T → Fin (N * T)) (hrow : ∀ t i, (row t i).val = t.val * T + i.val)
    (f : (n : ℕ) → n < N → EReal) (F : Fin (N * T) → ℝ)
    (h0 : ∀ t : Fin N, t.val % N = 0 → f t.val t.isLt = 0 + ((∑ i, F (row t i) : ℝ) : EReal))
    (hs : ∀ t : Fin N, ¬t.val % N = 0 →
      f t.val t.isLt = f (t.val - 1) (Nat.lt_of_le_of_lt (Nat.sub_le _ _) t.isLt) + ((∑ i, F (row t i) : ℝ) : EReal))
    (l : ℕ) (hl : l < N) (hlast : l + 1 = N) : f l hl = ((∑ r, F r : ℝ) : EReal) := by
  have e := Pipeline.eq_sum_fin_of_reset_step_apply_last (ι := Unit) (fun n hn _ => f n hn) N (fun _ => 0)
    (fun t _ => ((∑ i, F (row t i) : ℝ) : EReal)) (fun t ht _ => h0 t ht) (fun t ht _ => hs t ht) le_rfl ⟨l, hl⟩ hlast ()
  refine e.trans ?_
  rw [coe_sum, zero_add, Fin.sum_univ_tiles N T rfl]
  refine congrArg _ (Finset.sum_congr rfl fun t _ => Finset.sum_congr rfl fun i _ => congrArg F (Fin.ext ?_))
  rw [hrow]

/-- Two matrices with the same entries are one. -/
theorem ext2 {a b : ℕ} {α : Type} {f g : (⟨2, ![a, b]⟩ : Shape).Idx → α} (h : ∀ (i : Fin a) (j : Fin b), f (ix2 i j) = g (ix2 i j)) : f = g :=
  funext fun i => by rw [eq_ix2 i]; exact h _ _

end Cert.Tiles
-- ==== Proof.OutBlocks.lean ====
module

public import proofs.«01_k».proof.Proof.OutPays
public import proofs.«01_k».proof.Proof.OutPoints
public import proofs.«01_k».proof.Proof.OutRead
public import proofs.«01_k».proof.Proof.Tiles

@[expose] public section

set_option maxRecDepth 16384

noncomputable section

/-! The blocks the body reads, over finite arguments. -/

namespace Cert.OutNormIdeal.Blocks

open Cert.OutNormIdeal Cert.OutNormIdeal.Gen Idealize.ShloMosaic Idealize.ShloMosaic.TcCoe Idealize.SL.Sem Cert.RealRow
open Cert.OutNormRefIdeal.Reals (Finite)

variable (m : (ℓ : Loc nD τ sig) → Buf (Elt Ideal) ℓ) (c : Dev nD)

/-- The arguments are reals. -/
abbrev Args (Y : Fin 8192 → Fin 2048 → ℝ) (W : Fin 2048 → Fin 2048 → ℝ) (X T : Fin 8192 → Fin 2048 → ℝ) (M G B : Fin 2048 → ℝ) : Prop :=
  Finite (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) Y W X T M G B

variable {Y : Fin 8192 → Fin 2048 → ℝ} {W : Fin 2048 → Fin 2048 → ℝ} {X T : Fin 8192 → Fin 2048 → ℝ} {M G B : Fin 2048 → ℝ}
  (h : Args m c Y W X T M G B)

theorem idx : ∀ t : Fin cfg0.N, win0_0.index t = ![t.val, 0] ∧ win0_1.index t = ![0, 0] ∧ win0_2.index t = ![t.val, 0]
    ∧ win0_3.index t = ![t.val, 0] ∧ win0_4.index t = ![0, 2] ∧ win0_5.index t = ![0, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] ∧ t.val < 32 :=
  (by decide +kernel : ∀ t : Fin grid0.N, _)

theorem lt32 (t : Fin cfg0.N) : t.val < 32 := lt_of_lt_of_eq t.isLt N_0

/-- Row `i` of tile `t`. -/
abbrev at_ (t : Fin cfg0.N) (i : Fin 256) : Fin 8192 := ⟨t.val * 256 + i.val, by have := lt32 t; omega⟩

include h

theorem w_entry (k o : Fin 2048) :
    (show FVec Ideal S2048x2048 .bf16 from Gen.V m c main_v1) (ix2 k o) = ((W k o : ℝ) : EReal) := by
  dsimp only
  simp only [Gen.V, hostOps0, StableHlo.TRef.binary, StableHlo.TRef.nullary, StableHlo.TRef.unary, StableHlo.TRef.toBuf,
    StableHlo.TRef.ofBuf, cast_eq]
  after_results_simp
  pointwise [h.weight]

theorem block0 (t : Fin cfg0.N) (i : Fin 256) (k : Fin 2048) : iblk m c 0 t (ix2 i k) = ((Y (at_ t i) k : ℝ) : EReal) := by
  rw [← h.cat]
  blk_point [iblk, Gen.V, idx t]

theorem block1 (t : Fin cfg0.N) (k o : Fin 2048) : iblk m c 1 t (ix2 k o) = ((W k o : ℝ) : EReal) := by
  rw [← w_entry m c h]
  blk_point [iblk, idx t]

theorem block2 (t : Fin cfg0.N) (i : Fin 256) (k : Fin 2048) : iblk m c 2 t (ix2 i k) = ((X (at_ t i) k : ℝ) : EReal) := by
  rw [← h.resid]
  blk_point [iblk, Gen.V, idx t]

theorem block3 (t : Fin cfg0.N) (i : Fin 256) (k : Fin 2048) : iblk m c 3 t (ix2 i k) = ((T (at_ t i) k : ℝ) : EReal) := by
  rw [← h.target]
  blk_point [iblk, Gen.V, idx t]

theorem block4 (t : Fin cfg0.N) (k : Fin 2048) : iblk m c 4 t (ix2 (0 : Fin 1) k) = ((M k : ℝ) : EReal) := by
  rw [← h.gate]
  blk_point [iblk, Gen.V, idx t]

theorem block5 (t : Fin cfg0.N) (k : Fin 2048) : iblk m c 5 t (ix2 (0 : Fin 1) k) = ((G k : ℝ) : EReal) := by
  rw [← h.gain]
  blk_point [iblk, Gen.V, idx t]

theorem block6 (t : Fin cfg0.N) (k : Fin 2048) : iblk m c 6 t (ix2 (0 : Fin 1) k) = ((B k : ℝ) : EReal) := by
  rw [← h.bias]
  blk_point [iblk, Gen.V, idx t]

end Cert.OutNormIdeal.Blocks
-- ==== Proof.OutValue.lean ====
module

public import proofs.«01_k».proof.Proof.OutBlocks

@[expose] public section

set_option maxRecDepth 16384

noncomputable section

/-! The kernel's seven results over finite arguments. -/

namespace Cert.OutNormIdeal.Reals

open Cert.OutNormIdeal Cert.OutNormIdeal.Gen Idealize.ShloMosaic Idealize.ShloMosaic.TcCoe Idealize.SL.Sem Cert.RealRow
open Cert.OutNormIdeal.Step Cert.OutNormIdeal.Blocks
open Cert.OutNormRefIdeal.Reals (Finite row)

variable (m : (ℓ : Loc nD τ sig) → Buf (Elt Ideal) ℓ) (c : Dev nD)

theorem last_lt : 31 < cfg0.N := lt_of_lt_of_eq (by decide) N_0.symm

theorem sums (f : (n : ℕ) → n < cfg0.N → EReal) (F : Fin 8192 → ℝ)
    (h0 : ∀ t : Fin cfg0.N, t.val % 32 = 0 → f t.val t.isLt = 0 + ((∑ i, F (at_ t i) : ℝ) : EReal))
    (hs : ∀ t : Fin cfg0.N, ¬t.val % 32 = 0 →
      f t.val t.isLt = f (t.val - 1) (Nat.lt_of_le_of_lt (Nat.sub_le _ _) t.isLt) + ((∑ i, F (at_ t i) : ℝ) : EReal)) :
    f 31 last_lt = ((∑ r, F r : ℝ) : EReal) :=
  Tiles.acc (N := 32) (T := 256) (by decide) (fun t i => ⟨t.val * 256 + i.val, by omega⟩) (fun _ _ => rfl)
    (fun n hn => f n (lt_of_lt_of_eq hn N_0.symm)) F (fun t => h0 ⟨t.val, lt_of_lt_of_eq t.isLt N_0.symm⟩)
    (fun t => hs ⟨t.val, lt_of_lt_of_eq t.isLt N_0.symm⟩) 31 (by decide) rfl

variable {Y : Fin 8192 → Fin 2048 → ℝ} {W : Fin 2048 → Fin 2048 → ℝ} {X T : Fin 8192 → Fin 2048 → ℝ} {M G B : Fin 2048 → ℝ}
  (h : Args m c Y W X T M G B)
include h

/-- The sums after the last point. -/
theorem loss_last (p : Fin 8) (q : Fin 128) : (outsAt0 m c 31 last_lt).2.2.2.1 (ix2 p q)
    = ((∑ r, 1 / 2 * ((∑ k, err (row Y W X M r) G B (T r) k * err (row Y W X M r) G B (T r) k) / 2048) : ℝ) : EReal) := by
  have st := fun (t : Fin cfg0.N) a => Pays.loss_step _ _ _ _ _ _ _ _ (block1 m c h t) (block0 m c h t) (block4 m c h t) (block2 m c h t) _ _ _ _ (block5 m c h t) (block6 m c h t) _ _ (block3 m c h t) a p q
  refine sums (fun n hn => (outsAt0 m c n hn).2.2.2.1 (ix2 p q)) (fun r => 1 / 2 * ((∑ k, err (row Y W X M r) G B (T r) k * err (row Y W X M r) G B (T r) k) / 2048)) (fun t ht => ?_) (fun t ht => ?_)
  · rw [after_A m c t ht]
    exact (st t _).trans (congrArg (· + _) (by pointwise [k0_pay5]))
  · rw [after_B m c t ht _ rfl]
    exact st t _

theorem gain_last (k : Fin 2048) : (outsAt0 m c 31 last_lt).2.2.2.2.1 (ix2 (0 : Fin 1) k)
    = ((∑ r, err (row Y W X M r) G B (T r) k * (1 / 2048) * hat (row Y W X M r) k : ℝ) : EReal) := by
  have st := fun (t : Fin cfg0.N) a => Pays.gain_step _ _ _ _ _ _ _ _ (block1 m c h t) (block0 m c h t) (block4 m c h t) (block2 m c h t) _ _ _ _ (block5 m c h t) (block6 m c h t) _ _ (block3 m c h t) a k
  refine sums (fun n hn => (outsAt0 m c n hn).2.2.2.2.1 (ix2 (0 : Fin 1) k)) (fun r => err (row Y W X M r) G B (T r) k * (1 / 2048) * hat (row Y W X M r) k) (fun t ht => ?_) (fun t ht => ?_)
  · rw [after_A m c t ht]
    exact (st t _).trans (congrArg (· + _) (by pointwise [k0_pay6]))
  · rw [after_B m c t ht _ rfl]
    exact st t _

theorem shift_last (k : Fin 2048) : (outsAt0 m c 31 last_lt).2.2.2.2.2.1 (ix2 (0 : Fin 1) k)
    = ((∑ r, err (row Y W X M r) G B (T r) k * (1 / 2048) : ℝ) : EReal) := by
  have st := fun (t : Fin cfg0.N) a => Pays.shift_step _ _ _ _ _ _ _ _ (block1 m c h t) (block0 m c h t) (block4 m c h t) (block2 m c h t) _ _ _ _ (block5 m c h t) (block6 m c h t) _ _ (block3 m c h t) a k
  refine sums (fun n hn => (outsAt0 m c n hn).2.2.2.2.2.1 (ix2 (0 : Fin 1) k)) (fun r => err (row Y W X M r) G B (T r) k * (1 / 2048)) (fun t ht => ?_) (fun t ht => ?_)
  · rw [after_A m c t ht]
    exact (st t _).trans (congrArg (· + _) (by pointwise [k0_pay7]))
  · rw [after_B m c t ht _ rfl]
    exact st t _

theorem gate_last (k : Fin 2048) : (outsAt0 m c 31 last_lt).2.2.2.2.2.2 (ix2 (0 : Fin 1) k)
    = ((∑ r, grad (row Y W X M r) (derr (row Y W X M r) G B (T r)) k * ∑ l, Y r l * W l k : ℝ) : EReal) := by
  have st := fun (t : Fin cfg0.N) a => Pays.gate_step _ _ _ _ _ _ _ _ (block1 m c h t) (block0 m c h t) (block4 m c h t) (block2 m c h t) _ _ _ _ (block5 m c h t) (block6 m c h t) _ _ (block3 m c h t) a k
  refine sums (fun n hn => (outsAt0 m c n hn).2.2.2.2.2.2 (ix2 (0 : Fin 1) k)) (fun r => grad (row Y W X M r) (derr (row Y W X M r) G B (T r)) k * ∑ l, Y r l * W l k) (fun t ht => ?_) (fun t ht => ?_)
  · rw [after_A m c t ht]
    exact (st t _).trans (congrArg (· + _) (by pointwise [k0_pay8]))
  · rw [after_B m c t ht _ rfl]
    exact st t _

theorem resid_tile (t : Fin cfg0.N) (i : Fin 256) (k : Fin 2048) : (outsAt0 m c t.val t.isLt).1 (ix2 i k) = ((grad (row Y W X M (at_ t i)) (derr (row Y W X M (at_ t i)) G B (T (at_ t i))) k : ℝ) : EReal) := by
  by_cases ht : t.val % 32 = 0
  · rw [after_A m c t ht]; exact Pays.drow _ _ _ _ _ _ _ _ (block1 m c h t) (block0 m c h t) (block4 m c h t) (block2 m c h t) _ _ _ _ (block5 m c h t) (block6 m c h t) _ _ (block3 m c h t) i k
  · rw [after_B m c t ht _ rfl]; exact Pays.drow _ _ _ _ _ _ _ _ (block1 m c h t) (block0 m c h t) (block4 m c h t) (block2 m c h t) _ _ _ _ (block5 m c h t) (block6 m c h t) _ _ (block3 m c h t) i k

theorem product_tile (t : Fin cfg0.N) (i : Fin 256) (k : Fin 2048) : (outsAt0 m c t.val t.isLt).2.1 (ix2 i k) = ((grad (row Y W X M (at_ t i)) (derr (row Y W X M (at_ t i)) G B (T (at_ t i))) k * M k : ℝ) : EReal) := by
  by_cases ht : t.val % 32 = 0
  · rw [after_A m c t ht]; exact Pays.dproduct _ _ _ _ _ _ _ _ (block1 m c h t) (block0 m c h t) (block4 m c h t) (block2 m c h t) _ _ _ _ (block5 m c h t) (block6 m c h t) _ _ (block3 m c h t) i k
  · rw [after_B m c t ht _ rfl]; exact Pays.dproduct _ _ _ _ _ _ _ _ (block1 m c h t) (block0 m c h t) (block4 m c h t) (block2 m c h t) _ _ _ _ (block5 m c h t) (block6 m c h t) _ _ (block3 m c h t) i k

theorem input_tile (t : Fin cfg0.N) (i : Fin 256) (k : Fin 2048) : (outsAt0 m c t.val t.isLt).2.2.1 (ix2 i k) = ((∑ o, grad (row Y W X M (at_ t i)) (derr (row Y W X M (at_ t i)) G B (T (at_ t i))) o * M o * W k o : ℝ) : EReal) := by
  by_cases ht : t.val % 32 = 0
  · rw [after_A m c t ht]; exact Pays.dinput _ _ _ _ _ _ _ _ (block1 m c h t) (block0 m c h t) (block4 m c h t) (block2 m c h t) _ _ _ _ (block5 m c h t) (block6 m c h t) _ _ (block3 m c h t) i k
  · rw [after_B m c t ht _ rfl]; exact Pays.dinput _ _ _ _ _ _ _ _ (block1 m c h t) (block0 m c h t) (block4 m c h t) (block2 m c h t) _ _ _ _ (block5 m c h t) (block6 m c h t) _ _ (block3 m c h t) i k

end Cert.OutNormIdeal.Reals
-- ==== Proof.OutClaim.lean ====
module

public import proofs.«01_k».proof.Defs
public import proofs.«01_k».proof.Proof.OutValue
public import proofs.«01_k».proof.Proof.Gen.OutNorm.Frame
public import proofs.«01_k».proof.Proof.Gen.OutNormRefIdeal.Run
public import proofs.«01_k».proof.Proof.Gen.Pre_out_finite
public import Idealize.ShloMosaic.Adequacy
public import Idealize.ShloMosaic.Init

@[expose] public section

set_option maxRecDepth 16384

noncomputable section

/-! The claims about the output product, its residual, layer norm and loss. -/

namespace Cert.OutNormIdeal.Reals

open Cert.OutNormIdeal Cert.OutNormIdeal.Gen Cert.OutNormIdeal.Value Idealize.ShloMosaic Idealize.ShloMosaic.TcCoe Idealize.SL.Sem Cert.RealRow
open Cert.OutNormIdeal.Blocks Cert.Tiles

variable (m : (ℓ : Loc nD τ sig) → Buf (Elt Ideal) ℓ) (c : Dev nD)

/-- What each array of the precondition's arguments reads as over the reals. -/
abbrev Y (r : Fin 8192) (k : Fin 2048) : ℝ := (show FVec Ideal S8192x2048 .bf16 from m ((c : Thread nD τ).loc main_arg0)) (ix2 r k) |>.toReal
abbrev W (k o : Fin 2048) : ℝ := (show FVec Ideal S1x2048x2048 .f32 from m ((c : Thread nD τ).loc main_arg1)) (ix3 (0 : Fin 1) k o) |>.toReal
abbrev X (r : Fin 8192) (k : Fin 2048) : ℝ := (show FVec Ideal S8192x2048 .f32 from m ((c : Thread nD τ).loc main_arg2)) (ix2 r k) |>.toReal
abbrev T (r : Fin 8192) (k : Fin 2048) : ℝ := (show FVec Ideal S8192x2048 .f32 from m ((c : Thread nD τ).loc main_arg3)) (ix2 r k) |>.toReal
abbrev M (k : Fin 2048) : ℝ :=
  (show FVec Ideal S1x6144 .f32 from m ((c : Thread nD τ).loc main_arg4)) (ix2 (0 : Fin 1) (⟨4096 + k.val, by omega⟩ : Fin 6144)) |>.toReal
abbrev G (k : Fin 2048) : ℝ := (show FVec Ideal S1x2048 .f32 from m ((c : Thread nD τ).loc main_arg5)) (ix2 (0 : Fin 1) k) |>.toReal
abbrev B (k : Fin 2048) : ℝ := (show FVec Ideal S1x2048 .f32 from m ((c : Thread nD τ).loc main_arg6)) (ix2 (0 : Fin 1) k) |>.toReal

/-- The precondition says that the arguments are reals. -/
theorem args (hpre : Cert.Pre_OutNormIdeal_out_finite m) : Args m c (Y m c) (W m c) (X m c) (T m c) (M m c) (G m c) (B m c) := by
  obtain ⟨h0, h1, h2, h3, h4, h5, h6⟩ := hpre c
  constructor
  · intro r k
    have e := congrFun h0 (ix2 r k)
    refine real_of_abs_lt (Eq.trans ?_ e)
    symm
    pointwise [Cert.Pre_out_finite.fn, Cert.Pre_out_finite.fn_part1]
    rfl
  · exact fun k o => real_of_abs_lt (congrFun h1 (ix3 (0 : Fin 1) k o))
  · exact fun r k => real_of_abs_lt (congrFun h2 (ix2 r k))
  · exact fun r k => real_of_abs_lt (congrFun h3 (ix2 r k))
  · intro k
    have e := congrFun h4 (ix2 (0 : Fin 1) k)
    refine real_of_abs_lt (Eq.trans ?_ e)
    symm
    pointwise [Cert.Pre_out_finite.fn, Cert.Pre_out_finite.fn_part1]
    rfl
  · exact fun k => real_of_abs_lt (congrFun h5 (ix2 (0 : Fin 1) k))
  · exact fun k => real_of_abs_lt (congrFun h6 (ix2 (0 : Fin 1) k))

/-- The last tile's outputs. -/
theorem outs_last (t : Fin cfg0.N) (e : t.val = 31) : outsAt0 m c t.val t.isLt = outsAt0 m c 31 last_lt := by
  obtain ⟨n, hn⟩ := t
  cases e
  rfl

variable {Y : Fin 8192 → Fin 2048 → ℝ} {W : Fin 2048 → Fin 2048 → ℝ} {X T : Fin 8192 → Fin 2048 → ℝ} {M G B : Fin 2048 → ℝ}
  (h : Args m c Y W X T M G B)
include h

open Cert.OutNormRefIdeal.Read Cert.OutNormRefIdeal.Reals

theorem res7 : (dats m 0 c).arrAt 7 cfg0.N = val_main_v87 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, eq_ix2 y]
  refine (resid_tile m c h t _ _).trans (Eq.trans (v87 h (at_ t (y 0)) (y 1)).symm (congrArg _ ?_))
  blk_ext [idx t]

theorem res8 : (dats m 0 c).arrAt 8 cfg0.N = val_main_v96 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8, eq_ix2 y]
  refine (product_tile m c h t _ _).trans (Eq.trans (v96 h (at_ t (y 0)) (y 1)).symm (congrArg _ ?_))
  blk_ext [idx t]

theorem res9 : (dats m 0 c).arrAt 9 cfg0.N = val_main_v97 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9, eq_ix2 y]
  refine (input_tile m c h t _ _).trans (Eq.trans (v97 h (at_ t (y 0)) (y 1)).symm (congrArg _ ?_))
  blk_ext [idx t]

theorem res10 : (dats m 0 c).arrAt 10 cfg0.N = val_main_v98 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have e31 : t.val = 31 := by have := (flush0_10 t).mp hf; have := lt32 t; omega
  blk_simp
  rw [after0_10, eq_ix2 y, outs_last m c t e31]
  refine (loss_last m c h (y 0) (y 1)).trans (Eq.trans (v98 h (y 0) (y 1)).symm (congrArg _ ?_))
  blk_ext [idx t]

theorem res11 : (dats m 0 c).arrAt 11 cfg0.N = val_main_v89 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have e31 : t.val = 31 := by have := (flush0_11 t).mp hf; have := lt32 t; omega
  blk_simp
  have ey : y = ix2 (0 : Fin 1) (y 1) := (eq_ix2 y).trans (congrArg (fun a : Fin 1 => ix2 a (y 1)) (Subsingleton.elim _ _))
  rw [after0_11, ey, outs_last m c t e31]
  refine (gain_last m c h (y 1)).trans (Eq.trans (v89 h (y 1)).symm (congrArg _ ?_))
  blk_ext [idx t]

theorem res12 : (dats m 0 c).arrAt 12 cfg0.N = val_main_v88 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  have e31 : t.val = 31 := by have := (flush0_12 t).mp hf; have := lt32 t; omega
  blk_simp
  have ey : y = ix2 (0 : Fin 1) (y 1) := (eq_ix2 y).trans (congrArg (fun a : Fin 1 => ix2 a (y 1)) (Subsingleton.elim _ _))
  rw [after0_12, ey, outs_last m c t e31]
  refine (shift_last m c h (y 1)).trans (Eq.trans (v88 h (y 1)).symm (congrArg _ ?_))
  blk_ext [idx t]

theorem res13 : (dats m 0 c).arrAt 13 cfg0.N = val_main_v94 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  have e31 : t.val = 31 := by have := (flush0_13 t).mp hf; have := lt32 t; omega
  blk_simp
  have ey : y = ix2 (0 : Fin 1) (y 1) := (eq_ix2 y).trans (congrArg (fun a : Fin 1 => ix2 a (y 1)) (Subsingleton.elim _ _))
  rw [after0_13, ey, outs_last m c t e31]
  refine (gate_last m c h (y 1)).trans (Eq.trans (v94 h (y 1)).symm (congrArg _ ?_))
  blk_ext [idx t]

end Cert.OutNormIdeal.Reals

namespace Cert.Proof.Out

open Idealize.ShloMosaic Idealize.SL.Sem Cert.OutNormRefIdeal.Read Cert.OutNormIdeal.Reals

theorem frame_reference : Cert.quiescent_OutNormRefIdeal := fun m ρ _ =>
  (θ_run Cert.OutNormRefIdeal.defs _ _).mono (fun r h => ⟨fun c => (h c).2.2.2.2.2.2.2, sem_eq_zero_of_no_sems (by decide) r.2⟩)
    (Cert.OutNormRefIdeal.Value.run (F := Ideal) m ρ)

theorem algebraic : Cert.algebraic_OutNormIdeal_OutNormRefIdeal_pre_out_finite := by
  intro m ρ m' ρ' hpre hagree
  refine ⟨fun c => (Cert.OutNormIdeal.Gen.dats m 0 c).arrAt 7 Cert.OutNormIdeal.cfg0.N, fun c => (Cert.OutNormIdeal.Gen.dats m 0 c).arrAt 8 Cert.OutNormIdeal.cfg0.N, fun c => (Cert.OutNormIdeal.Gen.dats m 0 c).arrAt 9 Cert.OutNormIdeal.cfg0.N, fun c => (Cert.OutNormIdeal.Gen.dats m 0 c).arrAt 10 Cert.OutNormIdeal.cfg0.N, fun c => (Cert.OutNormIdeal.Gen.dats m 0 c).arrAt 11 Cert.OutNormIdeal.cfg0.N, fun c => (Cert.OutNormIdeal.Gen.dats m 0 c).arrAt 12 Cert.OutNormIdeal.cfg0.N, fun c => (Cert.OutNormIdeal.Gen.dats m 0 c).arrAt 13 Cert.OutNormIdeal.cfg0.N,
    Cert.OutNormIdeal.Value.run_blocks (F := Ideal) m ρ, ?_⟩
  refine (θ_run Cert.OutNormRefIdeal.defs _ _).mono (fun _ h c => ?_) (Cert.OutNormRefIdeal.Value.run (F := Ideal) m' ρ')
  obtain ⟨e0, e1, e2, e3, e4, e5, e6⟩ := hagree c
  have a := args m c hpre
  obtain ⟨s0, s1, s2, s3, s4, s5, s6, rest⟩ := h c
  refine ⟨s0.trans ?_, s1.trans ?_, s2.trans ?_, s3.trans ?_, s4.trans ?_, s5.trans ?_, s6.trans ?_, rest⟩
  · beta_reduce; rw [res7 m c a, ← e0, ← e1, ← e2, ← e3, ← e4, ← e5, ← e6]; exact val_main_v87_eq m' c
  · beta_reduce; rw [res8 m c a, ← e0, ← e1, ← e2, ← e3, ← e4, ← e5, ← e6]; exact val_main_v96_eq m' c
  · beta_reduce; rw [res9 m c a, ← e0, ← e1, ← e2, ← e3, ← e4, ← e5, ← e6]; exact val_main_v97_eq m' c
  · beta_reduce; rw [res10 m c a, ← e0, ← e1, ← e2, ← e3, ← e4, ← e5, ← e6]; exact val_main_v98_eq m' c
  · beta_reduce; rw [res11 m c a, ← e0, ← e1, ← e2, ← e3, ← e4, ← e5, ← e6]; exact val_main_v89_eq m' c
  · beta_reduce; rw [res12 m c a, ← e0, ← e1, ← e2, ← e3, ← e4, ← e5, ← e6]; exact val_main_v88_eq m' c
  · beta_reduce; rw [res13 m c a, ← e0, ← e1, ← e2, ← e3, ← e4, ← e5, ← e6]; exact val_main_v94_eq m' c

end Cert.Proof.Out

end
-- ==== Proof.AttnRun.lean ====
/- One point of the attention backward pass: what the body of the call leaves in each buffer, in its three cases.

   The grid has 65 points. Point 0 zeroes the running sums and computes block 0, points 1 to 63 compute their own block
   and hand over the one before, point 64 computes nothing and hands over block 63. Each run says what pieces a buffer
   ends with; the pieces are read in AttnStep.lean. -/
module

public import proofs.«01_k».proof.Proof.Gen.AttnIdeal.Frame
public import proofs.«01_k».proof.Proof.Gen.AttnIdeal.Skeleton

@[expose] public section

set_option maxRecDepth 16384

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- The point is the first. -/
abbrev isFirst (i : grid0.Coords) : Prop := k0_cond1 i = 1#1
/-- The point has a block of its own. -/
abbrev hasBlock (i : grid0.Coords) : Prop := k0_cond2 i = 1#1
/-- The point is the last, as the first of its two tests has it. -/
abbrev isLast (i : grid0.Coords) : Prop := (Scalar.cmpi .ne (Scalar.extui (Scalar.cmpi .eq (BitVec.ofNat 32 (i 0).val) 64#32)) 0#32) = 1#1
/-- The point is the last, as the second of its two tests has it. -/
abbrev isLast' (i : grid0.Coords) : Prop := k0_cond4 i = 1#1

theorem isFirst_iff : ∀ t : Fin cfg0.N, isFirst (grid0.coords t) ↔ t.val = 0 :=
  (by decide +kernel : ∀ t : Fin grid0.N, isFirst (grid0.coords t) ↔ t.val = 0)
theorem hasBlock_iff : ∀ t : Fin cfg0.N, hasBlock (grid0.coords t) ↔ t.val < 64 :=
  (by decide +kernel : ∀ t : Fin grid0.N, hasBlock (grid0.coords t) ↔ t.val < 64)
theorem isLast_iff : ∀ t : Fin cfg0.N, isLast (grid0.coords t) ↔ t.val = 64 :=
  (by decide +kernel : ∀ t : Fin grid0.N, isLast (grid0.coords t) ↔ t.val = 64)
theorem isLast'_iff : ∀ t : Fin cfg0.N, isLast' (grid0.coords t) ↔ t.val = 64 :=
  (by decide +kernel : ∀ t : Fin grid0.N, isLast' (grid0.coords t) ↔ t.val = 64)

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .bf16) (harg8 : arg8.IsWhole)
  (arg9 : Memref sig .tc .vmem S16x128x256 .f32) (harg9 : arg9.IsWhole)
  (arg10 : Memref sig .tc .smem S1x16 .f32) (harg10 : arg10.IsWhole)
  (arg11 : Memref sig .tc .vmem S128x1536 .bf16) (harg11 : arg11.IsWhole)
  (arg12 : Memref sig .tc .vmem S128x1024 .bf16) (harg12 : arg12.IsWhole)
  (arg13 : Memref sig .tc .vmem S16x128x256 .f32) (harg13 : arg13.IsWhole)
  (arg14 : Memref sig .tc .vmem S8x128 .f32) (harg14 : arg14.IsWhole)
  (arg15 : Memref sig .tc .vmem S128x1024 .bf16) (harg15 : arg15.IsWhole)
  (arg16 : Memref sig .tc .vmem S128x1024 .bf16) (harg16 : arg16.IsWhole)
  (arg17 : Memref sig .tc .vmem S128x256 .f32) (harg17 : arg17.IsWhole)
  (arg18 : Memref sig .tc .vmem S128x256 .f32) (harg18 : arg18.IsWhole)
  (arg19 : Memref sig .tc .vmem S256x256 .f32) (harg19 : arg19.IsWhole)
  (arg20 : Memref sig .tc .vmem S256x256 .f32) (harg20 : arg20.IsWhole)
  (arg21 : Memref sig .tc .vmem S4x512x1 .f32) (harg21 : arg21.IsWhole)
  (x1 : Vec F S128x1024 .bf16) (x2 : Vec F S128x256 .bf16) (x3 : Vec F S128x256 .bf16) (x4 : Vec F S128x256 .bf16) (x5 : Vec F S128x256 .bf16) (x6 : Vec F S128x1024 .f32) (x7 : Vec F S128x1024 .f32) (x8 : Vec F S128x1024 .bf16) (x9 : Vec F S16x128x256 .f32) (x10 : Vec F S1x16 .f32)

-- the run's term is long: what names its parts walks it once more
set_option maxHeartbeats 1600000 in
/-- The first point. -/
def runA (h1 : isFirst i) (h2 : hasBlock i) (h3 : ¬isLast i) (h4 : ¬isLast' i) :
    Σ' (L11 : List (View.Piece (Elt F) S128x1536 .bf16)),
    Σ' (L12 : List (View.Piece (Elt F) S128x1024 .bf16)),
    Σ' (L13 : List (View.Piece (Elt F) S16x128x256 .f32)),
    Σ' (L15 : List (View.Piece (Elt F) S128x1024 .bf16)),
    Σ' (L16 : List (View.Piece (Elt F) S128x1024 .bf16)),
    Σ' (L17 : List (View.Piece (Elt F) S128x256 .f32)),
    Σ' (L18 : List (View.Piece (Elt F) S128x256 .f32)),
    Σ' (L19 : List (View.Piece (Elt F) S256x256 .f32)),
    Σ' (L20 : List (View.Piece (Elt F) S256x256 .f32)),
    { L21 : List (View.Piece (Elt F) S4x512x1 .f32) //
      ∀ (x14 : Vec F S8x128 .f32) (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ d, owns (c : Thread nD τ) arg11 fullShare d)
          ∗ (∃ d, owns (c : Thread nD τ) arg12 fullShare d)
          ∗ (∃ d, owns (c : Thread nD τ) arg13 fullShare d)
          ∗ owns (c : Thread nD τ) arg14 fullShare x14
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ d, owns (c : Thread nD τ) arg21 fullShare d)
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ (∃ f, arg13.view.loc (c : Thread nD τ) ↦[arg13.view.set]{fullShare} arg13.view.writes (Elt F) f L13)
            ∗ owns (c : Thread nD τ) arg14 fullShare x14
            ∗ (∃ f, arg15.view.loc (c : Thread nD τ) ↦[arg15.view.set]{fullShare} arg15.view.writes (Elt F) f L15)
            ∗ (∃ f, arg16.view.loc (c : Thread nD τ) ↦[arg16.view.set]{fullShare} arg16.view.writes (Elt F) f L16)
            ∗ (∃ f, arg17.view.loc (c : Thread nD τ) ↦[arg17.view.set]{fullShare} arg17.view.writes (Elt F) f L17)
            ∗ (∃ f, arg18.view.loc (c : Thread nD τ) ↦[arg18.view.set]{fullShare} arg18.view.writes (Elt F) f L18)
            ∗ (∃ f, arg19.view.loc (c : Thread nD τ) ↦[arg19.view.set]{fullShare} arg19.view.writes (Elt F) f L19)
            ∗ (∃ f, arg20.view.loc (c : Thread nD τ) ↦[arg20.view.set]{fullShare} arg20.view.writes (Elt F) f L20)
            ∗ (∃ f, arg21.view.loc (c : Thread nD τ) ↦[arg21.view.set]{fullShare} arg21.view.writes (Elt F) f L21)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun x14 E K => ?run⟩
  case run =>
    simp only [cc0_attn_bwd_eq_skeleton]; unfold cc0_attn_bwd_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

-- the run's term is long: what names its parts walks it once more
set_option maxHeartbeats 1600000 in
/-- A point in between. -/
def runB (h1 : ¬isFirst i) (h2 : hasBlock i) (h3 : ¬isLast i) (h4 : ¬isLast' i)
    (x13 : Vec F S16x128x256 .f32) (x15 : Vec F S128x1024 .bf16) (x17 : Vec F S128x256 .f32) (x18 : Vec F S128x256 .f32) (x21 : Vec F S4x512x1 .f32) :
    Σ' (L11 : List (View.Piece (Elt F) S128x1536 .bf16)),
    Σ' (L12 : List (View.Piece (Elt F) S128x1024 .bf16)),
    Σ' (L13 : List (View.Piece (Elt F) S16x128x256 .f32)),
    Σ' (L15 : List (View.Piece (Elt F) S128x1024 .bf16)),
    Σ' (L16 : List (View.Piece (Elt F) S128x1024 .bf16)),
    Σ' (L17 : List (View.Piece (Elt F) S128x256 .f32)),
    Σ' (L18 : List (View.Piece (Elt F) S128x256 .f32)),
    Σ' (L19 : List (View.Piece (Elt F) S256x256 .f32)),
    Σ' (L20 : List (View.Piece (Elt F) S256x256 .f32)),
    { L21 : List (View.Piece (Elt F) S4x512x1 .f32) //
      ∀ (x14 : Vec F S8x128 .f32) (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ d, owns (c : Thread nD τ) arg11 fullShare d)
          ∗ (∃ d, owns (c : Thread nD τ) arg12 fullShare d)
          ∗ owns (c : Thread nD τ) arg13 fullShare x13
          ∗ owns (c : Thread nD τ) arg14 fullShare x14
          ∗ owns (c : Thread nD τ) arg15 fullShare x15
          ∗ (∃ d, owns (c : Thread nD τ) arg16 fullShare d)
          ∗ owns (c : Thread nD τ) arg17 fullShare x17
          ∗ owns (c : Thread nD τ) arg18 fullShare x18
          ∗ (∃ d, owns (c : Thread nD τ) arg19 fullShare d)
          ∗ (∃ d, owns (c : Thread nD τ) arg20 fullShare d)
          ∗ owns (c : Thread nD τ) arg21 fullShare x21
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ f, arg11.view.loc (c : Thread nD τ) ↦[arg11.view.set]{fullShare} arg11.view.writes (Elt F) f L11)
            ∗ (∃ f, arg12.view.loc (c : Thread nD τ) ↦[arg12.view.set]{fullShare} arg12.view.writes (Elt F) f L12)
            ∗ (∃ f, arg13.view.loc (c : Thread nD τ) ↦[arg13.view.set]{fullShare} arg13.view.writes (Elt F) f L13)
            ∗ owns (c : Thread nD τ) arg14 fullShare x14
            ∗ (∃ f, arg15.view.loc (c : Thread nD τ) ↦[arg15.view.set]{fullShare} arg15.view.writes (Elt F) f L15)
            ∗ (∃ f, arg16.view.loc (c : Thread nD τ) ↦[arg16.view.set]{fullShare} arg16.view.writes (Elt F) f L16)
            ∗ (∃ f, arg17.view.loc (c : Thread nD τ) ↦[arg17.view.set]{fullShare} arg17.view.writes (Elt F) f L17)
            ∗ (∃ f, arg18.view.loc (c : Thread nD τ) ↦[arg18.view.set]{fullShare} arg18.view.writes (Elt F) f L18)
            ∗ (∃ f, arg19.view.loc (c : Thread nD τ) ↦[arg19.view.set]{fullShare} arg19.view.writes (Elt F) f L19)
            ∗ (∃ f, arg20.view.loc (c : Thread nD τ) ↦[arg20.view.set]{fullShare} arg20.view.writes (Elt F) f L20)
            ∗ (∃ f, arg21.view.loc (c : Thread nD τ) ↦[arg21.view.set]{fullShare} arg21.view.writes (Elt F) f L21)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun x14 E K => ?run⟩
  case run =>
    simp only [cc0_attn_bwd_eq_skeleton]; unfold cc0_attn_bwd_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%d19, %f19, -, H19⟩, ⟨%d20, %f20, -, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg15.eq_unread hf15; obtain rfl := harg17.eq_unread hf17; obtain rfl := harg18.eq_unread hf18; obtain rfl := harg21.eq_unread hf21
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

-- the run's term is long: what names its parts walks it once more
set_option maxHeartbeats 1600000 in
/-- The last point. -/
def runC (h1 : ¬isFirst i) (h2 : ¬hasBlock i) (h3 : isLast i) (h4 : isLast' i)
    (x15 : Vec F S128x1024 .bf16) (x16 : Vec F S128x1024 .bf16) (x17 : Vec F S128x256 .f32) (x18 : Vec F S128x256 .f32) (x19 : Vec F S256x256 .f32) (x20 : Vec F S256x256 .f32) (x21 : Vec F S4x512x1 .f32) :
    Σ' (L11 : List (View.Piece (Elt F) S128x1536 .bf16)),
    Σ' (L14 : List (View.Piece (Elt F) S8x128 .f32)),
    Σ' (L15 : List (View.Piece (Elt F) S128x1024 .bf16)),
    Σ' (L17 : List (View.Piece (Elt F) S128x256 .f32)),
    Σ' (L18 : List (View.Piece (Elt F) S128x256 .f32)),
    Σ' (L19 : List (View.Piece (Elt F) S256x256 .f32)),
    { L20 : List (View.Piece (Elt F) S256x256 .f32) //
      ∀ (x12 : Vec F S128x1024 .bf16) (x13 : Vec F S16x128x256 .f32) (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ d, owns (c : Thread nD τ) arg11 fullShare d)
          ∗ owns (c : Thread nD τ) arg12 fullShare x12
          ∗ owns (c : Thread nD τ) arg13 fullShare x13
          ∗ (∃ d, owns (c : Thread nD τ) arg14 fullShare d)
          ∗ owns (c : Thread nD τ) arg15 fullShare x15
          ∗ owns (c : Thread nD τ) arg16 fullShare x16
          ∗ owns (c : Thread nD τ) arg17 fullShare x17
          ∗ owns (c : Thread nD τ) arg18 fullShare x18
          ∗ owns (c : Thread nD τ) arg19 fullShare x19
          ∗ owns (c : Thread nD τ) arg20 fullShare x20
          ∗ owns (c : Thread nD τ) arg21 fullShare x21
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ f, arg11.view.loc (c : Thread nD τ) ↦[arg11.view.set]{fullShare} arg11.view.writes (Elt F) f L11)
            ∗ owns (c : Thread nD τ) arg12 fullShare x12
            ∗ owns (c : Thread nD τ) arg13 fullShare x13
            ∗ (∃ f, arg14.view.loc (c : Thread nD τ) ↦[arg14.view.set]{fullShare} arg14.view.writes (Elt F) f L14)
            ∗ (∃ f, arg15.view.loc (c : Thread nD τ) ↦[arg15.view.set]{fullShare} arg15.view.writes (Elt F) f L15)
            ∗ owns (c : Thread nD τ) arg16 fullShare x16
            ∗ (∃ f, arg17.view.loc (c : Thread nD τ) ↦[arg17.view.set]{fullShare} arg17.view.writes (Elt F) f L17)
            ∗ (∃ f, arg18.view.loc (c : Thread nD τ) ↦[arg18.view.set]{fullShare} arg18.view.writes (Elt F) f L18)
            ∗ (arg19.view.loc (c : Thread nD τ) ↦[arg19.view.set]{fullShare} arg19.view.writes (Elt F) (harg19.unread x19) L19)
            ∗ (arg20.view.loc (c : Thread nD τ) ↦[arg20.view.set]{fullShare} arg20.view.writes (Elt F) (harg20.unread x20) L20)
            ∗ owns (c : Thread nD τ) arg21 fullShare x21) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun x12 x13 E K => ?run⟩
  case run =>
    simp only [cc0_attn_bwd_eq_skeleton]; unfold cc0_attn_bwd_skel
    simp only [k0_part27_eq_skeleton, k0_part24_eq_skeleton, k0_part25_eq_skeleton, k0_part26_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | sl_exact h1 | sl_exact h2 | sl_exact h3 | sl_exact h4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; · ipureintro; exact harg16.read_unread _
      iexact H16
    isplitl [H17]; · iexists _; iexact H17
    isplitl [H18]; · iexists _; iexact H18
    isplitl [H19]; · iexact H19
    isplitl [H20]; · iexact H20
    iexists _; isplitr; · ipureintro; exact harg21.read_unread _
    iexact H21

end Cert.AttnIdeal.Point

end
-- ==== Proof.AttnRel.lean ====
/- The attention backward pass, point by point, with what its buffers hold known only as far as a predicate per buffer says.

   `Good` is what each output block and each scratch buffer is to satisfy, `Steps` that every point keeps it; the launch then ends
   with every block written back satisfying it. With predicates that hold of everything this is the frame. -/
module

public import proofs.«01_k».proof.Proof.AttnRun
public import Idealize.ShloMosaic.Lib.Claim
public import Idealize.ShloMosaic.Lib.Pipeline.DatRel
public import Idealize.ShloMosaic.Lib.Pipeline.ArrRel

@[expose] public section

set_option maxRecDepth 16384

noncomputable section

namespace Cert.AttnIdeal.Point

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- What each output block holds after a point, and each scratch buffer at the start of one. -/
structure Good (F : FTy → Type) where
  dqkv : ℕ → Vec F S128x1536 .bf16 → Prop
  dg : ℕ → Vec F S128x1024 .bf16 → Prop
  dbias : ℕ → Vec F S16x128x256 .f32 → Prop
  dsink : Vec F S8x128 .f32 → Prop
  s15 : ℕ → Vec F S128x1024 .bf16 → Prop
  s16 : ℕ → Vec F S128x1024 .bf16 → Prop
  s17 : ℕ → Vec F S128x256 .f32 → Prop
  s18 : ℕ → Vec F S128x256 .f32 → Prop
  s19 : ℕ → Vec F S256x256 .f32 → Prop
  s20 : ℕ → Vec F S256x256 .f32 → Prop
  s21 : ℕ → Vec F S4x512x1 .f32 → Prop

/-- Nothing is asked of any buffer. -/
def Good.any : Good F where
  dqkv _ _ := True
  dg _ _ := True
  dbias _ _ := True
  dsink _ := True
  s15 _ _ := True
  s16 _ _ := True
  s17 _ _ := True
  s18 _ _ := True
  s19 _ _ := True
  s20 _ _ := True
  s21 _ _ := True

/-- The pieces `L` written over anything leave contents that satisfy `P`. -/
def Leave {sp : Space} {s : Shape} {e : EltTy} (v : View sig .tc sp s e) (L : List (View.Piece (Elt F) s e)) (P : Vec F s e → Prop) : Prop :=
  ∀ f, P (v.read (Elt F) (v.writes (Elt F) f L))

theorem owns_of_leave (c : Dev nD) {sp : Space} {s : Shape} {e : EltTy} (a : Memref sig .tc sp s e) (L : List (View.Piece (Elt F) s e)) {P : Vec F s e → Prop}
    (h : Leave a.view L P) :
    (iprop(∃ f, a.view.loc (c : Thread nD τ) ↦[a.view.set]{fullShare} a.view.writes (Elt F) f L) : sProp 𝕄)
      ⊢ iprop(∃ X, ⌜P X⌝ ∗ owns (c : Thread nD τ) a fullShare X) := by
  iintro ⟨%f, H⟩; iexists (a.view.read (Elt F) (a.view.writes (Elt F) f L)); isplitr
  · ipureintro; exact h f
  unfold owns; iexists _; isplitr
  swap; · iexact H
  ipureintro; rfl

theorem owns_some (c : Dev nD) {sp : Space} {s : Shape} {e : EltTy} (a : Memref sig .tc sp s e) (P : Vec F s e → Prop) :
    (iprop(∃ X, ⌜P X⌝ ∗ owns (c : Thread nD τ) a fullShare X) : sProp 𝕄) ⊢ iprop(∃ d, owns (c : Thread nD τ) a fullShare d) := by
  iintro ⟨%X, -, H⟩; iexists X; iexact H

/-! ## The buffers of a point -/

abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x16 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1536 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x128x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev scM0_0 : Memref sig .tc .vmem S128x1024 .bf16 := Memref.whole cc0_scratch0
abbrev scM0_1 : Memref sig .tc .vmem S128x1024 .bf16 := Memref.whole cc0_scratch1
abbrev scM0_2 : Memref sig .tc .vmem S128x256 .f32 := Memref.whole cc0_scratch2
abbrev scM0_3 : Memref sig .tc .vmem S128x256 .f32 := Memref.whole cc0_scratch3
abbrev scM0_4 : Memref sig .tc .vmem S256x256 .f32 := Memref.whole cc0_scratch4
abbrev scM0_5 : Memref sig .tc .vmem S256x256 .f32 := Memref.whole cc0_scratch5
abbrev scM0_6 : Memref sig .tc .vmem S4x512x1 .f32 := Memref.whole cc0_scratch6

theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The scratch buffers at the start of point `n`. -/
def scratch (G : Good F) (c : Dev nD) (n : ℕ) : sProp 𝕄 :=
  iprop(((∃ x, ⌜G.s15 n x⌝ ∗ owns (c : Thread nD τ) scM0_0 fullShare x) ∗ (∃ x, ⌜G.s16 n x⌝ ∗ owns (c : Thread nD τ) scM0_1 fullShare x) ∗ (∃ x, ⌜G.s17 n x⌝ ∗ owns (c : Thread nD τ) scM0_2 fullShare x) ∗ (∃ x, ⌜G.s18 n x⌝ ∗ owns (c : Thread nD τ) scM0_3 fullShare x) ∗ (∃ x, ⌜G.s19 n x⌝ ∗ owns (c : Thread nD τ) scM0_4 fullShare x) ∗ (∃ x, ⌜G.s20 n x⌝ ∗ owns (c : Thread nD τ) scM0_5 fullShare x) ∗ (∃ x, ⌜G.s21 n x⌝ ∗ owns (c : Thread nD τ) scM0_6 fullShare x)) ∗ (∃ r, prngReg c r))

/-- Before the first point and after the last, anything. -/
def Phi (G : Good F) (c : Dev nD) (n : ℕ) : sProp 𝕄 := if n = 0 ∨ n = 65 then Pipeline.ΦA spec0 c else scratch G c n

variable (m : (ℓ : Loc nD τ sig) → Buf (Elt F) ℓ) (ρ : Dev nD → PrngReg)

/-- The run of the first point, at its buffers, -/
abbrev atA (c : Dev nD) (t : Fin cfg0.N) (h : t.val = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0_0 m c t) (iblk m c 1 t) (iblk m c 2 t) (iblk m c 3 t) (iblk m c 4 t) (iblk m c 5 t) (iblk m c 6 t) (iblk m c 7 t) (iblk m c 8 t) (iblk m c 9 t)
    ((isFirst_iff t).mpr h) ((hasBlock_iff t).mpr (by omega)) (fun h' => by have := (isLast_iff t).mp h'; omega) (fun h' => by have := (isLast'_iff t).mp h'; omega)
/-- of a point between, -/
abbrev atB (c : Dev nD) (t : Fin cfg0.N) (h0 : t.val ≠ 0) (h1 : t.val < 64) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0_0 m c t) (iblk m c 1 t) (iblk m c 2 t) (iblk m c 3 t) (iblk m c 4 t) (iblk m c 5 t) (iblk m c 6 t) (iblk m c 7 t) (iblk m c 8 t) (iblk m c 9 t)
    (fun h => h0 ((isFirst_iff t).mp h)) ((hasBlock_iff t).mpr h1) (fun h' => by have := (isLast_iff t).mp h'; omega) (fun h' => by have := (isLast'_iff t).mp h'; omega)
/-- and of the last. -/
abbrev atC (c : Dev nD) (t : Fin cfg0.N) (h : t.val = 64) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (X0_0 m c t) (iblk m c 1 t) (iblk m c 2 t) (iblk m c 3 t) (iblk m c 4 t) (iblk m c 5 t) (iblk m c 6 t) (iblk m c 7 t) (iblk m c 8 t) (iblk m c 9 t)
    (fun h' => by have := (isFirst_iff t).mp h'; omega) (fun h' => by have := (hasBlock_iff t).mp h'; omega) ((isLast_iff t).mpr h) ((isLast'_iff t).mpr h)

/-- Every point keeps `G`. -/
structure Steps (G : Good F) (c : Dev nD) : Prop where
  first : ∀ (t : Fin cfg0.N) (h : t.val = 0),
    Leave (ms0_11 t).view (atA m c t h).2.1 (G.dg 0)
    ∧ Leave (ms0_12 t).view (atA m c t h).2.2.1 (G.dbias 0)
    ∧ Leave (scM0_0).view (atA m c t h).2.2.2.1 (G.s15 1)
    ∧ Leave (scM0_1).view (atA m c t h).2.2.2.2.1 (G.s16 1)
    ∧ Leave (scM0_2).view (atA m c t h).2.2.2.2.2.1 (G.s17 1)
    ∧ Leave (scM0_3).view (atA m c t h).2.2.2.2.2.2.1 (G.s18 1)
    ∧ Leave (scM0_4).view (atA m c t h).2.2.2.2.2.2.2.1 (G.s19 1)
    ∧ Leave (scM0_5).view (atA m c t h).2.2.2.2.2.2.2.2.1 (G.s20 1)
    ∧ Leave (scM0_6).view (atA m c t h).2.2.2.2.2.2.2.2.2.1 (G.s21 1)
  between : ∀ (t : Fin cfg0.N) (h0 : t.val ≠ 0) (h1 : t.val < 64) x13 x15 x17 x18 x21, G.dbias (t.val - 1) x13 → G.s15 t.val x15 → G.s17 t.val x17 → G.s18 t.val x18 → G.s21 t.val x21 →
    Leave (ms0_10 t).view (atB m c t h0 h1 x13 x15 x17 x18 x21).1 (G.dqkv t.val)
    ∧ Leave (ms0_11 t).view (atB m c t h0 h1 x13 x15 x17 x18 x21).2.1 (G.dg t.val)
    ∧ Leave (ms0_12 t).view (atB m c t h0 h1 x13 x15 x17 x18 x21).2.2.1 (G.dbias t.val)
    ∧ Leave (scM0_0).view (atB m c t h0 h1 x13 x15 x17 x18 x21).2.2.2.1 (G.s15 (t.val + 1))
    ∧ Leave (scM0_1).view (atB m c t h0 h1 x13 x15 x17 x18 x21).2.2.2.2.1 (G.s16 (t.val + 1))
    ∧ Leave (scM0_2).view (atB m c t h0 h1 x13 x15 x17 x18 x21).2.2.2.2.2.1 (G.s17 (t.val + 1))
    ∧ Leave (scM0_3).view (atB m c t h0 h1 x13 x15 x17 x18 x21).2.2.2.2.2.2.1 (G.s18 (t.val + 1))
    ∧ Leave (scM0_4).view (atB m c t h0 h1 x13 x15 x17 x18 x21).2.2.2.2.2.2.2.1 (G.s19 (t.val + 1))
    ∧ Leave (scM0_5).view (atB m c t h0 h1 x13 x15 x17 x18 x21).2.2.2.2.2.2.2.2.1 (G.s20 (t.val + 1))
    ∧ Leave (scM0_6).view (atB m c t h0 h1 x13 x15 x17 x18 x21).2.2.2.2.2.2.2.2.2.1 (G.s21 (t.val + 1))
  last : ∀ (t : Fin cfg0.N) (h : t.val = 64) x15 x16 x17 x18 x19 x20 x21, G.s15 64 x15 → G.s16 64 x16 → G.s17 64 x17 → G.s18 64 x18 → G.s19 64 x19 → G.s20 64 x20 → G.s21 64 x21 →
    Leave (ms0_10 t).view (atC m c t h x15 x16 x17 x18 x19 x20 x21).1 (G.dqkv 64)
    ∧ Leave (ms0_13 t).view (atC m c t h x15 x16 x17 x18 x19 x20 x21).2.1 G.dsink

/-- With nothing asked there is nothing to keep. -/
theorem steps_any (c : Dev nD) : Steps m (Good.any (F := F)) c where
  first _ _ := ⟨fun _ => trivial, fun _ => trivial, fun _ => trivial, fun _ => trivial, fun _ => trivial, fun _ => trivial, fun _ => trivial, fun _ => trivial, fun _ => trivial⟩
  between _ _ _ _ _ _ _ _ _ _ _ _ _ := ⟨fun _ => trivial, fun _ => trivial, fun _ => trivial, fun _ => trivial, fun _ => trivial, fun _ => trivial, fun _ => trivial, fun _ => trivial, fun _ => trivial, fun _ => trivial⟩
  last _ _ _ _ _ _ _ _ _ _ _ _ _ _ _ _ := ⟨fun _ => trivial, fun _ => trivial⟩

/-! ## The relational data -/

/-- The outputs are the windows held to a predicate. -/
def marked : Fin 14 → Bool := fun | 0 => false | 1 => false | 2 => false | 3 => false | 4 => false | 5 => false | 6 => false | 7 => false | 8 => false | 9 => false | 10 => true | 11 => true | 12 => true | 13 => true | ⟨_ + 14, h⟩ => absurd h (Nat.not_lt.2 (Nat.le_add_left _ _))

/-- What a point leaves in an output's block. -/
def leftIn (G : Good F) (w : Fin cfg0.W) (t : Fin cfg0.N) : ((cfg0.win w).block.Idx → Elt F (cfg0.win w).elt) → Prop :=
  match w with
  | ⟨10, _⟩ => fun X => t.val ≠ 0 → G.dqkv t.val X
  | ⟨11, _⟩ => fun X => G.dg (min t.val 63) X
  | ⟨12, _⟩ => fun X => G.dbias (min t.val 63) X
  | ⟨13, _⟩ => fun X => t.val = 64 → G.dsink X
  | _ => fun _ => True

def dat (G : Good F) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.choice inferInstance
    | ⟨11, _⟩ => fun _ => Classical.choice inferInstance
    | ⟨12, _⟩ => fun _ => Classical.choice inferInstance
    | ⟨13, _⟩ => fun _ => Classical.choice inferInstance
  Φ t := Phi G c t.val
  q w := Pipeline.shareOf spec0 w
  owed _ := 0

theorem Phi_at (G : Good F) (c : Dev nD) (t : Fin (cfg0.N + 1)) : (dat m G c).Φ t = Phi G c t.val := by dsimp only [dat]
theorem Phi_out (G : Good F) (c : Dev nD) {n : ℕ} (h : n = 0 ∨ n = 65) : Phi G c n = (Pipeline.ΦA spec0 c : sProp 𝕄) := if_pos h
theorem Phi_in (G : Good F) (c : Dev nD) {n : ℕ} (h : ¬(n = 0 ∨ n = 65)) : Phi G c n = (scratch G c n : sProp 𝕄) := if_neg h

theorem Phi_one (G : Good F) (c : Dev nD) (t : Fin cfg0.N) (h : t.val = 0) : Phi G c t.succ.val = (scratch G c 1 : sProp 𝕄) := by
  rw [Fin.val_succ, h]; exact Phi_in G c (by omega)

theorem A_eq (G : Good F) (c : Dev nD) (w : Fin cfg0.W) : (dat m G c).A w = V m c (Pipeline.arrRef spec0 w) := by dsimp only [dat]

theorem before0_0 (G : Good F) (c : Dev nD) (t : Fin cfg0.N) (d) : (dat m G c).before 0 t d = X0_0 m c t :=
  before0_0_of m (dat m G c) (A_eq m G c 0) (fun t => by dsimp only [dat]) t d
theorem before0_1 (G : Good F) (c : Dev nD) (t : Fin cfg0.N) (d) : (dat m G c).before 1 t d = iblk m c 1 t :=
  before0_1_of m (dat m G c) (A_eq m G c 1) (fun t => by dsimp only [dat]) t d
theorem before0_2 (G : Good F) (c : Dev nD) (t : Fin cfg0.N) (d) : (dat m G c).before 2 t d = iblk m c 2 t :=
  before0_2_of m (dat m G c) (A_eq m G c 2) (fun t => by dsimp only [dat]) t d
theorem before0_3 (G : Good F) (c : Dev nD) (t : Fin cfg0.N) (d) : (dat m G c).before 3 t d = iblk m c 3 t :=
  before0_3_of m (dat m G c) (A_eq m G c 3) (fun t => by dsimp only [dat]) t d
theorem before0_4 (G : Good F) (c : Dev nD) (t : Fin cfg0.N) (d) : (dat m G c).before 4 t d = iblk m c 4 t :=
  before0_4_of m (dat m G c) (A_eq m G c 4) (fun t => by dsimp only [dat]) t d
theorem before0_5 (G : Good F) (c : Dev nD) (t : Fin cfg0.N) (d) : (dat m G c).before 5 t d = iblk m c 5 t :=
  before0_5_of m (dat m G c) (A_eq m G c 5) (fun t => by dsimp only [dat]) t d
theorem before0_6 (G : Good F) (c : Dev nD) (t : Fin cfg0.N) (d) : (dat m G c).before 6 t d = iblk m c 6 t :=
  before0_6_of m (dat m G c) (A_eq m G c 6) (fun t => by dsimp only [dat]) t d
theorem before0_7 (G : Good F) (c : Dev nD) (t : Fin cfg0.N) (d) : (dat m G c).before 7 t d = iblk m c 7 t :=
  before0_7_of m (dat m G c) (A_eq m G c 7) (fun t => by dsimp only [dat]) t d
theorem before0_8 (G : Good F) (c : Dev nD) (t : Fin cfg0.N) (d) : (dat m G c).before 8 t d = iblk m c 8 t :=
  before0_8_of m (dat m G c) (A_eq m G c 8) (fun t => by dsimp only [dat]) t d
theorem before0_9 (G : Good F) (c : Dev nD) (t : Fin cfg0.N) (d) : (dat m G c).before 9 t d = iblk m c 9 t :=
  before0_9_of m (dat m G c) (A_eq m G c 9) (fun t => by dsimp only [dat]) t d

theorem refill (c : Dev nD) (t : Fin cfg0.N) :
    (cfg0.win 0).fill (cfg0.grid.coords t) (X0_0 m c t) ((cfg0.win 0).cut (cfg0.grid.coords t) (X0_0 m c t)) = X0_0 m c t := by
  conv_lhs => arg 4; unfold X0_0
  rw [Pipeline.Window.cut_fill, fill0_0 t (X0_0 m c t) dflt0_0]; rfl

def bodyPre (G : Good F) (c : Dev nD) (t : Fin cfg0.N) : sProp 𝕄 :=
  iprop((dat m G c).Φ t.castSucc ∗ (dat m G c).owesAt () t.castSucc
    ∗ (∃ d, owns (c : Thread nD τ) (ms0_0 t) fullShare ((dat m G c).before 0 t d))
    ∗ (∃ d, owns (c : Thread nD τ) (ms0_1 t) fullShare ((dat m G c).before 1 t d))
    ∗ (∃ d, owns (c : Thread nD τ) (ms0_2 t) fullShare ((dat m G c).before 2 t d))
    ∗ (∃ d, owns (c : Thread nD τ) (ms0_3 t) fullShare ((dat m G c).before 3 t d))
    ∗ (∃ d, owns (c : Thread nD τ) (ms0_4 t) fullShare ((dat m G c).before 4 t d))
    ∗ (∃ d, owns (c : Thread nD τ) (ms0_5 t) fullShare ((dat m G c).before 5 t d))
    ∗ (∃ d, owns (c : Thread nD τ) (ms0_6 t) fullShare ((dat m G c).before 6 t d))
    ∗ (∃ d, owns (c : Thread nD τ) (ms0_7 t) fullShare ((dat m G c).before 7 t d))
    ∗ (∃ d, owns (c : Thread nD τ) (ms0_8 t) fullShare ((dat m G c).before 8 t d))
    ∗ (∃ d, owns (c : Thread nD τ) (ms0_9 t) fullShare ((dat m G c).before 9 t d))
    ∗ (∃ Y, ⌜((dat m G c).toRRel marked (leftIn G)).Finds 10 t Y⌝ ∗ owns (c : Thread nD τ) (ms0_10 t) fullShare Y)
    ∗ (∃ Y, ⌜((dat m G c).toRRel marked (leftIn G)).Finds 11 t Y⌝ ∗ owns (c : Thread nD τ) (ms0_11 t) fullShare Y)
    ∗ (∃ Y, ⌜((dat m G c).toRRel marked (leftIn G)).Finds 12 t Y⌝ ∗ owns (c : Thread nD τ) (ms0_12 t) fullShare Y)
    ∗ (∃ Y, ⌜((dat m G c).toRRel marked (leftIn G)).Finds 13 t Y⌝ ∗ owns (c : Thread nD τ) (ms0_13 t) fullShare Y))

def bodyPost (G : Good F) (c : Dev nD) (t : Fin cfg0.N) : sProp 𝕄 :=
  iprop((dat m G c).Φ t.succ ∗ (dat m G c).owesAt () t.succ
    ∗ (∃ d, owns (c : Thread nD τ) (ms0_0 t) fullShare ((cfg0.win 0).fill (cfg0.grid.coords t) d ((cfg0.win 0).cut (cfg0.grid.coords t) (X0_0 m c t))))
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ (∃ X, ⌜leftIn G 10 t X⌝ ∗ owns (c : Thread nD τ) (ms0_10 t) fullShare X)
    ∗ (∃ X, ⌜leftIn G 11 t X⌝ ∗ owns (c : Thread nD τ) (ms0_11 t) fullShare X)
    ∗ (∃ X, ⌜leftIn G 12 t X⌝ ∗ owns (c : Thread nD τ) (ms0_12 t) fullShare X)
    ∗ (∃ X, ⌜leftIn G 13 t X⌝ ∗ owns (c : Thread nD τ) (ms0_13 t) fullShare X))

theorem noFlush0_11 : ∀ t : Fin cfg0.N, t.val = 63 → (cfg0.win 11).flush t = false :=
  (by decide +kernel : ∀ t : Fin grid0.N, t.val = 63 → win0_11.flush t = false)
theorem noFlush0_12 (t : Fin cfg0.N) (h : t.val < 64) : (cfg0.win 12).flush t = false :=
  Bool.eq_false_iff.mpr fun hf => by have := (flush0_12 t).mp hf; omega

/-- A block not written back at the point before holds what that point left. -/
theorem left_of_finds {G : Good F} {c : Dev nD} {w : Fin cfg0.W} (hw : marked w = true) (hf : ∀ t, (cfg0.win w).fetch t = false) {t : Fin cfg0.N} (h0 : t.val ≠ 0)
    (hfl : ∀ h, (cfg0.win w).flush ⟨t.val - 1, h⟩ = false) {Y} (hY : ((dat m G c).toRRel marked (leftIn G)).Finds w t Y) :
    leftIn G w ⟨t.val - 1, by omega⟩ Y := by
  rcases (((dat m G c).toRRel marked (leftIn G)).finds_of_pos (hf t) h0 Y).mp hY with h | h
  · rw [hfl _] at h; exact absurd h (by decide)
  · exact (dat m G c).toRRel_leaves hw h

set_option maxHeartbeats 3200000 in
theorem sound_first (G : Good F) (c : Dev nD) (st : Steps m G c) (t : Fin cfg0.N) (h : t.val = 0) :
    bodyPre m G c t ⊢ wp frame (wpE (defs₀ (F := F)) Variants.none c none) Set.univ (bodyAt0 t) (fun _ => bodyPost m G c t) := by
  unfold bodyPre bodyPost bodyAt0
  simp only [before0_0, before0_1, before0_2, before0_3, before0_4, before0_5, before0_6, before0_7, before0_8, before0_9]
  rw [show (dat m G c).owesAt () t.succ = (dat m G c).owesAt () t.castSucc from rfl]
  rw [Phi_at, Phi_at, show Phi G c t.castSucc.val = _ from Phi_out G c (Or.inl h), Phi_one G c t h]
  rw [PhiA0_eq]; unfold scratch
  iintro ⟨⟨⟨S15, S16, S17, S18, S19, S20, S21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %F10, H10⟩, ⟨%Y11, %F11, H11⟩, ⟨%Y12, %F12, H12⟩, ⟨%Y13, %F13, H13⟩⟩
  obtain ⟨p11, p12, p15, p16, p17, p18, p19, p20, p21⟩ := st.first t h
  iapply ((atA m c t h).2.2.2.2.2.2.2.2.2.2 Y13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [S15]; · iexact S15
  isplitl [S16]; · iexact S16
  isplitl [S17]; · iexact S17
  isplitl [S18]; · iexact S18
  isplitl [S19]; · iexact S19
  isplitl [S20]; · iexact S20
  isplitl [S21]; · iexact S21
  iintro ⟨H0, H1, H2, H3, H4, H5, H6, H7, H8, H9, H10, H11, H12, H13, S15, S16, S17, S18, S19, S20, S21⟩
  isplitl [S15 S16 S17 S18 S19 S20 S21 Hg]
  · isplitl [S15 S16 S17 S18 S19 S20 S21]
    · isplitl [S15]
      · iapply (owns_of_leave c scM0_0 _ p15); iexact S15
      isplitl [S16]
      · iapply (owns_of_leave c scM0_1 _ p16); iexact S16
      isplitl [S17]
      · iapply (owns_of_leave c scM0_2 _ p17); iexact S17
      isplitl [S18]
      · iapply (owns_of_leave c scM0_3 _ p18); iexact S18
      isplitl [S19]
      · iapply (owns_of_leave c scM0_4 _ p19); iexact S19
      isplitl [S20]
      · iapply (owns_of_leave c scM0_5 _ p20); iexact S20
      iapply (owns_of_leave c scM0_6 _ p21); iexact S21
    iexact Hg
  isplitl [Ho]; · iexact Ho
  isplitl [H0]; · iexists (X0_0 m c t); rw [refill m c t]; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (owns_of_leave c (ms0_10 t) _ (show Leave _ _ (leftIn G 10 t) from fun _ h' => absurd h h')); iexact H10
  isplitl [H11]
  · iapply (owns_of_leave c (ms0_11 t) _ (show Leave _ _ (fun X => G.dg (min t.val 63) X) by rw [h]; exact p11)); iexact H11
  isplitl [H12]
  · iapply (owns_of_leave c (ms0_12 t) _ (show Leave _ _ (fun X => G.dbias (min t.val 63) X) by rw [h]; exact p12)); iexact H12
  iexists _; isplitr; swap; · iexact H13
  ipureintro; exact fun h' => by omega

set_option maxHeartbeats 3200000 in
theorem sound_between (G : Good F) (c : Dev nD) (st : Steps m G c) (t : Fin cfg0.N) (h0 : t.val ≠ 0) (h1 : t.val < 64) :
    bodyPre m G c t ⊢ wp frame (wpE (defs₀ (F := F)) Variants.none c none) Set.univ (bodyAt0 t) (fun _ => bodyPost m G c t) := by
  unfold bodyPre bodyPost bodyAt0
  simp only [before0_0, before0_1, before0_2, before0_3, before0_4, before0_5, before0_6, before0_7, before0_8, before0_9]
  rw [show (dat m G c).owesAt () t.succ = (dat m G c).owesAt () t.castSucc from rfl]
  rw [Phi_at, Phi_at, show Phi G c t.castSucc.val = scratch G c t.val from Phi_in G c (show ¬(t.val = 0 ∨ t.val = 65) by omega), show Phi G c t.succ.val = scratch G c (t.val + 1) from Phi_in G c (show ¬(t.val + 1 = 0 ∨ t.val + 1 = 65) by omega)]
  unfold scratch
  iintro ⟨⟨⟨⟨%x15, %g15, S15⟩, ⟨%x16, %g16, S16⟩, ⟨%x17, %g17, S17⟩, ⟨%x18, %g18, S18⟩, ⟨%x19, %g19, S19⟩, ⟨%x20, %g20, S20⟩, ⟨%x21, %g21, S21⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %F10, H10⟩, ⟨%Y11, %F11, H11⟩, ⟨%Y12, %F12, H12⟩, ⟨%Y13, %F13, H13⟩⟩
  have g13 : G.dbias (t.val - 1) Y12 := by
    have : G.dbias (min (t.val - 1) 63) Y12 := left_of_finds m (w := 12) rfl (fun _ => rfl) h0 (fun _ => noFlush0_12 _ (show t.val - 1 < 64 by omega)) F12
    rwa [Nat.min_eq_left (show t.val - 1 ≤ 63 by omega)] at this
  obtain ⟨p10, p11, p12, p15, p16, p17, p18, p19, p20, p21⟩ := st.between t h0 h1 Y12 x15 x17 x18 x21 g13 g15 g17 g18 g21
  iapply ((atB m c t h0 h1 Y12 x15 x17 x18 x21).2.2.2.2.2.2.2.2.2.2 Y13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [S15]; · iexact S15
  isplitl [S16]; · iexists _; iexact S16
  isplitl [S17]; · iexact S17
  isplitl [S18]; · iexact S18
  isplitl [S19]; · iexists _; iexact S19
  isplitl [S20]; · iexists _; iexact S20
  isplitl [S21]; · iexact S21
  iintro ⟨H0, H1, H2, H3, H4, H5, H6, H7, H8, H9, H10, H11, H12, H13, S15, S16, S17, S18, S19, S20, S21⟩
  isplitl [S15 S16 S17 S18 S19 S20 S21 Hg]
  · isplitl [S15 S16 S17 S18 S19 S20 S21]
    · isplitl [S15]
      · iapply (owns_of_leave c scM0_0 _ p15); iexact S15
      isplitl [S16]
      · iapply (owns_of_leave c scM0_1 _ p16); iexact S16
      isplitl [S17]
      · iapply (owns_of_leave c scM0_2 _ p17); iexact S17
      isplitl [S18]
      · iapply (owns_of_leave c scM0_3 _ p18); iexact S18
      isplitl [S19]
      · iapply (owns_of_leave c scM0_4 _ p19); iexact S19
      isplitl [S20]
      · iapply (owns_of_leave c scM0_5 _ p20); iexact S20
      iapply (owns_of_leave c scM0_6 _ p21); iexact S21
    iexact Hg
  isplitl [Ho]; · iexact Ho
  isplitl [H0]; · iexists (X0_0 m c t); rw [refill m c t]; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (owns_of_leave c (ms0_10 t) _ (show Leave _ _ (leftIn G 10 t) from fun f _ => p10 f)); iexact H10
  isplitl [H11]
  · iapply (owns_of_leave c (ms0_11 t) _ (show Leave _ _ (fun X => G.dg (min t.val 63) X) by rw [Nat.min_eq_left (show t.val ≤ 63 by omega)]; exact p11)); iexact H11
  isplitl [H12]
  · iapply (owns_of_leave c (ms0_12 t) _ (show Leave _ _ (fun X => G.dbias (min t.val 63) X) by rw [Nat.min_eq_left (show t.val ≤ 63 by omega)]; exact p12)); iexact H12
  iexists _; isplitr; swap; · iexact H13
  ipureintro; exact fun h' => by omega

set_option maxHeartbeats 3200000 in
theorem sound_last (G : Good F) (c : Dev nD) (st : Steps m G c) (t : Fin cfg0.N) (h : t.val = 64) :
    bodyPre m G c t ⊢ wp frame (wpE (defs₀ (F := F)) Variants.none c none) Set.univ (bodyAt0 t) (fun _ => bodyPost m G c t) := by
  unfold bodyPre bodyPost bodyAt0
  simp only [before0_0, before0_1, before0_2, before0_3, before0_4, before0_5, before0_6, before0_7, before0_8, before0_9]
  rw [show (dat m G c).owesAt () t.succ = (dat m G c).owesAt () t.castSucc from rfl]
  rw [Phi_at, Phi_at, show Phi G c t.castSucc.val = scratch G c t.val from Phi_in G c (show ¬(t.val = 0 ∨ t.val = 65) by omega), show Phi G c t.succ.val = _ from Phi_out G c (Or.inr (show t.val + 1 = 65 by omega))]
  rw [PhiA0_eq]; unfold scratch
  iintro ⟨⟨⟨⟨%x15, %g15, S15⟩, ⟨%x16, %g16, S16⟩, ⟨%x17, %g17, S17⟩, ⟨%x18, %g18, S18⟩, ⟨%x19, %g19, S19⟩, ⟨%x20, %g20, S20⟩, ⟨%x21, %g21, S21⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %F10, H10⟩, ⟨%Y11, %F11, H11⟩, ⟨%Y12, %F12, H12⟩, ⟨%Y13, %F13, H13⟩⟩
  have h0 : t.val ≠ 0 := by omega
  have g11 : G.dg (min t.val 63) Y11 := by
    have : G.dg (min (t.val - 1) 63) Y11 := left_of_finds m (w := 11) rfl (fun _ => rfl) h0 (fun _ => noFlush0_11 _ (show t.val - 1 = 63 by omega)) F11
    rwa [show min (t.val - 1) 63 = min t.val 63 by omega] at this
  have g12 : G.dbias (min t.val 63) Y12 := by
    have : G.dbias (min (t.val - 1) 63) Y12 := left_of_finds m (w := 12) rfl (fun _ => rfl) h0 (fun _ => noFlush0_12 _ (show t.val - 1 < 64 by omega)) F12
    rwa [show min (t.val - 1) 63 = min t.val 63 by omega] at this
  rw [h] at g15 g16 g17 g18 g19 g20 g21
  obtain ⟨p10, p13⟩ := st.last t h x15 x16 x17 x18 x19 x20 x21 g15 g16 g17 g18 g19 g20 g21
  iapply ((atC m c t h x15 x16 x17 x18 x19 x20 x21).2.2.2.2.2.2.2 Y11 Y12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexists _; iexact H13
  isplitl [S15]; · iexact S15
  isplitl [S16]; · iexact S16
  isplitl [S17]; · iexact S17
  isplitl [S18]; · iexact S18
  isplitl [S19]; · iexact S19
  isplitl [S20]; · iexact S20
  isplitl [S21]; · iexact S21
  iintro ⟨H0, H1, H2, H3, H4, H5, H6, H7, H8, H9, H10, H11, H12, H13, S15, S16, S17, S18, S19, S20, S21⟩
  isplitl [S15 S16 S17 S18 S19 S20 S21 Hg]
  · isplitl [S15 S16 S17 S18 S19 S20 S21]
    · isplitl [S15]
      · icases S15 with ⟨%f, S15⟩; unfold owns; iexists _; iexists _; isplitr; swap; · iexact S15
        ipureintro; rfl
      isplitl [S16]
      · iexists _; iexact S16
      isplitl [S17]
      · icases S17 with ⟨%f, S17⟩; unfold owns; iexists _; iexists _; isplitr; swap; · iexact S17
        ipureintro; rfl
      isplitl [S18]
      · icases S18 with ⟨%f, S18⟩; unfold owns; iexists _; iexists _; isplitr; swap; · iexact S18
        ipureintro; rfl
      isplitl [S19]
      · unfold owns; iexists _; iexists _; isplitr; swap; · iexact S19
        ipureintro; rfl
      isplitl [S20]
      · unfold owns; iexists _; iexists _; isplitr; swap; · iexact S20
        ipureintro; rfl
      iexists _; iexact S21
    iexact Hg
  isplitl [Ho]; · iexact Ho
  isplitl [H0]; · iexists (X0_0 m c t); rw [refill m c t]; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (owns_of_leave c (ms0_10 t) _ (show Leave _ _ (fun X => t.val ≠ 0 → G.dqkv t.val X) by rw [h]; exact fun f _ => p10 f)); iexact H10
  isplitl [H11]
  · iexists _; isplitr; swap; · iexact H11
    ipureintro; exact g11
  isplitl [H12]
  · iexists _; isplitr; swap; · iexact H12
    ipureintro; exact g12
  iapply (owns_of_leave c (ms0_13 t) _ (show Leave _ _ (leftIn G 13 t) from fun f _ => p13 f)); iexact H13

theorem sound_body (G : Good F) (c : Dev nD) (st : Steps m G c) (t : Fin cfg0.N) :
    bodyPre m G c t ⊢ wp frame (wpE (defs₀ (F := F)) Variants.none c none) Set.univ (bodyAt0 t) (fun _ => bodyPost m G c t) := by
  have hN : t.val < 65 := lt_of_lt_of_eq t.isLt (show cfg0.N = 65 from N_0)
  by_cases h0 : t.val = 0
  · exact sound_first m G c st t h0
  by_cases h1 : t.val < 64
  · exact sound_between m G c st t h0 h1
  · exact sound_last m G c st t (by omega)

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (G : Good F) (c : Dev nD) (st : Steps m G c) :
    Pipeline.BodyObligationRel (dat m G c) (defs₀ (F := F)) Variants.none () Set.univ marked (leftIn G) := fun t => by
  rw [bigSep_W0, bigSep_W0, defs₀_row]
  exact Idealize.ShloMosaic.triple_restated (sound_body m G c st t) rfl .rfl fun _ => .rfl

theorem hin (G : Good F) (c : Dev nD) : Pipeline.ΦA spec0 c ⊢ (dat m G c).Φ 0 := by
  rw [Phi_at, Phi_out G c (n := (0 : Fin (cfg0.N + 1)).val) (Or.inl rfl)]
theorem hout (G : Good F) (c : Dev nD) : (dat m G c).Φ (Fin.last cfg0.N) ⊢ Pipeline.ΦA spec0 c := by
  rw [Phi_at, Phi_out G c (n := (Fin.last cfg0.N).val) (Or.inr N_0)]

/-- What the launch ends with. -/
abbrev rdat (G : Good F) (c : Dev nD) := (dat m G c).toRRel marked (leftIn G)

set_option backward.isDefEq.respectTransparency.types false in
theorem run_main (G : Good F) (st : ∀ c, Steps m G c) :
    θ_run defs (onTc (τ := τ) (main (F := F))) (s₀ m ρ) (fun r => RDat.FramePost cfg0 (rdat m G) (V m) r ∧ r.2.sem = fun _ => 0) :=
  Pipeline.RDat.θ_run_frame_track_shared (Q' := _) cfgs (0 : Fin 1) launch₀0 defs₀ Variants.none (rdat m G) m ρ main
    (hbody := fun c => (body_obligation m G c (st c)).toRRel) (hq := fun _ _ _ => rfl)
    (howed := fun _ _ => rfl) (V := V m) (hmain := hmain m Variants.none) (hA := A_eq m G) (hin := hin m G) (hout := hout m G)

end Cert.AttnIdeal.Point

end
-- ==== Proof.AttnHead.lean ====
module

public import proofs.«01_k».proof.Proof.Gen.AttnIdeal.Skeleton
public import proofs.«01_k».proof.Proof.RealRow

@[expose] public section

set_option maxRecDepth 16384

noncomputable section

/-! One head group of the attention's backward kernel at one block: the arrays it stores, as functions of the blocks it loads. -/

namespace Cert.AttnIdeal.Head

open Idealize.ShloMosaic Cert.AttnIdeal Cert.AttnIdeal.Gen

variable {F : FTy → Type} [FloatOps F] [Named F]

/-- What one head group loads: the block's number, its queries, the two blocks of keys and of values, gates, outputs,
    cotangents, masked bias and sink logits. -/
structure Loads (F : FTy → Type) where
  n : BitVec 32
  q : Fin 4 → Vec F S128x64 .bf16
  kc : Vec F S128x64 .bf16
  kp : Vec F S128x64 .bf16
  vc : Vec F S128x64 .bf16
  vp : Vec F S128x64 .bf16
  g : Fin 4 → Vec F S128x64 .f32
  a : Fin 4 → Vec F S128x64 .f32
  dy : Fin 4 → Vec F S128x64 .bf16
  b : Vec F S4x128x256 .f32
  s : Fin 4 → Elt F .f32

def rows (f : Fin 4 → FVec F S128x64 .f32) : FVec F S512x64 .f32 :=
  concatenate S512x64 0 [⟨S128x64, f 0⟩, ⟨S128x64, f 1⟩, ⟨S128x64, f 2⟩, ⟨S128x64, f 3⟩] concatenates_S128x64_S128x64_S128x64_S128x64_S512x64_d0

/-- The cotangent behind the gate, of one head. -/
def behind (d : Vec F S128x64 .bf16) (g : Vec F S128x64 .f32) : FVec F S128x64 .f32 :=
  mulf (extf .f32 d bitsLt_bf16_f32) (mulf g (k0_pay16 g))

namespace Loads

variable (L : Loads F)

def qs : FVec F S512x64 .bf16 := k0_pay5 (L.q 0) (L.q 1) (L.q 2) (L.q 3)
def kw : FVec F S256x64 .bf16 := k0_pay6 L.kp L.kc
def vw : FVec F S256x64 .bf16 := k0_pay7 L.vp L.vc
def score : FVec F S512x256 .f32 := k0_pay8 L.n (L.q 0) (L.q 1) (L.q 2) (L.q 3) L.kp L.kc L.b
def row : IVec S512x1 32 := iota .tc S512x1 32 [0] iota_S512x1_d0_w32
def sink : FVec F S512x1 .f32 := k0_pay9 row (L.s 3) (L.s 2) (L.s 1) (L.s 0)
def top : FVec F S512x1 .f32 := k0_pay10 L.score row (L.s 3) (L.s 2) (L.s 1) (L.s 0)
def prob : FVec F S512x256 .f32 := k0_pay14 L.score row (L.s 3) (L.s 2) (L.s 1) (L.s 0)
def psink : FVec F S512x1 .f32 := k0_pay15 L.score row (L.s 3) (L.s 2) (L.s 1) (L.s 0)
def da : FVec F S512x64 .f32 := rows fun h => behind (L.dy h) (L.g h)
def out : FVec F S512x64 .f32 := rows fun h => shapeCast S128x64 (L.a h) shapeCasts_S128x64_S128x64
def dgate (h : Fin 4) : FVec F S128x64 .bf16 := k0_pay19 (L.g h) (k0_pay16 (L.g h)) (L.dy h) (L.a h)
def delta : FVec F S512x1 .f32 :=
  shapeCast S512x1 (multiReduction .add [1] S512 (mulf L.da L.out) 0x00000000#32 reduces_S512x64_S512 (.inl rfl) rfl) shapeCasts_S512_S512x1
def ds : FVec F S512x256 .f32 :=
  mulf L.prob (subf (matmul dot_S512x64_S256x64_S512x256_1_1_0_0_n_n none (truncf .bf16 L.da bitsLt_bf16_f32) L.vw
    (constant S512x256 .f32 0x00000000#32)) (broadcastTo S512x256 L.delta broadcasts_S512x1_S512x256))
/-- The sink's column of the running sum, one block added. -/
def dsink (was : Vec F S1x512x1 .f32) : FVec F S1x512x1 .f32 :=
  shapeCast S1x512x1 (addf (shapeCast S512x1 was shapeCasts_S1x512x1_S512x1)
    (mulf (subf (broadcast S512x1 (Scalar.ofBits .f32 0x00000000#32)) L.psink) L.delta)) shapeCasts_S512x1_S1x512x1
/-- The bias's running sum, one block added. -/
def dbias (was : Vec F S4x128x256 .f32) : FVec F S4x128x256 .f32 :=
  addf (shapeCast S4x128x256 was shapeCasts_S4x128x256_S4x128x256) (shapeCast S4x128x256 L.ds shapeCasts_S512x256_S4x128x256)
def dq : FVec F S512x64 .f32 := k0_pay38 L.kw L.ds
def dq0 : FVec F S128x64 .bf16 := k0_pay39 L.kw L.ds
def dq1 : FVec F S128x64 .bf16 := k0_pay40 L.kw L.ds
def dq2 : FVec F S128x64 .bf16 := k0_pay41 L.kw L.ds
def dq3 : FVec F S128x64 .bf16 := k0_pay42 L.kw L.ds
def dk : FVec F S256x64 .f32 := k0_pay43 L.qs L.ds
def dv : FVec F S256x64 .f32 :=
  shapeCast S256x64 (matmul dot_S512x256_S512x64_S256x64_0_0_1_1_n_n none (truncf .bf16 L.prob bitsLt_bf16_f32)
    (truncf .bf16 L.da bitsLt_bf16_f32) (constant S256x64 .f32 0x00000000#32)) shapeCasts_S256x64_S256x64

end Loads

end Cert.AttnIdeal.Head

end
-- ==== Proof.AttnPieces.lean ====
module

public import proofs.«01_k».proof.Proof.AttnRel
public import proofs.«01_k».proof.Proof.AttnHead
@[expose] public section

set_option maxRecDepth 16384

noncomputable section

namespace Cert.AttnIdeal.Point

open Cert.AttnIdeal.Gen
open Cert.AttnIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

/-- The columns of sixteen heads. -/
def cols (f : Fin 4 → Fin 4 → Vec F S128x64 .bf16) : List (View.Piece (Elt F) S128x1024 .bf16) :=
  [⟨Rect.unit ![0, 960] S128x64.size (by decide), f 3 3⟩, ⟨Rect.unit ![0, 896] S128x64.size (by decide), f 3 2⟩, ⟨Rect.unit ![0, 832] S128x64.size (by decide), f 3 1⟩, ⟨Rect.unit ![0, 768] S128x64.size (by decide), f 3 0⟩,
    ⟨Rect.unit ![0, 704] S128x64.size (by decide), f 2 3⟩, ⟨Rect.unit ![0, 640] S128x64.size (by decide), f 2 2⟩, ⟨Rect.unit ![0, 576] S128x64.size (by decide), f 2 1⟩, ⟨Rect.unit ![0, 512] S128x64.size (by decide), f 2 0⟩,
    ⟨Rect.unit ![0, 448] S128x64.size (by decide), f 1 3⟩, ⟨Rect.unit ![0, 384] S128x64.size (by decide), f 1 2⟩, ⟨Rect.unit ![0, 320] S128x64.size (by decide), f 1 1⟩, ⟨Rect.unit ![0, 256] S128x64.size (by decide), f 1 0⟩,
    ⟨Rect.unit ![0, 192] S128x64.size (by decide), f 0 3⟩, ⟨Rect.unit ![0, 128] S128x64.size (by decide), f 0 2⟩, ⟨Rect.unit ![0, 64] S128x64.size (by decide), f 0 1⟩, ⟨Rect.unit ![0, 0] S128x64.size (by decide), f 0 0⟩]
/-- The columns of four head groups. -/
def quads (f : Fin 4 → Vec F S256x64 .f32) : List (View.Piece (Elt F) S256x256 .f32) :=
  [⟨Rect.unit ![0, 192] S256x64.size (by decide), f 3⟩, ⟨Rect.unit ![0, 128] S256x64.size (by decide), f 2⟩, ⟨Rect.unit ![0, 64] S256x64.size (by decide), f 1⟩, ⟨Rect.unit ![0, 0] S256x64.size (by decide), f 0⟩]
/-- The bias's slabs of four head groups. -/
def slabs (f : Fin 4 → Vec F S4x128x256 .f32) : List (View.Piece (Elt F) S16x128x256 .f32) :=
  [⟨Rect.unit ![12, 0, 0] S4x128x256.size (by decide), f 3⟩, ⟨Rect.unit ![8, 0, 0] S4x128x256.size (by decide), f 2⟩, ⟨Rect.unit ![4, 0, 0] S4x128x256.size (by decide), f 1⟩, ⟨Rect.unit ![0, 0, 0] S4x128x256.size (by decide), f 0⟩]
/-- The sink's slabs of four head groups. -/
def sinks (f : Fin 4 → Vec F S1x512x1 .f32) : List (View.Piece (Elt F) S4x512x1 .f32) :=
  [⟨Rect.unit ![3, 0, 0] S1x512x1.size (by decide), f 3⟩, ⟨Rect.unit ![2, 0, 0] S1x512x1.size (by decide), f 2⟩, ⟨Rect.unit ![1, 0, 0] S1x512x1.size (by decide), f 1⟩, ⟨Rect.unit ![0, 0, 0] S1x512x1.size (by decide), f 0⟩]

/-- The four heads of a group's query gradients. -/
def dqs (L : Loads F) (g : Fin 4) : Vec F S128x64 .bf16 := ![L.dq0, L.dq1, L.dq2, L.dq3] g

/-- The three column bands of a block's gradients: queries, keys, values. -/
def bands (q : Vec F S128x1024 .bf16) (k v : Vec F S128x256 .bf16) : List (View.Piece (Elt F) S128x1536 .bf16) :=
  [⟨Rect.unit ![0, 1280] S128x256.size (by decide), v⟩, ⟨Rect.unit ![0, 1024] S128x256.size (by decide), k⟩,
    ⟨Rect.unit ![0, 0] S128x1024.size (by decide), q⟩]
/-- A whole array stored at once. -/
def whole (q : Vec F S128x1024 .bf16) : List (View.Piece (Elt F) S128x1024 .bf16) :=
  [⟨Rect.unit ![0, 0] S128x1024.size (by decide), q⟩]
def whole' (q : Vec F S128x256 .f32) : List (View.Piece (Elt F) S128x256 .f32) :=
  [⟨Rect.unit ![0, 0] S128x256.size (by decide), q⟩]

/-- Stores onto a bottom, each of what it reads off those before it. -/
def pile {s : Shape} {e : EltTy} (z : View.Piece (Elt F) s e) (f : Fin 4 → List (View.Piece (Elt F) s e) → View.Piece (Elt F) s e) :
    List (View.Piece (Elt F) s e) :=
  f 3 (f 2 (f 1 (f 0 [z] :: [z]) :: f 0 [z] :: [z]) :: f 1 (f 0 [z] :: [z]) :: f 0 [z] :: [z])
    :: f 2 (f 1 (f 0 [z] :: [z]) :: f 0 [z] :: [z]) :: f 1 (f 0 [z] :: [z]) :: f 0 [z] :: [z]

/-- The sink's gradient row, from the running columns. -/
def sinkRow (s : Fin 4 → Vec F S1x512x1 .f32) : FVec F S8x128 .f32 :=
  let c := iota .tc S1x128 32 [1] iota_S1x128_d1_w32
  k0_pay3 c (k0_pay187 (s 3)) (k0_pay188 c (k0_pay184 (s 2)) (k0_pay185 c (k0_pay181 (s 0)) (k0_pay182 (s 1)) k0_pay183 (s 2)) (k0_pay186 c) (s 3)) (k0_pay189 c)

theorem fits_col (a g : Fin 4) (o : Fin 2) : (![0, 256 * a.val + 64 * g.val] : Fin 2 → ℕ) o + S128x64.size o ≤ S128x1024.size o := by
  revert a g o; decide
theorem fits_quad (a : Fin 4) (o : Fin 2) : (![0, 64 * a.val] : Fin 2 → ℕ) o + S128x64.size o ≤ S128x256.size o := by
  revert a o; decide
theorem fits_slab (a : Fin 4) (o : Fin 3) : (![4 * a.val, 0, 0] : Fin 3 → ℕ) o + S4x128x256.size o ≤ S16x128x256.size o := by
  revert a o; decide
theorem fits_sinks (a : Fin 4) (o : Fin 3) : (![a.val, 0, 0] : Fin 3 → ℕ) o + S1x512x1.size o ≤ S4x512x1.size o := by
  revert a o; decide
theorem fits_sink (a g : Fin 4) (o : Fin 2) : (![0, 4 * a.val + g.val] : Fin 2 → ℕ) o + S1x1.size o ≤ S1x16.size o := by
  revert a g o; decide

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .bf16) (harg8 : arg8.IsWhole)
  (arg9 : Memref sig .tc .vmem S16x128x256 .f32) (harg9 : arg9.IsWhole)
  (arg10 : Memref sig .tc .smem S1x16 .f32) (harg10 : arg10.IsWhole)
  (arg11 : Memref sig .tc .vmem S128x1536 .bf16) (harg11 : arg11.IsWhole)
  (arg12 : Memref sig .tc .vmem S128x1024 .bf16) (harg12 : arg12.IsWhole)
  (arg13 : Memref sig .tc .vmem S16x128x256 .f32) (harg13 : arg13.IsWhole)
  (arg14 : Memref sig .tc .vmem S8x128 .f32) (harg14 : arg14.IsWhole)
  (arg15 : Memref sig .tc .vmem S128x1024 .bf16) (harg15 : arg15.IsWhole)
  (arg16 : Memref sig .tc .vmem S128x1024 .bf16) (harg16 : arg16.IsWhole)
  (arg17 : Memref sig .tc .vmem S128x256 .f32) (harg17 : arg17.IsWhole)
  (arg18 : Memref sig .tc .vmem S128x256 .f32) (harg18 : arg18.IsWhole)
  (arg19 : Memref sig .tc .vmem S256x256 .f32) (harg19 : arg19.IsWhole)
  (arg20 : Memref sig .tc .vmem S256x256 .f32) (harg20 : arg20.IsWhole)
  (arg21 : Memref sig .tc .vmem S4x512x1 .f32) (harg21 : arg21.IsWhole)
  (x1 : Vec F S128x1024 .bf16) (x2 : Vec F S128x256 .bf16) (x3 : Vec F S128x256 .bf16) (x4 : Vec F S128x256 .bf16) (x5 : Vec F S128x256 .bf16) (x6 : Vec F S128x1024 .f32) (x7 : Vec F S128x1024 .f32) (x8 : Vec F S128x1024 .bf16) (x9 : Vec F S16x128x256 .f32) (x10 : Vec F S1x16 .f32)

/-- What head group `a` loads at a point. -/
def loads (a : Fin 4) : Loads F where
  n := BitVec.ofNat 32 (i 0).val
  q g := arg1.view.readAt (Elt F) (Rect.unit (s := S128x1024) ![0, 256 * a.val + 64 * g.val] S128x64.size (fits_col a g)).toLoadRect (harg1.unread x1)
  kc := arg2.view.readAt (Elt F) (Rect.unit (s := S128x256) ![0, 64 * a.val] S128x64.size (fits_quad a)).toLoadRect (harg2.unread x2)
  kp := arg3.view.readAt (Elt F) (Rect.unit (s := S128x256) ![0, 64 * a.val] S128x64.size (fits_quad a)).toLoadRect (harg3.unread x3)
  vc := arg4.view.readAt (Elt F) (Rect.unit (s := S128x256) ![0, 64 * a.val] S128x64.size (fits_quad a)).toLoadRect (harg4.unread x4)
  vp := arg5.view.readAt (Elt F) (Rect.unit (s := S128x256) ![0, 64 * a.val] S128x64.size (fits_quad a)).toLoadRect (harg5.unread x5)
  g g := arg6.view.readAt (Elt F) (Rect.unit (s := S128x1024) ![0, 256 * a.val + 64 * g.val] S128x64.size (fits_col a g)).toLoadRect (harg6.unread x6)
  a g := arg7.view.readAt (Elt F) (Rect.unit (s := S128x1024) ![0, 256 * a.val + 64 * g.val] S128x64.size (fits_col a g)).toLoadRect (harg7.unread x7)
  dy g := arg8.view.readAt (Elt F) (Rect.unit (s := S128x1024) ![0, 256 * a.val + 64 * g.val] S128x64.size (fits_col a g)).toLoadRect (harg8.unread x8)
  b := arg9.view.readAt (Elt F) (Rect.unit (s := S16x128x256) ![4 * a.val, 0, 0] S4x128x256.size (fits_slab a)).toLoadRect (harg9.unread x9)
  s g := arg10.view.readAt (Elt F) (Rect.unit (s := S1x16) ![0, 4 * a.val + g.val] S1x1.size (fits_sink a g)).toLoadRect (harg10.unread x10)
    (Shape.Idx.first (show 0 < S1x1.numel by decide))

set_option maxHeartbeats 3200000 in
theorem B_dqkv (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).1 =
    bands (arg15.view.readAt (Elt F) (Rect.unit (s := S128x1024) ![0, 0] S128x1024.size (by decide)).toLoadRect (harg15.unread x15)) (k0_pay201 (arg17.view.readAt (Elt F) (Rect.unit (s := S128x256) ![0, 0] S128x256.size (by decide)).toLoadRect (harg17.unread x17)) (arg19.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dk) (Rect.unit (s := S256x256) ![0, 0] S128x256.size (by decide)).toLoadRect)) (k0_pay202 (arg18.view.readAt (Elt F) (Rect.unit (s := S128x256) ![0, 0] S128x256.size (by decide)).toLoadRect (harg18.unread x18)) (arg20.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dv) (Rect.unit (s := S256x256) ![0, 0] S128x256.size (by decide)).toLoadRect)) := by
  unfold runB; rfl
set_option maxHeartbeats 3200000 in
theorem A_dg (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.1 =
    cols fun a => (loads i arg1 harg1 arg2 harg2 arg3 harg3 arg4 harg4 arg5 harg5 arg6 harg6 arg7 harg7 arg8 harg8 arg9 harg9 arg10 harg10 x1 x2 x3 x4 x5 x6 x7 x8 x9 x10 a).dgate := by
  unfold runA; rfl
set_option maxHeartbeats 3200000 in
theorem A_dq (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.2.2.1 =
    whole (k0_pay203 (arg16.view.readCov (cols fun a => dqs (loads i arg1 harg1 arg2 harg2 arg3 harg3 arg4 harg4 arg5 harg5 arg6 harg6 arg7 harg7 arg8 harg8 arg9 harg9 arg10 harg10 x1 x2 x3 x4 x5 x6 x7 x8 x9 x10 a)) (Rect.unit (s := S128x1024) ![0, 0] S128x1024.size (by decide)).toLoadRect)) ++ whole k0_pay192 := by
  unfold runA; rfl
set_option maxHeartbeats 3200000 in
theorem A_dk (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.2.2.2.2.1 =
    whole' (k0_pay1 (arg19.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dk) (Rect.unit (s := S256x256) ![128, 0] S128x256.size (by decide)).toLoadRect)) ++ whole' k0_pay193 := by
  unfold runA; rfl
set_option maxHeartbeats 3200000 in
theorem A_dv (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.2.2.2.2.2.1 =
    whole' (k0_pay2 (arg20.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dv) (Rect.unit (s := S256x256) ![128, 0] S128x256.size (by decide)).toLoadRect)) ++ whole' k0_pay194 := by
  unfold runA; rfl
set_option maxHeartbeats 3200000 in
theorem B_dg (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.1 =
    cols fun a => (loads i arg1 harg1 arg2 harg2 arg3 harg3 arg4 harg4 arg5 harg5 arg6 harg6 arg7 harg7 arg8 harg8 arg9 harg9 arg10 harg10 x1 x2 x3 x4 x5 x6 x7 x8 x9 x10 a).dgate := by
  unfold runB; rfl
set_option maxHeartbeats 3200000 in
theorem B_dq (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.2.2.1 =
    whole (k0_pay203 (arg16.view.readCov (cols fun a => dqs (loads i arg1 harg1 arg2 harg2 arg3 harg3 arg4 harg4 arg5 harg5 arg6 harg6 arg7 harg7 arg8 harg8 arg9 harg9 arg10 harg10 x1 x2 x3 x4 x5 x6 x7 x8 x9 x10 a)) (Rect.unit (s := S128x1024) ![0, 0] S128x1024.size (by decide)).toLoadRect)) := by
  unfold runB; rfl
set_option maxHeartbeats 3200000 in
theorem B_dk (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.2.2.2.2.1 =
    whole' (k0_pay1 (arg19.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dk) (Rect.unit (s := S256x256) ![128, 0] S128x256.size (by decide)).toLoadRect)) := by
  unfold runB; rfl
set_option maxHeartbeats 3200000 in
theorem B_dv (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.2.2.2.2.2.1 =
    whole' (k0_pay2 (arg20.view.readCov (quads fun a => (loads i arg1 harg1 arg2 harg2 arg3 harg3 arg4 harg4 arg5 harg5 arg6 harg6 arg7 harg7 arg8 harg8 arg9 harg9 arg10 harg10 x1 x2 x3 x4 x5 x6 x7 x8 x9 x10 a).dv) (Rect.unit (s := S256x256) ![128, 0] S128x256.size (by decide)).toLoadRect)) := by
  unfold runB; rfl
set_option maxHeartbeats 3200000 in
theorem B_dbias (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.2.1 =
    slabs fun a => (loads i arg1 harg1 arg2 harg2 arg3 harg3 arg4 harg4 arg5 harg5 arg6 harg6 arg7 harg7 arg8 harg8 arg9 harg9 arg10 harg10 x1 x2 x3 x4 x5 x6 x7 x8 x9 x10 a).dbias
      (arg13.view.readAt (Elt F) (Rect.unit (s := S16x128x256) ![4 * a.val, 0, 0] S4x128x256.size (fits_slab a)).toLoadRect (harg13.unread x13)) := by
  unfold runB; rfl
set_option maxHeartbeats 3200000 in
theorem B_sink (h1 : ¬isFirst i) (h2 : hasBlock i) (h3 : ¬isLast i) (h4 : ¬isLast' i) (x13 : Vec F S16x128x256 .f32) (x15 : Vec F S128x1024 .bf16) (x17 : Vec F S128x256 .f32) (x18 : Vec F S128x256 .f32) (x21 : Vec F S4x512x1 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x13 x15 x17 x18 x21).2.2.2.2.2.2.2.2.2.1 =
    sinks fun a => (loads i arg1 harg1 arg2 harg2 arg3 harg3 arg4 harg4 arg5 harg5 arg6 harg6 arg7 harg7 arg8 harg8 arg9 harg9 arg10 harg10 x1 x2 x3 x4 x5 x6 x7 x8 x9 x10 a).dsink
      (arg21.view.readAt (Elt F) (Rect.unit (s := S4x512x1) ![a.val, 0, 0] S1x512x1.size (fits_sinks a)).toLoadRect (harg21.unread x21)) := by
  unfold runB; rfl
set_option maxHeartbeats 3200000 in
theorem A_dbias (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.2.1 =
    pile ⟨Rect.unit ![0, 0, 0] S16x128x256.size (by decide), k0_pay190⟩ fun a l => ⟨Rect.unit ![4 * a.val, 0, 0] S4x128x256.size (fits_slab a),
      (loads i arg1 harg1 arg2 harg2 arg3 harg3 arg4 harg4 arg5 harg5 arg6 harg6 arg7 harg7 arg8 harg8 arg9 harg9 arg10 harg10 x1 x2 x3 x4 x5 x6 x7 x8 x9 x10 a).dbias (arg13.view.readCov l (Rect.unit (s := S16x128x256) ![4 * a.val, 0, 0] S4x128x256.size (fits_slab a)).toLoadRect)⟩ := by
  unfold runA; rfl
set_option maxHeartbeats 3200000 in
theorem A_sink (h1 : isFirst i) (h2 : hasBlock i) (h3 : ¬isLast i) (h4 : ¬isLast' i)  : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4).2.2.2.2.2.2.2.2.2.1 =
    pile ⟨Rect.unit ![0, 0, 0] S4x512x1.size (by decide), k0_pay191⟩ fun a l => ⟨Rect.unit ![a.val, 0, 0] S1x512x1.size (fits_sinks a),
      (loads i arg1 harg1 arg2 harg2 arg3 harg3 arg4 harg4 arg5 harg5 arg6 harg6 arg7 harg7 arg8 harg8 arg9 harg9 arg10 harg10 x1 x2 x3 x4 x5 x6 x7 x8 x9 x10 a).dsink (arg21.view.readCov l (Rect.unit (s := S4x512x1) ![a.val, 0, 0] S1x512x1.size (fits_sinks a)).toLoadRect)⟩ := by
  unfold runA; rfl
set_option maxHeartbeats 3200000 in
theorem C_dqkv (h1 : ¬isFirst i) (h2 : ¬hasBlock i) (h3 : isLast i) (h4 : isLast' i) (x15 : Vec F S128x1024 .bf16) (x16 : Vec F S128x1024 .bf16) (x17 : Vec F S128x256 .f32) (x18 : Vec F S128x256 .f32) (x19 : Vec F S256x256 .f32) (x20 : Vec F S256x256 .f32) (x21 : Vec F S4x512x1 .f32) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x15 x16 x17 x18 x19 x20 x21).1 =
    bands (arg15.view.readAt (Elt F) (Rect.unit (s := S128x1024) ![0, 0] S128x1024.size (by decide)).toLoadRect (harg15.unread x15))
      (k0_pay201 (arg17.view.readAt (Elt F) (Rect.unit (s := S128x256) ![0, 0] S128x256.size (by decide)).toLoadRect (harg17.unread x17)) (arg19.view.readCov [⟨Rect.unit (s := S256x256) ![0, 0] S128x256.size (by decide), k0_pay199⟩] (Rect.unit (s := S256x256) ![0, 0] S128x256.size (by decide)).toLoadRect))
      (k0_pay202 (arg18.view.readAt (Elt F) (Rect.unit (s := S128x256) ![0, 0] S128x256.size (by decide)).toLoadRect (harg18.unread x18)) (arg20.view.readCov [⟨Rect.unit (s := S256x256) ![0, 0] S128x256.size (by decide), k0_pay200⟩] (Rect.unit (s := S256x256) ![0, 0] S128x256.size (by decide)).toLoadRect)) := by
  unfold runC; rfl
set_option maxHeartbeats 3200000 in
theorem C_dsink (h1 : ¬isFirst i) (h2 : ¬hasBlock i) (h3 : isLast i) (h4 : isLast' i) (x15 : Vec F S128x1024 .bf16) (x16 : Vec F S128x1024 .bf16) (x17 : Vec F S128x256 .f32) (x18 : Vec F S128x256 .f32) (x19 : Vec F S256x256 .f32) (x20 : Vec F S256x256 .f32) (x21 : Vec F S4x512x1 .f32) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 h1 h2 h3 h4 x15 x16 x17 x18 x19 x20 x21).2.1 =
    [⟨Rect.unit ![0, 0] S8x128.size (by decide), sinkRow fun a =>
      arg21.view.readAt (Elt F) (Rect.unit (s := S4x512x1) ![a.val, 0, 0] S1x512x1.size (fits_sinks a)).toLoadRect (harg21.unread x21)⟩] := by
  unfold runC; rfl

end Cert.AttnIdeal.Point

end
-- ==== Proof.AttnSpec.lean ====
module

public import proofs.«01_k».proof.Proof.RealRow

@[expose] public section

noncomputable section

/-! Block-local attention with a sink and a gate, and its gradients, over the reals. An index is a block `n`, a key-value
    head `h`, a query head `g` of its group, a row `i` of the block, a place `j` of the window and a lane `d`. -/

namespace Cert.AttnSpec

open Idealize.ShloMosaic Cert.RealRow

/-- The places a row may see: the 128 before it and itself, none before the first block. -/
def ok (n i j : ℕ) : Prop := i < j ∧ j ≤ i + 128 ∧ (0 < n ∨ 128 ≤ j)

instance (n i j : ℕ) : Decidable (ok n i j) := by unfold ok; infer_instance

structure Args where
  Q : ℕ → ℕ → ℝ
  /-- The window's keys, of a block and a head. -/
  KW : ℕ → ℕ → ℕ → ℕ → ℝ
  VW : ℕ → ℕ → ℕ → ℕ → ℝ
  G : ℕ → ℕ → ℝ
  DY : ℕ → ℕ → ℝ
  B : ℕ → ℕ → ℕ → ℝ
  S : ℕ → ℝ

namespace Args

variable (A : Args) (n h g i j d : ℕ)

def q : ℝ := A.Q (128 * n + i) (256 * h + 64 * g + d)
def gate : ℝ := A.G (128 * n + i) (256 * h + 64 * g + d)
def dy : ℝ := A.DY (128 * n + i) (256 * h + 64 * g + d)
def score : ℝ := (∑ d : Fin 64, A.q n h g i d * A.KW n h j d) * (1 / 8) + A.B (4 * h + g) i j
def w : ℝ := if ok n i j then Real.exp (A.score n h g i j) else 0
def es : ℝ := Real.exp (A.S (4 * h + g))
def Z : ℝ := (∑ j : Fin 256, A.w n h g i j) + A.es h g
def p : ℝ := A.w n h g i j / A.Z n h g i
def ps : ℝ := A.es h g / A.Z n h g i
def da : ℝ := A.dy n h g i d * (A.gate n h g i d * sgm (A.gate n h g i d))
def out : ℝ := ∑ j : Fin 256, A.p n h g i j * A.VW n h j d
def ct : ℝ := ∑ d : Fin 64, A.da n h g i d * A.VW n h j d
def delta : ℝ := ∑ j : Fin 256, A.p n h g i j * A.ct n h g i j
def ds : ℝ := A.p n h g i j * (A.ct n h g i j - A.delta n h g i)
def dsink : ℝ := -(A.ps n h g i * A.delta n h g i)
def dq : ℝ := (∑ j : Fin 256, A.ds n h g i j * A.KW n h j d) * (1 / 8)
def dk : ℝ := (∑ g : Fin 4, ∑ i : Fin 128, A.ds n h g i j * A.q n h g i d) * (1 / 8)
def dv : ℝ := ∑ g : Fin 4, ∑ i : Fin 128, A.p n h g i j * A.da n h g i d
def dgate : ℝ := A.dy n h g i d * A.out n h g i d * dsilu (A.gate n h g i d)

theorem es_pos : 0 < A.es h g := Real.exp_pos _

theorem w_nonneg : 0 ≤ A.w n h g i j := by unfold w; split <;> positivity

theorem Z_pos : 0 < A.Z n h g i :=
  add_pos_of_nonneg_of_pos (Finset.sum_nonneg fun j _ => A.w_nonneg n h g i j) (A.es_pos h g)

theorem Z_ne : A.Z n h g i ≠ 0 := (A.Z_pos n h g i).ne'

/-- The gradient's row sum, from the row's output. -/
theorem delta_out : ∑ d : Fin 64, A.da n h g i d * A.out n h g i d = A.delta n h g i := by
  unfold delta out ct
  simp only [Finset.mul_sum]
  rw [Finset.sum_comm]
  exact Finset.sum_congr rfl fun j _ => Finset.sum_congr rfl fun d _ => by ring

theorem w_not {A : Args} {n h g i j : ℕ} (e : ¬ok n i j) : A.w n h g i j = 0 := if_neg e
theorem p_not {A : Args} {n h g i j : ℕ} (e : ¬ok n i j) : A.p n h g i j = 0 := by rw [p, w_not e, zero_div]
theorem ds_not {A : Args} {n h g i j : ℕ} (e : ¬ok n i j) : A.ds n h g i j = 0 := by rw [ds, p_not e, zero_mul]

end Args

/-- The same arguments, but for windows that agree only where a row may see. -/
structure Same (A C : Args) : Prop where
  Q : A.Q = C.Q
  G : A.G = C.G
  DY : A.DY = C.DY
  B : A.B = C.B
  S : A.S = C.S
  KW : ∀ n h j d, 0 < n ∨ 128 ≤ j → A.KW n h j d = C.KW n h j d
  VW : ∀ n h j d, 0 < n ∨ 128 ≤ j → A.VW n h j d = C.VW n h j d

namespace Same

variable {A C : Args} (s : Same A C) (n h g i j d : ℕ)

include s

theorem q : A.q n h g i d = C.q n h g i d := by simp only [Args.q, s.Q]
theorem gate : A.gate n h g i d = C.gate n h g i d := by simp only [Args.gate, s.G]
theorem dy : A.dy n h g i d = C.dy n h g i d := by simp only [Args.dy, s.DY]
theorem es : A.es h g = C.es h g := by simp only [Args.es, s.S]
theorem da : A.da n h g i d = C.da n h g i d := by simp only [Args.da, s.dy, s.gate]

theorem w : A.w n h g i j = C.w n h g i j := by
  unfold Args.w
  by_cases e : ok n i j
  · rw [if_pos e, if_pos e]; simp only [Args.score, s.q, s.B, s.KW n h j _ e.2.2]
  · rw [if_neg e, if_neg e]

theorem Z : A.Z n h g i = C.Z n h g i := by simp only [Args.Z, s.w, s.es]
theorem p : A.p n h g i j = C.p n h g i j := by simp only [Args.p, s.w, s.Z]
theorem ps : A.ps n h g i = C.ps n h g i := by simp only [Args.ps, s.es, s.Z]

theorem p_mul {x y : ℝ} (e : ok n i j → x = y) : A.p n h g i j * x = C.p n h g i j * y := by
  rw [s.p]
  by_cases o : ok n i j
  · rw [e o]
  · rw [Args.p_not o, zero_mul, zero_mul]

theorem out : A.out n h g i d = C.out n h g i d :=
  Finset.sum_congr rfl fun j _ => s.p_mul n h g i j fun o => s.VW n h j d o.2.2

theorem ct (o : ok n i j) : A.ct n h g i j = C.ct n h g i j :=
  Finset.sum_congr rfl fun d _ => by rw [s.da, s.VW n h j d o.2.2]

theorem delta : A.delta n h g i = C.delta n h g i :=
  Finset.sum_congr rfl fun j _ => s.p_mul n h g i j (s.ct n h g i j)

theorem ds : A.ds n h g i j = C.ds n h g i j :=
  s.p_mul n h g i j fun o => by rw [s.ct n h g i j o, s.delta]

theorem dsink : A.dsink n h g i = C.dsink n h g i := by rw [Args.dsink, s.ps, s.delta, Args.dsink]

theorem dq : A.dq n h g i d = C.dq n h g i d := by
  unfold Args.dq
  congr 1
  refine Finset.sum_congr rfl fun j _ => ?_
  rw [s.ds]
  by_cases o : ok n i j
  · rw [s.KW n h j d o.2.2]
  · rw [Args.ds_not o, zero_mul, zero_mul]

theorem dk : A.dk n h j d = C.dk n h j d := by simp only [Args.dk, s.ds, s.q]
theorem dv : A.dv n h j d = C.dv n h j d := by simp only [Args.dv, s.p, s.da]
theorem dgate : A.dgate n h g i d = C.dgate n h g i d := by simp only [Args.dgate, s.dy, s.gate, s.out]

end Same

/-! ## A row's softmax over the extended reals -/

/-- A score, or `⊥` where the row may not see. -/
def seen (o : Prop) [Decidable o] (x : ℝ) : EReal := if o then (x : EReal) else ⊥

theorem seen_ne_top (o : Prop) [Decidable o] (x : ℝ) : seen o x ≠ ⊤ := by
  unfold seen; split <;> simp

theorem fold_max_ne_top {ι : Type} (s : Finset ι) (f : ι → EReal) (hf : ∀ k, f k ≠ ⊤) : s.fold max ⊥ f ≠ ⊤ := by
  classical
  induction s using Finset.induction_on with
  | empty => simp
  | insert a s ha ih => rw [Finset.fold_insert ha]; rcases max_choice (f a) (s.fold max ⊥ f) with e | e <;> rw [e]; exacts [hf a, ih]

/-- The top of a row with a real entry is real. -/
theorem real_of_le {M : EReal} {y : ℝ} (h : (y : EReal) ≤ M) (h' : M ≠ ⊤) : ∃ m : ℝ, M = (m : EReal) :=
  ⟨M.toReal, (EReal.coe_toReal h' (ne_bot_of_le_ne_bot (EReal.coe_ne_bot y) h)).symm⟩

theorem exp_seen (o : Prop) [Decidable o] (x m : ℝ) :
    Ideal.exp (seen o x - (m : EReal)) = (((if o then Real.exp x else 0) * Real.exp (-m) : ℝ) : EReal) := by
  unfold seen
  split
  · rw [sub_coe, Ideal.exp_coe, sub_eq_add_neg, Real.exp_add]
  · rw [EReal.bot_sub, Ideal.exp_bot, zero_mul, EReal.coe_zero]

theorem exp_sub (y m : ℝ) : Ideal.exp ((y : EReal) - (m : EReal)) = ((Real.exp y * Real.exp (-m) : ℝ) : EReal) := by
  rw [sub_coe, Ideal.exp_coe, sub_eq_add_neg, Real.exp_add]

/-- A sum over the rows of a group, by query head. -/
theorem sum_rows (f : ℕ → ℕ → ℝ) : ∑ r : Fin 512, f (r.val / 128) (r.val % 128) = ∑ g : Fin 4, ∑ i : Fin 128, f g.val i.val := by
  rw [← Fintype.sum_prod_type']
  refine (Fintype.sum_equiv (finProdFinEquiv (m := 4) (n := 128)) _ _ fun x => ?_).symm
  have h : (finProdFinEquiv (m := 4) (n := 128) x).val = x.2.val + 128 * x.1.val := rfl
  rw [h, Nat.add_mul_div_left _ _ (by norm_num), Nat.div_eq_of_lt x.2.isLt, Nat.add_mul_mod_self_left, Nat.mod_eq_of_lt x.2.isLt, zero_add]

end Cert.AttnSpec

end
-- ==== Proof.AttnPoints.lean ====
module

public import proofs.«01_k».proof.Proof.AttnHead
public import proofs.«01_k».proof.Proof.AttnSpec

@[expose] public section

set_option maxRecDepth 16384

noncomputable section

/-! What one head group of the attention's backward kernel computes, entry by entry, when its blocks hold reals. -/

namespace Cert.AttnIdeal.Head

open Idealize.ShloMosaic Cert.AttnIdeal Cert.AttnIdeal.Gen Cert.AttnSpec Cert.RealRow

/-- The blocks one head group loads hold the reals of one block and one key-value head. -/
structure Reads (L : Loads Ideal) (A : Args) (n h : ℕ) : Prop where
  num : Scalar.cmpi .sgt L.n 0#32 = if 0 < n then 1#1 else 0#1
  q : ∀ (g : Fin 4) (r : Fin 128) (d : Fin 64), L.q g (ix2 r d) = ((A.q n h g r d : ℝ) : EReal)
  kp : ∀ (r : Fin 128) (d : Fin 64), L.kp (ix2 r d) = ((A.KW n h r d : ℝ) : EReal)
  kc : ∀ (r : Fin 128) (d : Fin 64), L.kc (ix2 r d) = ((A.KW n h (128 + r) d : ℝ) : EReal)
  vp : ∀ (r : Fin 128) (d : Fin 64), L.vp (ix2 r d) = ((A.VW n h r d : ℝ) : EReal)
  vc : ∀ (r : Fin 128) (d : Fin 64), L.vc (ix2 r d) = ((A.VW n h (128 + r) d : ℝ) : EReal)
  g : ∀ (g : Fin 4) (r : Fin 128) (d : Fin 64), L.g g (ix2 r d) = ((A.gate n h g r d : ℝ) : EReal)
  a : ∀ (g : Fin 4) (r : Fin 128) (d : Fin 64), L.a g (ix2 r d) = ((A.out n h g r d : ℝ) : EReal)
  dy : ∀ (g : Fin 4) (r : Fin 128) (d : Fin 64), L.dy g (ix2 r d) = ((A.dy n h g r d : ℝ) : EReal)
  b : ∀ (g : Fin 4) (r : Fin 128) (j : Fin 256), L.b (ix3 g r j) = seen (r.val < j.val ∧ j.val ≤ r.val + 128) (A.B (4 * h + g) r j)
  s : ∀ g : Fin 4, L.s g = ((A.S (4 * h + g) : ℝ) : EReal)

theorem mask : Named.named (F := Ideal) κ (φ := .f32) "mask" 0xF149F2CA#32 = (⊥ : EReal) := rfl

theorem eighth : Ideal.ofBits .bf16 0x3E00#16 = ((1 / 8 : ℝ) : EReal) := by
  simp [Ideal.ofBits, Ideal.ieee]; rw [← EReal.coe_mul]; norm_num

theorem eighth' : Ideal.ofBits .f32 0x3E000000#32 = ((1 / 8 : ℝ) : EReal) := by
  simp [Ideal.ofBits, Ideal.ieee]; rw [← EReal.coe_mul]; norm_num

theorem floor : Ideal.ofBits .f32 0xFF800000#32 = (⊥ : EReal) := by
  simp [Ideal.ofBits, Ideal.ieee]

theorem sge (j : Fin 256) : IntOp.cmpi .sge (BitVec.ofNat 32 j) 128#32 = if 128 ≤ j.val then 1#1 else 0#1 := by
  revert j; decide +kernel

theorem slt1 (r : Fin 512) : IntOp.cmpi .slt (BitVec.ofNat 32 r) 128#32 = if r.val / 128 < 1 then 1#1 else 0#1 := by
  revert r; decide +kernel
theorem slt2 (r : Fin 512) : IntOp.cmpi .slt (BitVec.ofNat 32 r) 256#32 = if r.val / 128 < 2 then 1#1 else 0#1 := by
  revert r; decide +kernel
theorem slt3 (r : Fin 512) : IntOp.cmpi .slt (BitVec.ofNat 32 r) 384#32 = if r.val / 128 < 3 then 1#1 else 0#1 := by
  revert r; decide +kernel

/-- A row of the group, as a query head and a row of the block. -/
def hd (r : Fin 512) : Fin 4 := ⟨r.val / 128, by omega⟩
def rw' (r : Fin 512) : Fin 128 := ⟨r.val % 128, by omega⟩

theorem quarter {α : Type} (f : Fin 4 → Fin 128 → α) (r : Fin 512) :
    (if h : r.val < 128 then f 0 ⟨r.val, h⟩
      else if h : r.val - 128 < 128 then f 1 ⟨r.val - 128, h⟩
      else if h : r.val - 128 - 128 < 128 then f 2 ⟨r.val - 128 - 128, h⟩
      else f 3 ⟨r.val - 128 - 128 - 128, by omega⟩) = f (hd r) (rw' r) := by
  have go : ∀ (a : Fin 4) (x : ℕ) (hx : x < 128), r.val = 128 * a.val + x → f a ⟨x, hx⟩ = f (hd r) (rw' r) := fun a x hx e => by
    have e1 : hd r = a := Fin.ext (by show r.val / 128 = a.val; omega)
    have e2 : rw' r = ⟨x, hx⟩ := Fin.ext (by show r.val % 128 = x; omega)
    rw [e1, e2]
  split
  · exact go 0 _ _ (by simp)
  · split
    · exact go 1 _ _ (by simp; omega)
    · split
      · exact go 2 _ _ (by simp; omega)
      · exact go 3 _ _ (by simp; omega)

theorem half {α : Type} (f : ℕ → α) (j : Fin 256) : (if _h : j.val < 128 then f j.val else f (128 + (j.val - 128))) = f j.val := by
  split
  · rfl
  · congr 1; omega

theorem rows_at (f : Fin 4 → FVec Ideal S128x64 .f32) (r : Fin 512) (d : Fin 64) : rows f (ix2 r d) = f (hd r) (ix2 (rw' r) d) := by
  pointwise [rows]
  exact quarter (fun g i => f g (ix2 i d)) r

theorem behind_at {y : Vec Ideal S128x64 .bf16} {g : Vec Ideal S128x64 .f32} {r : Fin 128} {d : Fin 64} {a b : ℝ}
    (hy : y (ix2 r d) = (a : EReal)) (hg : g (ix2 r d) = (b : EReal)) : behind y g (ix2 r d) = ((a * (b * sgm b) : ℝ) : EReal) := by
  pointwise [behind, k0_pay16, hy, hg]
  rw [sgm_coe_sub, mul_coe, mul_coe]

namespace Reads

variable {L : Loads Ideal} {A : Args} {n h : ℕ} (R : Reads L A n h)

include R

theorem qs (r : Fin 512) (d : Fin 64) :
    k0_pay5 (L.q 0) (L.q 1) (L.q 2) (L.q 3) (ix2 r d) = ((A.q n h (hd r) (rw' r) d * (1 / 8) : ℝ) : EReal) := by
  pointwise [k0_pay5]
  rw [eighth, ← mul_coe]; congr 1
  exact (quarter (fun g i => L.q g (ix2 i d)) r).trans (R.q _ _ _)

theorem kw (j : Fin 256) (d : Fin 64) : k0_pay6 L.kp L.kc (ix2 j d) = ((A.KW n h j d : ℝ) : EReal) := by
  pointwise [k0_pay6, R.kp, R.kc]
  exact half (fun j => ((A.KW n h j d : ℝ) : EReal)) j

theorem vw (j : Fin 256) (d : Fin 64) : L.vw (ix2 j d) = ((A.VW n h j d : ℝ) : EReal) := by
  pointwise [Loads.vw, k0_pay7, R.vp, R.vc]
  exact half (fun j => ((A.VW n h j d : ℝ) : EReal)) j

theorem score (r : Fin 512) (j : Fin 256) :
    L.score (ix2 r j) = seen (ok n (rw' r) j) (A.score n h (hd r) (rw' r) j) := by
  pointwise [Loads.score, k0_pay8, k0_pay4, R.qs, R.kw, sge]
  have e : ∑ x : Fin 64, ((A.q n h (hd r) (rw' r) x * (1 / 8) : ℝ) : EReal) * ((A.KW n h j x : ℝ) : EReal)
      = (((∑ x : Fin 64, A.q n h (hd r) (rw' r) x * A.KW n h j x) * (1 / 8) : ℝ) : EReal) := by
    simp only [mul_coe, coe_sum, Finset.sum_mul]; congr 1
    exact Finset.sum_congr rfl fun x _ => by ring
  rw [mask, R.num, e, show L.b (ix3 ⟨r.val / 128, by omega⟩ ⟨r.val % 128, by omega⟩ j) = _ from R.b (hd r) (rw' r) j]
  by_cases o : (rw' r).val < j.val ∧ j.val ≤ (rw' r).val + 128
  · by_cases o' : 0 < n ∨ 128 ≤ j.val
    · have c : IntOp.ori (if 0 < n then 1#1 else 0#1) (if 128 ≤ j.val then 1#1 else 0#1) = 1#1 := by
        rcases o' with z | z
        · rw [if_pos z]; split <;> rfl
        · rw [if_pos z]; split <;> rfl
      rw [c, seen, seen, if_pos o, if_pos ⟨o.1, o.2, o'⟩, add_coe]; rfl
    · have c : IntOp.ori (if 0 < n then 1#1 else 0#1) (if 128 ≤ j.val then 1#1 else 0#1) = 0#1 := by
        rw [if_neg fun z => o' (.inl z), if_neg fun z => o' (.inr z)]; rfl
      have o'' : ¬ok n (rw' r) j := fun z => o' z.2.2
      rw [c, seen, seen, if_neg o'']; rfl
  · have o' : ¬ok n (rw' r) j := fun z => o ⟨z.1, z.2.1⟩
    rw [seen, seen, if_neg o, if_neg o', EReal.add_bot]
    exact ite_self _

theorem sink (r : Fin 512) : L.sink (ix2 r (0 : Fin 1)) = ((A.S (4 * h + hd r) : ℝ) : EReal) := by
  pointwise [Loads.sink, k0_pay9, Loads.row, slt1, slt2, slt3]
  rw [← R.s]
  have : r.val / 128 = (hd r).val := rfl
  rw [this]
  generalize hd r = g
  revert g
  intro g
  fin_cases g <;> rfl

theorem top (r : Fin 512) : ∃ m : ℝ, L.top (ix2 r (0 : Fin 1)) = (m : EReal) := by
  refine real_of_le (y := A.S (4 * h + hd r)) ?_ ?_
  · rw [← R.sink]; pointwise [Loads.top, k0_pay10]; exact le_max_right _ _
  · pointwise [Loads.top, k0_pay10]
    rw [show k0_pay9 Loads.row (L.s 3) (L.s 2) (L.s 1) (L.s 0) (ix2 r 0) = _ from R.sink r, floor]
    refine fun e => ?_
    rcases max_choice (Finset.fold max ⊥ (fun x => L.score (ix2 r x)) Finset.univ) ((A.S (4 * h + hd r) : ℝ) : EReal) with c | c
    · exact fold_max_ne_top _ _ (fun k => by rw [R.score]; exact seen_ne_top _ _) (c.symm.trans e)
    · exact EReal.coe_ne_top _ (c.symm.trans e)

theorem e11 {m : ℝ} (r : Fin 512) (hm : L.top (ix2 r (0 : Fin 1)) = (m : EReal)) (j : Fin 256) :
    k0_pay11 L.score Loads.row (L.s 3) (L.s 2) (L.s 1) (L.s 0) (ix2 r j) = ((A.w n h (hd r) (rw' r) j * Real.exp (-m) : ℝ) : EReal) := by
  pointwise [k0_pay11]
  rw [show k0_pay10 L.score Loads.row (L.s 3) (L.s 2) (L.s 1) (L.s 0) (ix2 r 0) = _ from hm, R.score, exp_seen]; rfl

theorem e12 {m : ℝ} (r : Fin 512) (hm : L.top (ix2 r (0 : Fin 1)) = (m : EReal)) :
    k0_pay12 L.score Loads.row (L.s 3) (L.s 2) (L.s 1) (L.s 0) (ix2 r (0 : Fin 1)) = ((A.es h (hd r) * Real.exp (-m) : ℝ) : EReal) := by
  pointwise [k0_pay12]
  rw [show k0_pay10 L.score Loads.row (L.s 3) (L.s 2) (L.s 1) (L.s 0) (ix2 r 0) = _ from hm,
    show k0_pay9 Loads.row (L.s 3) (L.s 2) (L.s 1) (L.s 0) (ix2 r 0) = _ from R.sink r, exp_sub]; rfl

theorem e13 {m : ℝ} (r : Fin 512) (hm : L.top (ix2 r (0 : Fin 1)) = (m : EReal)) :
    k0_pay13 L.score Loads.row (L.s 3) (L.s 2) (L.s 1) (L.s 0) (ix2 r (0 : Fin 1)) = ((1 / (A.Z n h (hd r) (rw' r) * Real.exp (-m)) : ℝ) : EReal) := by
  pointwise [k0_pay13]
  rw [R.e12 r hm]
  simp only [R.e11 r hm]
  rw [coe_sum, add_coe, show (∑ k : Fin 256, A.w n h (hd r) (rw' r) k * Real.exp (-m)) + A.es h (hd r) * Real.exp (-m)
    = A.Z n h (hd r) (rw' r) * Real.exp (-m) by rw [Args.Z, add_mul, Finset.sum_mul]]
  exact div_coe 1 (mul_ne_zero (A.Z_ne n h (hd r) (rw' r)) (Real.exp_pos _).ne')

theorem prob (r : Fin 512) (j : Fin 256) : L.prob (ix2 r j) = ((A.p n h (hd r) (rw' r) j : ℝ) : EReal) := by
  obtain ⟨m, hm⟩ := R.top r
  pointwise [Loads.prob, k0_pay14]
  rw [R.e13 r hm, R.e11 r hm, mul_coe, Args.p]
  refine congrArg _ ?_
  have := A.Z_ne n h (hd r) (rw' r); have := (Real.exp_pos (-m)).ne'
  field_simp

theorem psink (r : Fin 512) : L.psink (ix2 r (0 : Fin 1)) = ((A.ps n h (hd r) (rw' r) : ℝ) : EReal) := by
  obtain ⟨m, hm⟩ := R.top r
  pointwise [Loads.psink, k0_pay15]
  rw [R.e13 r hm, R.e12 r hm, mul_coe, Args.ps]
  refine congrArg _ ?_
  have := A.Z_ne n h (hd r) (rw' r); have := (Real.exp_pos (-m)).ne'
  field_simp

theorem da (r : Fin 512) (d : Fin 64) : L.da (ix2 r d) = ((A.da n h (hd r) (rw' r) d : ℝ) : EReal) := by
  rw [Loads.da, rows_at]
  exact behind_at (R.dy _ _ _) (R.g _ _ _)

theorem out (r : Fin 512) (d : Fin 64) : L.out (ix2 r d) = ((A.out n h (hd r) (rw' r) d : ℝ) : EReal) := by
  rw [Loads.out, rows_at, ← R.a]
  pointwise []

theorem dgate (g : Fin 4) (r : Fin 128) (d : Fin 64) : L.dgate g (ix2 r d) = ((A.dgate n h g r d : ℝ) : EReal) := by
  pointwise [Loads.dgate, k0_pay19, k0_pay16, k0_pay17, R.g, R.dy, R.a]
  rw [sgm_coe_sub, coe_one]
  simp only [mul_coe, sub_coe, add_coe]; rfl

theorem delta (r : Fin 512) : L.delta (ix2 r (0 : Fin 1)) = ((A.delta n h (hd r) (rw' r) : ℝ) : EReal) := by
  pointwise [Loads.delta, R.da, R.out]
  simp only [mul_coe, coe_sum, A.delta_out]

theorem ds (r : Fin 512) (j : Fin 256) : L.ds (ix2 r j) = ((A.ds n h (hd r) (rw' r) j : ℝ) : EReal) := by
  pointwise [Loads.ds, R.da, R.vw, R.prob, R.delta]
  simp only [mul_coe, coe_sum, sub_coe]; rfl

theorem dsink (was : Vec Ideal S1x512x1 .f32) (r : Fin 512) :
    L.dsink was (ix3 (0 : Fin 1) r (0 : Fin 1)) = was (ix3 (0 : Fin 1) r (0 : Fin 1)) + ((A.dsink n h (hd r) (rw' r) : ℝ) : EReal) := by
  pointwise [Loads.dsink, R.psink, R.delta]
  rw [zero_sub, neg_coe, mul_coe, Args.dsink, neg_mul]

theorem dbias (was : Vec Ideal S4x128x256 .f32) (g : Fin 4) (r : Fin 128) (j : Fin 256) :
    L.dbias was (ix3 g r j) = was (ix3 g r j) + ((A.ds n h g r j : ℝ) : EReal) := by
  pointwise [Loads.dbias, R.ds]
  rw [show hd ⟨g.val * 128 + r.val, by omega⟩ = g from Fin.ext (by show (g.val * 128 + r.val) / 128 = g.val; omega),
    show rw' ⟨g.val * 128 + r.val, by omega⟩ = r from Fin.ext (by show (g.val * 128 + r.val) % 128 = r.val; omega)]

theorem dq (r : Fin 512) (d : Fin 64) : k0_pay38 L.kw L.ds (ix2 r d) = ((A.dq n h (hd r) (rw' r) d : ℝ) : EReal) := by
  pointwise [k0_pay38, k0_pay37, R.ds, Loads.kw, R.kw]
  simp only [mul_coe, coe_sum, eighth']; rfl

theorem dqs (g : Fin 4) (r : Fin 128) (d : Fin 64) :
    (![L.dq0, L.dq1, L.dq2, L.dq3] g) (ix2 r d) = ((A.dq n h g r d : ℝ) : EReal) := by
  have go : ∀ x : Fin 512, x.val = 128 * g.val + r.val → k0_pay38 L.kw L.ds (ix2 x d) = ((A.dq n h g r d : ℝ) : EReal) := fun x e => by
    rw [R.dq, show hd x = g from Fin.ext (by show x.val / 128 = g.val; omega), show rw' x = r from Fin.ext (by show x.val % 128 = r.val; omega)]
  fin_cases g
  · show L.dq0 (ix2 r d) = _
    pointwise [Loads.dq0, k0_pay39]; exact go _ (by simp)
  · show L.dq1 (ix2 r d) = _
    pointwise [Loads.dq1, k0_pay40]; exact go _ (by simp)
  · show L.dq2 (ix2 r d) = _
    pointwise [Loads.dq2, k0_pay41]; exact go _ (by simp)
  · show L.dq3 (ix2 r d) = _
    pointwise [Loads.dq3, k0_pay42]; exact go _ (by simp)

theorem dk (j : Fin 256) (d : Fin 64) : L.dk (ix2 j d) = ((A.dk n h j d : ℝ) : EReal) := by
  pointwise [Loads.dk, k0_pay43, k0_pay37, R.ds, Loads.qs, R.qs]
  simp only [mul_coe, coe_sum]; congr 1
  have e := sum_rows fun g i => A.ds n h g i j * (A.q n h g i d * (1 / 8))
  refine e.trans ?_
  simp only [Args.dk, Finset.sum_mul, mul_assoc]

theorem dv (j : Fin 256) (d : Fin 64) : L.dv (ix2 j d) = ((A.dv n h j d : ℝ) : EReal) := by
  pointwise [Loads.dv, R.prob, R.da]
  simp only [mul_coe, coe_sum]; congr 1
  exact sum_rows fun g i => A.p n h g i j * A.da n h g i d

end Reads

end Cert.AttnIdeal.Head

end
-- ==== Proof.AttnArrays.lean ====
module

public import proofs.«01_k».proof.Proof.AttnPieces
public import proofs.«01_k».proof.Proof.AttnPoints

@[expose] public section

set_option maxRecDepth 16384

noncomputable section

/-! Arrays of reals, and the lists of pieces that store them. -/

namespace Cert.AttnIdeal.Point

open Cert.AttnIdeal.Gen Cert.AttnIdeal.Head Cert.AttnSpec
open Idealize.ShloMosaic

/-- A matrix of reals. -/
def g2 {a b : ℕ} (f : ℕ → ℕ → ℝ) : (⟨2, ![a, b]⟩ : Shape).Idx → EReal :=
  fun y => ((f (y 0).val (y 1).val : ℝ) : EReal)
/-- A stack of matrices of reals. -/
def g3 {a b c : ℕ} (f : ℕ → ℕ → ℕ → ℝ) : (⟨3, ![a, b, c]⟩ : Shape).Idx → EReal :=
  fun y => ((f (y 0).val (y 1).val (y 2).val : ℝ) : EReal)

section lists

variable {sp : Space} {s : Shape} {e : EltTy} (v : View sig .tc sp s e)

/-- A list whose pieces agree with one array and cover it leaves that array. -/
theorem leave_eq (L L' : List (View.Piece (Elt Ideal) s e)) (G : Vec Ideal s e) (hL : ∀ p ∈ L, ∀ x, p.2 x = G (p.1.emb x))
    (hc : ∀ y, ∃ p ∈ L, y ∈ p.1.set) : Leave v (L ++ L') (· = G) := fun f => by
  rw [View.writes_append]
  exact funext fun y => View.read_writes_apply_of_pieces v _ G L hL y (hc y)

theorem leave_eq' (L : List (View.Piece (Elt Ideal) s e)) (G : Vec Ideal s e) (hL : ∀ p ∈ L, ∀ x, p.2 x = G (p.1.emb x))
    (hc : ∀ y, ∃ p ∈ L, y ∈ p.1.set) : Leave v L (· = G) := fun _ =>
  funext fun y => View.read_writes_apply_of_pieces v _ G L hL y (hc y)

theorem readCov_eq (L : List (View.Piece (Elt Ideal) s e)) (B : LoadRect s) (G : Vec Ideal s e) (hL : ∀ p ∈ L, ∀ x, p.2 x = G (p.1.emb x))
    (hc : ∀ y, ∃ p ∈ L, y ∈ p.1.set) : v.readCov L B = fun x => G (B.idx x) :=
  funext fun x => View.read_writes_apply_of_pieces v _ G L hL (B.idx x) (hc _)

end lists

theorem cols_agree (f : Fin 4 → Fin 4 → Vec Ideal S128x64 .bf16) (G : ℕ → ℕ → ℝ)
    (h : ∀ (a g : Fin 4), f a g = g2 fun r d => G r (256 * a.val + 64 * g.val + d)) :
    ∀ p ∈ cols f, ∀ x, p.2 x = (g2 G : Vec Ideal S128x1024 .bf16) (p.1.emb x) := by
  have go : ∀ (a g : Fin 4) (o : ℕ) (x : S128x64.Idx), o = 256 * a.val + 64 * g.val →
      f a g x = ((G (0 + 1 * (x 0).val) (o + 1 * (x 1).val) : ℝ) : EReal) := fun a g o x e => by
    rw [h, g2, e, Nat.zero_add, Nat.one_mul, Nat.one_mul]
  simp only [cols, List.forall_mem_cons]
  exact ⟨fun x => go 3 3 _ x rfl, fun x => go 3 2 _ x rfl, fun x => go 3 1 _ x rfl, fun x => go 3 0 _ x rfl,
    fun x => go 2 3 _ x rfl, fun x => go 2 2 _ x rfl, fun x => go 2 1 _ x rfl, fun x => go 2 0 _ x rfl,
    fun x => go 1 3 _ x rfl, fun x => go 1 2 _ x rfl, fun x => go 1 1 _ x rfl, fun x => go 1 0 _ x rfl,
    fun x => go 0 3 _ x rfl, fun x => go 0 2 _ x rfl, fun x => go 0 1 _ x rfl, fun x => go 0 0 _ x rfl, fun _ h => absurd h List.not_mem_nil⟩

theorem cols_cover (f : Fin 4 → Fin 4 → Vec Ideal S128x64 .bf16) : ∀ y, ∃ p ∈ cols f, y ∈ p.1.set :=
  View.cover_of_tiled (cols f) ![128, 64] rfl

theorem quads_agree (f : Fin 4 → Vec Ideal S256x64 .f32) (G : ℕ → ℕ → ℝ)
    (h : ∀ a : Fin 4, f a = g2 fun r d => G r (64 * a.val + d)) :
    ∀ p ∈ quads f, ∀ x, p.2 x = (g2 G : Vec Ideal S256x256 .f32) (p.1.emb x) := by
  have go : ∀ (a : Fin 4) (o : ℕ) (x : S256x64.Idx), o = 64 * a.val →
      f a x = ((G (0 + 1 * (x 0).val) (o + 1 * (x 1).val) : ℝ) : EReal) := fun a o x e => by
    rw [h, g2, e, Nat.zero_add, Nat.one_mul, Nat.one_mul]
  simp only [quads, List.forall_mem_cons]
  exact ⟨fun x => go 3 _ x rfl, fun x => go 2 _ x rfl, fun x => go 1 _ x rfl, fun x => go 0 _ x rfl, fun _ h => absurd h List.not_mem_nil⟩

theorem quads_cover (f : Fin 4 → Vec Ideal S256x64 .f32) : ∀ y, ∃ p ∈ quads f, y ∈ p.1.set :=
  View.cover_of_tiled (quads f) ![256, 64] rfl

theorem slabs_agree (f : Fin 4 → Vec Ideal S4x128x256 .f32) (G : ℕ → ℕ → ℕ → ℝ)
    (h : ∀ a : Fin 4, f a = g3 fun g r j => G (4 * a.val + g) r j) :
    ∀ p ∈ slabs f, ∀ x, p.2 x = (g3 G : Vec Ideal S16x128x256 .f32) (p.1.emb x) := by
  have go : ∀ (a : Fin 4) (o : ℕ) (x : S4x128x256.Idx), o = 4 * a.val →
      f a x = ((G (o + 1 * (x 0).val) (0 + 1 * (x 1).val) (0 + 1 * (x 2).val) : ℝ) : EReal) := fun a o x e => by
    rw [h, g3, e, Nat.zero_add, Nat.zero_add, Nat.one_mul, Nat.one_mul, Nat.one_mul]
  simp only [slabs, List.forall_mem_cons]
  exact ⟨fun x => go 3 _ x rfl, fun x => go 2 _ x rfl, fun x => go 1 _ x rfl, fun x => go 0 _ x rfl, fun _ h => absurd h List.not_mem_nil⟩

theorem slabs_cover (f : Fin 4 → Vec Ideal S4x128x256 .f32) : ∀ y, ∃ p ∈ slabs f, y ∈ p.1.set :=
  View.cover_of_tiled (slabs f) ![4, 128, 256] rfl

theorem sinks_agree (f : Fin 4 → Vec Ideal S1x512x1 .f32) (G : ℕ → ℕ → ℕ → ℝ)
    (h : ∀ a : Fin 4, f a = g3 fun _ r _ => G a.val r 0) :
    ∀ p ∈ sinks f, ∀ x, p.2 x = (g3 (fun a r _ => G a r 0) : Vec Ideal S4x512x1 .f32) (p.1.emb x) := by
  have go : ∀ (a : Fin 4) (o : ℕ) (x : S1x512x1.Idx), o = a.val →
      f a x = ((G (o + 1 * (x 0).val) (0 + 1 * (x 1).val) 0 : ℝ) : EReal) := fun a o x e => by
    have : (x 0).val = 0 := by have := (x 0).isLt; simpa using this
    simp only [h, g3, e, this, Nat.zero_add, Nat.one_mul, Nat.add_zero]
  simp only [sinks, List.forall_mem_cons]
  exact ⟨fun x => go 3 _ x rfl, fun x => go 2 _ x rfl, fun x => go 1 _ x rfl, fun x => go 0 _ x rfl, fun _ h => absurd h List.not_mem_nil⟩

theorem sinks_cover (f : Fin 4 → Vec Ideal S1x512x1 .f32) : ∀ y, ∃ p ∈ sinks f, y ∈ p.1.set :=
  View.cover_of_tiled (sinks f) ![1, 512, 1] rfl

theorem bands_agree (q : Vec Ideal S128x1024 .bf16) (k v : Vec Ideal S128x256 .bf16) (Q K V : ℕ → ℕ → ℝ)
    (hq : q = g2 Q) (hk : k = g2 K) (hv : v = g2 V) :
    ∀ p ∈ bands q k v, ∀ x, p.2 x = (g2 (fun r c => if c < 1024 then Q r c else if c < 1280 then K r (c - 1024) else V r (c - 1280)) : Vec Ideal S128x1536 .bf16) (p.1.emb x) := by
  simp only [bands, List.forall_mem_cons]
  refine ⟨fun x => ?_, fun x => ?_, fun x => ?_, fun _ h => absurd h List.not_mem_nil⟩
  · rw [hv]
    show ((V (x 0).val (x 1).val : ℝ) : EReal) = ((if 1280 + 1 * (x 1).val < 1024 then Q (0 + 1 * (x 0).val) (1280 + 1 * (x 1).val) else if 1280 + 1 * (x 1).val < 1280 then
      K (0 + 1 * (x 0).val) (1280 + 1 * (x 1).val - 1024) else V (0 + 1 * (x 0).val) (1280 + 1 * (x 1).val - 1280) : ℝ) : EReal)
    rw [if_neg (by omega), if_neg (by omega)]; simp
  · rw [hk]
    have b : (x 1).val < 256 := (x 1).isLt
    show ((K (x 0).val (x 1).val : ℝ) : EReal) = ((if 1024 + 1 * (x 1).val < 1024 then Q (0 + 1 * (x 0).val) (1024 + 1 * (x 1).val) else if 1024 + 1 * (x 1).val < 1280 then
      K (0 + 1 * (x 0).val) (1024 + 1 * (x 1).val - 1024) else V (0 + 1 * (x 0).val) (1024 + 1 * (x 1).val - 1280) : ℝ) : EReal)
    rw [if_neg (by omega), if_pos (by omega)]; simp
  · rw [hq]
    have b : (x 1).val < 1024 := (x 1).isLt
    show ((Q (x 0).val (x 1).val : ℝ) : EReal) = ((if 0 + 1 * (x 1).val < 1024 then Q (0 + 1 * (x 0).val) (0 + 1 * (x 1).val) else if 0 + 1 * (x 1).val < 1280 then
      K (0 + 1 * (x 0).val) (0 + 1 * (x 1).val - 1024) else V (0 + 1 * (x 0).val) (0 + 1 * (x 1).val - 1280) : ℝ) : EReal)
    rw [if_pos (by omega)]; simp

theorem bands_cover (q : Vec Ideal S128x1024 .bf16) (k v : Vec Ideal S128x256 .bf16) : ∀ y, ∃ p ∈ bands q k v, y ∈ p.1.set := fun y => by
  have b0 : (y 0).val < 128 := (y 0).isLt
  have b1 : (y 1).val < 1536 := (y 1).isLt
  have go : ∀ (o n : ℕ) (inb), o ≤ (y 1).val → (y 1).val < o + n →
      y ∈ (Rect.unit (s := S128x1536) ![0, o] ![128, n] inb).set := fun o n inb h h' =>
    Rect.mem_set_unit.mpr (Fin.forall_fin_two.mpr ⟨⟨Nat.zero_le _, by simpa using b0⟩, ⟨h, h'⟩⟩)
  by_cases h : (y 1).val < 1024
  · exact ⟨_, .tail _ (.tail _ (.head _)), go 0 1024 (by decide) (Nat.zero_le _) (by omega)⟩
  · by_cases h' : (y 1).val < 1280
    · exact ⟨_, .tail _ (.head _), go 1024 256 (by decide) (by omega) (by omega)⟩
    · exact ⟨_, .head _, go 1280 256 (by decide) (by omega) (by omega)⟩

theorem whole_agree (q : Vec Ideal S128x1024 .bf16) : ∀ p ∈ whole q, ∀ x, p.2 x = q (p.1.emb x) := by
  simp only [whole, List.forall_mem_cons]
  exact ⟨fun x => congrArg q (funext (Fin.forall_fin_two.mpr ⟨Fin.ext (show (x 0).val = 0 + 1 * (x 0).val by omega), Fin.ext (show (x 1).val = 0 + 1 * (x 1).val by omega)⟩)), fun _ h => absurd h List.not_mem_nil⟩

theorem whole_cover (q : Vec Ideal S128x1024 .bf16) : ∀ y, ∃ p ∈ whole q, y ∈ p.1.set :=
  View.cover_of_tiled (whole q) ![128, 1024] rfl

theorem whole_agree' (q : Vec Ideal S128x256 .f32) : ∀ p ∈ whole' q, ∀ x, p.2 x = q (p.1.emb x) := by
  simp only [whole', List.forall_mem_cons]
  exact ⟨fun x => congrArg q (funext (Fin.forall_fin_two.mpr ⟨Fin.ext (show (x 0).val = 0 + 1 * (x 0).val by omega), Fin.ext (show (x 1).val = 0 + 1 * (x 1).val by omega)⟩)), fun _ h => absurd h List.not_mem_nil⟩

theorem whole_cover' (q : Vec Ideal S128x256 .f32) : ∀ y, ∃ p ∈ whole' q, y ∈ p.1.set :=
  View.cover_of_tiled (whole' q) ![128, 256] rfl

end Cert.AttnIdeal.Point

end
-- ==== Proof.AttnArgs.lean ====
module

public import proofs.«01_k».proof.Proof.AttnArrays

@[expose] public section

set_option maxRecDepth 16384

noncomputable section

/-! The arguments of the attention's gradients, as reals. -/

namespace Cert.AttnSpec

open Idealize.ShloMosaic Cert.RealRow
open Cert.AttnIdeal.Point (g2 g3)

structure Data where
  Q : ℕ → ℕ → ℝ
  K : ℕ → ℕ → ℝ
  V : ℕ → ℕ → ℝ
  G : ℕ → ℕ → ℝ
  B : ℕ → ℕ → ℕ → ℝ
  S : ℕ → ℝ
  DY : ℕ → ℕ → ℝ

namespace Data

variable (D : Data)

/-- A window's rows with nothing before the first block, -/
def blank (K : ℕ → ℕ → ℝ) (n h j d : ℕ) : ℝ :=
  if j < 128 then if n = 0 then 0 else K (128 * (n - 1) + j) (64 * h + d) else K (128 * n + (j - 128)) (64 * h + d)
/-- and with the first block before itself. -/
def twice (K : ℕ → ℕ → ℝ) (n h j d : ℕ) : ℝ :=
  if j < 128 then K (128 * (n - 1) + j) (64 * h + d) else K (128 * n + (j - 128)) (64 * h + d)

def blanks : Args := ⟨D.Q, blank D.K, blank D.V, D.G, D.DY, D.B, D.S⟩
def twices : Args := ⟨D.Q, twice D.K, twice D.V, D.G, D.DY, D.B, D.S⟩

theorem twice_blank (K : ℕ → ℕ → ℝ) (n h j d : ℕ) (e : 0 < n ∨ 128 ≤ j) : twice K n h j d = blank K n h j d := by
  unfold twice blank
  by_cases hj : j < 128
  · rw [if_pos hj, if_pos hj, if_neg (by omega)]
  · rw [if_neg hj, if_neg hj]

theorem same : Same D.twices D.blanks where
  Q := rfl
  G := rfl
  DY := rfl
  B := rfl
  S := rfl
  KW := twice_blank D.K
  VW := twice_blank D.V

/-- The arguments hold reals, the cotangent in the columns of the attention. -/
structure Holds (x0 : (⟨2, ![8192, 1024]⟩ : Shape).Idx → EReal) (x1 x2 : (⟨2, ![8192, 256]⟩ : Shape).Idx → EReal) (x3 : (⟨2, ![8192, 1024]⟩ : Shape).Idx → EReal)
    (x4 : (⟨3, ![16, 128, 256]⟩ : Shape).Idx → EReal) (x5 : (⟨2, ![1, 16]⟩ : Shape).Idx → EReal) (x6 : (⟨2, ![8192, 2048]⟩ : Shape).Idx → EReal) : Prop where
  q : x0 = g2 D.Q
  k : x1 = g2 D.K
  v : x2 = g2 D.V
  g : x3 = g2 D.G
  b : x4 = g3 D.B
  s : x5 = g2 fun _ c => D.S c
  dy : ∀ (r : Fin 8192) (c : Fin 2048), c.val < 1024 → x6 (ix2 r c) = ((D.DY r c : ℝ) : EReal)

end Data

end Cert.AttnSpec

end
-- ==== Proof.AttnRead.lean ====
module

public import proofs.«01_k».proof.Proof.Gen.AttnRefIdeal.Read
public import proofs.«01_k».proof.Proof.AttnArgs
public import proofs.«01_k».proof.Proof.AttnPoints

@[expose] public section

set_option maxRecDepth 16384

noncomputable section

/-! The reference's values at an index, over real arguments. -/

namespace Cert.AttnRefIdeal.Reals

open Cert.AttnRefIdeal Cert.AttnRefIdeal.Gen Cert.AttnRefIdeal.Read Idealize.ShloMosaic Idealize.ShloMosaic.TcCoe Cert.RealRow Cert.AttnSpec
open Cert.AttnIdeal.Point (g2 g3)
open Cert.AttnIdeal.Head (eighth')

variable {D : Data} {x0 : FVec Ideal S8192x1024 .f32} {x1 x2 : FVec Ideal S8192x256 .f32} {x3 : FVec Ideal S8192x1024 .f32}
  {x4 : FVec Ideal S16x128x256 .f32} {x5 : FVec Ideal S1x16 .f32} {x6 : FVec Ideal S8192x2048 .bf16} (h : D.Holds x0 x1 x2 x3 x4 x5 x6)

/-- A row of scores and its sink. -/
def row (A : Args) (n h g i : ℕ) (l : Fin 257) : EReal := if l.val < 256 then seen (ok n i l) (A.score n h g i l) else ((A.S (4 * h + g) : ℝ) : EReal)

theorem row_ne_top (A : Args) (n h g i : ℕ) (l : Fin 257) : row A n h g i l ≠ ⊤ := by
  unfold row; split
  · exact seen_ne_top _ _
  · exact EReal.coe_ne_top _

theorem top_real {ι : Type} (s : Finset ι) (f : ι → EReal) (hf : ∀ l, f l ≠ ⊤) {l : ι} (hl : l ∈ s) {y : ℝ} (hy : (y : EReal) ≤ f l) :
    ∃ m : ℝ, s.fold max ⊥ f = (m : EReal) :=
  real_of_le ((Finset.le_fold_max _).mpr (Or.inr ⟨l, hl, hy⟩)) (fold_max_ne_top _ _ hf)

theorem row_sink (A : Args) (n h g i : ℕ) (l : Fin 257) (hl : ¬l.val < 256) : ((A.S (4 * h + g) : ℝ) : EReal) ≤ row A n h g i l := by
  unfold row; rw [if_neg hl]

theorem host_top {s t u : Shape} {a : Fin s.rank} (y : FVec Ideal s .f32) (init : FVec Ideal u .f32) (h' : s.ReducesTo [a] t) (h : s.Reduces [a] t) (hu : 0 < u.numel)
    (j : t.Idx) (hi : init (Shape.Idx.first hu) = (⊥ : EReal)) (hy : ∀ l, y (h.lift j l) ≠ (⊤ : EReal)) (l : Fin (s.size a)) {x : ℝ} (hx : (x : EReal) ≤ y (h.lift j l)) :
    ∃ m : ℝ, Host.reduce FloatOps.maximumf y init h' hu j = (m : EReal) := by
  rw [Host.reduce_eq_fold_single FloatOps.maximumf y init h' h hu j, hi]
  exact top_real Finset.univ (y ∘ h.lift j) hy (Finset.mem_univ l) hx

theorem none_seen : val_main_cst_10 (F := Ideal) (Shape.Idx.first h_S_) = (⊥ : EReal) := by
  rw [val_main_cst_10_apply]
  simp only [Ideal.ofBits_def]
  exact Cert.AttnIdeal.Head.floor

theorem lanes : S64x4x4x128x257.Reduces [4] S64x4x4x128 := by decide

theorem lane_at (y : FVec Ideal S64x4x4x128x257 .f32) (n : Fin 64) (k g : Fin 4) (i : Fin 128) (l : Fin 257) :
   y (lanes.lift (ix4 n k g i) l) = y (ix5 n k g i l) :=
    congrArg y (funext fun a => Fin.ext (by match a with | ⟨0, _⟩ => rfl | ⟨1, _⟩ => rfl | ⟨2, _⟩ => rfl | ⟨3, _⟩ => rfl | ⟨4, _⟩ => rfl))

theorem rowTop (n : Fin 64) (k g : Fin 4) (i : Fin 128) (y : FVec Ideal S64x4x4x128x257 .f32) (e : ∀ l : Fin 257, y (ix5 n k g i l) ≠ (⊤ : EReal)) (S : ℝ) (e' : (S : EReal) ≤ y (ix5 n k g i (⟨256, by decide⟩ : Fin 257))) :
    ∃ m : ℝ, Host.reduce FloatOps.maximumf y (val_main_cst_10 (F := Ideal)) reducesTo_S64x4x4x128x257_S64x4x4x128_d4 h_S_ (ix4 n k g i) = (m : EReal) := by
  have h1 : ∀ l : Fin 257, y (lanes.lift (ix4 n k g i) l) ≠ (⊤ : EReal) := fun l => ne_of_eq_of_ne (lane_at y n k g i l) (e l)
  have h2 : (S : EReal) ≤ y (lanes.lift (ix4 n k g i) (⟨256, by decide⟩ : Fin 257)) := le_of_le_of_eq e' (lane_at y n k g i _).symm
  exact host_top y (val_main_cst_10 (F := Ideal)) reducesTo_S64x4x4x128x257_S64x4x4x128_d4 lanes h_S_ (ix4 n k g i) none_seen h1 (⟨256, by decide⟩ : Fin 257) h2

/-- A row's weights and its sink's. -/
def weight (A : Args) (n h g i : ℕ) (l : Fin 257) : ℝ := if l.val < 256 then A.w n h g i l else A.es h g

theorem weights (A : Args) (n h g i : ℕ) (c : ℝ) : ∑ l : Fin 257, weight A n h g i l * c = A.Z n h g i * c := by
  rw [← Finset.sum_mul, Fin.sum_univ_castSucc]
  refine congrArg (· * c) ?_
  exact congrArg₂ (· + ·) (Finset.sum_congr rfl fun j _ => if_pos j.isLt) (if_neg (by decide))

theorem windowed (K : ℕ → ℕ → ℝ) (n : Fin 64) (k : Fin 4) (j : Fin 256) (d : Fin 64) :
    (if h_1 : j.val < 128 then if h : n.val < 1 then (0 : EReal) else g2 K (ix2 (⟨(n.val - 1) * 128 + j.val, by omega⟩ : Fin 8192) (⟨k.val * 64 + d.val, by omega⟩ : Fin 256))
      else g2 K (ix2 (⟨n.val * 128 + (j.val - 128), by omega⟩ : Fin 8192) (⟨k.val * 64 + d.val, by omega⟩ : Fin 256)))
      = ((Data.blank K n k j d : ℝ) : EReal) := by
  unfold Data.blank
  by_cases hj : j.val < 128
  · by_cases hn : n.val < 1
    · rw [dif_pos hj, dif_pos hn, if_pos hj, if_pos (by omega), EReal.coe_zero]
    · rw [dif_pos hj, dif_neg hn, if_pos hj, if_neg (by omega)]
      exact congrArg _ (congrArg₂ K (show (n.val - 1) * 128 + j.val = _ by omega) (show k.val * 64 + d.val = _ by omega))
  · rw [dif_neg hj, if_neg hj]
    exact congrArg _ (congrArg₂ K (show n.val * 128 + (j.val - 128) = _ by omega) (show k.val * 64 + d.val = _ by omega))

theorem v58_of (j) (P : EReal → Prop) (e : ∀ y : FVec Ideal S64x4x4x128x257 .f32, y = val_main_v57 (F := Ideal) x0 x1 x4 x5 → P (Host.reduce (FloatOps.maximumf (F := Ideal) (φ := .f32)) y (val_main_cst_10 (F := Ideal)) reducesTo_S64x4x4x128x257_S64x4x4x128_d4 h_S_ j)) : P (val_main_v58 (F := Ideal) x0 x1 x4 x5 j) := by
  unfold val_main_v58
  exact e _ rfl

theorem v58_real (n : Fin 64) (k g : Fin 4) (i : Fin 128)  (e : ∀ l : Fin 257, val_main_v57 (F := Ideal) x0 x1 x4 x5 (ix5 n k g i l) = row D.blanks n k g i l) :
    ∃ m : ℝ, val_main_v58 (F := Ideal) x0 x1 x4 x5 (ix4 n k g i) = (m : EReal) := by
  refine v58_of (ix4 n k g i) (fun z => ∃ m : ℝ, z = (m : EReal)) fun y hy => ?_
  have e' : ∀ l : Fin 257, y (ix5 n k g i l) = row D.blanks n k g i l := fun l => (congrFun hy _).trans (e l)
  clear hy e
  exact rowTop n k g i y (fun l => ne_of_eq_of_ne (e' l) (row_ne_top D.blanks n k g i l)) (D.blanks.S (4 * k + g))
    (le_of_le_of_eq (row_sink D.blanks n k g i _ (by decide)) (e' _).symm)
theorem v64 (n : Fin 64) (k g : Fin 4) (i : Fin 128) : val_main_v64 (F := Ideal) (ix4 n k g i) = (⊥ : EReal) := by
  pointwise [val_main_v64, val_main_cst_12, Cert.AttnIdeal.Head.floor]

theorem v65_of {j} {m : ℝ} (e : val_main_v64 (F := Ideal) j = (⊥ : EReal)) (hm : val_main_v58 (F := Ideal) x0 x1 x4 x5 j = (m : EReal)) :
    val_main_v65 (F := Ideal) x0 x1 x4 x5 j = (m : EReal) := by
  rw [val_main_v65_apply, e, hm]
  exact max_eq_right bot_le

theorem near : ∀ (i : Fin 128) (j : Fin 256),
    IntOp.andi (IntOp.cmpi .sge (IntOp.subi (IntOp.addi (BitVec.ofNat 32 i) 128#32) (BitVec.ofNat 32 j)) 0#32)
      (IntOp.cmpi .slt (IntOp.subi (IntOp.addi (BitVec.ofNat 32 i) 128#32) (BitVec.ofNat 32 j)) 128#32)
      = if i.val < j.val ∧ j.val ≤ i.val + 128 then 1#1 else 0#1 := by decide +kernel

theorem known : ∀ (n : Fin 64) (j : Fin 256),
    IntOp.cmpi .sge (IntOp.addi (IntOp.subi (IntOp.muli (BitVec.ofNat 32 n) 128#32) 128#32) (BitVec.ofNat 32 j)) 0#32
      = if 0 < n.val ∨ 128 ≤ j.val then 1#1 else 0#1 := by decide +kernel

theorem v54_1 (n : Fin 64) (k g : Fin 4) (i : Fin 128) (j : Fin 256) :
    val_main_v54_1 (F := Ideal) (ix5 n k g i j) = if ok n i j then 1#1 else 0#1 := by
  pointwise [val_main_v54_1, val_main_v50, val_main_v49, val_main_v48, val_main_v47, val_main_v46, val_main_v45, val_main_v44, val_main_v43, val_main_v42, val_main_v41, val_main_v40, val_main_v39,
    val_main_v38, val_main_v37, val_main_v36, val_main_v35, val_main_v34, val_main_v32, val_main_v31, val_main_v30, val_main_v29, val_main_v28, val_main_v27, val_main_v26, val_main_v25, val_main_v24,
    val_main_v23, val_main_v22, val_main_v21, val_main_v20, val_main_v19, val_main_c, val_main_c_4, val_main_c_5, val_main_c_6, val_main_c_7, val_main_c_8]
  rw [near, known]
  by_cases a : i.val < j.val ∧ j.val ≤ i.val + 128 <;> by_cases b : 0 < n.val ∨ 128 ≤ j.val
  · rw [if_pos a, if_pos b, if_pos ⟨a.1, a.2, b⟩]; rfl
  · rw [if_pos a, if_neg b, if_neg fun o => b o.2.2]; rfl
  · rw [if_neg a, if_pos b, if_neg fun o => a ⟨o.1, o.2.1⟩]; rfl
  · rw [if_neg a, if_neg b, if_neg fun o => b o.2.2]; rfl

section forward

include h

theorem v0 (n : Fin 64) (i : Fin 128) (k g : Fin 4) (d : Fin 64) :
    val_main_v0 (F := Ideal) x0 (ix5 n i k g d) = ((D.blanks.q n k g i d : ℝ) : EReal) := by
  pointwise [val_main_v0, h.q]
  exact congrArg _ (congrArg₂ D.Q (show n.val * 128 + i.val = _ by omega) (show k.val * 256 + g.val * 64 + d.val = _ by omega))

theorem v8 (n : Fin 64) (j : Fin 256) (k : Fin 4) (d : Fin 64) :
    val_main_v8 (F := Ideal) x1 (ix4 n j k d) = ((D.blanks.KW n k j d : ℝ) : EReal) := by
  pointwise [val_main_v8, val_main_v6, val_main_v5, val_main_v4, val_main_v1, val_main_cst, h.k]
  exact windowed D.K n k j d

theorem v14 (n : Fin 64) (j : Fin 256) (k : Fin 4) (d : Fin 64) :
    val_main_v14 (F := Ideal) x2 (ix4 n j k d) = ((D.blanks.VW n k j d : ℝ) : EReal) := by
  pointwise [val_main_v14, val_main_v12, val_main_v11, val_main_v10, val_main_v2, val_main_cst_1, h.v]
  exact windowed D.V n k j d

theorem v53 (n : Fin 64) (k g : Fin 4) (i : Fin 128) (j : Fin 256) :
    val_main_v53 (F := Ideal) x0 x1 x4 (ix5 n k g i j) = ((D.blanks.score n k g i j : ℝ) : EReal) := by
  pointwise [val_main_v53, val_main_v52, val_main_v51, val_main_v33, val_main_v18, val_main_v17, val_main_cst_3, val_main_v16, val_main_v15, v0 h, v8 h, h.b, mul_coe, coe_sum, eighth']
  have e : g3 D.B (ix3 (⟨k.val * 4 + g.val, by omega⟩ : Fin 16) i j) = ((D.B (4 * k + g) i j : ℝ) : EReal) :=
    congrArg _ (congrArg (D.B · i j) (show k.val * 4 + g.val = _ by omega))
  rw [e, add_coe]
  refine congrArg _ ?_
  unfold Args.score
  simp only [mul_comm (D.blanks.KW _ _ _ _)]
  rfl

theorem v57 (n : Fin 64) (k g : Fin 4) (i : Fin 128) (l : Fin 257) :
    val_main_v57 (F := Ideal) x0 x1 x4 x5 (ix5 n k g i l) = row D.blanks n k g i l := by
  pointwise [val_main_v57, val_main_v56, val_main_v55, val_main_v54_0, val_main_call0_v2, val_main_call0_v0, val_main_cst_9, v54_1, v53 h, h.s, Cert.AttnIdeal.Head.floor]
  unfold row
  by_cases hl : l.val < 256
  · rw [dif_pos hl, if_pos hl]
    unfold seen
    by_cases o : ok n i l
    · rw [if_pos o, if_pos o]; rfl
    · rw [if_neg o, if_neg o]; rfl
  · rw [dif_neg hl, if_neg hl]
    exact congrArg _ (congrArg D.S (show k.val * 4 + g.val = _ by omega))

theorem v58 (n : Fin 64) (k g : Fin 4) (i : Fin 128) :
    ∃ m : ℝ, val_main_v58 (F := Ideal) x0 x1 x4 x5 (ix4 n k g i) = (m : EReal) :=
  v58_real n k g i fun l => v57 h n k g i l

theorem v65 (n : Fin 64) (k g : Fin 4) (i : Fin 128) :
    ∃ m : ℝ, val_main_v65 (F := Ideal) x0 x1 x4 x5 (ix4 n k g i) = (m : EReal) :=
  (v58 h n k g i).imp fun _ hm => v65_of (v64 n k g i) hm

/-- A row's weights and its sink's, without the scale. -/
theorem v78 (n : Fin 64) (k g : Fin 4) (i : Fin 128) :
    ∃ c : ℝ, c ≠ 0 ∧ ∀ l : Fin 257, val_main_v78 (F := Ideal) x0 x1 x4 x5 (ix5 n k g i l) = ((weight D.blanks n k g i l * c : ℝ) : EReal) := by
  obtain ⟨m, hm⟩ := v65 h n k g i
  refine ⟨Real.exp (-m), Real.exp_ne_zero _, fun l => ?_⟩
  pointwise [val_main_v78, val_main_v77, val_main_v76, val_main_v75, hm, v57 h]
  unfold row weight
  split
  · rw [exp_seen]; rfl
  · rw [exp_sub]; rfl

section scaled

variable {n : Fin 64} {k g : Fin 4} {i : Fin 128} {c : ℝ}
  (hc : ∀ l : Fin 257, val_main_v78 (F := Ideal) x0 x1 x4 x5 (ix5 n k g i l) = ((weight D.blanks n k g i l * c : ℝ) : EReal))
include hc

theorem v80 (u : Fin 1) : val_main_v80 (F := Ideal) x0 x1 x4 x5 (ix5 n k g i u) = ((D.blanks.Z n k g i * c : ℝ) : EReal) := by
  have e : val_main_v79 (F := Ideal) x0 x1 x4 x5 (ix4 n k g i) = ((D.blanks.Z n k g i * c : ℝ) : EReal) := by
    rw [val_main_v79_apply]
    have es : ∀ l : Fin 257, val_main_v78 (F := Ideal) x0 x1 x4 x5 (idx_main_v79 (ix4 n k g i) l) = ((weight D.blanks n k g i l * c : ℝ) : EReal) := fun l =>
      Eq.trans (congrArg _ (by funext a; match a with | ⟨0, _⟩ => rfl | ⟨1, _⟩ => rfl | ⟨2, _⟩ => rfl | ⟨3, _⟩ => rfl | ⟨4, _⟩ => rfl)) (hc l)
    simp only [es]
    rw [coe_sum, show val_main_cst_18 (F := Ideal) (Shape.Idx.first h_S_) = (0 : EReal) from Ideal.ofBits_zero .f32, zero_add, weights]
  pointwise [val_main_v80, e]

theorem v82 (hc0 : c ≠ 0) (l : Fin 257) : val_main_v82 (F := Ideal) x0 x1 x4 x5 (ix5 n k g i l) = ((weight D.blanks n k g i l / D.blanks.Z n k g i : ℝ) : EReal) := by
  pointwise [val_main_v82, val_main_v81, v80 h hc, hc]
  rw [div_coe _ (mul_ne_zero (D.blanks.Z_ne n k g i) hc0), mul_div_mul_right _ _ hc0]

theorem v85 (hc0 : c ≠ 0) (u : Fin 1) : val_main_v85 (F := Ideal) x0 x1 x4 x5 (ix5 n k g i u) = ((1 / ((D.blanks.Z n k g i * c) * (D.blanks.Z n k g i * c)) : ℝ) : EReal) := by
  have hz := mul_ne_zero (D.blanks.Z_ne n k g i) hc0
  pointwise [val_main_v85, val_main_v84, val_main_v83, val_main_cst_19, v80 h hc, mul_coe, coe_one]
  rw [div_coe _ (mul_ne_zero hz hz)]

end scaled

theorem v86 (n : Fin 64) (k g : Fin 4) (i : Fin 128) (j : Fin 256) :
    val_main_v86 (F := Ideal) x0 x1 x4 x5 (ix5 n k g i j) = ((D.blanks.p n k g i j : ℝ) : EReal) := by
  obtain ⟨c, hc0, hc⟩ := v78 h n k g i
  pointwise [val_main_v86, v82 h hc hc0]
  rw [weight, if_pos j.isLt]; rfl

theorem v89 (r : Fin 8192) (c : Fin 1024) :
    val_main_v89 (F := Ideal) x0 x1 x2 x4 x5 (ix2 r c) = ((D.blanks.out (r / 128) (c / 256) (c % 256 / 64) (r % 128) (c % 64) : ℝ) : EReal) := by
  pointwise [val_main_v89, val_main_v88, val_main_v87, v86 h, v14 h, mul_coe, coe_sum]
  rw [show c.val / 64 % 4 = c.val % 256 / 64 by omega]
  unfold Args.out
  simp only [mul_comm (D.blanks.VW _ _ _ _)]

end forward

end Cert.AttnRefIdeal.Reals

end
-- ==== Proof.AttnStored.lean ====
module

public import proofs.«01_k».proof.Proof.AttnArrays
public import Idealize.ShloMosaic.Lib.WholeRead

@[expose] public section

set_option maxRecDepth 16384

noncomputable section

/-! What a head group loads at a point, and the arrays its stores leave. -/

namespace Cert.AttnIdeal.Point

open Cert.AttnIdeal.Gen Cert.AttnIdeal.Head Cert.AttnSpec Cert.RealRow
open Idealize.ShloMosaic

/-- The blocks of one point hold the reals of block `n`. -/
structure Blocks (A : Args) (n : ℕ) (x1 : Vec Ideal S128x1024 .bf16) (x2 : Vec Ideal S128x256 .bf16) (x3 : Vec Ideal S128x256 .bf16) (x4 : Vec Ideal S128x256 .bf16) (x5 : Vec Ideal S128x256 .bf16) (x6 : Vec Ideal S128x1024 .f32) (x7 : Vec Ideal S128x1024 .f32) (x8 : Vec Ideal S128x1024 .bf16) (x9 : Vec Ideal S16x128x256 .f32) (x10 : Vec Ideal S1x16 .f32) : Prop where
  q : x1 = g2 fun r c => A.Q (128 * n + r) c
  kc : x2 = g2 fun r c => A.KW n (c / 64) (128 + r) (c % 64)
  kp : x3 = g2 fun r c => A.KW n (c / 64) r (c % 64)
  vc : x4 = g2 fun r c => A.VW n (c / 64) (128 + r) (c % 64)
  vp : x5 = g2 fun r c => A.VW n (c / 64) r (c % 64)
  g : x6 = g2 fun r c => A.G (128 * n + r) c
  a : x7 = g2 fun r c => A.out n (c / 256) (c % 256 / 64) r (c % 64)
  dy : x8 = g2 fun r c => A.DY (128 * n + r) c
  b : ∀ (k : Fin 16) (r : Fin 128) (j : Fin 256), x9 (ix3 k r j) = seen (r.val < j.val ∧ j.val ≤ r.val + 128) (A.B k r j)
  s : x10 = g2 fun _ c => A.S c

theorem head_div (a g : Fin 4) (d : Fin 64) : (256 * a.val + 64 * g.val + d.val) / 256 = a.val ∧
    (256 * a.val + 64 * g.val + d.val) % 256 / 64 = g.val ∧ (256 * a.val + 64 * g.val + d.val) % 64 = d.val := by omega
theorem group_div (a : ℕ) (d : Fin 64) : (64 * a + d.val) / 64 = a ∧ (64 * a + d.val) % 64 = d.val := by omega

section at_a_point

variable (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x1024 .f32) (harg6 : arg6.IsWhole)
  (arg7 : Memref sig .tc .vmem S128x1024 .f32) (harg7 : arg7.IsWhole)
  (arg8 : Memref sig .tc .vmem S128x1024 .bf16) (harg8 : arg8.IsWhole)
  (arg9 : Memref sig .tc .vmem S16x128x256 .f32) (harg9 : arg9.IsWhole)
  (arg10 : Memref sig .tc .smem S1x16 .f32) (harg10 : arg10.IsWhole)
  (x1 : Vec Ideal S128x1024 .bf16) (x2 : Vec Ideal S128x256 .bf16) (x3 : Vec Ideal S128x256 .bf16) (x4 : Vec Ideal S128x256 .bf16) (x5 : Vec Ideal S128x256 .bf16) (x6 : Vec Ideal S128x1024 .f32) (x7 : Vec Ideal S128x1024 .f32) (x8 : Vec Ideal S128x1024 .bf16) (x9 : Vec Ideal S16x128x256 .f32) (x10 : Vec Ideal S1x16 .f32)

theorem reads {A : Args} {n : ℕ} (h : Blocks A n x1 x2 x3 x4 x5 x6 x7 x8 x9 x10)
    (hn : Scalar.cmpi .sgt (BitVec.ofNat 32 (i 0).val) 0#32 = if 0 < n then 1#1 else 0#1) (a : Fin 4) :
    Reads (loads i arg1 harg1 arg2 harg2 arg3 harg3 arg4 harg4 arg5 harg5 arg6 harg6 arg7 harg7 arg8 harg8 arg9 harg9 arg10 harg10 x1 x2 x3 x4 x5 x6 x7 x8 x9 x10 a) A n a where
  num := hn
  q g r d := by
    refine (harg1.readAt_unread x1 _ _).trans ?_
    rw [h.q]
    show ((A.Q (128 * n + (0 + 1 * r.val)) (256 * a.val + 64 * g.val + 1 * d.val) : ℝ) : EReal) = _
    rw [Nat.zero_add, Nat.one_mul, Nat.one_mul]; rfl
  kp r d := by
    refine (harg3.readAt_unread x3 _ _).trans ?_
    rw [h.kp]
    show ((A.KW n ((64 * a.val + 1 * d.val) / 64) (0 + 1 * r.val) ((64 * a.val + 1 * d.val) % 64) : ℝ) : EReal) = _
    rw [Nat.zero_add, Nat.one_mul, Nat.one_mul, (group_div a d).1, (group_div a d).2]
  kc r d := by
    refine (harg2.readAt_unread x2 _ _).trans ?_
    rw [h.kc]
    show ((A.KW n ((64 * a.val + 1 * d.val) / 64) (128 + (0 + 1 * r.val)) ((64 * a.val + 1 * d.val) % 64) : ℝ) : EReal) = _
    rw [Nat.zero_add, Nat.one_mul, Nat.one_mul, (group_div a d).1, (group_div a d).2]
  vp r d := by
    refine (harg5.readAt_unread x5 _ _).trans ?_
    rw [h.vp]
    show ((A.VW n ((64 * a.val + 1 * d.val) / 64) (0 + 1 * r.val) ((64 * a.val + 1 * d.val) % 64) : ℝ) : EReal) = _
    rw [Nat.zero_add, Nat.one_mul, Nat.one_mul, (group_div a d).1, (group_div a d).2]
  vc r d := by
    refine (harg4.readAt_unread x4 _ _).trans ?_
    rw [h.vc]
    show ((A.VW n ((64 * a.val + 1 * d.val) / 64) (128 + (0 + 1 * r.val)) ((64 * a.val + 1 * d.val) % 64) : ℝ) : EReal) = _
    rw [Nat.zero_add, Nat.one_mul, Nat.one_mul, (group_div a d).1, (group_div a d).2]
  g g r d := by
    refine (harg6.readAt_unread x6 _ _).trans ?_
    rw [h.g]
    show ((A.G (128 * n + (0 + 1 * r.val)) (256 * a.val + 64 * g.val + 1 * d.val) : ℝ) : EReal) = _
    rw [Nat.zero_add, Nat.one_mul, Nat.one_mul]; rfl
  a g r d := by
    refine (harg7.readAt_unread x7 _ _).trans ?_
    rw [h.a]
    show ((A.out n ((256 * a.val + 64 * g.val + 1 * d.val) / 256) ((256 * a.val + 64 * g.val + 1 * d.val) % 256 / 64) (0 + 1 * r.val)
      ((256 * a.val + 64 * g.val + 1 * d.val) % 64) : ℝ) : EReal) = _
    rw [Nat.zero_add, Nat.one_mul, Nat.one_mul, (head_div a g d).1, (head_div a g d).2.1, (head_div a g d).2.2]
  dy g r d := by
    refine (harg8.readAt_unread x8 _ _).trans ?_
    rw [h.dy]
    show ((A.DY (128 * n + (0 + 1 * r.val)) (256 * a.val + 64 * g.val + 1 * d.val) : ℝ) : EReal) = _
    rw [Nat.zero_add, Nat.one_mul, Nat.one_mul]; rfl
  b g r j := by
    refine (harg9.readAt_unread x9 _ _).trans ?_
    refine Eq.trans (congrArg x9 ?_) (h.b ⟨4 * a.val + g.val, by omega⟩ r j)
    exact funext (by
      intro o; apply Fin.ext; revert o
      refine Fin.cons ?_ (Fin.cons ?_ (Fin.cons ?_ finZeroElim))
      · show 4 * a.val + 1 * g.val = 4 * a.val + g.val; omega
      · show 0 + 1 * r.val = r.val; omega
      · show 0 + 1 * j.val = j.val; omega)
  s g := by
    refine (harg10.readAt_unread x10 _ _).trans ?_
    rw [h.s]
    show ((A.S (4 * a.val + g.val + 1 * 0) : ℝ) : EReal) = _
    rw [Nat.mul_zero, Nat.add_zero]

end at_a_point

/-! ## The pieces of a point -/

theorem eq_g2 {a b : ℕ} {X : (⟨2, ![a, b]⟩ : Shape).Idx → EReal} {f : ℕ → ℕ → ℝ}
    (h : ∀ (r : Fin a) (c : Fin b), X (ix2 r c) = ((f r c : ℝ) : EReal)) : X = g2 f := funext fun y => by
  rw [eq_ix2 y]; exact h _ _
theorem eq_g3 {a b n : ℕ} {X : (⟨3, ![a, b, n]⟩ : Shape).Idx → EReal} {f : ℕ → ℕ → ℕ → ℝ}
    (h : ∀ (r : Fin a) (c : Fin b) (d : Fin n), X (ix3 r c d) = ((f r c d : ℝ) : EReal)) : X = g3 f := funext fun y => by
  rw [eq_ix3 y]; exact h _ _ _

section stored

variable {L : Fin 4 → Loads Ideal} {A : Args} {n : ℕ} (R : ∀ a : Fin 4, Reads (L a) A n a)

include R

theorem dgate_agree : ∀ p ∈ cols (F := Ideal) fun a => (L a).dgate, ∀ x, p.2 x
    = (g2 fun r c => A.dgate n (c / 256) (c % 256 / 64) r (c % 64) : Vec Ideal S128x1024 .bf16) (p.1.emb x) :=
  cols_agree _ _ fun a g => eq_g2 fun r d => by
    rw [(R a).dgate, (head_div a g d).1, (head_div a g d).2.1, (head_div a g d).2.2]

theorem dq_agree : ∀ p ∈ cols (F := Ideal) fun a => dqs (L a), ∀ x, p.2 x
    = (g2 fun r c => A.dq n (c / 256) (c % 256 / 64) r (c % 64) : Vec Ideal S128x1024 .bf16) (p.1.emb x) :=
  cols_agree _ _ fun a g => eq_g2 fun r d => by
    rw [dqs, (R a).dqs, (head_div a g d).1, (head_div a g d).2.1, (head_div a g d).2.2]

theorem dk_agree : ∀ p ∈ quads (F := Ideal) fun a => (L a).dk, ∀ x, p.2 x
    = (g2 fun j c => A.dk n (c / 64) j (c % 64) : Vec Ideal S256x256 .f32) (p.1.emb x) :=
  quads_agree _ _ fun a => eq_g2 fun r d => by
    rw [(R a).dk, (group_div a d).1, (group_div a d).2]

theorem dv_agree : ∀ p ∈ quads (F := Ideal) fun a => (L a).dv, ∀ x, p.2 x
    = (g2 fun j c => A.dv n (c / 64) j (c % 64) : Vec Ideal S256x256 .f32) (p.1.emb x) :=
  quads_agree _ _ fun a => eq_g2 fun r d => by
    rw [(R a).dv, (group_div a d).1, (group_div a d).2]

theorem dbias_agree (W : ℕ → ℕ → ℕ → ℝ) (was : Fin 4 → Vec Ideal S4x128x256 .f32)
    (hw : ∀ a : Fin 4, was a = g3 fun g r j => W (4 * a.val + g) r j) :
    ∀ p ∈ slabs (F := Ideal) fun a => (L a).dbias (was a), ∀ x, p.2 x
    = (g3 fun k r j => W k r j + A.ds n (k / 4) (k % 4) r j : Vec Ideal S16x128x256 .f32) (p.1.emb x) :=
  slabs_agree _ _ fun a => eq_g3 fun g r j => by
    rw [(R a).dbias, hw, show (4 * a.val + g.val) / 4 = a.val by omega, show (4 * a.val + g.val) % 4 = g.val by omega, ← add_coe]; rfl

theorem dsink_agree (W : ℕ → ℕ → ℝ) (was : Fin 4 → Vec Ideal S1x512x1 .f32)
    (hw : ∀ a : Fin 4, was a = g3 fun _ r _ => W a r) :
    ∀ p ∈ sinks (F := Ideal) fun a => (L a).dsink (was a), ∀ x, p.2 x
    = (g3 fun a r _ => W a r + A.dsink n a (r / 128) (r % 128) : Vec Ideal S4x512x1 .f32) (p.1.emb x) :=
  sinks_agree _ (fun a r _ => W a r + A.dsink n a (r / 128) (r % 128)) fun a => eq_g3 fun o r z => by
    rw [Subsingleton.elim o 0, Subsingleton.elim z 0, (R a).dsink, hw, ← add_coe]; rfl

end stored

end Cert.AttnIdeal.Point

end
-- ==== Proof.AttnSums.lean ====
module

public import proofs.«01_k».proof.Proof.AttnStored

@[expose] public section

set_option maxRecDepth 16384

noncomputable section

/-! The running sums of a point: what they read of themselves, and the sink's row. -/

namespace Cert.AttnIdeal.Point

open Cert.AttnIdeal.Gen Cert.AttnIdeal.Head Cert.AttnSpec Cert.RealRow
open Idealize.ShloMosaic

/-! ## Constants and casts -/

theorem zero_dbias : (k0_pay190 : FVec Ideal S16x128x256 .f32) = g3 fun _ _ _ => 0 := eq_g3 fun _ _ _ => by pointwise [k0_pay190]; exact coe_zero.symm
theorem zero_dsink : (k0_pay191 : FVec Ideal S4x512x1 .f32) = g3 fun _ _ _ => 0 := eq_g3 fun _ _ _ => by pointwise [k0_pay191]; exact coe_zero.symm
theorem zero_dk : (k0_pay199 : FVec Ideal S128x256 .f32) = g2 fun _ _ => 0 := eq_g2 fun _ _ => by pointwise [k0_pay199]; exact coe_zero.symm
theorem zero_dv : (k0_pay200 : FVec Ideal S128x256 .f32) = g2 fun _ _ => 0 := eq_g2 fun _ _ => by pointwise [k0_pay200]; exact coe_zero.symm
theorem cast_dk (x : Vec Ideal S128x256 .f32) : k0_pay1 x = x := funext fun j => by rw [eq_ix2 j]; pointwise [k0_pay1]
theorem cast_dv (x : Vec Ideal S128x256 .f32) : k0_pay2 x = x := funext fun j => by rw [eq_ix2 j]; pointwise [k0_pay2]
theorem cast_dq (x : Vec Ideal S128x1024 .bf16) : k0_pay203 x = x := funext fun j => by rw [eq_ix2 j]; pointwise [k0_pay203]
theorem add_dk {x y : Vec Ideal S128x256 .f32} {f g : ℕ → ℕ → ℝ} (hx : x = g2 f) (hy : y = g2 g) : k0_pay201 x y = g2 fun r c => f r c + g r c := eq_g2 fun r c => by
  subst hx hy; pointwise [k0_pay201]; exact add_coe _ _
theorem add_dv {x y : Vec Ideal S128x256 .f32} {f g : ℕ → ℕ → ℝ} (hx : x = g2 f) (hy : y = g2 g) : k0_pay202 x y = g2 fun r c => f r c + g r c := eq_g2 fun r c => by
  subst hx hy; pointwise [k0_pay202]; exact add_coe _ _

/-! ## A pile read back -/

section piles

variable {sp : Space} {s : Shape} {e : EltTy} (v : View sig .tc sp s e) (z : View.Piece (Elt Ideal) s e)
  (r : Fin 4 → Rect s) (step : ∀ a, ((r a).toLoadRect.shape.Idx → Elt Ideal e) → ((r a).shape.Idx → Elt Ideal e))

/-- Where the four boxes lie apart, each reads the bottom. -/
theorem pile_eq (Z : Vec Ideal s e) (hz : ∀ x, z.2 x = Z (z.1.emb x)) (hc : ∀ y, y ∈ z.1.set)
    (hd : ∀ a b : Fin 4, a ≠ b → ∀ x, (r a).toLoadRect.idx x ∉ (r b).set) :
    pile z (fun a l => ⟨r a, step a (v.readCov l (r a).toLoadRect)⟩)
      = [⟨r 3, step 3 fun x => Z ((r 3).toLoadRect.idx x)⟩, ⟨r 2, step 2 fun x => Z ((r 2).toLoadRect.idx x)⟩,
          ⟨r 1, step 1 fun x => Z ((r 1).toLoadRect.idx x)⟩, ⟨r 0, step 0 fun x => Z ((r 0).toLoadRect.idx x)⟩] ++ [z] := by
  have base : ∀ a, v.readCov [z] (r a).toLoadRect = fun x => Z ((r a).toLoadRect.idx x) := fun a =>
    funext fun x => View.read_writes_apply_of_pieces v _ Z [z] (fun p hp => by cases List.mem_singleton.mp hp; exact hz) _ ⟨z, .head _, hc _⟩
  have over : ∀ (a b : Fin 4) (w) (l : List (View.Piece (Elt Ideal) s e)), a ≠ b →
      v.readCov (⟨r b, w⟩ :: l) (r a).toLoadRect = v.readCov l (r a).toLoadRect := fun a b w l h =>
    funext fun x => View.read_writes_cons_miss v _ ⟨r b, w⟩ l _ (hd a b h x)
  unfold pile
  simp only [List.cons_append, List.nil_append]
  rw [over 3 2 _ _ (by decide), over 3 1 _ _ (by decide), over 3 0 _ _ (by decide), over 2 1 _ _ (by decide), over 2 0 _ _ (by decide),
    over 1 0 _ _ (by decide), base, base, base, base]

end piles

/-! ## The sink's row -/

theorem lane (c : Fin 128) (k : ℕ) (hk : k < 128) (x y : EReal) :
    Scalar.select (IntOp.cmpi .eq (BitVec.ofNat 32 c.val) (BitVec.ofNat 32 k)) x y = if c.val = k then x else y := by
  have : IntOp.cmpi .eq (BitVec.ofNat 32 c.val) (BitVec.ofNat 32 k) = if c.val = k then 1#1 else 0#1 := by
    by_cases h : c.val = k
    · simp [h, IntOp.cmpi]
    · have : BitVec.ofNat 32 c.val ≠ BitVec.ofNat 32 k := fun e => h (by
        have := congrArg BitVec.toNat e
        simpa [Nat.mod_eq_of_lt (show c.val < 4294967296 by omega), Nat.mod_eq_of_lt (show k < 4294967296 by omega)] using this)
      simp only [IntOp.cmpi, if_neg h]
      rw [beq_eq_false_iff_ne.mpr this]; rfl
  rw [this]; split <;> rfl

theorem sinkRow_eq (s : Fin 4 → Vec Ideal S1x512x1 .f32) (W : ℕ → ℕ → ℝ) (hs : ∀ a : Fin 4, s a = g3 fun _ r _ => W a r) :
    sinkRow s = g2 fun _ c => if c < 16 then ∑ i : Fin 128, W (c / 4) (128 * (c % 4) + i.val) else 0 := eq_g2 fun r c => by
  have h : s = fun a => g3 fun _ r _ => W a.val r := funext hs
  subst h
  pointwise [sinkRow, k0_pay3, k0_pay181, k0_pay182, k0_pay183, k0_pay184, k0_pay185, k0_pay186, k0_pay187, k0_pay188, k0_pay189, g3]
  simp only [lane _ _ (show 0 < 128 by decide), lane _ _ (show 1 < 128 by decide), lane _ _ (show 2 < 128 by decide),
    lane _ _ (show 3 < 128 by decide), lane _ _ (show 4 < 128 by decide), lane _ _ (show 5 < 128 by decide), lane _ _ (show 6 < 128 by decide),
    lane _ _ (show 7 < 128 by decide), lane _ _ (show 8 < 128 by decide), lane _ _ (show 9 < 128 by decide), lane _ _ (show 10 < 128 by decide),
    lane _ _ (show 11 < 128 by decide), lane _ _ (show 12 < 128 by decide), lane _ _ (show 13 < 128 by decide), lane _ _ (show 14 < 128 by decide),
    lane _ _ (show 15 < 128 by decide), Fin.sum_univ_one, coe_sum]
  obtain ⟨c, hc⟩ := c
  by_cases h : c < 16
  · interval_cases c <;> simp
  · simp only [if_neg h, show c ≠ 0 by omega, show c ≠ 1 by omega, show c ≠ 2 by omega, show c ≠ 3 by omega, show c ≠ 4 by omega, show c ≠ 5 by omega,
      show c ≠ 6 by omega, show c ≠ 7 by omega, show c ≠ 8 by omega, show c ≠ 9 by omega, show c ≠ 10 by omega, show c ≠ 11 by omega,
      show c ≠ 12 by omega, show c ≠ 13 by omega, show c ≠ 14 by omega, show c ≠ 15 by omega, if_false, coe_zero]

end Cert.AttnIdeal.Point

end
-- ==== Proof.AttnSteps.lean ====
module

public import proofs.«01_k».proof.Proof.AttnSums

@[expose] public section

set_option maxRecDepth 16384

noncomputable section

/-! What each point leaves, given the reals its blocks hold. -/

namespace Cert.AttnIdeal.Point

open Cert.AttnIdeal.Gen Cert.AttnIdeal.Head Cert.AttnSpec Cert.RealRow
open Idealize.ShloMosaic

/-! ## The arrays -/

/-- What block `n` adds to the key and value gradients of its own rows. -/
def own (n : ℕ) (f : ℕ → ℕ → ℕ → ℕ → ℝ) (h r d : ℕ) : ℝ := if n < 64 then f n h r d else 0

/-- The gradients of the queries, keys and values of block `n - 1`. -/
def dqkvOf (A : Args) (n r c : ℕ) : ℝ :=
  if c < 1024 then A.dq (n - 1) (c / 256) (c % 256 / 64) r (c % 64)
  else if c < 1280 then A.dk (n - 1) ((c - 1024) / 64) (128 + r) ((c - 1024) % 64) + own n A.dk ((c - 1024) / 64) r ((c - 1024) % 64)
  else A.dv (n - 1) ((c - 1280) / 64) (128 + r) ((c - 1280) % 64) + own n A.dv ((c - 1280) / 64) r ((c - 1280) % 64)
/-- The gate's gradients of block `n`. -/
def dgOf (A : Args) (n r c : ℕ) : ℝ := A.dgate n (c / 256) (c % 256 / 64) r (c % 64)
/-- The bias's gradient over the first `n` blocks. -/
def dbiasOf (A : Args) (n k r j : ℕ) : ℝ := ∑ m ∈ Finset.range n, A.ds m (k / 4) (k % 4) r j
/-- The sinks' gradient columns over the first `n` blocks. -/
def colOf (A : Args) (n a r : ℕ) : ℝ := ∑ m ∈ Finset.range n, A.dsink m a (r / 128) (r % 128)
/-- The sinks' gradients. -/
def dsinkOf (A : Args) (c : ℕ) : ℝ := if c < 16 then ∑ i : Fin 128, colOf A 64 (c / 4) (128 * (c % 4) + i.val) else 0

def good (A : Args) : Good Ideal where
  dqkv n X := X = g2 (dqkvOf A n)
  dg n X := X = g2 (dgOf A n)
  dbias n X := X = g3 (dbiasOf A (n + 1))
  dsink X := X = g2 fun _ c => dsinkOf A c
  s15 n X := X = g2 fun r c => A.dq (n - 1) (c / 256) (c % 256 / 64) r (c % 64)
  s16 _ _ := True
  s17 n X := X = g2 fun r c => A.dk (n - 1) (c / 64) (128 + r) (c % 64)
  s18 n X := X = g2 fun r c => A.dv (n - 1) (c / 64) (128 + r) (c % 64)
  s19 _ _ := True
  s20 _ _ := True
  s21 n X := X = g3 fun a r _ => colOf A n a r

/-! ## Whole reads -/

theorem leave_of {sp : Space} {s : Shape} {e : EltTy} {v : View sig .tc sp s e} {L L' : List (View.Piece (Elt Ideal) s e)} {P : Vec Ideal s e → Prop}
    (h : L = L') (h' : Leave v L' P) : Leave v L P := h ▸ h'

theorem leave_to {sp : Space} {s : Shape} {e : EltTy} {v : View sig .tc sp s e} {L : List (View.Piece (Elt Ideal) s e)} {G G' : Vec Ideal s e}
    (h : G = G') (h' : Leave v L (· = G)) : Leave v L (· = G') := h ▸ h'

section reads

variable {sp : Space}

theorem self15 (m : Memref sig .tc sp S128x1024 .bf16) (h : m.IsWhole) {x : Vec Ideal S128x1024 .bf16} {f : ℕ → ℕ → ℝ} (hx : x = g2 f) :
    m.view.readAt (Elt Ideal) (Rect.unit (s := S128x1024) ![0, 0] S128x1024.size (by decide)).toLoadRect (h.unread x) = g2 f := funext fun y => by
  refine (h.readAt_unread x _ _).trans ?_
  subst hx
  show ((f (0 + 1 * (y 0).val) (0 + 1 * (y 1).val) : ℝ) : EReal) = _
  rw [Nat.zero_add, Nat.one_mul, Nat.zero_add, Nat.one_mul]; rfl

theorem self17 (m : Memref sig .tc sp S128x256 .f32) (h : m.IsWhole) {x : Vec Ideal S128x256 .f32} {f : ℕ → ℕ → ℝ} (hx : x = g2 f) :
    m.view.readAt (Elt Ideal) (Rect.unit (s := S128x256) ![0, 0] S128x256.size (by decide)).toLoadRect (h.unread x) = g2 f := funext fun y => by
  refine (h.readAt_unread x _ _).trans ?_
  subst hx
  show ((f (0 + 1 * (y 0).val) (0 + 1 * (y 1).val) : ℝ) : EReal) = _
  rw [Nat.zero_add, Nat.one_mul, Nat.zero_add, Nat.one_mul]; rfl

theorem slab13 (m : Memref sig .tc sp S16x128x256 .f32) (h : m.IsWhole) {x : Vec Ideal S16x128x256 .f32} {f : ℕ → ℕ → ℕ → ℝ} (hx : x = g3 f) (a : Fin 4) :
    m.view.readAt (Elt Ideal) (Rect.unit (s := S16x128x256) ![4 * a.val, 0, 0] S4x128x256.size (fits_slab a)).toLoadRect (h.unread x)
      = g3 fun g r j => f (4 * a.val + g) r j := funext fun y => by
  refine (h.readAt_unread x _ _).trans ?_
  subst hx
  show ((f (4 * a.val + 1 * (y 0).val) (0 + 1 * (y 1).val) (0 + 1 * (y 2).val) : ℝ) : EReal) = _
  simp only [Nat.zero_add, Nat.one_mul]; rfl

theorem col21 (m : Memref sig .tc sp S4x512x1 .f32) (h : m.IsWhole) {x : Vec Ideal S4x512x1 .f32} {f : ℕ → ℕ → ℝ} (hx : x = g3 fun a r _ => f a r) (a : Fin 4) :
    m.view.readAt (Elt Ideal) (Rect.unit (s := S4x512x1) ![a.val, 0, 0] S1x512x1.size (fits_sinks a)).toLoadRect (h.unread x)
      = g3 fun _ r _ => f a.val r := funext fun y => by
  refine (h.readAt_unread x _ _).trans ?_
  subst hx
  show ((f (a.val + 1 * (y 0).val) (0 + 1 * (y 1).val) : ℝ) : EReal) = _
  have h0 : (y 0).val = 0 := by have := (y 0).isLt; change (y 0).val < 1 at this; omega
  simp only [h0, Nat.zero_add, Nat.one_mul, Nat.mul_zero, Nat.add_zero]; rfl

theorem half_read {v : View sig .tc sp S256x256 .f32} {L : List (View.Piece (Elt Ideal) S256x256 .f32)} {f : ℕ → ℕ → ℝ}
    (hL : ∀ p ∈ L, ∀ x, p.2 x = (g2 f : Vec Ideal S256x256 .f32) (p.1.emb x)) (hc : ∀ y, ∃ p ∈ L, y ∈ p.1.set) (o : ℕ)
    (ho : ∀ k : Fin 2, (![o, 0] : Fin 2 → ℕ) k + S128x256.size k ≤ S256x256.size k) :
    v.readCov L (Rect.unit (s := S256x256) ![o, 0] S128x256.size ho).toLoadRect = g2 fun r c => f (o + r) c := by
  rw [readCov_eq v L _ _ hL hc]
  funext y
  show ((f (o + 1 * (y 0).val) (0 + 1 * (y 1).val) : ℝ) : EReal) = _
  rw [Nat.one_mul, Nat.zero_add, Nat.one_mul]; rfl

theorem low_read {v : View sig .tc sp S256x256 .f32} {z : Vec Ideal S128x256 .f32} {f : ℕ → ℕ → ℝ} (hz : z = g2 f) :
    v.readCov [(⟨Rect.unit (s := S256x256) ![0, 0] S128x256.size (by decide), z⟩ : View.Piece (Elt Ideal) S256x256 .f32)]
      (Rect.unit (s := S256x256) ![0, 0] S128x256.size (by decide)).toLoadRect = g2 f := by
  subst hz
  funext y
  exact View.read_writes_cons_emb v _ _ _ _ y

theorem cols_read {v : View sig .tc sp S128x1024 .bf16} {L : List (View.Piece (Elt Ideal) S128x1024 .bf16)} {f : ℕ → ℕ → ℝ}
    (hL : ∀ p ∈ L, ∀ x, p.2 x = (g2 f : Vec Ideal S128x1024 .bf16) (p.1.emb x)) (hc : ∀ y, ∃ p ∈ L, y ∈ p.1.set) :
    v.readCov L (Rect.unit (s := S128x1024) ![0, 0] S128x1024.size (by decide)).toLoadRect = g2 f := by
  rw [readCov_eq v L _ _ hL hc]
  funext y
  show ((f (0 + 1 * (y 0).val) (0 + 1 * (y 1).val) : ℝ) : EReal) = _
  rw [Nat.zero_add, Nat.one_mul, Nat.zero_add, Nat.one_mul]; rfl

end reads

/-! ## The first point's piles -/

theorem slab_apart (a b : Fin 4) (h : a ≠ b) (x) :
    (Rect.unit (s := S16x128x256) ![4 * a.val, 0, 0] S4x128x256.size (fits_slab a)).toLoadRect.idx x
      ∉ (Rect.unit (s := S16x128x256) ![4 * b.val, 0, 0] S4x128x256.size (fits_slab b)).set := fun hm => by
  have h0 := (Rect.mem_set_unit.mp hm) 0
  have hx : (x 0).val < 4 := (x 0).isLt
  change 4 * b.val ≤ 4 * a.val + 1 * (x 0).val ∧ 4 * a.val + 1 * (x 0).val < 4 * b.val + 4 at h0
  exact h (Fin.ext (by omega))

theorem col_apart (a b : Fin 4) (h : a ≠ b) (x) :
    (Rect.unit (s := S4x512x1) ![a.val, 0, 0] S1x512x1.size (fits_sinks a)).toLoadRect.idx x
      ∉ (Rect.unit (s := S4x512x1) ![b.val, 0, 0] S1x512x1.size (fits_sinks b)).set := fun hm => by
  have h0 := (Rect.mem_set_unit.mp hm) 0
  have hx : (x 0).val < 1 := (x 0).isLt
  change b.val ≤ a.val + 1 * (x 0).val ∧ a.val + 1 * (x 0).val < b.val + 1 at h0
  exact h (Fin.ext (by omega))

section first

variable {L : Fin 4 → Loads Ideal} {A : Args} (R : ∀ a : Fin 4, Reads (L a) A 0 a) {sp sp' : Space}

include R

theorem first_dbias (v : View sig .tc sp S16x128x256 .f32) (v' : View sig .tc sp' S16x128x256 .f32) :
    Leave v' (pile ⟨Rect.unit (s := S16x128x256) ![0, 0, 0] S16x128x256.size (by decide), k0_pay190⟩ fun a l =>
      ⟨Rect.unit (s := S16x128x256) ![4 * a.val, 0, 0] S4x128x256.size (fits_slab a),
        (L a).dbias (v.readCov l (Rect.unit (s := S16x128x256) ![4 * a.val, 0, 0] S4x128x256.size (fits_slab a)).toLoadRect)⟩)
      (· = g3 (dbiasOf A 1)) := by
  refine leave_of (pile_eq v _ (fun a => Rect.unit (s := S16x128x256) ![4 * a.val, 0, 0] S4x128x256.size (fits_slab a)) (fun a w => (L a).dbias w)
    (g3 fun _ _ _ => 0) (fun x => congrFun zero_dbias x) (fun y => ?_) slab_apart) ?_
  · obtain ⟨p, hp, hy⟩ := View.cover_of_tiled [(⟨Rect.unit (s := S16x128x256) ![0, 0, 0] S16x128x256.size (by decide), (k0_pay190 (F := Ideal))⟩ : View.Piece (Elt Ideal) S16x128x256 .f32)] ![16, 128, 256] rfl y
    cases List.mem_singleton.mp hp; exact hy
  · have := leave_eq v' (slabs (F := Ideal) fun a => (L a).dbias (g3 fun _ _ _ => 0)) [⟨Rect.unit (s := S16x128x256) ![0, 0, 0] S16x128x256.size (by decide), (k0_pay190 : FVec Ideal _ .f32)⟩]
      _ (dbias_agree R (fun _ _ _ => 0) (fun _ => g3 fun _ _ _ => 0) fun _ => rfl) (slabs_cover _)
    have e : (g3 fun k r j => 0 + A.ds 0 (k / 4) (k % 4) r j : Vec Ideal S16x128x256 .f32) = g3 (dbiasOf A 1) := by
      unfold dbiasOf; simp only [Finset.sum_range_one, zero_add]
    rw [e] at this
    exact this

theorem first_dsink (v : View sig .tc sp S4x512x1 .f32) (v' : View sig .tc sp' S4x512x1 .f32) :
    Leave v' (pile ⟨Rect.unit (s := S4x512x1) ![0, 0, 0] S4x512x1.size (by decide), k0_pay191⟩ fun a l =>
      ⟨Rect.unit (s := S4x512x1) ![a.val, 0, 0] S1x512x1.size (fits_sinks a),
        (L a).dsink (v.readCov l (Rect.unit (s := S4x512x1) ![a.val, 0, 0] S1x512x1.size (fits_sinks a)).toLoadRect)⟩)
      (· = g3 fun a r _ => colOf A 1 a r) := by
  refine leave_of (pile_eq v _ (fun a => Rect.unit (s := S4x512x1) ![a.val, 0, 0] S1x512x1.size (fits_sinks a)) (fun a w => (L a).dsink w)
    (g3 fun _ _ _ => 0) (fun x => congrFun zero_dsink x) (fun y => ?_) col_apart) ?_
  · obtain ⟨p, hp, hy⟩ := View.cover_of_tiled [(⟨Rect.unit (s := S4x512x1) ![0, 0, 0] S4x512x1.size (by decide), (k0_pay191 (F := Ideal))⟩ : View.Piece (Elt Ideal) S4x512x1 .f32)] ![4, 512, 1] rfl y
    cases List.mem_singleton.mp hp; exact hy
  · have := leave_eq v' (sinks (F := Ideal) fun a => (L a).dsink (g3 fun _ _ _ => 0)) [⟨Rect.unit (s := S4x512x1) ![0, 0, 0] S4x512x1.size (by decide), (k0_pay191 : FVec Ideal _ .f32)⟩]
      _ (dsink_agree R (fun _ _ => 0) (fun _ => g3 fun _ _ _ => 0) fun _ => rfl) (sinks_cover _)
    have e : (g3 fun a r _ => 0 + A.dsink 0 a (r / 128) (r % 128) : Vec Ideal S4x512x1 .f32) = g3 fun a r _ => colOf A 1 a r := by
      unfold colOf; simp only [Finset.sum_range_one, zero_add]
    rw [e] at this
    exact this

end first

/-! ## The points -/

theorem leave_whole {sp : Space} {v : View sig .tc sp S128x1024 .bf16} {q : Vec Ideal S128x1024 .bf16} {f : ℕ → ℕ → ℝ} (h : q = g2 f)
    (l : List (View.Piece (Elt Ideal) S128x1024 .bf16)) : Leave v (whole q ++ l) (· = g2 f) :=
  h ▸ leave_eq v (whole q) l q (whole_agree q) (whole_cover q)
theorem leave_whole' {sp : Space} {v : View sig .tc sp S128x256 .f32} {q : Vec Ideal S128x256 .f32} {f : ℕ → ℕ → ℝ} (h : q = g2 f)
    (l : List (View.Piece (Elt Ideal) S128x256 .f32)) : Leave v (whole' q ++ l) (· = g2 f) :=
  h ▸ leave_eq v (whole' q) l q (whole_agree' q) (whole_cover' q)

theorem leave_bands {sp : Space} {v : View sig .tc sp S128x1536 .bf16} {q : Vec Ideal S128x1024 .bf16} {k w : Vec Ideal S128x256 .bf16}
    {A : Args} {n : ℕ} (hq : q = g2 fun r c => A.dq (n - 1) (c / 256) (c % 256 / 64) r (c % 64))
    (hk : k = g2 fun r c => A.dk (n - 1) (c / 64) (128 + r) (c % 64) + own n A.dk (c / 64) r (c % 64))
    (hv : w = g2 fun r c => A.dv (n - 1) (c / 64) (128 + r) (c % 64) + own n A.dv (c / 64) r (c % 64)) :
    Leave v (bands q k w) (· = g2 (dqkvOf A n)) :=
  leave_eq' v _ _ (bands_agree q k w _ _ _ hq hk hv) (bands_cover q k w)

theorem leave_row {sp : Space} {v : View sig .tc sp S8x128 .f32} {w : Vec Ideal S8x128 .f32} {f : ℕ → ℝ} (h : w = g2 fun _ c => f c) :
    Leave v [⟨Rect.unit (s := S8x128) ![0, 0] S8x128.size (by decide), w⟩] (· = g2 fun _ c => f c) := by
  subst h
  refine leave_eq' v _ _ ?_ (View.cover_of_tiled _ ![8, 128] rfl)
  simp only [List.forall_mem_cons]
  refine ⟨fun x => ?_, fun _ h => absurd h List.not_mem_nil⟩
  show _ = ((f (0 + 1 * (x 1).val) : ℝ) : EReal)
  rw [Nat.zero_add, Nat.one_mul]; rfl

theorem at_pos (t : Fin cfg0.N) : Scalar.cmpi .sgt (BitVec.ofNat 32 (grid0.coords t 0).val) 0#32 = if 0 < t.val then 1#1 else 0#1 :=
  (by decide +kernel : ∀ t : Fin grid0.N, Scalar.cmpi .sgt (BitVec.ofNat 32 (grid0.coords t 0).val) 0#32 = if 0 < t.val then 1#1 else 0#1) t

variable (m : (ℓ : Loc nD τ sig) → Buf (Elt Ideal) ℓ) (c : Dev nD) (A : Args)
  (H : ∀ t : Fin cfg0.N, t.val < 64 → Blocks A t.val (X0_0 m c t) (iblk m c 1 t) (iblk m c 2 t) (iblk m c 3 t) (iblk m c 4 t) (iblk m c 5 t) (iblk m c 6 t) (iblk m c 7 t) (iblk m c 8 t) (iblk m c 9 t))

include H

theorem steps : Steps m (good A) c where
  first t h := by
    have R := reads (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      _ _ _ _ _ _ _ _ _ _ (H t (by omega)) (at_pos t)
    rw [h] at R
    refine ⟨?_, ?_, ?_, fun _ => trivial, ?_, ?_, fun _ => trivial, fun _ => trivial, ?_⟩
    · exact leave_of (A_dg ..) (leave_eq' _ _ _ (dgate_agree R) (cols_cover _))
    · exact leave_of (A_dbias ..) (first_dbias R _ _)
    · exact leave_of (A_dq ..) (leave_whole ((cast_dq _).trans (cols_read (dq_agree R) (cols_cover _))) _)
    · exact leave_of (A_dk ..) (leave_whole' ((cast_dk _).trans (half_read (dk_agree R) (quads_cover _) 128 _)) _)
    · exact leave_of (A_dv ..) (leave_whole' ((cast_dv _).trans (half_read (dv_agree R) (quads_cover _) 128 _)) _)
    · exact leave_of (A_sink ..) (first_dsink R _ _)
  between t h0 h1 x13 x15 x17 x18 x21 g13 g15 g17 g18 g21 := by
    have R := reads (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      _ _ _ _ _ _ _ _ _ _ (H t h1) (at_pos t)
    have o : ∀ (f : ℕ → ℕ → ℕ → ℕ → ℝ) (h r d : ℕ), f t.val h r d = own t.val f h r d := fun f h r d => (if_pos h1).symm
    refine ⟨?_, ?_, ?_, ?_, fun _ => trivial, ?_, ?_, fun _ => trivial, fun _ => trivial, ?_⟩
    · refine leave_of (B_dqkv ..) (leave_bands (self15 _ _ g15) ?_ ?_)
      · refine (add_dk (self17 _ _ g17) (half_read (dk_agree R) (quads_cover _) 0 _)).trans ?_
        simp only [Nat.zero_add, o]
      · refine (add_dv (self17 _ _ g18) (half_read (dv_agree R) (quads_cover _) 0 _)).trans ?_
        simp only [Nat.zero_add, o]
    · exact leave_of (B_dg ..) (leave_eq' _ _ _ (dgate_agree R) (cols_cover _))
    · have e : (g3 (dbiasOf A (t.val + 1)) : Vec Ideal S16x128x256 .f32) = g3 fun k r j => dbiasOf A (t.val - 1 + 1) k r j + A.ds t.val (k / 4) (k % 4) r j := by
        unfold dbiasOf; simp only [Finset.sum_range_succ _ t.val, Nat.sub_add_cancel (Nat.pos_of_ne_zero h0)]
      exact leave_of (B_dbias ..) (leave_to e.symm (leave_eq' _ _ _ (dbias_agree R _ _ fun a => slab13 _ _ g13 a) (slabs_cover _)))
    · exact leave_of (B_dq ..) (leave_whole ((cast_dq _).trans (cols_read (dq_agree R) (cols_cover _))) [])
    · exact leave_of (B_dk ..) (leave_whole' ((cast_dk _).trans (half_read (dk_agree R) (quads_cover _) 128 _)) [])
    · exact leave_of (B_dv ..) (leave_whole' ((cast_dv _).trans (half_read (dv_agree R) (quads_cover _) 128 _)) [])
    · have e : (g3 fun a r _ => colOf A (t.val + 1) a r : Vec Ideal S4x512x1 .f32) = g3 fun a r _ => colOf A t.val a r + A.dsink t.val a (r / 128) (r % 128) := by
        unfold colOf; simp only [Finset.sum_range_succ _ t.val]
      exact leave_of (B_sink ..) (leave_to e.symm (leave_eq' _ _ _ (dsink_agree R _ _ fun a => col21 _ _ g21 a) (sinks_cover _)))
  last t h x15 x16 x17 x18 x19 x20 x21 g15 _ g17 g18 _ _ g21 := by
    refine ⟨leave_of (C_dqkv ..) (leave_bands (self15 _ _ g15) ?_ ?_), leave_of (C_dsink ..) ?_⟩
    · refine (add_dk (self17 _ _ g17) (low_read zero_dk)).trans ?_
      simp only [own, if_neg (Nat.lt_irrefl 64)]
    · refine (add_dv (self17 _ _ g18) (low_read zero_dv)).trans ?_
      simp only [own, if_neg (Nat.lt_irrefl 64)]
    · exact leave_row (sinkRow_eq _ _ fun a => col21 _ _ g21 a)

end Cert.AttnIdeal.Point

end
-- ==== Proof.AttnBack.lean ====
module

public import proofs.«01_k».proof.Proof.AttnRead
public import proofs.«01_k».proof.Proof.AttnSteps

@[expose] public section

set_option maxRecDepth 16384

noncomputable section

/-! The reference's gradients at an index, over real arguments. -/

namespace Cert.AttnRefIdeal.Reals

open Cert.AttnRefIdeal Cert.AttnRefIdeal.Gen Cert.AttnRefIdeal.Read Idealize.ShloMosaic Idealize.ShloMosaic.TcCoe Cert.RealRow Cert.AttnSpec
open Cert.AttnIdeal.Point (g2 g3)
open Cert.AttnIdeal.Head (eighth')

variable {D : Data} {x0 : FVec Ideal S8192x1024 .f32} {x1 x2 : FVec Ideal S8192x256 .f32} {x3 : FVec Ideal S8192x1024 .f32}
  {x4 : FVec Ideal S16x128x256 .f32} {x5 : FVec Ideal S1x16 .f32} {x6 : FVec Ideal S8192x2048 .bf16} (h : D.Holds x0 x1 x2 x3 x4 x5 x6)

/-- A row's cotangents, none at its sink. -/
def fill (A : Args) (n h g i : ℕ) (l : Fin 257) : ℝ := if l.val < 256 then A.ct n h g i l else 0

theorem fills (A : Args) (n h g i : ℕ) {c : ℝ} (hc : c ≠ 0) :
    ∑ l : Fin 257, fill A n h g i l * (1 / ((A.Z n h g i * c) * (A.Z n h g i * c))) * (weight A n h g i l * c) = A.delta n h g i / (A.Z n h g i * c) := by
  have hZ := A.Z_ne n h g i
  rw [Fin.sum_univ_castSucc, show fill A n h g i (Fin.last 256) = 0 from if_neg (by decide), zero_mul, zero_mul, add_zero]
  unfold Args.delta
  rw [Finset.sum_div]
  refine Finset.sum_congr rfl fun j _ => ?_
  rw [show fill A n h g i j.castSucc = A.ct n h g i j from if_pos j.isLt, show weight A n h g i j.castSucc = A.w n h g i j from if_pos j.isLt]
  unfold Args.p
  field_simp

/-- The next block's gradients of this block's rows. -/
theorem next_own (x : ℝ) (f : ℕ → ℕ → ℕ → ℕ → ℝ) (n : Fin 64) (k r d : ℕ) :
    ((x : EReal) + if _h : n.val < 63 then ((f (1 + n.val) k r d : ℝ) : EReal) else 0) = ((x + Cert.AttnIdeal.Point.own (n.val + 1) f k r d : ℝ) : EReal) := by
  unfold Cert.AttnIdeal.Point.own
  by_cases hn : n.val < 63
  · rw [dif_pos hn, if_pos (by omega), add_coe, Nat.add_comm]
  · rw [dif_neg hn, if_neg (by omega), add_zero, add_zero]

theorem select_one {α : Type} (x y : α) : Scalar.select 1#1 x y = x := rfl
theorem select_zero {α : Type} (x y : α) : Scalar.select 0#1 x y = y := rfl

theorem sinks_fiber (k g : Fin 4) (x : S64x4x4x128x1.Idx) :
    reducesTo_S64x4x4x128x1_S4x4_d0_3_4.drop x = ix2 k g ↔ ∃ y : Fin 64 × Fin 128, ix5 y.1 k g y.2 (0 : Fin 1) = x := by
  constructor
  · intro e
    refine ⟨(x 0, x 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => have hx : (x 4).val < 1 := (x 4).isLt; exact (show (0 : ℕ) = (x 4).val by omega)
  · rintro ⟨y, rfl⟩
    funext b
    apply Fin.ext
    match b with
    | ⟨0, _⟩ => rfl
    | ⟨1, _⟩ => rfl

theorem sinks_sum (v : S64x4x4x128x1.Idx → EReal) (init : EReal) (k g : Fin 4) :
    Ideal.hostReduceAdd reducesTo_S64x4x4x128x1_S4x4_d0_3_4 v init (ix2 k g) = init + ∑ n : Fin 64, ∑ i : Fin 128, v (ix5 n k g i (0 : Fin 1)) := by
  refine congrArg (init + ·) ((Finset.sum_filter_eq_sum_of_fiber _ (fun y : Fin 64 × Fin 128 => ix5 y.1 k g y.2 (0 : Fin 1))
    (fun _ _ e => Prod.ext (congrFun e 0) (congrFun e 3)) (sinks_fiber k g) v).trans ?_)
  simp only [Fintype.sum_prod_type]

section gradients

include h

theorem v90_2 (r : Fin 8192) (c : Fin 1024) : val_main_v90_2 (F := Ideal) x3 (ix2 r c) = ((sgm (D.G r c) : ℝ) : EReal) := by
  pointwise [val_main_v90_2, val_main_call1_v4, val_main_call1_v3, val_main_call1_v2, val_main_call1_v1, val_main_call1_v0, val_main_call1_cst, val_main_call1_cst_0, h.g]
  exact sgm_coe _

theorem gate_at (r : Fin 8192) (c : Fin 1024) : x3 (ix2 r c) = ((D.G r c : ℝ) : EReal) := congrFun h.g (ix2 r c)

theorem v93 (r : Fin 8192) (c : Fin 1024) : val_main_v93 (F := Ideal) x6 (ix2 r c) = ((D.DY r c : ℝ) : EReal) := by
  pointwise [val_main_v93, val_main_v92]
  exact h.dy _ _ (by show c.val < 1024; omega)

theorem v95 (r : Fin 8192) (c : Fin 1024) : val_main_v95 (F := Ideal) x3 x6 (ix2 r c) = ((D.DY r c * (D.G r c * sgm (D.G r c)) : ℝ) : EReal) := by
  pointwise [val_main_v95, val_main_v90_0, v90_2 h, v93 h, gate_at h, mul_coe]

theorem v98 (n : Fin 64) (k : Fin 4) (d : Fin 64) (g : Fin 4) (i : Fin 128) :
    val_main_v98 (F := Ideal) x3 x6 (ix5 n k d g i) = ((D.blanks.da n k g i d : ℝ) : EReal) := by
  pointwise [val_main_v98, val_main_v97, v95 h]
  unfold Args.da
  exact congrArg₂ (fun y x : ℝ => ((y * (x * sgm x) : ℝ) : EReal)) (congrArg₂ D.DY (by omega) (by omega)) (congrArg₂ D.G (by omega) (by omega))

theorem v96 (r : Fin 8192) (c : Fin 1024) :
    val_main_v96 (F := Ideal) x0 x1 x2 x3 x4 x5 x6 (ix2 r c) = ((D.blanks.dgate (r / 128) (c / 256) (c % 256 / 64) (r % 128) (c % 64) : ℝ) : EReal) := by
  pointwise [val_main_v96, val_main_call2_v2, val_main_call2_v1, val_main_call2_v0, val_main_v94, val_main_v90_1, val_main_call1_v7, val_main_call1_v6, val_main_call1_cst_1, v89 h, v90_2 h, v93 h, gate_at h]
  have er : 128 * (r.val / 128) + r.val % 128 = r := by omega
  have ec : 256 * (c.val / 256) + 64 * (c.val % 256 / 64) + c.val % 64 = c := by omega
  have ed : D.blanks.dgate (r / 128) (c / 256) (c % 256 / 64) (r % 128) (c % 64)
      = D.DY r c * D.blanks.out (r / 128) (c / 256) (c % 256 / 64) (r % 128) (c % 64) * dsilu (D.G r c) := by
    unfold Args.dgate Args.dy Args.gate
    show D.DY _ _ * _ * dsilu (D.G _ _) = _
    rw [er, ec]
  have e1 : (1 : EReal) - ((sgm (D.G r c) : ℝ) : EReal) = ((1 - sgm (D.G r c) : ℝ) : EReal) := by rw [← sub_coe, EReal.coe_one]
  rw [ed, e1]
  simp only [mul_coe, add_coe]
  refine congrArg _ ?_
  unfold dsilu
  ring

theorem v99 (n : Fin 64) (k g : Fin 4) (i : Fin 128) (j : Fin 256) :
    val_main_v99 (F := Ideal) x2 x3 x6 (ix5 n k g i j) = ((D.blanks.ct n k g i j : ℝ) : EReal) := by
  pointwise [val_main_v99, v98 h, v14 h, mul_coe, coe_sum]
  rfl

theorem v102 (n : Fin 64) (k g : Fin 4) (i : Fin 128) (l : Fin 257) :
    val_main_v102 (F := Ideal) x2 x3 x6 (ix5 n k g i l) = ((fill D.blanks n k g i l : ℝ) : EReal) := by
  pointwise [val_main_v102, val_main_cst_20, v99 h]
  unfold fill
  split <;> rfl

theorem v101 (n : Fin 64) (j : Fin 256) (k : Fin 4) (d : Fin 64) :
    val_main_v101 (F := Ideal) x0 x1 x3 x4 x5 x6 (ix4 n j k d) = ((D.blanks.dv n k j d : ℝ) : EReal) := by
  pointwise [val_main_v101, val_main_v100, v98 h, v86 h, mul_coe, coe_sum]
  refine congrArg _ (Finset.sum_congr rfl fun g _ => Finset.sum_congr rfl fun i _ => mul_comm _ _)

section scaled

variable {n : Fin 64} {k g : Fin 4} {i : Fin 128} {c : ℝ} (hc0 : c ≠ 0)
  (hc : ∀ l : Fin 257, val_main_v78 (F := Ideal) x0 x1 x4 x5 (ix5 n k g i l) = ((weight D.blanks n k g i l * c : ℝ) : EReal))
include hc0 hc

theorem v106 : val_main_v106 (F := Ideal) x0 x1 x2 x3 x4 x5 x6 (ix4 n k g i) = ((D.blanks.delta n k g i / (D.blanks.Z n k g i * c) : ℝ) : EReal) := by
  have e : ∀ l : Fin 257, val_main_v105 (F := Ideal) x0 x1 x2 x3 x4 x5 x6 (ix5 n k g i l)
      = ((fill D.blanks n k g i l * (1 / ((D.blanks.Z n k g i * c) * (D.blanks.Z n k g i * c))) * (weight D.blanks n k g i l * c) : ℝ) : EReal) := fun l => by
    pointwise [val_main_v105, val_main_v104, val_main_v103, v102 h, v85 h hc hc0, hc, mul_coe]
  rw [val_main_v106_apply]
  have es : ∀ l : Fin 257, val_main_v105 (F := Ideal) x0 x1 x2 x3 x4 x5 x6 (idx_main_v106 (ix4 n k g i) l) = _ := fun l =>
    Eq.trans (congrArg _ (by funext a; match a with | ⟨0, _⟩ => rfl | ⟨1, _⟩ => rfl | ⟨2, _⟩ => rfl | ⟨3, _⟩ => rfl | ⟨4, _⟩ => rfl)) (e l)
  simp only [es]
  rw [coe_sum, show val_main_cst_21 (F := Ideal) (Shape.Idx.first h_S_) = (0 : EReal) from Ideal.ofBits_zero .f32, zero_add, fills _ _ _ _ _ hc0]

theorem v114 (l : Fin 257) : val_main_v114 (F := Ideal) x0 x1 x2 x3 x4 x5 x6 (ix5 n k g i l)
    = (((fill D.blanks n k g i l - D.blanks.delta n k g i) * (weight D.blanks n k g i l / D.blanks.Z n k g i) : ℝ) : EReal) := by
  have hz := mul_ne_zero (D.blanks.Z_ne n k g i) hc0
  have e8 : ∀ u : Fin 1, val_main_v108 (F := Ideal) x0 x1 x2 x3 x4 x5 x6 (ix5 n k g i u) = ((-(D.blanks.delta n k g i / (D.blanks.Z n k g i * c)) : ℝ) : EReal) := fun u => by
    pointwise [val_main_v108, val_main_v107, v106 h hc0 hc, neg_coe]
  have e11 : val_main_v111 (F := Ideal) x0 x1 x2 x3 x4 x5 x6 (ix4 n k g i) = ((-(D.blanks.delta n k g i / (D.blanks.Z n k g i * c)) : ℝ) : EReal) := by
    rw [val_main_v111_apply]
    rw [Fin.sum_univ_one, show val_main_cst_22 (F := Ideal) (Shape.Idx.first h_S_) = (0 : EReal) from Ideal.ofBits_zero .f32, zero_add]
    exact Eq.trans (congrArg _ (by funext a; match a with | ⟨0, _⟩ => rfl | ⟨1, _⟩ => rfl | ⟨2, _⟩ => rfl | ⟨3, _⟩ => rfl | ⟨4, _⟩ => rfl)) (e8 0)
  pointwise [val_main_v114, val_main_v113, val_main_v112, val_main_v110, val_main_v109, v102 h, v80 h hc, e11, hc]
  rw [div_coe _ hz, add_coe, mul_coe]
  refine congrArg _ ?_
  have hZ := D.blanks.Z_ne n k g i
  field_simp
  ring

end scaled

theorem v120 (n : Fin 64) (k g : Fin 4) (i : Fin 128) (j : Fin 256) :
    val_main_v120 (F := Ideal) x0 x1 x2 x3 x4 x5 x6 (ix5 n k g i j) = ((D.blanks.ds n k g i j : ℝ) : EReal) := by
  obtain ⟨c, hc0, hc⟩ := v78 h n k g i
  pointwise [val_main_v120, val_main_v115, val_main_call3_v0, val_main_call3_cst, v114 h hc0 hc, v54_1]
  by_cases o : ok n i j
  · rw [if_pos o, select_one]
    rw [fill, weight, if_pos j.isLt, if_pos j.isLt, mul_comm]; rfl
  · rw [if_neg o, select_zero, Args.ds_not o]; rfl

theorem v116 (n : Fin 64) (k g : Fin 4) (i : Fin 128) (u : Fin 1) :
    val_main_v116 (F := Ideal) x0 x1 x2 x3 x4 x5 x6 (ix5 n k g i u) = ((D.blanks.dsink n k g i : ℝ) : EReal) := by
  obtain ⟨c, hc0, hc⟩ := v78 h n k g i
  pointwise [val_main_v116, v114 h hc0 hc]
  rw [fill, weight, if_neg (by decide), if_neg (by decide), zero_sub, Args.dsink, Args.ps]
  exact congrArg _ (by ring)

theorem v119 (u : Fin 1) (c : Fin 16) :
    val_main_v119 (F := Ideal) x0 x1 x2 x3 x4 x5 x6 (ix2 u c) = ((∑ n : Fin 64, ∑ i : Fin 128, D.blanks.dsink n (c / 4) (c % 4) i : ℝ) : EReal) := by
  pointwise [val_main_v119, val_main_v118, val_main_v117, val_main_cst_23, v116 h]
  rw [sinks_sum]
  simp only [v116 h, coe_sum]
  exact zero_add _

theorem v124 (a : Fin 16) (i : Fin 128) (j : Fin 256) :
    val_main_v124 (F := Ideal) x0 x1 x2 x3 x4 x5 x6 (ix3 a i j) = ((∑ n : Fin 64, D.blanks.ds n (a / 4) (a % 4) i j : ℝ) : EReal) := by
  pointwise [val_main_v124, val_main_v123, val_main_v122, val_main_v121, val_main_cst_24, val_main_cst_25, v120 h, coe_sum]
  simp only [Fin.sum_univ_one]

theorem v127 (n : Fin 64) (k : Fin 4) (j : Fin 256) (i : Fin 128) (g : Fin 4) :
    val_main_v127 (F := Ideal) x0 x1 x2 x3 x4 x5 x6 (ix5 n k j i g) = ((D.blanks.ds n k g i j * (1 / 8) : ℝ) : EReal) := by
  pointwise [val_main_v127, val_main_v126, val_main_v125, val_main_cst_26, v120 h, eighth', mul_coe]

theorem v146 (r : Fin 8192) (c : Fin 1024) :
    val_main_v146 (F := Ideal) x0 x1 x2 x3 x4 x5 x6 (ix2 r c) = ((D.blanks.dq (r / 128) (c / 256) (c % 256 / 64) (r % 128) (c % 64) : ℝ) : EReal) := by
  pointwise [val_main_v146, val_main_v129, val_main_v128, v127 h, v8 h, mul_coe, coe_sum]
  rw [show c.val / 64 % 4 = c.val % 256 / 64 by omega]
  unfold Args.dq
  rw [Finset.sum_mul]
  exact congrArg _ (Finset.sum_congr rfl fun j _ => by ring)

theorem v131 (n : Fin 64) (j : Fin 256) (k : Fin 4) (d : Fin 64) :
    val_main_v131 (F := Ideal) x0 x1 x2 x3 x4 x5 x6 (ix4 n j k d) = ((D.blanks.dk n k j d : ℝ) : EReal) := by
  pointwise [val_main_v131, val_main_v130, v127 h, v0 h, mul_coe, coe_sum]
  unfold Args.dk
  rw [Finset.sum_mul, Finset.sum_comm]
  exact congrArg _ (Finset.sum_congr rfl fun g _ => by rw [Finset.sum_mul]; exact Finset.sum_congr rfl fun i _ => by ring)

theorem v137 (n : Fin 64) (r : Fin 128) (k : Fin 4) (d : Fin 64) :
    val_main_v137 (F := Ideal) x0 x1 x3 x4 x5 x6 (ix4 n r k d)
      = ((D.blanks.dv n k (128 + r) d + Cert.AttnIdeal.Point.own (n + 1) D.blanks.dv k r d : ℝ) : EReal) := by
  pointwise [val_main_v137, val_main_v136, val_main_v135, val_main_v133, val_main_v132, val_main_cst_27, v101 h]
  exact next_own _ _ _ _ _ _

theorem v143 (n : Fin 64) (r : Fin 128) (k : Fin 4) (d : Fin 64) :
    val_main_v143 (F := Ideal) x0 x1 x2 x3 x4 x5 x6 (ix4 n r k d)
      = ((D.blanks.dk n k (128 + r) d + Cert.AttnIdeal.Point.own (n + 1) D.blanks.dk k r d : ℝ) : EReal) := by
  pointwise [val_main_v143, val_main_v142, val_main_v141, val_main_v139, val_main_v138, val_main_cst_28, v131 h]
  exact next_own _ _ _ _ _ _

theorem v150 (r : Fin 8192) (c : Fin 1536) :
    val_main_v150 (F := Ideal) x0 x1 x2 x3 x4 x5 x6 (ix2 r c) = ((Cert.AttnIdeal.Point.dqkvOf D.blanks (r / 128 + 1) (r % 128) c : ℝ) : EReal) := by
  pointwise [val_main_v150, val_main_v149, val_main_v144, val_main_v145, v146 h, v137 h, v143 h]
  unfold Cert.AttnIdeal.Point.dqkvOf
  by_cases hc : c.val < 1024
  · rw [dif_pos hc, if_pos hc]; rfl
  · by_cases hd : c.val - 1024 < 256
    · rw [dif_neg hc, dif_pos hd, if_neg hc, if_pos (by omega)]; rfl
    · rw [dif_neg hc, dif_neg hd, if_neg hc, if_neg (by omega), show c.val - 1024 - 256 = c.val - 1280 by omega]; rfl

theorem v152 (r : Fin 8) (c : Fin 128) :
    val_main_v152 (F := Ideal) x0 x1 x2 x3 x4 x5 x6 (ix2 r c) = ((Cert.AttnIdeal.Point.dsinkOf D.blanks c : ℝ) : EReal) := by
  pointwise [val_main_v152, val_main_v148, val_main_v147, val_main_cst_29, v119 h]
  unfold Cert.AttnIdeal.Point.dsinkOf
  by_cases hc : c.val < 16
  · rw [dif_pos hc, if_pos hc]
    refine congrArg _ ?_
    rw [Finset.sum_comm]
    refine Finset.sum_congr rfl fun i _ => ?_
    unfold Cert.AttnIdeal.Point.colOf
    rw [Finset.sum_range]
    have hi := i.isLt
    have e1 : (128 * (c.val % 4) + i.val) / 128 = c.val % 4 := by omega
    have e2 : (128 * (c.val % 4) + i.val) % 128 = i.val := by omega
    exact Finset.sum_congr rfl fun n _ => by rw [e1, e2]
  · rw [dif_neg hc, if_neg hc]; rfl

end gradients

end Cert.AttnRefIdeal.Reals

end
-- ==== Proof.AttnEntry.lean ====
module

public import proofs.«01_k».proof.Proof.AttnBack
public import proofs.«01_k».proof.Proof.AttnSteps
public import Idealize.ShloMosaic.Lib.Pipeline.ValueKit
public import proofs.«01_k».proof.Proof.Gen.AttnIdeal.Frame

@[expose] public section

set_option maxRecDepth 16384

noncomputable section

/-! What the kernel's arrays hold when its grid starts, over real arguments. -/

namespace Cert.AttnIdeal.Entry

open Cert.AttnIdeal Cert.AttnIdeal.Gen Idealize.ShloMosaic Idealize.ShloMosaic.TcCoe Idealize.SL.Sem Cert.RealRow Cert.AttnSpec
open Cert.AttnIdeal.Point (g2 g3 Blocks)

variable (m : (ℓ : Loc nD τ sig) → Buf (Elt Ideal) ℓ) (c : Dev nD) (D : Data)

/-- The arguments hold reals. -/
abbrev Real : Prop :=
  D.Holds (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable {m c D} (h : Real m c D)

/-- Two matrices with the same entries are one. -/
theorem ext2 {a b : ℕ} {α : Type} {f g : (⟨2, ![a, b]⟩ : Shape).Idx → α} (h : ∀ (i : Fin a) (j : Fin b), f (ix2 i j) = g (ix2 i j)) : f = g :=
  funext fun i => by rw [eq_ix2 i]; exact h _ _

theorem idx : ∀ t : Fin cfg0.N, t.val < 64 → win0_0.index t = ![t.val, 0] ∧ win0_1.index t = ![t.val, 4] ∧ win0_2.index t = ![t.val - 1, 4]
    ∧ win0_3.index t = ![t.val, 5] ∧ win0_4.index t = ![t.val - 1, 5] ∧ win0_5.index t = ![t.val, 0] ∧ win0_6.index t = ![t.val, 0]
    ∧ win0_7.index t = ![t.val, 0] ∧ win0_8.index t = ![0, 0, 0] ∧ win0_9.index t = ![0, 0] :=
  (by decide +kernel : ∀ t : Fin grid0.N, t.val < 64 → _)

/-- Row `i` of block `n`. -/
abbrev at_ (n : ℕ) (hn : n < 64) (i : Fin 128) : Fin 8192 := ⟨n * 128 + i.val, by omega⟩

section at_a_point

variable (m c) (t : Fin cfg0.N) (ht : t.val < 64) (i : Fin 128)

include ht

theorem block0 (k : Fin 1024) : X0_0 m c t (ix2 i k) = (show FVec Ideal S8192x1536 .bf16 from Gen.V m c main_v1) (ix2 (at_ t.val ht i) ⟨k.val, by omega⟩) := by
  unfold X0_0 Pipeline.Window.fill
  rw [dif_pos (moved0_0 t (ix2 i k))]
  blk_point [iblk, idx t ht]

theorem block1 (k : Fin 256) : iblk m c 1 t (ix2 i k) = (show FVec Ideal S8192x1536 .bf16 from Gen.V m c main_v1) (ix2 (at_ t.val ht i) ⟨1024 + k.val, by omega⟩) := by
  blk_point [iblk, idx t ht]

theorem block2 (k : Fin 256) : iblk m c 2 t (ix2 i k)
    = (show FVec Ideal S8192x1536 .bf16 from Gen.V m c main_v1) (ix2 (at_ (t.val - 1) (by omega) i) ⟨1024 + k.val, by omega⟩) := by
  blk_point [iblk, idx t ht]

theorem block3 (k : Fin 256) : iblk m c 3 t (ix2 i k) = (show FVec Ideal S8192x1536 .bf16 from Gen.V m c main_v1) (ix2 (at_ t.val ht i) ⟨1280 + k.val, by omega⟩) := by
  blk_point [iblk, idx t ht]

theorem block4 (k : Fin 256) : iblk m c 4 t (ix2 i k)
    = (show FVec Ideal S8192x1536 .bf16 from Gen.V m c main_v1) (ix2 (at_ (t.val - 1) (by omega) i) ⟨1280 + k.val, by omega⟩) := by
  blk_point [iblk, idx t ht]

theorem block5 (k : Fin 1024) : iblk m c 5 t (ix2 i k) = (show FVec Ideal S8192x1024 .f32 from Gen.V m c main_arg3) (ix2 (at_ t.val ht i) k) := by
  blk_point [iblk, idx t ht]

set_option maxHeartbeats 1600000 in
theorem block6 (k : Fin 1024) : iblk m c 6 t (ix2 i k) = (show FVec Ideal S8192x1024 .f32 from Gen.V m c main_v87) (ix2 (at_ t.val ht i) k) := by
  blk_point [iblk, idx t ht]

theorem block7 (k : Fin 1024) : iblk m c 7 t (ix2 i k)
    = (show FVec Ideal S8192x2048 .bf16 from Gen.V m c main_arg6) (ix2 (at_ t.val ht i) ⟨k.val, by omega⟩) := by
  blk_point [iblk, idx t ht]

theorem block8 (k : Fin 16) (j : Fin 256) : iblk m c 8 t (ix3 k i j) = (show FVec Ideal S16x128x256 .f32 from Gen.V m c main_v16) (ix3 k i j) := by
  blk_point [iblk, idx t ht]

theorem block9 (k : Fin 16) : iblk m c 9 t (ix2 (0 : Fin 1) k) = (show FVec Ideal S1x16 .f32 from Gen.V m c main_arg5) (ix2 (0 : Fin 1) k) := by
  blk_point [iblk, idx t ht]

end at_a_point

include h

theorem qkv_entry (r : Fin 8192) (k : Fin 1536) :
    (show FVec Ideal S8192x1536 .bf16 from Gen.V m c main_v1) (ix2 r k)
      = ((if k.val < 1024 then D.Q r k else if k.val < 1280 then D.K r (k - 1024) else D.V r (k - 1280) : ℝ) : EReal) := by
  dsimp only
  simp only [Gen.V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  pointwise
  have hq : ∀ (r : Fin 8192) (k : Fin 1024), m (c, Proc.tc.devRef main_arg0) (ix2 r k) = ((D.Q r k : ℝ) : EReal) := fun r k => congrFun h.q (ix2 r k)
  have hk : ∀ (r : Fin 8192) (k : Fin 256), m (c, Proc.tc.devRef main_arg1) (ix2 r k) = ((D.K r k : ℝ) : EReal) := fun r k => congrFun h.k (ix2 r k)
  have hv : ∀ (r : Fin 8192) (k : Fin 256), m (c, Proc.tc.devRef main_arg2) (ix2 r k) = ((D.V r k : ℝ) : EReal) := fun r k => congrFun h.v (ix2 r k)
  by_cases a : k.val < 1024
  · rw [dif_pos a, if_pos a]; exact hq _ _
  · rw [dif_neg a, if_neg a]
    by_cases b : k.val < 1280
    · rw [dif_pos (by omega), if_pos b]; exact hk _ _
    · rw [dif_neg (by omega), if_neg b]
      refine (hv _ _).trans (congrArg (fun j : ℕ => ((D.V r j : ℝ) : EReal)) ?_)
      show k.val - 1024 - 256 = k.val - 1280
      omega

theorem bias_entry (k : Fin 16) (r : Fin 128) (j : Fin 256) :
    (show FVec Ideal S16x128x256 .f32 from Gen.V m c main_v16) (ix3 k r j) = seen (r.val < j.val ∧ j.val ≤ r.val + 128) (D.B k r j) := by
  dsimp only
  simp only [Gen.V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  pointwise
  rw [Cert.AttnRefIdeal.Reals.near, seen]
  have hb : m (c, Proc.tc.devRef main_arg4) (ix3 k r j) = ((D.B k r j : ℝ) : EReal) := congrFun h.b (ix3 k r j)
  by_cases o : r.val < j.val ∧ j.val ≤ r.val + 128
  · rw [if_pos o, if_pos o]; exact hb
  · rw [if_neg o, if_neg o]; exact Cert.AttnIdeal.Head.floor

omit h in
theorem out_entry : (show FVec Ideal S8192x1024 .f32 from Gen.V m c main_v87)
    = Cert.AttnRefIdeal.Read.val_main_v89 (F := Ideal) (m ((c : Thread nD τ).loc main_arg0)) (m ((c : Thread nD τ).loc main_arg1)) (m ((c : Thread nD τ).loc main_arg2))
      (m ((c : Thread nD τ).loc main_arg4)) (m ((c : Thread nD τ).loc main_arg5)) := by
  dsimp only
  simp only [Gen.V, hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  rfl

theorem Q_at (t : Fin cfg0.N) (ht : t.val < 64) (i : Fin 128) (k : Fin 1024) :
    X0_0 m c t (ix2 i k) = ((D.Q (128 * t.val + i.val) k.val : ℝ) : EReal) := by
  rw [block0 m c t ht, qkv_entry h]
  show (((if k.val < 1024 then D.Q (t.val * 128 + i.val) k.val else _ : ℝ)) : EReal) = _
  rw [if_pos k.isLt, Nat.mul_comm]

theorem K_at (n : ℕ) (hn : n < 64) (i : Fin 128) (k : Fin 256) :
    (show FVec Ideal S8192x1536 .bf16 from Gen.V m c main_v1) (ix2 (at_ n hn i) (⟨1024 + k.val, by omega⟩ : Fin 1536)) = ((D.K (128 * n + i.val) k.val : ℝ) : EReal) := by
  rw [qkv_entry h]
  show (((if 1024 + k.val < 1024 then _ else if 1024 + k.val < 1280 then D.K (n * 128 + i.val) (1024 + k.val - 1024) else _ : ℝ)) : EReal) = _
  rw [if_neg (by omega), if_pos (by omega), Nat.mul_comm, Nat.add_sub_cancel_left]

theorem V_at (n : ℕ) (hn : n < 64) (i : Fin 128) (k : Fin 256) :
    (show FVec Ideal S8192x1536 .bf16 from Gen.V m c main_v1) (ix2 (at_ n hn i) (⟨1280 + k.val, by omega⟩ : Fin 1536)) = ((D.V (128 * n + i.val) k.val : ℝ) : EReal) := by
  rw [qkv_entry h]
  show (((if 1280 + k.val < 1024 then _ else if 1280 + k.val < 1280 then _ else D.V (n * 128 + i.val) (1280 + k.val - 1280) : ℝ)) : EReal) = _
  rw [if_neg (by omega), if_neg (by omega), Nat.mul_comm, Nat.add_sub_cancel_left]

omit h in
theorem twice_own (K : ℕ → ℕ → ℝ) (n i c : ℕ) : Data.twice K n (c / 64) (128 + i) (c % 64) = K (128 * n + i) c := by
  rw [Data.twice, if_neg (by omega), Nat.add_sub_cancel_left, Nat.div_add_mod]
omit h in
theorem twice_before (K : ℕ → ℕ → ℝ) (n i c : ℕ) (hi : i < 128) : Data.twice K n (c / 64) i (c % 64) = K (128 * (n - 1) + i) c := by
  rw [Data.twice, if_pos hi, Nat.div_add_mod]

/-- The blocks a point before the last reads. -/
theorem blocks (t : Fin cfg0.N) (ht : t.val < 64) : Blocks D.twices t.val (X0_0 m c t) (iblk m c 1 t) (iblk m c 2 t) (iblk m c 3 t) (iblk m c 4 t) (iblk m c 5 t)
    (iblk m c 6 t) (iblk m c 7 t) (iblk m c 8 t) (iblk m c 9 t) where
  q := ext2 fun i k => Q_at h t ht i k
  kc := ext2 fun i k => (block1 m c t ht i k).trans ((K_at h _ _ i k).trans (congrArg _ (twice_own D.K t i k).symm))
  kp := ext2 fun i k => (block2 m c t ht i k).trans ((K_at h _ _ i k).trans (congrArg _ (twice_before D.K t i k i.isLt).symm))
  vc := ext2 fun i k => (block3 m c t ht i k).trans ((V_at h _ _ i k).trans (congrArg _ (twice_own D.V t i k).symm))
  vp := ext2 fun i k => (block4 m c t ht i k).trans ((V_at h _ _ i k).trans (congrArg _ (twice_before D.V t i k i.isLt).symm))
  g := ext2 fun i k => (block5 m c t ht i k).trans ((congrFun ((V_main_arg3 m c).trans h.g) (ix2 (at_ t.val ht i) k)).trans (congrArg (fun r : ℕ => ((D.G (r + i.val) k.val : ℝ) : EReal)) (Nat.mul_comm _ _)))
  a := ext2 fun i k => by
    refine (block6 m c t ht i k).trans (.trans ((congrFun out_entry _).trans (Cert.AttnRefIdeal.Reals.v89 h (at_ t.val ht i) k)) (congrArg _ ?_))
    show D.blanks.out ((t.val * 128 + i.val) / 128) (k.val / 256) (k.val % 256 / 64) ((t.val * 128 + i.val) % 128) (k.val % 64) = D.twices.out t.val (k.val / 256) (k.val % 256 / 64) i.val (k.val % 64)
    rw [D.same.out, show (t.val * 128 + i.val) / 128 = t.val by omega, show (t.val * 128 + i.val) % 128 = i.val by omega]
  dy := ext2 fun i k => (block7 m c t ht i k).trans ((congrFun (V_main_arg6 m c) _).trans <| (h.dy (at_ t.val ht i) (⟨k.val, by omega⟩ : Fin 2048) k.isLt).trans
    (congrArg (fun r : ℕ => ((D.DY (r + i.val) k.val : ℝ) : EReal)) (Nat.mul_comm _ _)))
  b k i j := (block8 m c t ht i k j).trans (bias_entry h k i j)
  s := ext2 fun i k => by rw [Subsingleton.elim i 0]; exact (block9 m c t ht k).trans (congrFun ((V_main_arg5 m c).trans h.s) (ix2 (0 : Fin 1) k))

end Cert.AttnIdeal.Entry

end
-- ==== Proof.AttnFrame.lean ====
module

public import proofs.«01_k».proof.Defs
public import proofs.«01_k».proof.Proof.AttnRel
public import proofs.«01_k».proof.Proof.Gen.Attn.Frame

@[expose] public section

set_option maxRecDepth 16384

noncomputable section

/-! The frame of the attention's backward call, for the kernel and for its idealization: every argument ends as it began. -/

namespace Cert.AttnIdeal.Point

open Idealize.ShloMosaic Idealize.ShloMosaic.TcCoe
open Idealize.ShloMosaic.Pipeline (RDat)
open Cert.AttnIdeal Cert.AttnIdeal.Gen

variable {F : FTy → Type} [FloatOps F] [Named F]
variable (m : (ℓ : Loc nD τ sig) → Buf (Elt F) ℓ) (ρ : Dev nD → PrngReg)

set_option maxHeartbeats 3200000 in
/-- A run that leaves the arrays as the launch says leaves the arguments as they were. -/
theorem kept (G : Good F) (r : PUnit × MemSt nD τ sig (Elt F)) (h : RDat.FramePost cfg0 (rdat m G) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest := (h c).2
  have a5 : r.2.mem ((c.tc : Thread nD τ).loc main_arg3) = V m c main_arg3 := RDat.FramePost.arr_in h c 5 rfl
  have a9 : r.2.mem ((c.tc : Thread nD τ).loc main_arg5) = V m c main_arg5 := RDat.FramePost.arr_in h c 9 rfl
  have a7 : r.2.mem ((c.tc : Thread nD τ).loc main_arg6) = V m c main_arg6 := RDat.FramePost.arr_in h c 7 rfl
  exact ⟨(rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    a5.trans (V_main_arg3 m c),
    (rest main_arg4 (Pipeline.mem_restRefs_of main_arg4 (by decide) (by decide))).trans (V_main_arg4 m c),
    a9.trans (V_main_arg5 m c),
    a7.trans (V_main_arg6 m c)⟩

variable (F) in
/-- Every run ends with the arguments as they were and every semaphore at rest. -/
def Unchanged : Prop := ∀ (m : (ℓ : Loc nD τ sig) → Buf (Elt F) ℓ) (ρ : Dev nD → PrngReg), True → θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0)

theorem unchanged : Unchanged F := fun m ρ _ =>  (θ_run defs _ _).mono (fun r h => ⟨kept m Good.any r h.1, h.2⟩) (run_main m ρ Good.any (steps_any m))

end Cert.AttnIdeal.Point

namespace Cert.Attn.Frames

open Idealize.ShloMosaic Idealize.ShloMosaic.Tactic

theorem ideal (h : Cert.AttnIdeal.Facts) : Cert.quiescent_AttnIdeal := Cert.AttnIdeal.Point.unchanged (F := Ideal)

/-- A named constant read as the number its word writes. -/
def asWritten : Named Bits := ⟨fun _ _ {_} b => FloatOps.ofBits _ b⟩

theorem same (h : Cert.Attn.Facts) : @Cert.AttnIdeal.Point.Unchanged Bits _ asWritten = Cert.quiescent_Attn := by
  sl_kernel_rfl

theorem bits (h : Cert.Attn.Facts) : Cert.quiescent_Attn :=
  (same h).mp (@Cert.AttnIdeal.Point.unchanged Bits _ asWritten)

end Cert.Attn.Frames

end
-- ==== Proof.AttnClaim.lean ====
module

public import proofs.«01_k».proof.Defs
public import proofs.«01_k».proof.Proof.AttnEntry
public import proofs.«01_k».proof.Proof.AttnFrame
public import proofs.«01_k».proof.Proof.Gen.AttnRefIdeal.Run
public import proofs.«01_k».proof.Proof.Gen.Pre_attn_finite
public import Idealize.ShloMosaic.Adequacy
public import Idealize.ShloMosaic.Init

@[expose] public section

set_option maxRecDepth 16384

noncomputable section

/-! The claims about the attention's gradients. -/

namespace Cert.AttnIdeal.Reals

open Cert.AttnIdeal Cert.AttnIdeal.Gen Idealize.ShloMosaic Idealize.ShloMosaic.TcCoe Idealize.SL.Sem Cert.RealRow Cert.AttnSpec
open Cert.AttnIdeal.Entry (Real ext2 blocks)
open Cert.AttnIdeal.Point (g2 g3 good dqkvOf dgOf dbiasOf dsinkOf colOf own)

/-- A matrix's reals, at any place. -/
def reals {a b : ℕ} (x : (⟨2, ![a, b]⟩ : Shape).Idx → EReal) (r c : ℕ) : ℝ := if h : r < a ∧ c < b then (x (ix2 ⟨r, h.1⟩ ⟨c, h.2⟩)).toReal else 0
def reals3 {a b d : ℕ} (x : (⟨3, ![a, b, d]⟩ : Shape).Idx → EReal) (k r c : ℕ) : ℝ :=
  if h : k < a ∧ r < b ∧ c < d then (x (ix3 ⟨k, h.1⟩ ⟨r, h.2.1⟩ ⟨c, h.2.2⟩)).toReal else 0

theorem reals_at {a b : ℕ} (x : (⟨2, ![a, b]⟩ : Shape).Idx → EReal) (i : Fin a) (j : Fin b) : reals x i j = (x (ix2 i j)).toReal := dif_pos ⟨i.isLt, j.isLt⟩
theorem reals3_at {a b d : ℕ} (x : (⟨3, ![a, b, d]⟩ : Shape).Idx → EReal) (k : Fin a) (i : Fin b) (j : Fin d) : reals3 x k i j = (x (ix3 k i j)).toReal :=
  dif_pos ⟨k.isLt, i.isLt, j.isLt⟩

theorem of_reals {a b : ℕ} {x : (⟨2, ![a, b]⟩ : Shape).Idx → EReal} (h : ∀ i j, x (ix2 i j) = (((x (ix2 i j)).toReal : ℝ) : EReal)) : x = g2 (reals x) :=
  ext2 fun i j => (h i j).trans (congrArg _ (reals_at x i j).symm)

theorem ext3 {a b d : ℕ} {α : Type} {f g : (⟨3, ![a, b, d]⟩ : Shape).Idx → α} (h : ∀ (k : Fin a) (i : Fin b) (j : Fin d), f (ix3 k i j) = g (ix3 k i j)) : f = g :=
  funext fun i => by rw [eq_ix3 i]; exact h _ _ _

variable (m : (ℓ : Loc nD τ sig) → Buf (Elt Ideal) ℓ) (c : Dev nD)

/-- The arguments, as reals. -/
def data : Data where
  Q := reals (show FVec Ideal S8192x1024 .f32 from m ((c : Thread nD τ).loc main_arg0))
  K := reals (show FVec Ideal S8192x256 .f32 from m ((c : Thread nD τ).loc main_arg1))
  V := reals (show FVec Ideal S8192x256 .f32 from m ((c : Thread nD τ).loc main_arg2))
  G := reals (show FVec Ideal S8192x1024 .f32 from m ((c : Thread nD τ).loc main_arg3))
  B := reals3 (show FVec Ideal S16x128x256 .f32 from m ((c : Thread nD τ).loc main_arg4))
  S := reals (show FVec Ideal S1x16 .f32 from m ((c : Thread nD τ).loc main_arg5)) 0
  DY := reals (show FVec Ideal S8192x2048 .bf16 from m ((c : Thread nD τ).loc main_arg6))

/-- The precondition says that the arguments are reals. -/
theorem args (hpre : Cert.Pre_AttnIdeal_attn_finite m) : Real m c (data m c) := by
  obtain ⟨h0, h1, h2, h3, h4, h5, h6⟩ := hpre c
  constructor
  · exact of_reals fun r k => real_of_abs_lt (congrFun h0 (ix2 r k))
  · exact of_reals fun r k => real_of_abs_lt (congrFun h1 (ix2 r k))
  · exact of_reals fun r k => real_of_abs_lt (congrFun h2 (ix2 r k))
  · exact of_reals fun r k => real_of_abs_lt (congrFun h3 (ix2 r k))
  · exact ext3 fun k r j => (real_of_abs_lt (congrFun h4 (ix3 k r j))).trans (congrArg _ (reals3_at _ k r j).symm)
  · refine ext2 fun r k => ?_
    rw [Subsingleton.elim r 0]
    exact (real_of_abs_lt (congrFun h5 (ix2 (0 : Fin 1) k))).trans (congrArg _ (reals_at _ (0 : Fin 1) k).symm)
  · intro r k hk
    have e := congrFun h6 (ix2 r (⟨k.val, hk⟩ : Fin 1024))
    refine (real_of_abs_lt (Eq.trans ?_ e)).trans (congrArg _ (reals_at _ r k).symm)
    symm
    pointwise [Cert.Pre_attn_finite.fn, Cert.Pre_attn_finite.fn_part1]
    rfl

/-! ## The results -/

section results

variable {D : Data}

theorem dqkv_same (n r k : ℕ) : dqkvOf D.twices n r k = dqkvOf D.blanks n r k := by
  unfold dqkvOf own
  simp only [D.same.dq, D.same.dk, D.same.dv]
theorem dg_same (n r k : ℕ) : dgOf D.twices n r k = dgOf D.blanks n r k := D.same.dgate ..
theorem dbias_same (n k r j : ℕ) : dbiasOf D.twices n k r j = dbiasOf D.blanks n k r j := Finset.sum_congr rfl fun _ _ => D.same.ds ..
theorem dsink_same (k : ℕ) : dsinkOf D.twices k = dsinkOf D.blanks k := by
  unfold dsinkOf colOf
  simp only [D.same.dsink]

end results

theorem out0 : ∀ t : Fin cfg0.N, win0_10.flush t = true → t.val ≠ 0 ∧ win0_10.index t = ![t.val - 1, 0] :=
  (by decide +kernel : ∀ t : Fin grid0.N, _)
theorem out1 : ∀ t : Fin cfg0.N, win0_11.index t = ![min t.val 63, 0] := (by decide +kernel : ∀ t : Fin grid0.N, _)
theorem out2 : ∀ t : Fin cfg0.N, win0_12.flush t = true → t.val = 64 ∧ win0_12.index t = ![0, 0, 0] := (by decide +kernel : ∀ t : Fin grid0.N, _)
theorem out3 : ∀ t : Fin cfg0.N, win0_13.flush t = true → t.val = 64 ∧ win0_13.index t = ![0, 0] := (by decide +kernel : ∀ t : Fin grid0.N, _)

/-! What an array holds that each point writes a block of: -/

section arrays

variable {c} (d : Pipeline.Dat τ (Elt Ideal) Unit ℕ (UR sig nD τ) ℕ cfg0 c)

theorem array0 (f : ℕ → ℕ → ℕ → ℝ) (e : ∀ t : Fin cfg0.N, win0_10.flush t = true → d.after 10 t = (g2 (f t.val) : Vec Ideal S128x1536 .bf16)) :
    d.arrAt 10 cfg0.N = (g2 fun r k => f (r / 128 + 1) (r % 128) k : Vec Ideal S8192x1536 .bf16) := by
  refine Pipeline.Dat.arrAt_eq_of_covers _ 10 _ (by decide +kernel) fun t hf y => ?_
  obtain ⟨h0, hi⟩ := out0 t hf
  have e0 : ((win0_10.blk t).view.emb y 0).val = (t.val - 1) * 128 + (y 0).val := by blk_simp [hi]
  have e1 : ((win0_10.blk t).view.emb y 1).val = (y 1).val := by blk_simp [hi]
  have hy : (y 0).val < 128 := (y 0).isLt
  blk_simp
  refine (congrFun (e t hf) y).trans ?_
  show ((f t.val (y 0).val (y 1).val : ℝ) : EReal)
    = ((f (((win0_10.blk t).view.emb y 0).val / 128 + 1) (((win0_10.blk t).view.emb y 0).val % 128) ((win0_10.blk t).view.emb y 1).val : ℝ) : EReal)
  rw [e0, e1, show ((t.val - 1) * 128 + (y 0).val) / 128 + 1 = t.val by omega, show ((t.val - 1) * 128 + (y 0).val) % 128 = (y 0).val by omega]

theorem array1 (f : ℕ → ℕ → ℕ → ℝ) (e : ∀ t : Fin cfg0.N, win0_11.flush t = true → d.after 11 t = (g2 (f (min t.val 63)) : Vec Ideal S128x1024 .bf16)) :
    d.arrAt 11 cfg0.N = (g2 fun r k => f (r / 128) (r % 128) k : Vec Ideal S8192x1024 .bf16) := by
  refine Pipeline.Dat.arrAt_eq_of_covers _ 11 _ (by decide +kernel) fun t hf y => ?_
  have hi := out1 t
  have e0 : ((win0_11.blk t).view.emb y 0).val = min t.val 63 * 128 + (y 0).val := by blk_simp [hi]
  have e1 : ((win0_11.blk t).view.emb y 1).val = (y 1).val := by blk_simp [hi]
  have hy : (y 0).val < 128 := (y 0).isLt
  blk_simp
  refine (congrFun (e t hf) y).trans ?_
  show ((f (min t.val 63) (y 0).val (y 1).val : ℝ) : EReal)
    = ((f (((win0_11.blk t).view.emb y 0).val / 128) (((win0_11.blk t).view.emb y 0).val % 128) ((win0_11.blk t).view.emb y 1).val : ℝ) : EReal)
  rw [e0, e1, show (min t.val 63 * 128 + (y 0).val) / 128 = min t.val 63 by omega, show (min t.val 63 * 128 + (y 0).val) % 128 = (y 0).val by omega]

theorem array2 (f : ℕ → ℕ → ℕ → ℝ) (e : ∀ t : Fin cfg0.N, win0_12.flush t = true → d.after 12 t = (g3 f : Vec Ideal S16x128x256 .f32)) :
    d.arrAt 12 cfg0.N = (g3 f : Vec Ideal S16x128x256 .f32) := by
  refine Pipeline.Dat.arrAt_eq_of_covers _ 12 _ (by decide +kernel) fun t hf y => ?_
  obtain ⟨-, hi⟩ := out2 t hf
  have e0 : ((win0_12.blk t).view.emb y 0).val = (y 0).val := by blk_simp [hi]
  have e1 : ((win0_12.blk t).view.emb y 1).val = (y 1).val := by blk_simp [hi]
  have e2 : ((win0_12.blk t).view.emb y 2).val = (y 2).val := by blk_simp [hi]
  blk_simp
  refine (congrFun (e t hf) y).trans ?_
  show ((f (y 0).val (y 1).val (y 2).val : ℝ) : EReal)
    = ((f ((win0_12.blk t).view.emb y 0).val ((win0_12.blk t).view.emb y 1).val ((win0_12.blk t).view.emb y 2).val : ℝ) : EReal)
  rw [e0, e1, e2]

theorem array3 (f : ℕ → ℕ → ℝ) (e : ∀ t : Fin cfg0.N, win0_13.flush t = true → d.after 13 t = (g2 f : Vec Ideal S8x128 .f32)) :
    d.arrAt 13 cfg0.N = (g2 f : Vec Ideal S8x128 .f32) := by
  refine Pipeline.Dat.arrAt_eq_of_covers _ 13 _ (by decide +kernel) fun t hf y => ?_
  obtain ⟨-, hi⟩ := out3 t hf
  have e0 : ((win0_13.blk t).view.emb y 0).val = (y 0).val := by blk_simp [hi]
  have e1 : ((win0_13.blk t).view.emb y 1).val = (y 1).val := by blk_simp [hi]
  blk_simp
  refine (congrFun (e t hf) y).trans ?_
  show ((f (y 0).val (y 1).val : ℝ) : EReal) = ((f ((win0_13.blk t).view.emb y 0).val ((win0_13.blk t).view.emb y 1).val : ℝ) : EReal)
  rw [e0, e1]

end arrays

section run

open Cert.AttnRefIdeal.Read

/-- The reference's values at the kernel's arguments. -/
abbrev want0 := val_main_v150 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
abbrev want1 := val_main_v151 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
abbrev want2 := val_main_v124 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
abbrev want3 := val_main_v152 (F := Ideal) (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

variable {m c} {D : Data} (h : Real m c D)

include h

open Cert.AttnRefIdeal.Reals

theorem want0_eq : want0 m c = (g2 fun r k => dqkvOf D.blanks (r / 128 + 1) (r % 128) k : Vec Ideal S8192x1536 .bf16) := ext2 fun r k => v150 h r k
theorem want1_eq : want1 m c = (g2 fun r k => dgOf D.blanks (r / 128) (r % 128) k : Vec Ideal S8192x1024 .bf16) := ext2 fun r k => v96 h r k
theorem want2_eq : want2 m c = (g3 fun k r j => dbiasOf D.blanks 64 k r j : Vec Ideal S16x128x256 .f32) := ext3 fun k r j =>
  (v124 h k r j).trans (congrArg _ (Fin.sum_univ_eq_sum_range (fun n => D.blanks.ds n (k.val / 4) (k.val % 4) r.val j.val) 64))
theorem want3_eq : want3 m c = (g2 fun _ k => dsinkOf D.blanks k : Vec Ideal S8x128 .f32) := ext2 fun r k => v152 h r k

end run

open Idealize.ShloMosaic.Pipeline (RDat Dat)
open Cert.AttnIdeal.Point (rdat dat leftIn marked run_main kept steps)

variable {m c} {D : Data} (h : Real m c D) {r : PUnit × MemSt nD τ sig (Elt Ideal)}

include h

set_option maxHeartbeats 3200000 in
/-- The kernel's results are the reference's values at the same arguments. -/
theorem results (hr : RDat.FramePost cfg0 (rdat m (good D.twices)) (V m) r) :
    r.2.mem ((c.tc : Thread nD τ).loc main_v88_0) = want0 m c ∧ r.2.mem ((c.tc : Thread nD τ).loc main_v88_1) = want1 m c
      ∧ r.2.mem ((c.tc : Thread nD τ).loc main_v88_2) = want2 m c ∧ r.2.mem ((c.tc : Thread nD τ).loc main_v88_3) = want3 m c := by
  rw [want0_eq h, want1_eq h, want2_eq h, want3_eq h]
  obtain ⟨after, hL, hA⟩ := RDat.FramePost.exists_exact hr c
  have leaves : ∀ w t, marked w = true → (cfg0.win w).flush t = true → leftIn (good D.twices) w t (after w t) := fun w t hw hf =>
    (dat m (good D.twices) c).toRRel_leaves hw (hL w t hf)
  refine ⟨(hA 10).trans ((array0 _ (dqkvOf D.blanks) fun t hf => ?_)), (hA 11).trans ((array1 _ (dgOf D.blanks) fun t hf => ?_)),
    (hA 12).trans ((array2 _ (dbiasOf D.blanks 64) fun t hf => ?_)), (hA 13).trans ((array3 _ (fun _ k => dsinkOf D.blanks k) fun t hf => ?_))⟩
  · have e : after 10 t = g2 (dqkvOf D.twices t.val) := leaves 10 t rfl hf (out0 t hf).1
    exact e.trans (ext2 fun i k => congrArg _ (dqkv_same ..))
  · have e : after 11 t = g2 (dgOf D.twices (min t.val 63)) := leaves 11 t rfl hf
    exact e.trans (ext2 fun i k => congrArg _ (dg_same ..))
  · have e : after 12 t = g3 (dbiasOf D.twices (min t.val 63 + 1)) := leaves 12 t rfl hf
    rw [(out2 t hf).1] at e
    exact e.trans (ext3 fun k i j => congrArg _ (dbias_same ..))
  · have e : after 13 t = g2 fun _ k => dsinkOf D.twices k := leaves 13 t rfl hf (out3 t hf).1
    exact e.trans (ext2 fun i k => congrArg _ (dsink_same ..))

end Cert.AttnIdeal.Reals

namespace Cert.Proof.Attn

open Idealize.ShloMosaic Idealize.SL.Sem Cert.AttnRefIdeal.Read
open Cert.AttnIdeal.Point (good run_main kept steps)

theorem frame_reference : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

theorem preserves : Cert.preserves_Attn_AttnIdeal := IdealRules.named_const.statement _ _ _ _ _ rfl

theorem algebraic : Cert.algebraic_AttnIdeal_AttnRefIdeal_pre_attn_finite := by
  intro m ρ m' ρ' hpre hagree
  refine ⟨Cert.AttnIdeal.Reals.want0 m, Cert.AttnIdeal.Reals.want1 m, Cert.AttnIdeal.Reals.want2 m, Cert.AttnIdeal.Reals.want3 m, ?_, ?_⟩
  · let c₀ : Dev Cert.AttnIdeal.nD := 0
    have hr := Cert.AttnIdeal.Reals.args m c₀ hpre
    refine (θ_run Cert.AttnIdeal.defs _ _).mono (fun r h c => ?_) (run_main m ρ (good (Cert.AttnIdeal.Reals.data m c₀).twices) fun c => ?_)
    · obtain rfl : c = c₀ := Subsingleton.elim _ _
      obtain ⟨s0, s1, s2, s3⟩ := Cert.AttnIdeal.Reals.results hr h.1
      exact ⟨s0, s1, s2, s3, kept m _ r h.1 c₀⟩
    · obtain rfl : c = c₀ := Subsingleton.elim _ _
      exact steps m c₀ _ fun t ht => Cert.AttnIdeal.Entry.blocks hr t ht
  · refine (θ_run Cert.AttnRefIdeal.defs _ _).mono (fun _ h c => ?_) (Cert.AttnRefIdeal.Value.run (F := Ideal) m' ρ')
    obtain ⟨e0, e1, e2, e3, e4, e5, e6⟩ := hagree c
    obtain ⟨s0, s1, s2, s3, rest⟩ := h c
    unfold Cert.AttnIdeal.Reals.want0 Cert.AttnIdeal.Reals.want1 Cert.AttnIdeal.Reals.want2 Cert.AttnIdeal.Reals.want3
    refine ⟨s0.trans ?_, s1.trans ?_, s2.trans ?_, s3.trans ?_, rest⟩
    · rw [← e0, ← e1, ← e2, ← e3, ← e4, ← e5, ← e6]; exact val_main_v150_eq (StableHlo.launchContents m' c)
    · rw [← e0, ← e1, ← e2, ← e3, ← e4, ← e5, ← e6]; exact val_main_v151_eq (StableHlo.launchContents m' c)
    · rw [← e0, ← e1, ← e2, ← e3, ← e4, ← e5, ← e6]; exact val_main_v124_eq (StableHlo.launchContents m' c)
    · rw [← e0, ← e1, ← e2, ← e3, ← e4, ← e5, ← e6]; exact val_main_v152_eq (StableHlo.launchContents m' c)

end Cert.Proof.Attn

end
-- ==== Proof.BiasRows.lean ====
module

public import proofs.«01_k».proof.Proof.Tiles
public import Idealize.ShloMosaic.Lib.Pipeline.ValueKit
public import proofs.«01_k».proof.Proof.Gen.RelBiasIdeal.Value
public import proofs.«01_k».proof.Proof.Gen.RelBiasRefIdeal.Read

@[expose] public section

set_option maxRecDepth 16384

noncomputable section

/-! What a grid point of the relative bias's gradient writes: in lane `k < 32` the sum of the places of bucket `k`. -/

namespace Cert.RelBiasIdeal.Rows

open Cert.RelBiasIdeal Cert.RelBiasIdeal.Gen Idealize.ShloMosaic Idealize.ShloMosaic.TcCoe Idealize.SL.Sem

variable (b : IVec S128x256 32) (x : FVec Ideal S128x256 .f32)

/-- The sum over the places of bucket `n`, as a grid point takes it. -/
def total (n : BitVec 32) : FVec Ideal S1x128 .f32 :=
  broadcast S1x128 (extractAt ![0, 0, 0] (shapeCast S1x1x1 (multiReduction .add [1, 2] S1 (shapeCast S1x128x256
    (select (cmpi .eq b (broadcast S128x256 n)) x (broadcast S128x256 (Scalar.ofBits .f32 0x00000000#32))) shapeCasts_S128x256_S1x128x256)
    0x00000000#32 reduces_S1x128x256_S1 (.inl rfl) rfl) shapeCasts_S1_S1x1x1) inpos_S1x1x1_p0_0_0)

/-- The lanes after the first `n` buckets. -/
def lanes : ℕ → FVec Ideal S1x128 .f32
  | 0 => broadcast S1x128 (Scalar.ofBits .f32 0x00000000#32)
  | n + 1 => select (cmpi .eq (iota .tc S1x128 32 [1] iota_S1x128_d1_w32) (broadcast S1x128 (BitVec.ofNat 32 n))) (total b x (BitVec.ofNat 32 n)) (lanes n)

theorem select_eq {α : Type} (u v : BitVec 32) (p q : α) : Scalar.select (IntOp.cmpi .eq u v) p q = if u = v then p else q := by
  show (if BitVec.ofBool (u == v) = 1#1 then p else q) = _
  by_cases h : u = v
  · rw [if_pos h, if_pos (by rw [h, beq_self_eq_true]; rfl)]
  · rw [if_neg h, if_neg (by rw [beq_false_of_ne h]; decide)]

theorem total_apply (n : BitVec 32) (k : Fin 128) :
    total b x n (ix2 (0 : Fin 1) k) = ∑ i : Fin 128, ∑ j : Fin 256, if b (ix2 i j) = n then x (ix2 i j) else 0 := by
  pointwise [total]
  simp only [select_eq]

theorem lanes_apply (n : ℕ) (hn : n ≤ 32) (k : Fin 128) :
    lanes b x n (ix2 (0 : Fin 1) k) = if k.val < n then total b x (BitVec.ofNat 32 k.val) (ix2 (0 : Fin 1) k) else 0 := by
  induction n with
  | zero =>
    rw [if_neg (Nat.not_lt_zero _)]
    exact Ideal.ofBits_zero .f32
  | succ n ih =>
    rw [lanes]
    pointwise
    have := k.isLt
    have he : BitVec.ofNat 32 k.val = BitVec.ofNat 32 n ↔ k.val = n := by
      rw [← BitVec.toNat_inj, BitVec.toNat_ofNat, BitVec.toNat_ofNat, Nat.mod_eq_of_lt (by omega), Nat.mod_eq_of_lt (by omega)]
    rw [select_eq, ih (by omega)]
    by_cases e : k.val = n
    · rw [if_pos (he.mpr e), if_pos (by omega), e]
    · rw [if_neg (fun o => e (he.mp o))]
      by_cases l : k.val < n
      · rw [if_pos l, if_pos (by omega)]
      · rw [if_neg l, if_neg (by omega)]

theorem stored (x0 : Vec Ideal S1x128x256 .f32) (x1 : Vec Ideal S128x256 .i32) (a : Fin 8) (k : Fin 128) :
    out0_2 x0 x1 (ix3 (0 : Fin 1) a k) = lanes (k0_pay28 x0 x1) (k0_pay29 x0 x1) 32 (ix2 (0 : Fin 1) k) := by
  have e : k0_pay26 (k0_pay28 x0 x1) (k0_pay29 x0 x1) (k0_pay27 x0 x1) (lanes (k0_pay28 x0 x1) (k0_pay29 x0 x1) 29) (k0_pay25 (k0_pay27 x0 x1))
      = broadcastTo S8x128 (shapeCast S1x128 (lanes (k0_pay28 x0 x1) (k0_pay29 x0 x1) 32) shapeCasts_S1x128_S1x128) broadcasts_S1x128_S8x128 := rfl
  have o : out0_2 x0 x1 = View.canon [⟨r0_2, k0_pay1 (broadcastTo S8x128 (shapeCast S1x128 (lanes (k0_pay28 x0 x1) (k0_pay29 x0 x1) 32) shapeCasts_S1x128_S1x128) broadcasts_S1x128_S8x128)⟩] := rfl
  have hz : (![0, 0, 0] : Fin 3 → Nat) = fun _ => 0 := by funext a; fin_cases a <;> rfl
  rw [o, View.canon_unit_zero hz]
  generalize lanes (k0_pay28 x0 x1) (k0_pay29 x0 x1) 32 = y
  pointwise [k0_pay1]

end Cert.RelBiasIdeal.Rows

end
-- ==== Proof.BiasRead.lean ====
module

public import proofs.«01_k».proof.Proof.Tiles
public import Idealize.ShloMosaic.Lib.Pipeline.ValueKit
public import proofs.«01_k».proof.Proof.Gen.RelBiasRefIdeal.Read

@[expose] public section

set_option maxRecDepth 16384

noncomputable section

/-! The bucket of a place, and the reference's gradient as a sum over the places of a bucket. -/

namespace Cert.RelBiasRefIdeal.Reals

open Cert.RelBiasRefIdeal Cert.RelBiasRefIdeal.Gen Cert.RelBiasRefIdeal.Read Idealize.ShloMosaic Idealize.ShloMosaic.TcCoe Idealize.SL.Sem Cert.RealRow

/-- The distance of a place as the programs count it, and whether the window holds it. -/
abbrev dist (i : Fin 128) (j : Fin 256) : BitVec 32 := IntOp.subi (IntOp.addi (BitVec.ofNat 32 i) 128#32) (BitVec.ofNat 32 j)

theorem near : ∀ (i : Fin 128) (j : Fin 256), IntOp.andi (IntOp.cmpi .sge (dist i j) 0#32) (IntOp.cmpi .slt (dist i j) 128#32)
    = if i.val < j.val ∧ j.val ≤ i.val + 128 then 1#1 else 0#1 := by decide +kernel

theorem far : ∀ (i : Fin 128) (j : Fin 256), i.val < j.val ∧ j.val ≤ i.val + 128 → dist i j = BitVec.ofNat 32 (i.val + 128 - j.val) := by decide +kernel

theorem inside (i : Fin 128) (j : Fin 256) : val_main_v13 (F := Ideal) (ix2 i j) = if i.val < j.val ∧ j.val ≤ i.val + 128 then 1#1 else 0#1 := by
  rw [← near]
  pointwise [val_main_v0, val_main_v1, val_main_v2, val_main_v3, val_main_c, val_main_v4, val_main_v5, val_main_v6, val_main_v7, val_main_v8, val_main_c_0, val_main_v9, val_main_v10, val_main_c_1, val_main_v11, val_main_v12, val_main_v13]

/-- The bucket of a distance. -/
def bucket (d : BitVec 32) : BitVec 32 :=
  Scalar.select (IntOp.cmpi .slt (IntOp.maxsi d 0#32) 16#32) (IntOp.maxsi d 0#32) (IntOp.minsi (IntOp.addi (16#32) (FloatOps.fptosi (F := Ideal) (φ := .f32) 32
    (Ideal.div (Ideal.log (Ideal.div (FloatOps.sitofp (F := Ideal) .f32 (IntOp.maxsi (IntOp.maxsi d 0#32) 1#32)) (Ideal.ofBits .f32 0x41800000#32)))
      (Ideal.ofBits .f32 0x40051592#32) * Ideal.ofBits .f32 0x41800000#32))) 31#32)

theorem v33 (i : Fin 128) (j : Fin 256) : val_main_v33 (F := Ideal) (ix2 i j) = bucket (dist i j) := by
  pointwise [bucket, val_main_v0, val_main_v1, val_main_v2, val_main_v3, val_main_c, val_main_v4, val_main_v5, val_main_v6, val_main_v7, val_main_v8, val_main_c_2, val_main_v14, val_main_v15, val_main_c_3, val_main_v16, val_main_v17, val_main_v18, val_main_cst, val_main_v19, val_main_v20, val_main_v21, val_main_cst_4, val_main_v22, val_main_v23, val_main_cst_5, val_main_v24, val_main_v25, val_main_v26, val_main_c_6, val_main_v27, val_main_v28, val_main_c_7, val_main_v29, val_main_v30, val_main_c_8, val_main_v31, val_main_v32, val_main_v33]

theorem near_bucket : ∀ s : Fin 128, IntOp.maxsi (BitVec.ofNat 32 s) 0#32 = BitVec.ofNat 32 s
    ∧ (s.val < 16 → IntOp.cmpi .slt (BitVec.ofNat 32 s) 16#32 = 1#1) ∧ (¬s.val < 16 → IntOp.cmpi .slt (BitVec.ofNat 32 s) 16#32 = 0#1)
    ∧ (¬s.val < 16 → IntOp.maxsi (BitVec.ofNat 32 s) 1#32 = BitVec.ofNat 32 s)
    ∧ IntOp.cmpi .slt (BitVec.ofNat 32 s) 0#32 = 0#1
    ∧ IntOp.cmpi .slt (IntOp.minsi (IntOp.addi 16#32 (BitVec.ofNat 32 s)) 31#32) 0#32 = 0#1 := by decide +kernel

theorem sixteen : Ideal.ofBits .f32 0x41800000#32 = ((16 : ℝ) : EReal) := by
  simp [Ideal.ofBits, Ideal.ieee]; rw [← EReal.coe_mul]; norm_num
theorem log_eight : Ideal.ofBits .f32 0x40051592#32 = ((8721810 / 2 ^ 22 : ℝ) : EReal) := by
  simp [Ideal.ofBits, Ideal.ieee]; rw [← EReal.coe_mul]; norm_num

/-- The logarithm's part of a distance of 16 … 127 is a whole number below 128. -/
theorem log_part (s : Fin 128) (hs : ¬s.val < 16) : ∃ n : Fin 128, FloatOps.fptosi (F := Ideal) (φ := .f32) 32
    (Ideal.div (Ideal.log (Ideal.div (FloatOps.sitofp (F := Ideal) .f32 (BitVec.ofNat 32 s)) (Ideal.ofBits .f32 0x41800000#32)))
      (Ideal.ofBits .f32 0x40051592#32) * Ideal.ofBits .f32 0x41800000#32) = BitVec.ofNat 32 n := by
  have e : FloatOps.sitofp (F := Ideal) .f32 (BitVec.ofNat 32 s.val) = ((s.val : ℝ) : EReal) := by
    show (((BitVec.ofNat 32 s.val).toInt : ℝ) : EReal) = _
    have : (BitVec.ofNat 32 s.val).toInt = (s.val : ℤ) := by
      rw [BitVec.toInt_eq_toNat_of_lt (by rw [BitVec.toNat_ofNat]; omega), BitVec.toNat_ofNat, Nat.mod_eq_of_lt (by omega)]
    rw [this]
    norm_cast
  have h16 : (16 : ℝ) ≤ (s.val : ℝ) := by exact_mod_cast (by omega : 16 ≤ s.val)
  have h128 : (s.val : ℝ) ≤ 128 := by exact_mod_cast s.isLt.le
  have lo : 0 ≤ Real.log ((s.val : ℝ) / 16) := Real.log_nonneg (by rw [le_div_iff₀ (by norm_num)]; linarith)
  have hi : Real.log ((s.val : ℝ) / 16) ≤ 7 := by
    have := Real.log_le_sub_one_of_pos (show 0 < (s.val : ℝ) / 16 by positivity)
    linarith
  rw [e, sixteen, log_eight, div_coe _ (by norm_num), Ideal.log_coe, if_neg (not_le.mpr (by positivity)), div_coe _ (by norm_num), mul_coe]
  set r : ℝ := Real.log ((s.val : ℝ) / 16) / (8721810 / 2 ^ 22) * 16
  have r0 : 0 ≤ r := by positivity
  have r1 : r < 128 := by
    have : Real.log ((s.val : ℝ) / 16) / (8721810 / 2 ^ 22) ≤ 7 / (8721810 / 2 ^ 22) := div_le_div_of_nonneg_right hi (by norm_num)
    have : (7 : ℝ) / (8721810 / 2 ^ 22) < 8 := by norm_num
    show Real.log ((s.val : ℝ) / 16) / (8721810 / 2 ^ 22) * 16 < 128
    linarith
  have f0 : 0 ≤ ⌊r⌋ := Int.floor_nonneg.mpr r0
  have f1 : ⌊r⌋ < 128 := Int.floor_lt.mpr (by exact_mod_cast r1)
  refine ⟨⟨⌊r⌋.toNat, by omega⟩, ?_⟩
  show BitVec.ofInt 32 (Ideal.toIntClamped _ _ (r : EReal)) = _
  rw [Ideal.toIntClamped_coe, if_pos r0, min_eq_right (by norm_num; omega), max_eq_right (by norm_num; omega)]
  conv_lhs => rw [← Int.toNat_of_nonneg f0]
  exact BitVec.ofInt_natCast _ _

/-- The bucket of a place in the window is not negative. -/
theorem bucket_nonneg (s : Fin 128) : IntOp.cmpi .slt (bucket (BitVec.ofNat 32 s)) 0#32 = 0#1 := by
  obtain ⟨h0, h1, h2, h3, h4, -⟩ := near_bucket s
  rw [bucket, h0]
  by_cases hs : s.val < 16
  · rw [h1 hs]; exact h4
  · obtain ⟨n, hn⟩ := log_part s hs
    rw [h2 hs, h3 hs, hn]
    exact (near_bucket n).2.2.2.2.2

theorem v38 (i : Fin 128) (j : Fin 256) (o : i.val < j.val ∧ j.val ≤ i.val + 128) : val_main_v38 (F := Ideal) (ix2 i j) = bucket (dist i j) := by
  have e := bucket_nonneg ⟨i.val + 128 - j.val, by omega⟩
  pointwise [val_main_v38, val_main_v35, val_main_v34, val_main_c_9, v33]
  rw [far i j o, e]
  rfl

/-- The buckets' table: a place outside the window is in none. -/
def table : IVec S128x256 32 := select (val_main_v13 (F := Ideal)) (val_main_v33 (F := Ideal)) (broadcast S128x256 4294967295#32)

abbrev dims := scatter_S32x16_S128x256x1_S128x256x16_2_0_0_2

section Lands

variable (i : Fin 128) (j : Fin 256) (g : Fin 16) (v : IVec S128x256x1 32)

theorem place : dims.siIdx (ix3 i j g) ⟨0, by decide⟩ = ix3 i j (0 : Fin 1) := by
  funext a
  fin_cases a <;> rfl
theorem start0 : dims.start (ix3 i j g) v 0 = (v (ix3 i j (0 : Fin 1))).toInt := by
  rw [← place i j g]
  rfl
theorem start1 : dims.start (ix3 i j g) v 1 = 0 := rfl
theorem window0 : dims.window (ix3 i j g) 0 = 0 := rfl
theorem window1 : dims.window (ix3 i j g) 1 = g.val := rfl

/-- Where the gradient of one place and head goes. -/
theorem lands (k : Fin 32) (h : Fin 16) : dims.resultIdx? (ix3 i j g) v = some (ix2 k h) ↔ (v (ix3 i j (0 : Fin 1))).toInt = k.val ∧ g = h := by
  constructor
  · intro e
    rw [ScatterDims.resultIdx?] at e
    split at e
    · rename_i o
      have o0 := o 0
      have e0 : (dims.start (ix3 i j g) v 0 + dims.window (ix3 i j g) 0).toNat = k.val := congrArg Fin.val (congrFun (Option.some.inj e) 0)
      have e1 : (dims.start (ix3 i j g) v 1 + dims.window (ix3 i j g) 1).toNat = h.val := congrArg Fin.val (congrFun (Option.some.inj e) 1)
      rw [start0, window0] at e0 o0
      rw [start1, window1] at e1
      exact ⟨by omega, Fin.ext (by omega)⟩
    · exact absurd e (by simp)
  · rintro ⟨e, rfl⟩
    have o : ∀ a, 0 ≤ dims.start (ix3 i j g) v a + dims.window (ix3 i j g) a ∧ dims.start (ix3 i j g) v a + dims.window (ix3 i j g) a < (S32x16.size a : ℕ) := by
      intro a
      fin_cases a
      · show 0 ≤ dims.start (ix3 i j g) v 0 + dims.window (ix3 i j g) 0 ∧ dims.start (ix3 i j g) v 0 + dims.window (ix3 i j g) 0 < ((32 : ℕ) : ℤ)
        rw [start0, window0, e]
        omega
      · show 0 ≤ dims.start (ix3 i j g) v 1 + dims.window (ix3 i j g) 1 ∧ dims.start (ix3 i j g) v 1 + dims.window (ix3 i j g) 1 < ((16 : ℕ) : ℤ)
        rw [start1, window1]
        omega
    rw [ScatterDims.resultIdx?, dif_pos o]
    refine congrArg some (funext fun a => ?_)
    fin_cases a
    · refine Fin.ext ?_
      show (dims.start (ix3 i j g) v 0 + dims.window (ix3 i j g) 0).toNat = k.val
      rw [start0, window0, e]
      omega
    · refine Fin.ext ?_
      show (dims.start (ix3 i j g) v 1 + dims.window (ix3 i j g) 1).toNat = g.val
      rw [start1, window1]
      omega

end Lands

variable (x : FVec Ideal S16x128x256 .f32)

theorem v45 (h : Fin 16) (i : Fin 128) (j : Fin 256) : val_main_v45 (F := Ideal) x (ix3 i j h) = Scalar.select (val_main_v13 (F := Ideal) (ix2 i j)) (x (ix3 h i j)) 0 := by
  pointwise [val_main_v45, val_main_v44, val_main_v43_1, val_main_v41, val_main_call2_v0, val_main_call2_cst]

theorem word (w : BitVec 32) (k : Fin 32) : w.toInt = k.val ↔ w = BitVec.ofNat 32 k := by
  have e : (BitVec.ofNat 32 k.val).toInt = k.val := by
    rw [BitVec.toInt_eq_toNat_of_lt (by rw [BitVec.toNat_ofNat]; omega), BitVec.toNat_ofNat, Nat.mod_eq_of_lt (by omega)]
  exact ⟨fun h => BitVec.eq_of_toInt_eq (h.trans e.symm), fun h => by rw [h, e]⟩

theorem none : ∀ k : Fin 32, ¬4294967295#32 = BitVec.ofNat 32 k := by decide

/-- The reference's gradient: the sum over the places of a bucket. -/
theorem v47 (h : Fin 16) (k : Fin 32) : val_main_v47 (F := Ideal) x (ix2 k h)
    = ∑ i : Fin 128, ∑ j : Fin 256, if table (ix2 i j) = BitVec.ofNat 32 k then x (ix3 h i j) else 0 := by
  rw [val_main_v47]
  show val_main_v46 (F := Ideal) (ix2 k h) + ∑ j ∈ Finset.univ.filter (fun j => dims.resultIdx? j (val_main_v39 (F := Ideal)) = some (ix2 k h)),
    val_main_v45 (F := Ideal) x j = _
  rw [Finset.sum_filter, sum_idx3]
  pointwise [val_main_v46, val_main_cst_12]
  refine Finset.sum_congr rfl fun i _ => Finset.sum_congr rfl fun j _ => ?_
  have e39 : val_main_v39 (F := Ideal) (ix3 i j (0 : Fin 1)) = val_main_v38 (F := Ideal) (ix2 i j) := by pointwise [val_main_v39]
  have et : table (ix2 i j) = Scalar.select (val_main_v13 (F := Ideal) (ix2 i j)) (val_main_v33 (F := Ideal) (ix2 i j)) 4294967295#32 := rfl
  simp only [lands, ite_and, v45, e39]
  rw [et, inside]
  by_cases o : i.val < j.val ∧ j.val ≤ i.val + 128
  · rw [if_pos o, v38 i j o, v33]
    simp only [word, Scalar.select]
    simp
  · rw [if_neg o]
    simp [Scalar.select, none k]

theorem v52 (h : Fin 16) (a : Fin 8) (k : Fin 128) : val_main_v52 (F := Ideal) x (ix3 h a k)
    = if k.val < 32 then ∑ i : Fin 128, ∑ j : Fin 256, if table (ix2 i j) = BitVec.ofNat 32 k then x (ix3 h i j) else 0 else 0 := by
  pointwise [val_main_v52, val_main_v51, val_main_v50, val_main_v49, val_main_v48, val_main_cst_13]
  by_cases o : k.val < 32
  · rw [dif_pos o, if_pos o]; exact v47 x h ⟨k.val, o⟩
  · rw [dif_neg o, if_neg o]

end Cert.RelBiasRefIdeal.Reals

end
-- ==== Proof.BiasClaim.lean ====
module

public import proofs.«01_k».proof.Defs
public import proofs.«01_k».proof.Proof.BiasRows
public import proofs.«01_k».proof.Proof.BiasRead
public import proofs.«01_k».proof.Proof.Gen.RelBiasRefIdeal.Run
public import Idealize.ShloMosaic.Adequacy
public import Idealize.ShloMosaic.Init

@[expose] public section

set_option maxRecDepth 16384

noncomputable section

/-! The claims about the relative bias's gradient. -/

namespace Cert.RelBiasIdeal.Rows

open Cert.RelBiasIdeal Cert.RelBiasIdeal.Gen Cert.RelBiasIdeal.Value Idealize.ShloMosaic Idealize.ShloMosaic.TcCoe Idealize.SL.Sem
open Cert.RelBiasRefIdeal.Read Cert.RelBiasRefIdeal.Reals

variable (m : (ℓ : Loc nD τ sig) → Buf (Elt Ideal) ℓ) (c : Dev nD)

theorem idx : ∀ t : Fin cfg0.N, win0_0.index t = ![t.val, 0, 0] ∧ win0_1.index t = ![0, 0] ∧ win0_2.index t = ![t.val, 0, 0] ∧ t.val < 16 :=
  (by decide +kernel : ∀ t : Fin grid0.N, _)

/-- The kernel's table of buckets is the reference's, masked. -/
theorem table_entry : (show IVec S128x256 32 from Gen.V m c main_v34) = table := by
  dsimp only
  simp only [Gen.V, hostOps0, hostOps0_1, hostOps0_2, hostOps0_3, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  rfl

theorem block0 (t : Fin cfg0.N) (i : Fin 128) (j : Fin 256) : iblk m c 0 t (ix3 (0 : Fin 1) i j)
    = (show FVec Ideal S16x128x256 .f32 from m ((c : Thread nD τ).loc main_arg1)) (ix3 (⟨t.val, (idx t).2.2.2⟩ : Fin 16) i j) := by
  rw [← V_main_arg1 m c]
  blk_point [iblk, idx t]

theorem block1 (t : Fin cfg0.N) (i : Fin 128) (j : Fin 256) : iblk m c 1 t (ix2 i j) = table (ix2 i j) := by
  rw [← table_entry m c]
  blk_point [iblk, idx t]

theorem tile (t : Fin cfg0.N) (a : Fin 8) (k : Fin 128) : out0_2 (iblk m c 0 t) (iblk m c 1 t) (ix3 (0 : Fin 1) a k)
    = val_main_v52 (F := Ideal) (m ((c : Thread nD τ).loc main_arg1)) (ix3 (⟨t.val, (idx t).2.2.2⟩ : Fin 16) a k) := by
  rw [stored, lanes_apply _ _ 32 le_rfl, total_apply, v52]
  refine if_congr Iff.rfl (Finset.sum_congr rfl fun i _ => Finset.sum_congr rfl fun j _ => ?_) rfl
  have e1 : k0_pay28 (iblk m c 0 t) (iblk m c 1 t) (ix2 i j) = table (ix2 i j) := by
    rw [← block1 m c t]
    pointwise [k0_pay28, k0_pay2]
  have e0 : k0_pay29 (iblk m c 0 t) (iblk m c 1 t) (ix2 i j) = _ := (by pointwise [k0_pay29, k0_pay3] : _ = iblk m c 0 t (ix3 (0 : Fin 1) i j)).trans (block0 m c t i j)
  rw [e1, e0]

theorem result : (dats m 0 c).arrAt 2 cfg0.N = val_main_v52 (F := Ideal) (m ((c : Thread nD τ).loc main_arg1)) := by
  refine (dats m 0 c).arrAt_eq_of_covers 2 _ (by decide +kernel) fun t _ y => ?_
  blk_simp
  have ey : y = ix3 (0 : Fin 1) (y 1) (y 2) := (eq_ix3 y).trans (congrArg (fun a : Fin 1 => ix3 a (y 1) (y 2)) (Subsingleton.elim _ _))
  rw [after0_2, ey]
  refine (tile m c t (y 1) (y 2)).trans (congrArg _ ?_)
  blk_ext [idx t]

end Cert.RelBiasIdeal.Rows

namespace Cert.Proof.Bias

open Idealize.ShloMosaic Idealize.SL.Sem Cert.RelBiasRefIdeal.Read Cert.RelBiasIdeal.Rows

theorem frame_reference : Cert.quiescent_RelBiasRefIdeal := fun m ρ _ =>
  (θ_run Cert.RelBiasRefIdeal.defs _ _).mono (fun r h => ⟨fun c => (h c).2, sem_eq_zero_of_no_sems (by decide) r.2⟩)
    (Cert.RelBiasRefIdeal.Value.run (F := Ideal) m ρ)

theorem algebraic : Cert.algebraic_RelBiasIdeal_RelBiasRefIdeal := by
  intro m ρ m' ρ' hpre hagree
  refine ⟨fun c => (Cert.RelBiasIdeal.Gen.dats m 0 c).arrAt 2 Cert.RelBiasIdeal.cfg0.N, Cert.RelBiasIdeal.Value.run_blocks (F := Ideal) m ρ, ?_⟩
  refine (θ_run Cert.RelBiasRefIdeal.defs _ _).mono (fun _ h c => ?_) (Cert.RelBiasRefIdeal.Value.run (F := Ideal) m' ρ')
  obtain ⟨e0, e1⟩ := hagree c
  obtain ⟨s0, rest⟩ := h c
  refine ⟨s0.trans ?_, rest⟩
  beta_reduce
  rw [result m c, ← e1]
  exact val_main_v52_eq m' c

end Cert.Proof.Bias

end
-- ==== Proof.TapsRows.lean ====
module

public import proofs.«01_k».proof.Proof.Tiles
public import Idealize.ShloMosaic.Lib.Pipeline.ValueKit
public import Idealize.ShloMosaic.Lib.Tactic
public import proofs.«01_k».proof.Proof.Gen.ConvTapsIdeal.Value

@[expose] public section

set_option maxRecDepth 16384

noncomputable section

/-! What a grid point of the convolution's gradient stores, as one list over the lane groups and the taps. -/

namespace Cert.ConvTapsIdeal.Rows

open Cert.ConvTapsIdeal Cert.ConvTapsIdeal.Gen Idealize.ShloMosaic Idealize.ShloMosaic.TcCoe Idealize.SL.Sem

/-- The tap that store `n` of a lane group is of. -/
abbrev tap (n : ℕ) : ℕ := 30 - (8 * (n % 4) + n / 4)

theorem inb1 (n g : ℕ) : ∀ a, (![tap n, 128 * (g % 8)] : Fin 2 → Nat) a + S1x128.size a ≤ S32x1024.size a := fun a =>
  match a with
  | ⟨0, _⟩ => (by omega : 30 - (8 * (n % 4) + n / 4) + 1 ≤ 32)
  | ⟨1, _⟩ => (by omega : 128 * (g % 8) + 128 ≤ 1024)
theorem inb256 (g : ℕ) : ∀ a, (![0, 128 * (g % 8)] : Fin 2 → Nat) a + S256x128.size a ≤ S256x1024.size a := fun a =>
  match a with
  | ⟨0, _⟩ => (by omega : 0 + 256 ≤ 256)
  | ⟨1, _⟩ => (by omega : 128 * (g % 8) + 128 ≤ 1024)
theorem inb32 (g : ℕ) : ∀ a, (![0, 128 * (g % 8)] : Fin 2 → Nat) a + S32x128.size a ≤ S32x1024.size a := fun a =>
  match a with
  | ⟨0, _⟩ => (by omega : 0 + 32 ≤ 32)
  | ⟨1, _⟩ => (by omega : 128 * (g % 8) + 128 ≤ 1024)
theorem inbOut (k g : ℕ) : ∀ a, (![0, 1024 * (k % 2) + 128 * (g % 8)] : Fin 2 → Nat) a + S256x128.size a ≤ S256x2048.size a := fun a =>
  match a with
  | ⟨0, _⟩ => (by omega : 0 + 256 ≤ 256)
  | ⟨1, _⟩ => (by omega : 1024 * (k % 2) + 128 * (g % 8) + 128 ≤ 2048)
theorem slc (n : ℕ) : S288x128.Slices ![8 * (n % 4), 0] S256x128 := ⟨rfl, fun a =>
  match a with
  | ⟨0, _⟩ => (by omega : 8 * (n % 4) + 256 ≤ 288)
  | ⟨1, _⟩ => (by omega : 0 + 128 ≤ 128)⟩

section Group

variable (i : grid0.Coords) (D : Vec Ideal S256x128 .f32) (H : Vec Ideal S32x128 .f32) (A B : Vec Ideal S256x128 .f32) (W : ℕ → Vec Ideal S1x128 .f32)

/-- The cotangent's tile and the rows after it. -/
def win : FVec Ideal S288x128 .f32 :=
  concatenate S288x128 0 [⟨S256x128, D⟩, ⟨S32x128, Scalar.select (Scalar.cmpi .slt (BitVec.ofNat 32 (i 0).val) 31#32) H
    (broadcast S32x128 (Scalar.ofBits .f32 0x00000000#32 : Ideal .f32))⟩] concatenates_S256x128_S32x128_S288x128_d0

/-- The tile shifted for store `n`. -/
def xo (n : ℕ) : FVec Ideal S256x128 .f32 :=
  extractStridedSlice S256x128 ![8 * (n % 4), 0]
    (if n / 4 = 0 then win i D H else dynamicRotate 0 (BitVec.ofNat 32 (288 - n / 4)) none (win i D H) rotates_S288x128_d0) (slc n)

/-- The convolution's transpose after `n` taps. -/
def back : ℕ → FVec Ideal S256x128 .f32
  | 0 => broadcast S256x128 (Scalar.ofBits .f32 0x00000000#32 : Ideal .f32)
  | n + 1 => addf (back n) (mulf (xo i D H n) (broadcastTo S256x128 (shapeCast S1x128 (W n) shapeCasts_S1x128_S1x128) broadcasts_S1x128_S256x128))

/-- The gate of the lane group. -/
def gate : FVec Ideal S256x128 .f32 :=
  divf (broadcast S256x128 (Scalar.ofBits .f32 0x3F800000#32 : Ideal .f32)) (addf (broadcast S256x128 (Scalar.ofBits .f32 0x3F800000#32 : Ideal .f32))
    (exp (subf (broadcast S256x128 (Scalar.ofBits .f32 0x00000000#32 : Ideal .f32)) B)))

/-- The row of a tap's gradient, grown by this tile. -/
def grown (n : ℕ) (p : Vec Ideal S1x128 .f32) : FVec Ideal S1x128 .f32 :=
  addf (shapeCast S1x128 p shapeCasts_S1x128_S1x128) (shapeCast S1x128 (multiReduction .add [0] S128 (mulf (xo i D H n) (mulf A (gate B)))
    0x00000000#32 reduces_S256x128_S128 (.inl rfl) rfl) shapeCasts_S128_S1x128)

/-- The two halves of the gradient of the gated input. -/
def half (k : ℕ) : FVec Ideal S256x128 .bf16 :=
  if k % 2 = 0 then truncf .bf16 (mulf (back i D H W 31) (gate B)) bitsLt_bf16_f32
  else truncf .bf16 (mulf (mulf (mulf (back i D H W 31) A) (gate B)) (subf (broadcast S256x128 (Scalar.ofBits .f32 0x3F800000#32 : Ideal .f32)) (gate B))) bitsLt_bf16_f32

end Group

section Stores

variable (c : Dev nD) (i : grid0.Coords) (arg1 : Memref sig .tc .vmem S256x1024 .f32) (harg1 : arg1.IsWhole) (arg2 : Memref sig .tc .vmem S32x1024 .f32) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S32x1024 .f32) (harg5 : arg5.IsWhole) (arg6 : Memref sig .tc .vmem S256x2048 .bf16) (harg6 : arg6.IsWhole)
  (arg7 : Memref sig .tc .vmem S32x1024 .f32) (harg7 : arg7.IsWhole)
  (x0 : Vec Ideal S256x1024 .f32) (x1 : Vec Ideal S32x1024 .f32) (x2 x3 : Vec Ideal S256x1024 .f32) (x4 xo6 : Vec Ideal S32x1024 .f32)

/-- A lane group of a tile as the body loads it, and one of the rows after it. -/
abbrev grp (r : Memref sig .tc .vmem S256x1024 .f32) (h : r.IsWhole) (x : Vec Ideal S256x1024 .f32) (g : ℕ) : Vec Ideal S256x128 .f32 :=
  View.readAt (Elt Ideal) r.view (Rect.unit (s := S256x1024) ![0, 128 * (g % 8)] S256x128.size (inb256 g)).toLoadRect (h.unread x)
abbrev grp32 (r : Memref sig .tc .vmem S32x1024 .f32) (h : r.IsWhole) (x : Vec Ideal S32x1024 .f32) (g : ℕ) : Vec Ideal S32x128 .f32 :=
  View.readAt (Elt Ideal) r.view (Rect.unit (s := S32x1024) ![0, 128 * (g % 8)] S32x128.size (inb32 g)).toLoadRect (h.unread x)
abbrev one (r : Memref sig .tc .vmem S32x1024 .f32) (h : r.IsWhole) (x : Vec Ideal S32x1024 .f32) (n g : ℕ) : Vec Ideal S1x128 .f32 :=
  View.readAt (Elt Ideal) r.view (Rect.unit (s := S32x1024) ![tap n, 128 * (g % 8)] S1x128.size (inb1 n g)).toLoadRect (h.unread x)

/-- The first `k` stores to the taps' gradient, the last first, at a point that finds it as `xo6`. -/
def stores : ℕ → List (View.Piece (Elt Ideal) S32x1024 .f32)
  | 0 => []
  | k + 1 => ⟨Rect.unit ![tap (k % 31), 128 * (k / 31 % 8)] S1x128.size (inb1 (k % 31) (k / 31)),
      grown i (grp arg1 harg1 x0 (k / 31)) (grp32 arg2 harg2 x1 (k / 31)) (grp arg3 harg3 x2 (k / 31)) (grp arg4 harg4 x3 (k / 31)) (k % 31)
        (one arg7 harg7 xo6 (k % 31) (k / 31))⟩ :: stores k

/-- The same at the first point, which clears it before. -/
def stores0 : ℕ → List (View.Piece (Elt Ideal) S32x1024 .f32)
  | 0 => [⟨Rect.unit ![0, 0] S32x1024.size inb_S32x1024_S32x1024_0_0, broadcast S32x1024 (Scalar.ofBits .f32 0x00000000#32 : Ideal .f32)⟩]
  | k + 1 => ⟨Rect.unit ![tap (k % 31), 128 * (k / 31 % 8)] S1x128.size (inb1 (k % 31) (k / 31)),
      grown i (grp arg1 harg1 x0 (k / 31)) (grp32 arg2 harg2 x1 (k / 31)) (grp arg3 harg3 x2 (k / 31)) (grp arg4 harg4 x3 (k / 31)) (k % 31)
        (arg7.view.readCov (stores0 k) (Rect.unit (s := S32x1024) ![tap (k % 31), 128 * (k / 31 % 8)] S1x128.size (inb1 (k % 31) (k / 31))).toLoadRect)⟩ :: stores0 k

/-- The stores to the gradient of the gated input. -/
def halves : ℕ → List (View.Piece (Elt Ideal) S256x2048 .bf16)
  | 0 => []
  | k + 1 => ⟨Rect.unit ![0, 1024 * (k % 2) + 128 * (k / 2 % 8)] S256x128.size (inbOut k (k / 2)),
      half i (grp arg1 harg1 x0 (k / 2)) (grp32 arg2 harg2 x1 (k / 2)) (grp arg3 harg3 x2 (k / 2)) (grp arg4 harg4 x3 (k / 2))
        (fun n => one arg5 harg5 x4 n (k / 2)) k⟩ :: halves k

theorem stored_B (hc0 : ¬cond0_0 i) :
    (kernelRun0_B c i arg1 harg1 arg2 harg2 arg3 harg3 arg4 harg4 arg5 harg5 arg6 harg6 arg7 harg7 hc0 x0 x1 x2 x3 x4 xo6).2.1
      = stores i arg1 harg1 arg2 harg2 arg3 harg3 arg4 harg4 arg7 harg7 x0 x1 x2 x3 xo6 248 := by
  sl_kernel_rfl

theorem stored_A (hc0 : cond0_0 i) :
    (kernelRun0_A c i arg1 harg1 arg2 harg2 arg3 harg3 arg4 harg4 arg5 harg5 arg6 harg6 arg7 harg7 hc0 x0 x1 x2 x3 x4).2.1
      = stores0 i arg1 harg1 arg2 harg2 arg3 harg3 arg4 harg4 arg7 x0 x1 x2 x3 248 := by
  sl_kernel_rfl

theorem halves_B (hc0 : ¬cond0_0 i) :
    (kernelRun0_B c i arg1 harg1 arg2 harg2 arg3 harg3 arg4 harg4 arg5 harg5 arg6 harg6 arg7 harg7 hc0 x0 x1 x2 x3 x4 xo6).1
      = halves i arg1 harg1 arg2 harg2 arg3 harg3 arg4 harg4 arg5 harg5 x0 x1 x2 x3 x4 16 := by
  sl_kernel_rfl

theorem halves_A (hc0 : cond0_0 i) :
    (kernelRun0_A c i arg1 harg1 arg2 harg2 arg3 harg3 arg4 harg4 arg5 harg5 arg6 harg6 arg7 harg7 hc0 x0 x1 x2 x3 x4).1
      = halves i arg1 harg1 arg2 harg2 arg3 harg3 arg4 harg4 arg5 harg5 x0 x1 x2 x3 x4 16 := by
  sl_kernel_rfl

end Stores

end Cert.ConvTapsIdeal.Rows
end
-- ==== Proof.TapsSpec.lean ====
module

public import proofs.«01_k».proof.Proof.TapsRows
public import Idealize.ShloMosaic.Lib.KernelVsHost
public import Idealize.ShloMosaic.Lib.WritesUnit
public import Idealize.ShloMosaic.Lib.WholeRead

@[expose] public section

set_option maxRecDepth 16384

noncomputable section

/-! The stores of the convolution's gradient at one entry. -/

namespace Cert.ConvTapsIdeal.Rows

open Cert.ConvTapsIdeal Cert.ConvTapsIdeal.Gen Idealize.ShloMosaic Idealize.ShloMosaic.TcCoe Idealize.SL.Sem
open Cert.RealRow Cert.Tiles

section Group

variable (i : grid0.Coords) (D : Vec Ideal S256x128 .f32) (H : Vec Ideal S32x128 .f32) (A B : Vec Ideal S256x128 .f32) (W : ℕ → Vec Ideal S1x128 .f32)

/-- The window by its entries. -/
theorem win_apply (q : Fin 288) (l : Fin 128) : win i D H (ix2 q l)
    = if h : q.val < 256 then D (ix2 (⟨q.val, h⟩ : Fin 256) l) else if (i 0).val < 31 then H (ix2 (⟨q.val - 256, by omega⟩ : Fin 32) l) else 0 := by
  have hi : (i 0).val < 32 := (i 0).isLt
  have hs : Scalar.cmpi .slt (BitVec.ofNat 32 (i 0).val) 31#32 = if (i 0).val < 31 then 1#1 else 0#1 := by
    generalize (i 0).val = n at hi
    revert hi
    revert n
    decide +kernel
  unfold win
  rw [hs]
  by_cases h : q.val < 256
  · rw [dif_pos h]
    pointwise []
    rw [dif_pos h]
  · rw [dif_neg h]
    pointwise []
    rw [dif_neg h]
    by_cases h' : (i 0).val < 31
    · rw [if_pos h', if_pos h']
      rfl
    · rw [if_neg h', if_neg h']
      rfl

theorem xo_apply (n : ℕ) (hn : n < 31) (r : Fin 256) (l : Fin 128) :
    xo i D H n (ix2 r l) = win i D H (ix2 (⟨r.val + (8 * (n % 4) + n / 4), by omega⟩ : Fin 288) l) := by
  unfold xo
  by_cases h : n / 4 = 0
  · rw [if_pos h]
    refine congrArg (win i D H) ?_
    funext a
    match a with
    | ⟨0, _⟩ => exact Fin.ext (by show 8 * (n % 4) + r.val = r.val + (8 * (n % 4) + n / 4); omega)
    | ⟨1, _⟩ => exact Fin.ext (by show 0 + l.val = l.val; omega)
  · rw [if_neg h]
    have e : (288 - n / 4) % 4294967296 = 288 - n / 4 := by omega
    refine dynamicRotate_apply (s := S288x128) 0 _ (win i D H) _ _ _ fun b => ?_
    match b with
    | ⟨0, _⟩ =>
      show r.val + (8 * (n % 4) + n / 4) = (8 * (n % 4) + r.val + 288 - (288 - n / 4) % 4294967296 % 288) % 288
      omega
    | ⟨1, _⟩ => show l.val = 0 + l.val; omega

theorem grown_apply (n : ℕ) (p : Vec Ideal S1x128 .f32) (l : Fin 128) : grown i D H A B n p (ix2 (0 : Fin 1) l)
    = p (ix2 (0 : Fin 1) l) + ∑ r : Fin 256, xo i D H n (ix2 r l) * (A (ix2 r l) * gate B (ix2 r l)) := by
  pointwise [grown]

theorem gate_apply (r : Fin 256) (l : Fin 128) : gate B (ix2 r l) = Ideal.div 1 (1 + Ideal.exp (0 - B (ix2 r l))) := by
  pointwise [gate]

theorem back_apply (n : ℕ) (r : Fin 256) (l : Fin 128) : back i D H W n (ix2 r l)
    = ∑ k ∈ Finset.range n, xo i D H k (ix2 r l) * W k (ix2 (0 : Fin 1) l) := by
  induction n with
  | zero => rw [Finset.sum_range_zero]; pointwise [back]
  | succ n ih =>
    rw [Finset.sum_range_succ, ← ih]
    pointwise [back]

theorem half_0 (k : ℕ) (hk : k % 2 = 0) (r : Fin 256) (l : Fin 128) : half i D H A B W k (ix2 r l)
    = back i D H W 31 (ix2 r l) * gate B (ix2 r l) := by
  unfold half
  rw [if_pos hk]
  pointwise []

theorem half_1 (k : ℕ) (hk : ¬k % 2 = 0) (r : Fin 256) (l : Fin 128) : half i D H A B W k (ix2 r l)
    = back i D H W 31 (ix2 r l) * A (ix2 r l) * gate B (ix2 r l) * (1 - gate B (ix2 r l)) := by
  unfold half
  rw [if_neg hk]
  pointwise []

end Group

section Whole

variable (i : grid0.Coords) (x0 : Vec Ideal S256x1024 .f32) (x1 : Vec Ideal S32x1024 .f32) (x2 x3 : Vec Ideal S256x1024 .f32)

/-- The cotangent `q` rows below the tile's first. -/
def below (q : ℕ) (l : Fin 1024) : EReal :=
  if h : q < 256 then x0 (ix2 (⟨q, h⟩ : Fin 256) l) else if h' : q < 288 ∧ (i 0).val < 31 then x1 (ix2 (⟨q - 256, by omega⟩ : Fin 32) l) else 0

/-- The gate of an entry. -/
def gateAt (b : EReal) : EReal := Ideal.div 1 (1 + Ideal.exp (0 - b))

/-- What the tile adds to tap `j`'s gradient. -/
def adds (j : ℕ) (l : Fin 1024) : EReal :=
  ∑ r : Fin 256, below i x0 x1 (r.val + (30 - j)) l * (x2 (ix2 r l) * gateAt (x3 (ix2 r l)))

end Whole

section Stores

variable (i : grid0.Coords) (arg1 : Memref sig .tc .vmem S256x1024 .f32) (harg1 : arg1.IsWhole) (arg2 : Memref sig .tc .vmem S32x1024 .f32) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S32x1024 .f32) (harg5 : arg5.IsWhole) (arg6 : Memref sig .tc .vmem S256x2048 .bf16) (harg6 : arg6.IsWhole)
  (arg7 : Memref sig .tc .vmem S32x1024 .f32) (harg7 : arg7.IsWhole)
  (x0 : Vec Ideal S256x1024 .f32) (x1 : Vec Ideal S32x1024 .f32) (x2 x3 : Vec Ideal S256x1024 .f32) (x4 xo6 : Vec Ideal S32x1024 .f32)

/-- A lane of a group. -/
abbrev lane (g : ℕ) (l : Fin 128) : Fin 1024 := ⟨128 * (g % 8) + l.val, by omega⟩

theorem grp_apply (r : Memref sig .tc .vmem S256x1024 .f32) (h : r.IsWhole) (x : Vec Ideal S256x1024 .f32) (g : ℕ) (a : Fin 256) (l : Fin 128) :
    grp r h x g (ix2 a l) = x (ix2 a (lane g l)) := by
  unfold grp
  rw [h.readAt_unread]
  refine congrArg x (funext fun b => ?_)
  match b with
  | ⟨0, _⟩ => exact Fin.ext (by show 0 + 1 * a.val = a.val; omega)
  | ⟨1, _⟩ => exact Fin.ext (by show 128 * (g % 8) + 1 * l.val = 128 * (g % 8) + l.val; omega)

theorem grp32_apply (r : Memref sig .tc .vmem S32x1024 .f32) (h : r.IsWhole) (x : Vec Ideal S32x1024 .f32) (g : ℕ) (a : Fin 32) (l : Fin 128) :
    grp32 r h x g (ix2 a l) = x (ix2 a (lane g l)) := by
  unfold grp32
  rw [h.readAt_unread]
  refine congrArg x (funext fun b => ?_)
  match b with
  | ⟨0, _⟩ => exact Fin.ext (by show 0 + 1 * a.val = a.val; omega)
  | ⟨1, _⟩ => exact Fin.ext (by show 128 * (g % 8) + 1 * l.val = 128 * (g % 8) + l.val; omega)

theorem one_apply (r : Memref sig .tc .vmem S32x1024 .f32) (h : r.IsWhole) (x : Vec Ideal S32x1024 .f32) (n g : ℕ) (l : Fin 128) :
    one r h x n g (ix2 (0 : Fin 1) l) = x (ix2 (⟨tap n, by show 30 - (8 * (n % 4) + n / 4) < 32; omega⟩ : Fin 32) (lane g l)) := by
  unfold one
  rw [h.readAt_unread]
  refine congrArg x (funext fun b => ?_)
  match b with
  | ⟨0, _⟩ => exact Fin.ext (by show tap n + 1 * 0 = tap n; omega)
  | ⟨1, _⟩ => exact Fin.ext (by show 128 * (g % 8) + 1 * l.val = 128 * (g % 8) + l.val; omega)

theorem shifted (n : ℕ) (hn : n < 31) (g : ℕ) (r : Fin 256) (l : Fin 128) :
    xo i (grp arg1 harg1 x0 g) (grp32 arg2 harg2 x1 g) n (ix2 r l) = below i x0 x1 (r.val + (30 - tap n)) (lane g l) := by
  have e : 30 - tap n = 8 * (n % 4) + n / 4 := by show 30 - (30 - (8 * (n % 4) + n / 4)) = _; omega
  rw [xo_apply i _ _ n hn, win_apply, e]
  unfold below
  dsimp only
  by_cases h : r.val + (8 * (n % 4) + n / 4) < 256
  · rw [dif_pos h, dif_pos h, grp_apply]
  · have h2 : r.val + (8 * (n % 4) + n / 4) < 288 := by omega
    rw [dif_neg h, dif_neg h]
    by_cases h' : (i 0).val < 31
    · rw [if_pos h', dif_pos ⟨h2, h'⟩, grp32_apply]
    · rw [if_neg h', dif_neg fun h => h' h.2]

theorem grown_entry (n : ℕ) (hn : n < 31) (g : ℕ) (p : Vec Ideal S1x128 .f32) (l : Fin 128) :
    grown i (grp arg1 harg1 x0 g) (grp32 arg2 harg2 x1 g) (grp arg3 harg3 x2 g) (grp arg4 harg4 x3 g) n p (ix2 (0 : Fin 1) l)
      = p (ix2 (0 : Fin 1) l) + adds i x0 x1 x2 x3 (tap n) (lane g l) := by
  rw [grown_apply]
  refine congrArg _ (Finset.sum_congr rfl fun r _ => ?_)
  rw [shifted i arg1 harg1 arg2 harg2 x0 x1 n hn, gate_apply, grp_apply, grp_apply]
  rfl

/-- Where in the list of stores an entry's store is. -/
abbrev rank (j l : ℕ) : ℕ := 31 * (l / 128) + (4 * ((30 - j) % 8) + (30 - j) / 8)

theorem rank_iff (j l k : ℕ) (hj : j ≤ 30) (hl : l < 1024) (hk : k < 248) :
    rank j l = k ↔ tap (k % 31) = j ∧ 128 * (k / 31 % 8) ≤ l ∧ l < 128 * (k / 31 % 8) + 128 := by
  show 31 * (l / 128) + (4 * ((30 - j) % 8) + (30 - j) / 8) = k ↔ 30 - (8 * (k % 31 % 4) + k % 31 / 4) = j ∧ _
  have hq : k / 31 % 8 = k / 31 := Nat.mod_eq_of_lt (by omega)
  rw [hq]
  generalize hn : k % 31 = n
  generalize hg : k / 31 = g
  have e : k = 31 * g + n := by omega
  have : n < 31 := by omega
  omega

/-- A store read at its entry, and past it. -/
theorem hit (v : View sig .tc .vmem S32x1024 .f32) (f : v.ty.Contents (Elt Ideal)) (L : List (View.Piece (Elt Ideal) S32x1024 .f32)) (k : ℕ) (hk : k < 248)
    (w : Vec Ideal S1x128 .f32) (j : Fin 32) (hj : j.val ≤ 30) (l : Fin 1024) (h : rank j.val l.val = k) :
    v.read (Elt Ideal) (v.writes (Elt Ideal) f (⟨Rect.unit ![tap (k % 31), 128 * (k / 31 % 8)] S1x128.size (inb1 (k % 31) (k / 31)), w⟩ :: L)) (ix2 j l)
      = w (ix2 (0 : Fin 1) (⟨l.val % 128, Nat.mod_lt _ (by decide)⟩ : Fin 128)) := by
  obtain ⟨h1, h2, h3⟩ := (rank_iff j.val l.val k hj l.isLt hk).mp h
  refine View.read_writes_cons_unit_of_mem (s := S32x1024) v f _ w L (ix2 j l) _ rfl fun a => ?_
  match a with
  | ⟨0, _⟩ => show j.val = tap (k % 31) + 0; omega
  | ⟨1, _⟩ => show l.val = 128 * (k / 31 % 8) + l.val % 128; omega

theorem miss (v : View sig .tc .vmem S32x1024 .f32) (f : v.ty.Contents (Elt Ideal)) (L : List (View.Piece (Elt Ideal) S32x1024 .f32)) (k : ℕ) (hk : k < 248)
    (w : Vec Ideal S1x128 .f32) (j : Fin 32) (l : Fin 1024) (h : ¬(j.val ≤ 30 ∧ rank j.val l.val = k)) :
    v.read (Elt Ideal) (v.writes (Elt Ideal) f (⟨Rect.unit ![tap (k % 31), 128 * (k / 31 % 8)] S1x128.size (inb1 (k % 31) (k / 31)), w⟩ :: L)) (ix2 j l)
      = v.read (Elt Ideal) (v.writes (Elt Ideal) f L) (ix2 j l) := by
  by_cases hr : tap (k % 31) = j.val
  · have h' : ¬(128 * (k / 31 % 8) ≤ l.val ∧ l.val < 128 * (k / 31 % 8) + 128) := fun h' => h ⟨by
      have : tap (k % 31) ≤ 30 := Nat.sub_le _ _
      omega, (rank_iff j.val l.val k (hr ▸ Nat.sub_le _ _) l.isLt hk).mpr ⟨hr, h'⟩⟩
    refine View.read_writes_cons_unit_of_not_mem (s := S32x1024) v f _ w L (ix2 j l) rfl 1 ?_
    show l.val < 128 * (k / 31 % 8) ∨ 128 * (k / 31 % 8) + 128 ≤ l.val
    omega
  · refine View.read_writes_cons_unit_of_not_mem (s := S32x1024) v f _ w L (ix2 j l) rfl 0 ?_
    show j.val < tap (k % 31) ∨ tap (k % 31) + 1 ≤ j.val
    omega

/-- What a later point's stores leave at an entry. -/
theorem stores_apply (k : ℕ) (hk : k ≤ 248) (j : Fin 32) (l : Fin 1024) :
    arg7.view.read (Elt Ideal) (arg7.view.writes (Elt Ideal) (harg7.unread xo6)
      (stores i arg1 harg1 arg2 harg2 arg3 harg3 arg4 harg4 arg7 harg7 x0 x1 x2 x3 xo6 k)) (ix2 j l)
      = if j.val ≤ 30 ∧ rank j.val l.val < k then xo6 (ix2 j l) + adds i x0 x1 x2 x3 j.val l else xo6 (ix2 j l) := by
  induction k with
  | zero =>
    rw [if_neg (by omega)]
    show arg7.view.read (Elt Ideal) (harg7.unread xo6) (ix2 j l) = _
    rw [harg7.read_unread]
  | succ k ih =>
    unfold stores
    by_cases h : j.val ≤ 30 ∧ rank j.val l.val = k
    · obtain ⟨h1, h2, h3⟩ := (rank_iff j.val l.val k h.1 l.isLt (by omega)).mp h.2
      rw [if_pos ⟨h.1, by omega⟩, hit _ _ _ k (by omega) _ j h.1 l h.2, grown_entry _ _ _ _ _ _ _ _ _ _ _ _ _ _ (Nat.mod_lt _ (by decide)), one_apply]
      have el : lane (k / 31) (⟨l.val % 128, Nat.mod_lt _ (by decide)⟩ : Fin 128) = l := Fin.ext (by show 128 * (k / 31 % 8) + l.val % 128 = l.val; omega)
      have ej : (⟨tap (k % 31), Nat.lt_of_le_of_lt (Nat.sub_le _ _) (by decide)⟩ : Fin 32) = j := Fin.ext h1
      rw [el, ej, h1]
    · rw [miss _ _ _ k (by omega) _ j l h, ih (by omega)]
      refine if_congr ?_ rfl rfl
      omega

/-- What the first point's stores leave at an entry. -/
theorem stores0_apply (v : View sig .tc .vmem S32x1024 .f32) (f : v.ty.Contents (Elt Ideal)) (k : ℕ) (hk : k ≤ 248) (j : Fin 32) (l : Fin 1024) :
    v.read (Elt Ideal) (v.writes (Elt Ideal) f (stores0 i arg1 harg1 arg2 harg2 arg3 harg3 arg4 harg4 arg7 x0 x1 x2 x3 k)) (ix2 j l)
      = if j.val ≤ 30 ∧ rank j.val l.val < k then 0 + adds i x0 x1 x2 x3 j.val l else 0 := by
  induction k generalizing v f j l with
  | zero =>
    rw [if_neg (by omega)]
    unfold stores0
    refine (View.read_writes_cons_unit_of_mem (s := S32x1024) _ f _ _ [] (ix2 j l) (ix2 j l) rfl fun a => ?_).trans ?_
    · match a with
      | ⟨0, _⟩ => show j.val = 0 + j.val; omega
      | ⟨1, _⟩ => show l.val = 0 + l.val; omega
    · pointwise []
  | succ k ih =>
    unfold stores0
    by_cases h : j.val ≤ 30 ∧ rank j.val l.val = k
    · obtain ⟨h1, h2, h3⟩ := (rank_iff j.val l.val k h.1 l.isLt (by omega)).mp h.2
      rw [if_pos ⟨h.1, by omega⟩, hit _ _ _ k (by omega) _ j h.1 l h.2, grown_entry _ _ _ _ _ _ _ _ _ _ _ _ _ _ (Nat.mod_lt _ (by decide))]
      have el : lane (k / 31) (⟨l.val % 128, Nat.mod_lt _ (by decide)⟩ : Fin 128) = l := Fin.ext (by show 128 * (k / 31 % 8) + l.val % 128 = l.val; omega)
      refine congrArg₂ (· + ·) ?_ (congrArg₂ (adds i x0 x1 x2 x3) h1 el)
      refine Eq.trans ?_ ((ih arg7.view arg7.view.junk (by omega) j l).trans (if_neg (by omega)))
      refine congrArg (arg7.view.read (Elt Ideal) _) (funext fun b => ?_)
      match b with
      | ⟨0, _⟩ => exact Fin.ext (by show tap (k % 31) + 1 * 0 = j.val; omega)
      | ⟨1, _⟩ => exact Fin.ext (by show 128 * (k / 31 % 8) + 1 * (l.val % 128) = l.val; omega)
    · rw [miss _ _ _ k (by omega) _ j l h, ih v f (by omega)]
      refine if_congr ?_ rfl rfl
      omega

/-- The taps in the order of the stores are the taps. -/
theorem taps_sum (f : Fin 31 → EReal) : ∑ n : Fin 31, f ⟨tap n.val, Nat.lt_of_le_of_lt (Nat.sub_le _ _) (by decide)⟩ = ∑ j, f j := by
  refine Function.Bijective.sum_comp (e := fun n : Fin 31 => (⟨tap n.val, Nat.lt_of_le_of_lt (Nat.sub_le _ _) (by decide)⟩ : Fin 31)) ?_ f
  refine Function.Injective.bijective_of_finite fun a b h => Fin.ext ?_
  have e : 30 - (8 * (a.val % 4) + a.val / 4) = 30 - (8 * (b.val % 4) + b.val / 4) := congrArg Fin.val h
  have := a.isLt
  have := b.isLt
  omega

/-- The convolution's transpose at an entry. -/
def spread (i : grid0.Coords) (x0 : Vec Ideal S256x1024 .f32) (x1 : Vec Ideal S32x1024 .f32) (x4 : Vec Ideal S32x1024 .f32) (r : Fin 256) (l : Fin 1024) : EReal :=
  ∑ j : Fin 31, below i x0 x1 (r.val + (30 - j.val)) l * x4 (ix2 (⟨j.val, by omega⟩ : Fin 32) l)

theorem back_entry (g : ℕ) (r : Fin 256) (l : Fin 128) :
    back i (grp arg1 harg1 x0 g) (grp32 arg2 harg2 x1 g) (fun n => one arg5 harg5 x4 n g) 31 (ix2 r l) = spread i x0 x1 x4 r (lane g l) := by
  rw [back_apply, Finset.sum_range]
  refine Eq.trans ?_ (taps_sum fun j => below i x0 x1 (r.val + (30 - j.val)) (lane g l) * x4 (ix2 (⟨j.val, by omega⟩ : Fin 32) (lane g l)))
  refine Finset.sum_congr rfl fun n _ => ?_
  rw [shifted i arg1 harg1 arg2 harg2 x0 x1 n.val n.isLt, one_apply]

/-- The gradient of the gated input at an entry. -/
def halfAt (i : grid0.Coords) (x0 : Vec Ideal S256x1024 .f32) (x1 : Vec Ideal S32x1024 .f32) (x2 x3 : Vec Ideal S256x1024 .f32) (x4 : Vec Ideal S32x1024 .f32)
    (r : Fin 256) (l : Fin 2048) : EReal :=
  if h : l.val < 1024 then spread i x0 x1 x4 r ⟨l.val, h⟩ * gateAt (x3 (ix2 r (⟨l.val, h⟩ : Fin 1024)))
  else spread i x0 x1 x4 r ⟨l.val - 1024, by omega⟩ * x2 (ix2 r (⟨l.val - 1024, by omega⟩ : Fin 1024)) * gateAt (x3 (ix2 r (⟨l.val - 1024, by omega⟩ : Fin 1024)))
    * (1 - gateAt (x3 (ix2 r (⟨l.val - 1024, by omega⟩ : Fin 1024))))

theorem halves_apply (v : View sig .tc .vmem S256x2048 .bf16) (f : v.ty.Contents (Elt Ideal)) (k : ℕ) (hk : k ≤ 16) (r : Fin 256) (l : Fin 2048) (hl : 2 * (l.val % 1024 / 128) + l.val / 1024 < k) :
    v.read (Elt Ideal) (v.writes (Elt Ideal) f
      (halves i arg1 harg1 arg2 harg2 arg3 harg3 arg4 harg4 arg5 harg5 x0 x1 x2 x3 x4 k)) (ix2 r l) = halfAt i x0 x1 x2 x3 x4 r l := by
  induction k with
  | zero => omega
  | succ k ih =>
    unfold halves
    have hq : k / 2 % 8 = k / 2 := Nat.mod_eq_of_lt (by omega)
    have hl2 := l.isLt
    have hh : l.val = 1024 * (l.val / 1024) + (128 * (l.val % 1024 / 128) + l.val % 128) := by omega
    have hc : l.val / 1024 < 2 := by omega
    have hl1 : l.val % 128 < 128 := Nat.mod_lt _ (by decide)
    have hg : l.val % 1024 / 128 < 8 := by omega
    by_cases h : 2 * (l.val % 1024 / 128) + l.val / 1024 = k
    · refine (View.read_writes_cons_unit_of_mem (s := S256x2048) _ f _ _ _ (ix2 r l) (ix2 r (⟨l.val % 128, Nat.mod_lt _ (by decide)⟩ : Fin 128)) rfl fun a => ?_).trans ?_
      · match a with
        | ⟨0, _⟩ => show r.val = 0 + r.val; omega
        | ⟨1, _⟩ =>
          show l.val = 1024 * (k % 2) + 128 * (k / 2 % 8) + l.val % 128
          have e1 : k % 2 = l.val / 1024 := by omega
          have e2 : k / 2 = l.val % 1024 / 128 := by omega
          rw [hq, e1, e2]
          omega
      · unfold halfAt
        by_cases hp : k % 2 = 0
        · have h1 : l.val < 1024 := by omega
          have el : lane (k / 2) (⟨l.val % 128, Nat.mod_lt _ (by decide)⟩ : Fin 128) = ⟨l.val, h1⟩ := Fin.ext (by show 128 * (k / 2 % 8) + l.val % 128 = l.val; omega)
          rw [half_0 _ _ _ _ _ _ k hp, back_entry, gate_apply, grp_apply, dif_pos h1, el]
          rfl
        · have h1 : ¬l.val < 1024 := by omega
          have el : lane (k / 2) (⟨l.val % 128, Nat.mod_lt _ (by decide)⟩ : Fin 128) = ⟨l.val - 1024, by omega⟩ :=
            Fin.ext (by show 128 * (k / 2 % 8) + l.val % 128 = l.val - 1024; omega)
          rw [half_1 _ _ _ _ _ _ k hp, back_entry, gate_apply, grp_apply, grp_apply, dif_neg h1, el]
          rfl
    · have hm : l.val < 1024 * (k % 2) + 128 * (k / 2 % 8) ∨ 1024 * (k % 2) + 128 * (k / 2 % 8) + 128 ≤ l.val := by
        rw [hq]
        generalize l.val / 1024 = a at *
        generalize l.val % 1024 / 128 = b at *
        generalize l.val % 128 = d at *
        clear hq
        omega
      rw [View.read_writes_cons_unit_of_not_mem (s := S256x2048) _ f _ _ _ (ix2 r l) rfl 1 hm]
      exact ih (by omega) (by omega)

end Stores

end Cert.ConvTapsIdeal.Rows
end
-- ==== Proof.TapsPoints.lean ====
module

public import proofs.«01_k».proof.Proof.TapsSpec
public import Idealize.ShloMosaic.Lib.Pipeline.ValueKit

@[expose] public section

set_option maxRecDepth 16384

noncomputable section

/-! The outputs of the convolution's gradient after each grid point, by the entries of the arguments. -/

namespace Cert.ConvTapsIdeal.Rows

open Cert.ConvTapsIdeal Cert.ConvTapsIdeal.Gen Idealize.ShloMosaic Idealize.ShloMosaic.TcCoe Idealize.SL.Sem
open Cert.RealRow Cert.Tiles

section Entries

variable (G : FVec Ideal S8192x2048 .f32) (K : FVec Ideal S1x31x1024 .f32) (U : FVec Ideal S8192x1024 .f32)

/-- The cotangent at a row, nothing past the last. -/
def cot (n : ℕ) (l : Fin 1024) : EReal := if h : n < 8192 then U (ix2 (⟨n, h⟩ : Fin 8192) l) else 0

/-- The two halves of the gated input. -/
def fst (n : Fin 8192) (l : Fin 1024) : EReal := G (ix2 n (⟨l.val, by omega⟩ : Fin 2048))
def snd (n : Fin 8192) (l : Fin 1024) : EReal := G (ix2 n (⟨1024 + l.val, by omega⟩ : Fin 2048))

/-- A tap's gradient. -/
def tapGrad (j : ℕ) (l : Fin 1024) : EReal := ∑ n : Fin 8192, cot U (n.val + (30 - j)) l * (fst G n l * gateAt (snd G n l))

/-- The gradient of the gated values. -/
def valGrad (n : Fin 8192) (l : Fin 1024) : EReal := ∑ j : Fin 31, cot U (n.val + (30 - j.val)) l * K (ix3 (0 : Fin 1) j l)

/-- The gradient of the gated input. -/
def gluGrad (n : Fin 8192) (l : Fin 2048) : EReal :=
  if h : l.val < 1024 then valGrad K U n ⟨l.val, h⟩ * gateAt (snd G n ⟨l.val, h⟩)
  else valGrad K U n ⟨l.val - 1024, by omega⟩ * fst G n ⟨l.val - 1024, by omega⟩ * gateAt (snd G n ⟨l.val - 1024, by omega⟩)
    * (1 - gateAt (snd G n ⟨l.val - 1024, by omega⟩))

end Entries

variable (m : (ℓ : Loc nD τ sig) → Buf (Elt Ideal) ℓ) (c : Dev nD)

theorem idx : ∀ t : Fin cfg0.N, win0_0.index t = ![t.val, 0] ∧ win0_2.index t = ![t.val, 0] ∧ win0_3.index t = ![t.val, 1]
    ∧ win0_4.index t = ![0, 0] ∧ win0_5.index t = ![t.val, 0] ∧ win0_6.index t = ![0, 0] ∧ t.val < 32 ∧ ((grid0.coords t) 0).val = t.val :=
  (by decide +kernel : ∀ t : Fin grid0.N, _)

theorem idx1 : ∀ t : Fin cfg0.N, t.val < 31 → win0_1.index t = ![8 * t.val + 8, 0] :=
  (by decide +kernel : ∀ t : Fin grid0.N, _)

theorem lt32 (t : Fin cfg0.N) : t.val < 32 := lt_of_lt_of_eq t.isLt N_0

/-- Row `i` of tile `t`. -/
abbrev at_ (t : Fin cfg0.N) (i : Fin 256) : Fin 8192 := ⟨t.val * 256 + i.val, by have := lt32 t; omega⟩

abbrev glu : FVec Ideal S8192x2048 .f32 := m ((c : Thread nD τ).loc main_arg0)
abbrev taps : FVec Ideal S1x31x1024 .f32 := m ((c : Thread nD τ).loc main_arg1)
abbrev du : FVec Ideal S8192x1024 .f32 := m ((c : Thread nD τ).loc main_arg2)

theorem w_entry (j : Fin 31) (l : Fin 1024) :
    (show FVec Ideal S32x1024 .f32 from Gen.V m c main_v1) (ix2 (⟨j.val, by omega⟩ : Fin 32) l) = taps m c (ix3 (0 : Fin 1) j l) := by
  dsimp only
  simp only [Gen.V, hostOps0, hostOps0_1, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  pointwise []

theorem block0 (t : Fin cfg0.N) (i : Fin 256) (l : Fin 1024) : iblk m c 0 t (ix2 i l) = du m c (ix2 (at_ t i) l) := by
  rw [du, ← V_main_arg2 m c]
  blk_point [iblk, idx t]

theorem block1 (t : Fin cfg0.N) (ht : t.val < 31) (i : Fin 32) (l : Fin 1024) :
    iblk m c 1 t (ix2 i l) = du m c (ix2 (⟨t.val * 256 + 256 + i.val, by omega⟩ : Fin 8192) l) := by
  rw [du, ← V_main_arg2 m c]
  blk_point [iblk, idx1 t ht]

theorem block2 (t : Fin cfg0.N) (i : Fin 256) (l : Fin 1024) : iblk m c 2 t (ix2 i l) = fst (glu m c) (at_ t i) l := by
  unfold fst
  rw [glu, ← V_main_arg0 m c]
  blk_point [iblk, idx t]

theorem block3 (t : Fin cfg0.N) (i : Fin 256) (l : Fin 1024) : iblk m c 3 t (ix2 i l) = snd (glu m c) (at_ t i) l := by
  unfold snd
  rw [glu, ← V_main_arg0 m c]
  blk_point [iblk, idx t]

theorem block4 (t : Fin cfg0.N) (j : Fin 31) (l : Fin 1024) : iblk m c 4 t (ix2 (⟨j.val, by omega⟩ : Fin 32) l) = taps m c (ix3 (0 : Fin 1) j l) := by
  rw [← w_entry m c]
  blk_point [iblk, idx t]

theorem below_eq (t : Fin cfg0.N) (q : ℕ) (hq : q < 288) (l : Fin 1024) :
    below (grid0.coords t) (iblk m c 0 t) (iblk m c 1 t) q l = cot (du m c) (t.val * 256 + q) l := by
  have ht := lt32 t
  have e := (idx t).2.2.2.2.2.2.2
  unfold below cot
  by_cases h : q < 256
  · rw [dif_pos h, dif_pos (by omega), block0 m c t]
  · rw [dif_neg h]
    by_cases h' : t.val < 31
    · rw [dif_pos ⟨hq, e.symm ▸ h'⟩, dif_pos (by omega), block1 m c t h']
      exact congrArg (fun a => du m c (ix2 a l)) (Fin.ext (by show t.val * 256 + 256 + (q - 256) = t.val * 256 + q; omega))
    · rw [dif_neg (fun a => h' (e ▸ a.2)), dif_neg (by omega)]

theorem adds_eq (t : Fin cfg0.N) (j : ℕ) (l : Fin 1024) :
    adds (grid0.coords t) (iblk m c 0 t) (iblk m c 1 t) (iblk m c 2 t) (iblk m c 3 t) j l
      = ∑ r : Fin 256, cot (du m c) ((at_ t r).val + (30 - j)) l * (fst (glu m c) (at_ t r) l * gateAt (snd (glu m c) (at_ t r) l)) := by
  unfold adds
  refine Finset.sum_congr rfl fun r _ => ?_
  rw [below_eq m c t _ (by omega), block2 m c t, block3 m c t, Nat.add_assoc]

theorem spread_eq (t : Fin cfg0.N) (r : Fin 256) (l : Fin 1024) :
    spread (grid0.coords t) (iblk m c 0 t) (iblk m c 1 t) (iblk m c 4 t) r l = valGrad (taps m c) (du m c) (at_ t r) l := by
  unfold spread valGrad
  refine Finset.sum_congr rfl fun j _ => ?_
  rw [below_eq m c t _ (by omega), block4 m c t, Nat.add_assoc]

theorem half_eq (t : Fin cfg0.N) (r : Fin 256) (l : Fin 2048) :
    halfAt (grid0.coords t) (iblk m c 0 t) (iblk m c 1 t) (iblk m c 2 t) (iblk m c 3 t) (iblk m c 4 t) r l
      = gluGrad (glu m c) (taps m c) (du m c) (at_ t r) l := by
  unfold halfAt gluGrad
  by_cases h : l.val < 1024
  · rw [dif_pos h, dif_pos h, spread_eq m c t, block3 m c t]
  · rw [dif_neg h, dif_neg h, spread_eq m c t, block2 m c t, block3 m c t]

/-- The gradient of the gated input after its point. -/
theorem half_tile (t : Fin cfg0.N) (r : Fin 256) (l : Fin 2048) :
    (outsAt0 m c t.val t.isLt).1 (ix2 r l) = gluGrad (glu m c) (taps m c) (du m c) (at_ t r) l := by
  have hl : 2 * (l.val % 1024 / 128) + l.val / 1024 < 16 := by
    have := l.isLt
    have : l.val / 1024 < 2 := by omega
    have : l.val % 1024 / 128 < 8 := by omega
    omega
  rw [← half_eq m c t]
  by_cases h0 : t.val % 32 = 0
  · rw [outsAt0_A m c t h0]
    dsimp only
    unfold out0_A_5
    rw [halves_A]
    exact halves_apply _ _ _ _ _ _ _ _ _ _ _ _ _ _ _ _ _ _ 16 le_rfl r l hl
  · rw [outsAt0_B m c t h0]
    dsimp only
    unfold out0_B_5
    rw [halves_B]
    exact halves_apply _ _ _ _ _ _ _ _ _ _ _ _ _ _ _ _ _ _ 16 le_rfl r l hl

theorem rank_lt (j : Fin 32) (l : Fin 1024) : j.val ≤ 30 ∧ rank j.val l.val < 248 ↔ j.val ≤ 30 := by
  have : l.val / 128 < 8 := by omega
  show j.val ≤ 30 ∧ 31 * (l.val / 128) + (4 * ((30 - j.val) % 8) + (30 - j.val) / 8) < 248 ↔ _
  omega

/-- The taps' gradient after the first point and a later one. -/
theorem tap_A (t : Fin cfg0.N) (h0 : t.val % 32 = 0) (j : Fin 32) (l : Fin 1024) : (outsAt0 m c t.val t.isLt).2 (ix2 j l)
    = if j.val ≤ 30 then 0 + ∑ r : Fin 256, cot (du m c) ((at_ t r).val + (30 - j.val)) l * (fst (glu m c) (at_ t r) l * gateAt (snd (glu m c) (at_ t r) l)) else 0 := by
  rw [outsAt0_A m c t h0]
  dsimp only
  unfold out0_A_6
  rw [stored_A, ← adds_eq m c t]
  exact (stores0_apply _ _ _ _ _ _ _ _ _ _ _ _ _ _ _ _ 248 le_rfl j l).trans (if_congr (rank_lt j l) rfl rfl)

theorem tap_B (t : Fin cfg0.N) (h0 : ¬t.val % 32 = 0) (j : Fin 32) (l : Fin 1024) : (outsAt0 m c t.val t.isLt).2 (ix2 j l)
    = if j.val ≤ 30 then (outsAt0 m c (t.val - 1) (Nat.lt_of_le_of_lt (Nat.sub_le _ _) t.isLt)).2 (ix2 j l)
        + ∑ r : Fin 256, cot (du m c) ((at_ t r).val + (30 - j.val)) l * (fst (glu m c) (at_ t r) l * gateAt (snd (glu m c) (at_ t r) l))
      else (outsAt0 m c (t.val - 1) (Nat.lt_of_le_of_lt (Nat.sub_le _ _) t.isLt)).2 (ix2 j l) := by
  rw [outsAt0_B m c t h0]
  dsimp only
  unfold out0_B_6
  rw [stored_B, ← adds_eq m c t]
  exact (stores_apply _ _ _ _ _ _ _ _ _ _ _ _ _ _ _ _ 248 le_rfl j l).trans (if_congr (rank_lt j l) rfl rfl)

theorem last_lt : 31 < cfg0.N := lt_of_lt_of_eq (by decide) N_0.symm

/-- What starts at zero and grows by every tile's sum ends at the sum over all the rows. -/
theorem sums (f : (n : ℕ) → n < cfg0.N → EReal) (F : Fin 8192 → EReal)
    (h0 : ∀ t : Fin cfg0.N, t.val % 32 = 0 → f t.val t.isLt = 0 + ∑ i, F (at_ t i))
    (hs : ∀ t : Fin cfg0.N, ¬t.val % 32 = 0 →
      f t.val t.isLt = f (t.val - 1) (Nat.lt_of_le_of_lt (Nat.sub_le _ _) t.isLt) + ∑ i, F (at_ t i)) :
    f 31 last_lt = ∑ r, F r := by
  have e := Pipeline.eq_sum_fin_of_reset_step_apply_last (ι := Unit) (fun n (hn : n < 32) _ => f n (lt_of_lt_of_eq hn N_0.symm)) 32 (fun _ => 0)
    (fun t _ => ∑ i : Fin 256, F ⟨t.val * 256 + i.val, by omega⟩) (fun t ht _ => h0 ⟨t.val, lt_of_lt_of_eq t.isLt N_0.symm⟩ ht)
    (fun t ht _ => hs ⟨t.val, lt_of_lt_of_eq t.isLt N_0.symm⟩ ht) le_rfl ⟨31, by decide⟩ rfl ()
  refine e.trans ?_
  rw [zero_add, Fin.sum_univ_tiles 32 256 rfl]

theorem tap_last (j : Fin 32) (l : Fin 1024) :
    (outsAt0 m c 31 last_lt).2 (ix2 j l) = if j.val ≤ 30 then tapGrad (glu m c) (du m c) j.val l else 0 := by
  by_cases hj : j.val ≤ 30
  · rw [if_pos hj]
    refine sums (fun n hn => (outsAt0 m c n hn).2 (ix2 j l)) (fun n => cot (du m c) (n.val + (30 - j.val)) l * (fst (glu m c) n l * gateAt (snd (glu m c) n l)))
      (fun t ht => ?_) (fun t ht => ?_)
    · exact (tap_A m c t ht j l).trans (if_pos hj)
    · exact (tap_B m c t ht j l).trans (if_pos hj)
  · rw [if_neg hj]
    refine (sums (fun n hn => (outsAt0 m c n hn).2 (ix2 j l)) (fun _ => 0) (fun t ht => ?_) (fun t ht => ?_)).trans (Finset.sum_const_zero)
    · refine (tap_A m c t ht j l).trans ((if_neg hj).trans ?_)
      rw [Finset.sum_const_zero, zero_add]
    · refine (tap_B m c t ht j l).trans ((if_neg hj).trans ?_)
      rw [Finset.sum_const_zero, add_zero]

end Cert.ConvTapsIdeal.Rows
end
-- ==== Proof.TapsRead.lean ====
module

public import proofs.«01_k».proof.Proof.TapsPoints
public import proofs.«01_k».proof.Proof.Gen.ConvTapsRefIdeal.Read

@[expose] public section

set_option maxRecDepth 16384

noncomputable section

/-! The reference's results at an index: its 31 taps as one family. -/

namespace Cert.ConvTapsRefIdeal.Reals

open Cert.ConvTapsRefIdeal Cert.ConvTapsRefIdeal.Gen Cert.ConvTapsRefIdeal.Read Idealize.ShloMosaic Idealize.ShloMosaic.TcCoe Cert.RealRow Cert.Tiles
open Cert.ConvTapsIdeal.Rows (cot fst snd gateAt tapGrad valGrad gluGrad)

variable (G : FVec Ideal S8192x2048 .f32) (K : FVec Ideal S1x31x1024 .f32) (U : FVec Ideal S8192x1024 .f32)

theorem slc (n : ℕ) : S8222x1024.Slices ![30 - n, 0] S8192x1024 := ⟨rfl, fun a =>
  match a with
  | ⟨0, _⟩ => (by omega : 30 - n + 8192 ≤ 8222)
  | ⟨1, _⟩ => (by omega : 0 + 1024 ≤ 1024)⟩

theorem slcW (n : ℕ) : S1x31x1024.Slices ![0, 30 - n, 0] S1x1x1024 := ⟨rfl, fun a =>
  match a with
  | ⟨0, _⟩ => (by omega : 0 + 1 ≤ 1)
  | ⟨1, _⟩ => (by omega : 30 - n + 1 ≤ 31)
  | ⟨2, _⟩ => (by omega : 0 + 1024 ≤ 1024)⟩

theorem padW (n : ℕ) : S1x1x1024.Pads ![0, 30 - n, 0] ![0, 30 - (30 - n), 0] ![0, 0, 0] S1x31x1024 := ⟨rfl, fun a =>
  match a with
  | ⟨0, _⟩ => (by omega : 1 = 0 + 1 + 0 * (1 - 1) + 0)
  | ⟨1, _⟩ => (by omega : 31 = 30 - n + 1 + 0 * (1 - 1) + (30 - (30 - n)))
  | ⟨2, _⟩ => (by omega : 1024 = 0 + 1024 + 0 * (1024 - 1) + 0)⟩

theorem padU (n : ℕ) : S8192x1024.Pads ![30 - n, 0] ![30 - (30 - n), 0] ![0, 0] S8222x1024 := ⟨rfl, fun a =>
  match a with
  | ⟨0, _⟩ => (by omega : 8222 = 30 - n + 8192 + 0 * (8192 - 1) + (30 - (30 - n)))
  | ⟨1, _⟩ => (by omega : 1024 = 0 + 1024 + 0 * (1024 - 1) + 0)⟩

/-- Tap `30 - n`'s gradient, laid out over one row. -/
def tapSum (n : ℕ) : FVec Ideal S1x1x1024 .f32 :=
  broadcastInDim S1x1x1024 ![2] bcast_S1024_S1x1x1024_2 (Host.reduceAdd (shapeCast _ (Host.reduceAdd
    (mulf (extractStridedSlice S8192x1024 ![30 - n, 0] (val_main_v13 (F := Ideal) G) (slc n)) (val_main_v231 (F := Ideal) U))
    (val_main_cst_4 (F := Ideal)) reducesTo_S8192x1024_S1024_d0 h_S_) shapeCasts_S1024_S1x1024) (val_main_cst_5 (F := Ideal)) reducesTo_S1x1024_S1024_d0 h_S_)

/-- Tap `30 - n`'s share of the gradient of the values. -/
def tapBack (n : ℕ) : FVec Ideal S8192x1024 .f32 :=
  mulf (val_main_v231 (F := Ideal) U) (broadcastInDim S8192x1024 ![0, 1] bcast_S1x1024_S8192x1024_0_1 (broadcastInDim S1x1024 ![1] bcast_S1024_S1x1024_1
    (shapeCast _ (extractStridedSlice S1x1x1024 ![0, 30 - n, 0] K (slcW n)) shapeCasts_S1x1x1024_S1024)))

/-- Each among the results. -/
def padSum (n : ℕ) : FVec Ideal S1x31x1024 .f32 :=
  pad S1x31x1024 ![0, 30 - n, 0] ![0, 30 - (30 - n), 0] ![0, 0, 0] (tapSum G U n) (val_main_cst_6 (F := Ideal)) (padW n) h_S_

def padBack (n : ℕ) : FVec Ideal S8222x1024 .f32 :=
  pad S8222x1024 ![30 - n, 0] ![30 - (30 - n), 0] ![0, 0] (tapBack K U n) (val_main_cst_7 (F := Ideal)) (padU n) h_S_

/-- The sums of the first `n + 1` taps. -/
def allSum : ℕ → FVec Ideal S1x31x1024 .f32
  | 0 => padSum G U 0
  | n + 1 => addf (allSum n) (padSum G U (n + 1))

def allBack : ℕ → FVec Ideal S8222x1024 .f32
  | 0 => padBack K U 0
  | n + 1 => addf (allBack n) (padBack K U (n + 1))

theorem v569_eq : val_main_v569 (F := Ideal) G U = allSum G U 30 := by
  sl_kernel_rfl

theorem v571_eq : val_main_v571 (F := Ideal) K U = allBack K U 30 := by
  sl_kernel_rfl

theorem v7 (r : Fin 8192) (l : Fin 1024) : val_main_v7 (F := Ideal) G (ix2 r l) = gateAt (snd G r l) := by
  unfold gateAt
  rw [zero_sub]
  pointwise [val_main_v7, val_main_v6, val_main_v5, val_main_v4, val_main_v3, val_main_v2, val_main_v1, val_main_cst, val_main_cst_0, snd]

theorem v0 (r : Fin 8192) (l : Fin 1024) : val_main_v0 (F := Ideal) G (ix2 r l) = fst G r l := by
  pointwise [val_main_v0, fst]

theorem v13 (q : Fin 8222) (l : Fin 1024) : val_main_v13 (F := Ideal) G (ix2 q l)
    = if h : q.val < 30 then 0 else fst G (⟨q.val - 30, by omega⟩ : Fin 8192) l * gateAt (snd G (⟨q.val - 30, by omega⟩ : Fin 8192) l) := by
  by_cases h : q.val < 30
  · rw [dif_pos h]
    pointwise [val_main_v13, val_main_v12, val_main_cst_2]
    rw [dif_pos h]
  · rw [dif_neg h, ← v7, ← v0]
    pointwise [val_main_v13, val_main_v11]
    rw [dif_neg h]

theorem tapSum_apply (n : ℕ) (l : Fin 1024) : tapSum G U n (ix3 (0 : Fin 1) (0 : Fin 1) l)
    = ∑ r : Fin 8192, val_main_v13 (F := Ideal) G (ix2 (⟨30 - n + r.val, by omega⟩ : Fin 8222) l) * U (ix2 r l) := by
  pointwise [tapSum, val_main_v231, val_main_cst_4, val_main_cst_5]
  exact Fintype.sum_unique _

theorem tapBack_apply (n : ℕ) (r : Fin 8192) (l : Fin 1024) : tapBack K U n (ix2 r l)
    = U (ix2 r l) * K (ix3 (0 : Fin 1) (⟨30 - n, by omega⟩ : Fin 31) l) := by
  pointwise [tapBack, val_main_v231]

theorem padSum_apply (n : ℕ) (j : Fin 31) (l : Fin 1024) : padSum G U n (ix3 (0 : Fin 1) j l)
    = if j.val = 30 - n then tapSum G U n (ix3 (0 : Fin 1) (0 : Fin 1) l) else 0 := by
  unfold padSum
  by_cases h : j.val = 30 - n
  · rw [if_pos h]
    refine pad_apply_of_inside _ _ _ _ _ _ _ _ _ fun a => ?_
    match a with
    | ⟨0, _⟩ => rfl
    | ⟨1, _⟩ => show j.val = 30 - n + 0 * (0 + 1); omega
    | ⟨2, _⟩ => show l.val = 0 + l.val * (0 + 1); omega
  · rw [if_neg h]
    refine (pad_apply_of_not_inside _ _ _ _ _ _ _ _ 1 ?_).trans ?_
    · show ¬(30 - n ≤ j.val ∧ (j.val - (30 - n)) % (0 + 1) = 0 ∧ (j.val - (30 - n)) / (0 + 1) < 1)
      omega
    · pointwise [val_main_cst_6]

theorem padBack_apply (n : ℕ) (q : Fin 8222) (l : Fin 1024) : padBack K U n (ix2 q l)
    = if h : 30 - n ≤ q.val ∧ q.val - (30 - n) < 8192 then tapBack K U n (ix2 (⟨q.val - (30 - n), h.2⟩ : Fin 8192) l) else 0 := by
  unfold padBack
  by_cases h : 30 - n ≤ q.val ∧ q.val - (30 - n) < 8192
  · rw [dif_pos h]
    refine pad_apply_of_inside _ _ _ _ _ _ _ _ _ fun a => ?_
    match a with
    | ⟨0, _⟩ => show q.val = 30 - n + (q.val - (30 - n)) * (0 + 1); omega
    | ⟨1, _⟩ => show l.val = 0 + l.val * (0 + 1); omega
  · rw [dif_neg h]
    refine (pad_apply_of_not_inside _ _ _ _ _ _ _ _ 0 ?_).trans ?_
    · show ¬(30 - n ≤ q.val ∧ (q.val - (30 - n)) % (0 + 1) = 0 ∧ (q.val - (30 - n)) / (0 + 1) < 8192)
      rw [Nat.div_one]
      exact fun a => h ⟨a.1, a.2.2⟩
    · pointwise [val_main_cst_7]

theorem allSum_apply (n : ℕ) (j : Fin 31) (l : Fin 1024) : allSum G U n (ix3 (0 : Fin 1) j l)
    = ∑ k ∈ Finset.range (n + 1), padSum G U k (ix3 (0 : Fin 1) j l) := by
  induction n with
  | zero => rw [Finset.sum_range_one]; rfl
  | succ n ih =>
    rw [Finset.sum_range_succ, ← ih]
    rfl

theorem allBack_apply (n : ℕ) (q : Fin 8222) (l : Fin 1024) : allBack K U n (ix2 q l)
    = ∑ k ∈ Finset.range (n + 1), padBack K U k (ix2 q l) := by
  induction n with
  | zero => rw [Finset.sum_range_one]; rfl
  | succ n ih =>
    rw [Finset.sum_range_succ, ← ih]
    rfl

/-- A sum against a delayed sequence is one against the other advanced. -/
theorem shift_sum (N s : ℕ) (hs : s ≤ N) (u w : ℕ → EReal) (hw : ∀ n, N ≤ n → w n = 0) :
    ∑ r ∈ Finset.range N, (if r < s then 0 else u (r - s)) * w r = ∑ n ∈ Finset.range N, w (n + s) * u n := by
  obtain ⟨M, rfl⟩ := Nat.exists_eq_add_of_le hs
  rw [Finset.sum_range_add, Finset.sum_eq_zero, zero_add, Nat.add_comm s M, Finset.sum_range_add, Finset.sum_eq_zero (s := Finset.range s), add_zero]
  · refine Finset.sum_congr rfl fun n _ => ?_
    rw [if_neg (by omega), Nat.add_sub_cancel_left, Nat.add_comm s n, mul_comm]
  · intro n _
    rw [hw _ (by omega), zero_mul]
  · intro n hn
    rw [if_pos (Finset.mem_range.mp hn), zero_mul]

theorem v569 (j : Fin 31) (l : Fin 1024) : val_main_v569 (F := Ideal) G U (ix3 (0 : Fin 1) j l) = tapGrad G U j.val l := by
  rw [v569_eq, allSum_apply, Finset.sum_eq_single (30 - j.val), padSum_apply, if_pos (by omega), tapSum_apply]
  · have e := shift_sum 8192 (30 - j.val) (by omega) (fun n => if h : n < 8192 then fst G ⟨n, h⟩ l * gateAt (snd G ⟨n, h⟩ l) else 0)
      (fun n => cot U n l) (fun n hn => dif_neg (by omega))
    rw [Finset.sum_range, Finset.sum_range] at e
    unfold tapGrad
    refine Eq.trans (Finset.sum_congr rfl fun r _ => ?_) (e.trans (Finset.sum_congr rfl fun n _ => ?_))
    · rw [v13]
      dsimp only
      have er : cot U r.val l = U (ix2 r l) := dif_pos r.isLt
      rw [er]
      by_cases h : r.val < 30 - j.val
      · rw [if_pos h, dif_pos (by omega)]
      · rw [if_neg h, dif_neg (by omega), dif_pos (by omega)]
        refine congrArg (fun a => fst G a l * gateAt (snd G a l) * U (ix2 r l)) (Fin.ext ?_)
        show 30 - (30 - j.val) + r.val - 30 = r.val - (30 - j.val)
        omega
    · rw [dif_pos n.isLt]
  · intro k hk hne
    rw [padSum_apply, if_neg]
    have := Finset.mem_range.mp hk
    omega
  · intro h
    exact absurd (Finset.mem_range.mpr (by omega)) h

theorem v573 (r : Fin 8192) (l : Fin 1024) : val_main_v573 (F := Ideal) K U (ix2 r l) = valGrad K U r l := by
  have e : val_main_v573 (F := Ideal) K U (ix2 r l) = val_main_v571 (F := Ideal) K U (ix2 (⟨30 + r.val, by omega⟩ : Fin 8222) l) := by
    unfold val_main_v573
    generalize val_main_v571 (F := Ideal) K U = y
    pointwise []
  rw [e, v571_eq, allBack_apply, Finset.sum_range]
  unfold valGrad
  refine Eq.trans ?_ (Equiv.sum_comp Fin.revPerm fun j : Fin 31 => cot U (r.val + (30 - j.val)) l * K (ix3 (0 : Fin 1) j l))
  refine Finset.sum_congr rfl fun n _ => ?_
  have hn := n.isLt
  have hv : (Fin.revPerm n : Fin 31).val = 30 - n.val := by
    show 31 - (n.val + 1) = 30 - n.val
    omega
  rw [padBack_apply]
  dsimp only
  have hv' : 30 - (Fin.revPerm n : Fin 31).val = n.val := by omega
  have eK : (Fin.revPerm n : Fin 31) = ⟨30 - n.val, by omega⟩ := Fin.ext hv
  rw [hv', eK]
  unfold cot
  by_cases h : r.val + n.val < 8192
  · rw [dif_pos ⟨by omega, by omega⟩, dif_pos h, tapBack_apply]
    refine congrArg (fun a => U (ix2 a l) * K (ix3 (0 : Fin 1) (⟨30 - n.val, by omega⟩ : Fin 31) l)) (Fin.ext ?_)
    show 30 + r.val - (30 - n.val) = r.val + n.val
    omega
  · rw [dif_neg (by omega), dif_neg h, zero_mul]

theorem v577 (r : Fin 8192) (l : Fin 2048) : val_main_v577 (F := Ideal) G K U (ix2 r l)
    = if h : l.val < 1024 then 0 else val_main_v576 (F := Ideal) G K U (ix2 r (⟨l.val - 1024, by omega⟩ : Fin 1024)) := by
  unfold val_main_v577
  generalize val_main_v576 (F := Ideal) G K U = y
  by_cases h : l.val < 1024
  · rw [dif_pos h]
    refine (pad_apply_of_not_inside (s := S8192x1024) _ _ _ _ _ _ _ _ 1 ?_).trans ?_
    · show ¬(1024 ≤ l.val ∧ (l.val - 1024) % (0 + 1) = 0 ∧ (l.val - 1024) / (0 + 1) < 1024)
      omega
    · pointwise [val_main_cst_128]
  · rw [dif_neg h]
    refine pad_apply_of_inside (s := S8192x1024) _ _ _ _ _ _ _ _ _ fun a => ?_
    match a with
    | ⟨0, _⟩ => show r.val = 0 + r.val * (0 + 1); omega
    | ⟨1, _⟩ => show l.val = 1024 + (l.val - 1024) * (0 + 1); omega

theorem v578 (r : Fin 8192) (l : Fin 2048) : val_main_v578 (F := Ideal) G K U (ix2 r l)
    = if h : l.val < 1024 then val_main_v575 (F := Ideal) G K U (ix2 r (⟨l.val, h⟩ : Fin 1024)) else 0 := by
  unfold val_main_v578
  generalize val_main_v575 (F := Ideal) G K U = y
  by_cases h : l.val < 1024
  · rw [dif_pos h]
    refine pad_apply_of_inside (s := S8192x1024) _ _ _ _ _ _ _ _ _ fun a => ?_
    match a with
    | ⟨0, _⟩ => show r.val = 0 + r.val * (0 + 1); omega
    | ⟨1, _⟩ => show l.val = 0 + l.val * (0 + 1); omega
  · rw [dif_neg h]
    refine (pad_apply_of_not_inside (s := S8192x1024) _ _ _ _ _ _ _ _ 1 ?_).trans ?_
    · show ¬(0 ≤ l.val ∧ (l.val - 0) % (0 + 1) = 0 ∧ (l.val - 0) / (0 + 1) < 1024)
      omega
    · pointwise [val_main_cst_129]

/-- The reference's two results. -/
theorem v580 (r : Fin 8192) (l : Fin 2048) : val_main_v580 (F := Ideal) G K U (ix2 r l) = gluGrad G K U r l := by
  have e : val_main_v580 (F := Ideal) G K U (ix2 r l) = val_main_v577 (F := Ideal) G K U (ix2 r l) + val_main_v578 (F := Ideal) G K U (ix2 r l) := by
    unfold val_main_v580 val_main_v579
    generalize val_main_v577 (F := Ideal) G K U = y
    generalize val_main_v578 (F := Ideal) G K U = z
    pointwise []
  unfold gluGrad
  rw [e, v577, v578]
  by_cases h : l.val < 1024
  · rw [dif_pos h, dif_pos h, dif_pos h, ← v573, ← v7, zero_add]
    rfl
  · have e2 (a : Fin 1024) : val_main_v576 (F := Ideal) G K U (ix2 r a) = val_main_v0 (F := Ideal) G (ix2 r a) * val_main_v573 (F := Ideal) K U (ix2 r a)
        * (val_main_v7 (F := Ideal) G (ix2 r a) * (1 - val_main_v7 (F := Ideal) G (ix2 r a))) := by
      pointwise [val_main_v576, val_main_v574, val_main_v10, val_main_v9, val_main_v8, val_main_cst_1]
    rw [dif_neg h, dif_neg h, dif_neg h, ← v573, ← v7, ← v0, add_zero, e2, ← mul_assoc, mul_comm (val_main_v0 (F := Ideal) G _)]

theorem v583 (j : Fin 32) (l : Fin 1024) : val_main_v583 (F := Ideal) G U (ix2 j l) = if j.val ≤ 30 then tapGrad G U j.val l else 0 := by
  by_cases h : j.val ≤ 30
  · rw [if_pos h, ← v569 G U ⟨j.val, by omega⟩]
    unfold val_main_v583 val_main_v581
    generalize val_main_v569 (F := Ideal) G U = y
    pointwise []
    rw [dif_pos (by omega)]
  · rw [if_neg h]
    unfold val_main_v583 val_main_v581
    generalize val_main_v569 (F := Ideal) G U = y
    pointwise [val_main_v582, val_main_cst_130]
    rw [dif_neg (by omega)]

end Cert.ConvTapsRefIdeal.Reals
end
-- ==== Proof.TapsClaim.lean ====
module

public import proofs.«01_k».proof.Defs
public import proofs.«01_k».proof.Proof.TapsPoints
public import proofs.«01_k».proof.Proof.TapsRead
public import proofs.«01_k».proof.Proof.Gen.ConvTapsRefIdeal.Run
public import Idealize.ShloMosaic.Adequacy
public import Idealize.ShloMosaic.Init

@[expose] public section

set_option maxRecDepth 16384

noncomputable section

/-! The claims about the convolution's gradient. -/

namespace Cert.ConvTapsIdeal.Rows

open Cert.ConvTapsIdeal Cert.ConvTapsIdeal.Gen Cert.ConvTapsIdeal.Value Idealize.ShloMosaic Idealize.ShloMosaic.TcCoe Idealize.SL.Sem
open Cert.ConvTapsRefIdeal.Read Cert.ConvTapsRefIdeal.Reals Cert.RealRow

variable (m : (ℓ : Loc nD τ sig) → Buf (Elt Ideal) ℓ) (c : Dev nD)

/-- The last tile's outputs. -/
theorem outs_last (t : Fin cfg0.N) (e : t.val = 31) : outsAt0 m c t.val t.isLt = outsAt0 m c 31 last_lt := by
  obtain ⟨n, hn⟩ := t
  cases e
  rfl

theorem res5 : (dats m 0 c).arrAt 5 cfg0.N = val_main_v580 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, eq_ix2 y]
  refine (half_tile m c t _ _).trans (Eq.trans (v580 (glu m c) (taps m c) (du m c) (at_ t (y 0)) (y 1)).symm (congrArg _ ?_))
  blk_ext [idx t]

theorem res6 : (dats m 0 c).arrAt 6 cfg0.N = val_main_v583 (F := Ideal) (m ((c : Thread nD τ).loc main_arg0)) (m ((c : Thread nD τ).loc main_arg2)) := by
  refine (dats m 0 c).arrAt_eq_of_covers 6 _ (by decide +kernel) fun t hf y => ?_
  have e31 : t.val = 31 := by have := (flush0_6 t).mp hf; have := lt32 t; omega
  blk_simp
  rw [after0_6, eq_ix2 y, outs_last m c t e31]
  refine (tap_last m c (y 0) (y 1)).trans (Eq.trans (v583 (glu m c) (du m c) (y 0) (y 1)).symm (congrArg _ ?_))
  blk_ext [idx t]

end Cert.ConvTapsIdeal.Rows

namespace Cert.Proof.Taps

open Idealize.ShloMosaic Idealize.SL.Sem Cert.ConvTapsRefIdeal.Read Cert.ConvTapsIdeal.Rows

theorem frame_reference : Cert.quiescent_ConvTapsRefIdeal := fun m ρ _ =>
  (θ_run Cert.ConvTapsRefIdeal.defs _ _).mono (fun r h => ⟨fun c => (h c).2.2, sem_eq_zero_of_no_sems (by decide) r.2⟩)
    (Cert.ConvTapsRefIdeal.Value.run (F := Ideal) m ρ)

theorem algebraic : Cert.algebraic_ConvTapsIdeal_ConvTapsRefIdeal := by
  intro m ρ m' ρ' hpre hagree
  refine ⟨fun c => (Cert.ConvTapsIdeal.Gen.dats m 0 c).arrAt 5 Cert.ConvTapsIdeal.cfg0.N, fun c => (Cert.ConvTapsIdeal.Gen.dats m 0 c).arrAt 6 Cert.ConvTapsIdeal.cfg0.N,
    Cert.ConvTapsIdeal.Value.run_blocks (F := Ideal) m ρ, ?_⟩
  refine (θ_run Cert.ConvTapsRefIdeal.defs _ _).mono (fun _ h c => ?_) (Cert.ConvTapsRefIdeal.Value.run (F := Ideal) m' ρ')
  obtain ⟨e0, e1, e2⟩ := hagree c
  obtain ⟨s0, s1, rest⟩ := h c
  refine ⟨s0.trans ?_, s1.trans ?_, rest⟩
  · beta_reduce
    rw [res5 m c, ← e0, ← e1, ← e2]
    exact val_main_v580_eq _
  · beta_reduce
    rw [res6 m c, ← e0, ← e2]
    exact val_main_v583_eq _

end Cert.Proof.Taps

end
-- ==== Proof.GradRun.lean ====
/- One point of the input-gradient call: what its body leaves in each buffer, in its two cases.

   The grid has 32 points. Point 0 starts one copy of the weight's rows per segment of the cotangent, clears the two column
   sums and waits for each copy before the product that reads it; every later point finds the weight already in place. -/
module

public import proofs.«01_k».proof.Proof.Gen.InGradIdeal.Frame
public import proofs.«01_k».proof.Proof.Gen.InGradIdeal.Skeleton
public import Idealize.ShloMosaic.Lib.Claim

@[expose] public section

set_option maxRecDepth 16384

noncomputable section

namespace Cert.InGradIdeal.Point

open Cert.InGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The point is the first. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The weight as the call is given it, and the buffer its rows are copied into. -/
abbrev given : Memref sig .tc .hbm S5632x2048 .bf16 := Memref.whole main_v2
abbrev copied : Memref sig .tc .vmem S5632x2048 .bf16 := Memref.whole cc0_scratch0

/-- What the given weight's buffer holds on core `c`, and that buffer held. -/
abbrev Given (c : Dev nD) : Type := Buf (Elt F) (given.view.loc (c : Thread nD τ))
abbrev holds (c : Dev nD) (f : Given (F := F) c) : sProp 𝕄 := given.view.loc (c : Thread nD τ) ↦{fullShare} f

/-- The same of the buffer copied into. -/
abbrev Copied (c : Dev nD) : Type := Buf (Elt F) (copied.view.loc (c : Thread nD τ))
abbrev keeps (c : Dev nD) (f : Copied (F := F) c) : sProp 𝕄 := copied.view.loc (c : Thread nD τ) ↦{fullShare} f

/-- The four counters of the copies, at zero. -/
abbrev atRest (c : Dev nD) : sProp 𝕄 :=
  iprop(semVal ((c : Thread nD τ), SemLoc.dma 17) 0 ∗ semVal ((c : Thread nD τ), SemLoc.dma 18) 0
    ∗ semVal ((c : Thread nD τ), SemLoc.dma 19) 0 ∗ semVal ((c : Thread nD τ), SemLoc.dma 20) 0)

variable (c : Dev nD) (i : grid0.Coords)
  (arg1 : Memref sig .tc .vmem S256x1536 .bf16) (harg1 : arg1.IsWhole)
  (arg2 : Memref sig .tc .vmem S256x1024 .bf16) (harg2 : arg2.IsWhole)
  (arg3 : Memref sig .tc .vmem S256x2048 .bf16) (harg3 : arg3.IsWhole)
  (arg4 : Memref sig .tc .vmem S256x1024 .bf16) (harg4 : arg4.IsWhole)
  (arg6 : Memref sig .tc .vmem S256x2048 .f32) (harg6 : arg6.IsWhole)
  (arg7 : Memref sig .tc .vmem S256x2048 .f32) (harg7 : arg7.IsWhole)
  (arg8 : Memref sig .tc .vmem S1x2048 .f32) (harg8 : arg8.IsWhole)
  (arg9 : Memref sig .tc .vmem S256x2048 .f32) (harg9 : arg9.IsWhole)
  (arg10 : Memref sig .tc .vmem S1x2048 .f32) (harg10 : arg10.IsWhole)
  (arg11 : Memref sig .tc .vmem S1x2048 .f32) (harg11 : arg11.IsWhole)
  (x1 : Vec F S256x1536 .bf16) (x2 : Vec F S256x1024 .bf16) (x3 : Vec F S256x2048 .bf16) (x4 : Vec F S256x1024 .bf16)
  (x6 : Vec F S256x2048 .f32) (x7 : Vec F S256x2048 .f32) (x8 : Vec F S1x2048 .f32)

set_option maxHeartbeats 1600000 in
set_option sl_exec.dmaWindow true in
/-- The first point. -/
def runA (h1 : isFirst i) (fw : Given (F := F) c) :
    Σ' (L9 : List (View.Piece (Elt F) S256x2048 .f32)),
    Σ' (L10 : List (View.Piece (Elt F) S1x2048 .f32)),
    Σ' (L11 : List (View.Piece (Elt F) S1x2048 .f32)),
    { L12 : List (View.Piece (Elt F) S5632x2048 .bf16) //
      ∀ (W : Waits sig Unit) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ (∃ d, owns (c : Thread nD τ) arg10 fullShare d)
          ∗ (∃ d, owns (c : Thread nD τ) arg11 fullShare d)
          ∗ (∃ f, keeps c f)
          ∗ atRest c ∗ holds c fw ∗ owes (c : Thread nD τ) 0 W
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg6 fullShare x6
            ∗ owns (c : Thread nD τ) arg7 fullShare x7
            ∗ owns (c : Thread nD τ) arg8 fullShare x8
            ∗ (∃ f, arg9.view.loc (c : Thread nD τ) ↦[arg9.view.set]{fullShare} arg9.view.writes (Elt F) f L9)
            ∗ (∃ f, arg10.view.loc (c : Thread nD τ) ↦[arg10.view.set]{fullShare} arg10.view.writes (Elt F) f L10)
            ∗ (∃ f, arg11.view.loc (c : Thread nD τ) ↦[arg11.view.set]{fullShare} arg11.view.writes (Elt F) f L11)
            ∗ (∃ f, keeps c (copied.view.writes (Elt F) f L12))
            ∗ atRest c ∗ holds c fw ∗ (∃ W', owes (c : Thread nD τ) 0 W')) -∗ K ⟨⟩))
          ⊢ wp frame (wpE (defs₀ (F := F)) Variants.none c none) Set.univ
            (cc0_dh_gradx i arg1 harg1 arg2 harg2 arg3 harg3 arg4 harg4 given (Memref.isWhole_whole _) arg6 harg6 arg7 harg7 arg8 harg8
              arg9 harg9 arg10 harg10 arg11 harg11 copied (Memref.isWhole_whole _) cc0_scratch1) K } := by
  refine ⟨?_, ?_, ?_, ?_, fun W K => ?run⟩
  case run =>
    simp only [cc0_dh_gradx_eq_skeleton]; unfold cc0_dh_gradx_skel
    simp only [k0_part1_eq_skeleton]
    unfold owns
    iintro ⟨⟨%f1, %e1, H1⟩, ⟨%f2, %e2, H2⟩, ⟨%f3, %e3, H3⟩, ⟨%f4, %e4, H4⟩, ⟨%f6, %e6, H6⟩, ⟨%f7, %e7, H7⟩, ⟨%f8, %e8, H8⟩, ⟨%d9, %f9, -, H9⟩, ⟨%d10, %f10, -, H10⟩, ⟨%d11, %f11, -, H11⟩, ⟨%f12, H12⟩, ⟨Hq0, Hq1, Hq2, Hq3⟩, Hw, HW, Hk⟩
    obtain rfl := harg1.eq_unread e1; obtain rfl := harg2.eq_unread e2; obtain rfl := harg3.eq_unread e3
    obtain rfl := harg4.eq_unread e4; obtain rfl := harg6.eq_unread e6; obtain rfl := harg7.eq_unread e7
    obtain rfl := harg8.eq_unread e8
    sl_exec (disch := first | sl_exact h1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [Hq0 Hq1 Hq2 Hq3]
    · isplitl [Hq0]; · iexact Hq0
      isplitl [Hq1]; · iexact Hq1
      isplitl [Hq2]; · iexact Hq2
      iexact Hq3
    isplitl [Hw]; · iexact Hw
    iexists _; iexact HW

set_option maxHeartbeats 1600000 in
/-- A later point, the weight already in place. -/
def runB (h1 : ¬isFirst i) (fw : Given (F := F) c) (fc : Copied (F := F) c) (x10 x11 : Vec F S1x2048 .f32) :
    Σ' (L9 : List (View.Piece (Elt F) S256x2048 .f32)),
    Σ' (L10 : List (View.Piece (Elt F) S1x2048 .f32)),
    { L11 : List (View.Piece (Elt F) S1x2048 .f32) //
      ∀ (W : Waits sig Unit) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ owns (c : Thread nD τ) arg10 fullShare x10
          ∗ owns (c : Thread nD τ) arg11 fullShare x11
          ∗ keeps c fc
          ∗ atRest c ∗ holds c fw ∗ owes (c : Thread nD τ) 0 W
          ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg6 fullShare x6
            ∗ owns (c : Thread nD τ) arg7 fullShare x7
            ∗ owns (c : Thread nD τ) arg8 fullShare x8
            ∗ (∃ f, arg9.view.loc (c : Thread nD τ) ↦[arg9.view.set]{fullShare} arg9.view.writes (Elt F) f L9)
            ∗ (∃ f, arg10.view.loc (c : Thread nD τ) ↦[arg10.view.set]{fullShare} arg10.view.writes (Elt F) f L10)
            ∗ (∃ f, arg11.view.loc (c : Thread nD τ) ↦[arg11.view.set]{fullShare} arg11.view.writes (Elt F) f L11)
            ∗ keeps c fc
            ∗ atRest c ∗ holds c fw ∗ (∃ W', owes (c : Thread nD τ) 0 W')) -∗ K ⟨⟩))
          ⊢ wp frame (wpE (defs₀ (F := F)) Variants.none c none) Set.univ
            (cc0_dh_gradx i arg1 harg1 arg2 harg2 arg3 harg3 arg4 harg4 given (Memref.isWhole_whole _) arg6 harg6 arg7 harg7 arg8 harg8
              arg9 harg9 arg10 harg10 arg11 harg11 copied (Memref.isWhole_whole _) cc0_scratch1) K } := by
  refine ⟨?_, ?_, ?_, fun W K => ?run⟩
  case run =>
    simp only [cc0_dh_gradx_eq_skeleton]; unfold cc0_dh_gradx_skel
    simp only [k0_part1_eq_skeleton]
    unfold owns
    iintro ⟨⟨%f1, %e1, H1⟩, ⟨%f2, %e2, H2⟩, ⟨%f3, %e3, H3⟩, ⟨%f4, %e4, H4⟩, ⟨%f6, %e6, H6⟩, ⟨%f7, %e7, H7⟩, ⟨%f8, %e8, H8⟩, ⟨%d9, %f9, -, H9⟩, ⟨%f10, %e10, H10⟩, ⟨%f11, %e11, H11⟩, H12, ⟨Hq0, Hq1, Hq2, Hq3⟩, Hw, HW, Hk⟩
    obtain rfl := harg1.eq_unread e1; obtain rfl := harg2.eq_unread e2; obtain rfl := harg3.eq_unread e3
    obtain rfl := harg4.eq_unread e4; obtain rfl := harg6.eq_unread e6; obtain rfl := harg7.eq_unread e7
    obtain rfl := harg8.eq_unread e8; obtain rfl := harg10.eq_unread e10; obtain rfl := harg11.eq_unread e11
    sl_exec (disch := first | sl_exact h1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexact H12
    isplitl [Hq0 Hq1 Hq2 Hq3]
    · isplitl [Hq0]; · iexact Hq0
      isplitl [Hq1]; · iexact Hq1
      isplitl [Hq2]; · iexact Hq2
      iexact Hq3
    isplitl [Hw]; · iexact Hw
    iexists _; iexact HW

end Cert.InGradIdeal.Point

end
-- ==== Proof.GradStep.lean ====
/- The two cases of a point of the input-gradient call, read back: the three blocks it writes and the weight it keeps, as
   functions of the blocks it reads and of the weight. -/
module

public import proofs.«01_k».proof.Proof.GradRun
public import Idealize.ShloMosaic.Lib.WritesUnit
public import Idealize.ShloMosaic.Lib.WholeRead
public import Idealize.ShloMosaic.Lib.VecWindow

@[expose] public section

set_option maxRecDepth 16384

noncomputable section

namespace Cert.InGradIdeal.Point

open Cert.InGradIdeal Cert.InGradIdeal.Gen
open Idealize.ShloMosaic Idealize.ShloMosaic.TcCoe

variable {F : FTy → Type} [FloatOps F]

/-! ## The blocks -/

/-- The weight's rows that meet each segment of the cotangent. -/
def w1 (w : Vec F S5632x2048 .bf16) : Vec F S1536x2048 .bf16 :=
  fun y => w ((Rect.unit (s := S5632x2048) ![0, 0] S1536x2048.size inb_S5632x2048_S1536x2048_0_0).emb y)
def w2 (w : Vec F S5632x2048 .bf16) : Vec F S1024x2048 .bf16 :=
  fun y => w ((Rect.unit (s := S5632x2048) ![1536, 0] S1024x2048.size inb_S5632x2048_S1024x2048_1536_0).emb y)
def w3 (w : Vec F S5632x2048 .bf16) : Vec F S2048x2048 .bf16 :=
  fun y => w ((Rect.unit (s := S5632x2048) ![2560, 0] S2048x2048.size inb_S5632x2048_S2048x2048_2560_0).emb y)
def w4 (w : Vec F S5632x2048 .bf16) : Vec F S1024x2048 .bf16 :=
  fun y => w ((Rect.unit (s := S5632x2048) ![4608, 0] S1024x2048.size inb_S5632x2048_S1024x2048_4608_0).emb y)

variable (x1 : Vec F S256x1536 .bf16) (x2 : Vec F S256x1024 .bf16) (x3 : Vec F S256x2048 .bf16) (x4 : Vec F S256x1024 .bf16)
  (x6 : Vec F S256x2048 .f32) (x7 : Vec F S256x2048 .f32) (x8 : Vec F S1x2048 .f32) (w : Vec F S5632x2048 .bf16)

/-- The block of the input's gradient. -/
def gxOf : Vec F S256x2048 .f32 := k0_pay2 (k0_pay7 x1 (w1 w) x2 (w2 w) x3 (w3 w)) x4 (w4 w) x6 x8
/-- The shift's gradient with the block's rows added to `p`, and the scale's. -/
def shOf (p : Vec F S1x2048 .f32) : Vec F S1x2048 .f32 := k0_pay3 (k0_pay7 x1 (w1 w) x2 (w2 w) x3 (w3 w)) x4 (w4 w) p
def scOf (p : Vec F S1x2048 .f32) : Vec F S1x2048 .f32 := k0_pay4 (k0_pay7 x1 (w1 w) x2 (w2 w) x3 (w3 w)) x4 (w4 w) p x7

section replace

variable {x1 x2 x3 x4 x6 x7 x8 w} {a1 : Vec F S256x1536 .bf16} {a2 : Vec F S256x1024 .bf16} {a3 : Vec F S256x2048 .bf16}
  {a4 : Vec F S256x1024 .bf16} {a6 a7 : Vec F S256x2048 .f32} {a8 q p : Vec F S1x2048 .f32} {b1 : Vec F S1536x2048 .bf16}
  {b2 : Vec F S1024x2048 .bf16} {b3 : Vec F S2048x2048 .bf16} {b4 : Vec F S1024x2048 .bf16}
  (e1 : a1 = x1) (f1 : b1 = w1 w) (e2 : a2 = x2) (f2 : b2 = w2 w) (e3 : a3 = x3) (f3 : b3 = w3 w) (e4 : a4 = x4) (f4 : b4 = w4 w)
include e1 f1 e2 f2 e3 f3 e4 f4

theorem gx_of (e6 : a6 = x6) (e8 : a8 = x8) : k0_pay2 (k0_pay7 a1 b1 a2 b2 a3 b3) a4 b4 a6 a8 = gxOf x1 x2 x3 x4 x6 x8 w := by
  subst e1 f1 e2 f2 e3 f3 e4 f4 e6 e8; rfl
theorem sh_of (ep : q = p) : k0_pay3 (k0_pay7 a1 b1 a2 b2 a3 b3) a4 b4 q = shOf x1 x2 x3 x4 w p := by
  subst e1 f1 e2 f2 e3 f3 e4 f4 ep; rfl
theorem sc_of (ep : q = p) (e7 : a7 = x7) : k0_pay4 (k0_pay7 a1 b1 a2 b2 a3 b3) a4 b4 q a7 = scOf x1 x2 x3 x4 x7 w p := by
  subst e1 f1 e2 f2 e3 f3 e4 f4 ep e7; rfl

end replace

/-! ## Reading whole buffers -/

theorem last_whole {κ : Kind} {sp : Space} {s : Shape} {e : EltTy} (v : View sig κ sp s e) (f : v.ty.Contents (Elt F))
    {off : Fin s.rank → ℕ} (inb : ∀ a, off a + s.size a ≤ s.size a) (u : (Rect.unit off s.size inb).shape.Idx → Elt F e)
    (L : List (View.Piece (Elt F) s e)) :
    v.read (Elt F) (v.writes (Elt F) f ((⟨Rect.unit off s.size inb, u⟩ : View.Piece (Elt F) s e) :: L)) = u :=
  funext fun y => View.read_writes_cons_unit_of_mem v f inb u L y y rfl fun a => by have := inb a; omega

theorem load_whole {κ : Kind} {sp : Space} {s : Shape} {e : EltTy} {M : Memref sig κ sp s e} (h : M.IsWhole) (x : Vec F s e)
    {off : Fin s.rank → ℕ} (inb : ∀ a, off a + s.size a ≤ s.size a) :
    View.readAt (Elt F) M.view (Rect.unit off s.size inb).toLoadRect (h.unread x) = x :=
  funext fun y => (h.readAt_unread x _ y).trans (congrArg x (Rect.emb_unit_full inb y))

/-! ## The weight in place -/

variable (c : Dev nD) (fw : Given (F := F) c)

/-- The given weight's contents. -/
def weight : Vec F S5632x2048 .bf16 := given.view.read (Elt F) fw

theorem rows_in {o n : ℕ} (inb : ∀ a, (![o, 0] : Fin 2 → ℕ) a + (![n, 2048] : Fin 2 → ℕ) a ≤ S5632x2048.size a) (y : S5632x2048.Idx)
    (h : o ≤ (y 0).val) (h' : (y 0).val < o + n) : y ∈ (Rect.unit (s := S5632x2048) ![o, 0] ![n, 2048] inb).set :=
  Rect.mem_set_unit.mpr (Fin.forall_fin_two.mpr ⟨⟨h, h'⟩, Nat.zero_le _, (y 1).isLt.trans_eq (Nat.zero_add 2048).symm⟩)

/-- The copies that landed. -/
abbrev landed : List (View.Piece (Elt F) S5632x2048 .bf16) :=
  [⟨Rect.unit (s := S5632x2048) ![4608, 0] S1024x2048.size inb_S5632x2048_S1024x2048_4608_0, runA.sl.dma0_3 c fw⟩,
    ⟨Rect.unit (s := S5632x2048) ![2560, 0] S2048x2048.size inb_S5632x2048_S2048x2048_2560_0, runA.sl.dma0_2 c fw⟩,
    ⟨Rect.unit (s := S5632x2048) ![1536, 0] S1024x2048.size inb_S5632x2048_S1024x2048_1536_0, runA.sl.dma0_1 c fw⟩,
    ⟨Rect.unit (s := S5632x2048) ![0, 0] S1536x2048.size inb_S5632x2048_S1536x2048_0_0, runA.sl.dma0 c fw⟩]

theorem landed_agree : ∀ p ∈ landed c fw, ∀ x, p.2 x = weight c fw (p.1.emb x) := by
  simp only [landed, List.forall_mem_cons]
  exact ⟨fun x => rfl, fun x => rfl, fun x => rfl, fun x => rfl, fun p hp => absurd hp List.not_mem_nil⟩

theorem landed_cover (y : S5632x2048.Idx) : ∃ p ∈ landed c fw, y ∈ p.1.set := by
  have hy : (y 0).val < 5632 := (y 0).isLt
  simp only [landed, List.exists_mem_cons_iff]
  by_cases h4 : 4608 ≤ (y 0).val
  · exact .inl (rows_in _ y h4 hy)
  by_cases h3 : 2560 ≤ (y 0).val
  · exact .inr (.inl (rows_in _ y h3 (by omega)))
  by_cases h2 : 1536 ≤ (y 0).val
  · exact .inr (.inr (.inl (rows_in _ y h2 (by omega))))
  exact .inr (.inr (.inr (.inl (rows_in _ y (Nat.zero_le _) (by omega)))))

theorem landed_read {sp : Space} (v : View sig .tc sp S5632x2048 .bf16) (f : v.ty.Contents (Elt F)) :
    v.read (Elt F) (v.writes (Elt F) f (landed c fw)) = weight c fw :=
  funext fun y => View.read_writes_apply_of_pieces v f _ _ (landed_agree c fw) y (landed_cover c fw y)

theorem landed_load {sp : Space} (v : View sig .tc sp S5632x2048 .bf16) (B : LoadRect S5632x2048) :
    v.readCov (landed c fw) B = fun x => weight c fw (B.idx x) :=
  funext fun x => congrFun (landed_read c fw v _) (B.idx x)

theorem v7_eq : runA.sl.v7 c fw = w1 (weight c fw) := by
  unfold runA.sl.v7
  exact landed_load c fw copied.view (Rect.unit (s := S5632x2048) ![0, 0] S1536x2048.size inb_S5632x2048_S1536x2048_0_0).toLoadRect
theorem v13_eq : runA.sl.v13 c fw = w2 (weight c fw) := by
  unfold runA.sl.v13
  exact landed_load c fw copied.view (Rect.unit (s := S5632x2048) ![1536, 0] S1024x2048.size inb_S5632x2048_S1024x2048_1536_0).toLoadRect
theorem v20_eq : runA.sl.v20 c fw = w3 (weight c fw) := by
  unfold runA.sl.v20
  exact landed_load c fw copied.view (Rect.unit (s := S5632x2048) ![2560, 0] S2048x2048.size inb_S5632x2048_S2048x2048_2560_0).toLoadRect
theorem v27_eq : runA.sl.v27 c fw = w4 (weight c fw) := by
  unfold runA.sl.v27
  exact landed_load c fw copied.view (Rect.unit (s := S5632x2048) ![4608, 0] S1024x2048.size inb_S5632x2048_S1024x2048_4608_0).toLoadRect

/-- The copied weight's rows, loaded. -/
theorem rows_load (B : LoadRect S5632x2048) :
    View.readAt (Elt F) copied.view B ((Memref.isWhole_whole cc0_scratch0).unread w) = fun x => w (B.idx x) :=
  funext fun x => (Memref.isWhole_whole cc0_scratch0).readAt_unread w B x

theorem load_w1 : View.readAt (Elt F) copied.view (Rect.unit (s := S5632x2048) ![0, 0] S1536x2048.size inb_S5632x2048_S1536x2048_0_0).toLoadRect
    ((Memref.isWhole_whole cc0_scratch0).unread w) = w1 w := rows_load w _
theorem load_w2 : View.readAt (Elt F) copied.view (Rect.unit (s := S5632x2048) ![1536, 0] S1024x2048.size inb_S5632x2048_S1024x2048_1536_0).toLoadRect
    ((Memref.isWhole_whole cc0_scratch0).unread w) = w2 w := rows_load w _
theorem load_w3 : View.readAt (Elt F) copied.view (Rect.unit (s := S5632x2048) ![2560, 0] S2048x2048.size inb_S5632x2048_S2048x2048_2560_0).toLoadRect
    ((Memref.isWhole_whole cc0_scratch0).unread w) = w3 w := rows_load w _
theorem load_w4 : View.readAt (Elt F) copied.view (Rect.unit (s := S5632x2048) ![4608, 0] S1024x2048.size inb_S5632x2048_S1024x2048_4608_0).toLoadRect
    ((Memref.isWhole_whole cc0_scratch0).unread w) = w4 w := rows_load w _

/-! ## What each case leaves -/

variable (i : grid0.Coords)
  (arg1 : Memref sig .tc .vmem S256x1536 .bf16) (harg1 : arg1.IsWhole)
  (arg2 : Memref sig .tc .vmem S256x1024 .bf16) (harg2 : arg2.IsWhole)
  (arg3 : Memref sig .tc .vmem S256x2048 .bf16) (harg3 : arg3.IsWhole)
  (arg4 : Memref sig .tc .vmem S256x1024 .bf16) (harg4 : arg4.IsWhole)
  (arg6 : Memref sig .tc .vmem S256x2048 .f32) (harg6 : arg6.IsWhole)
  (arg7 : Memref sig .tc .vmem S256x2048 .f32) (harg7 : arg7.IsWhole)
  (arg8 : Memref sig .tc .vmem S1x2048 .f32) (harg8 : arg8.IsWhole)
  (arg9 : Memref sig .tc .vmem S256x2048 .f32) (harg9 : arg9.IsWhole)
  (arg10 : Memref sig .tc .vmem S1x2048 .f32) (harg10 : arg10.IsWhole)
  (arg11 : Memref sig .tc .vmem S1x2048 .f32) (harg11 : arg11.IsWhole)

section first

variable (h1 : isFirst i)

theorem first_gx (v : View sig .tc .vmem S256x2048 .f32) (f : v.ty.Contents (Elt F)) :
    v.read (Elt F) (v.writes (Elt F) f (runA c i arg1 harg1 arg2 harg2 arg3 harg3 arg4 harg4 arg6 harg6 arg7 harg7 arg8 harg8 arg9 harg9
      arg10 harg10 arg11 harg11 x1 x2 x3 x4 x6 x7 x8 h1 fw).1) = gxOf x1 x2 x3 x4 x6 x8 (weight c fw) := by
  refine (last_whole v f _ _ _).trans ?_
  exact gx_of (load_whole harg1 x1 _) (v7_eq c fw) (load_whole harg2 x2 _) (v13_eq c fw) (load_whole harg3 x3 _) (v20_eq c fw) (load_whole harg4 x4 _)
    (v27_eq c fw) (load_whole harg6 x6 _) (load_whole harg8 x8 _)

theorem first_sh (v : View sig .tc .vmem S1x2048 .f32) (f : v.ty.Contents (Elt F)) :
    v.read (Elt F) (v.writes (Elt F) f (runA c i arg1 harg1 arg2 harg2 arg3 harg3 arg4 harg4 arg6 harg6 arg7 harg7 arg8 harg8 arg9 harg9
      arg10 harg10 arg11 harg11 x1 x2 x3 x4 x6 x7 x8 h1 fw).2.1) = shOf x1 x2 x3 x4 (weight c fw) k0_pay5 := by
  refine (last_whole v f _ _ _).trans ?_
  exact sh_of (load_whole harg1 x1 _) (v7_eq c fw) (load_whole harg2 x2 _) (v13_eq c fw) (load_whole harg3 x3 _) (v20_eq c fw) (load_whole harg4 x4 _)
    (v27_eq c fw) (View.readCov_full _ _ _ _ _)

theorem first_sc (v : View sig .tc .vmem S1x2048 .f32) (f : v.ty.Contents (Elt F)) :
    v.read (Elt F) (v.writes (Elt F) f (runA c i arg1 harg1 arg2 harg2 arg3 harg3 arg4 harg4 arg6 harg6 arg7 harg7 arg8 harg8 arg9 harg9
      arg10 harg10 arg11 harg11 x1 x2 x3 x4 x6 x7 x8 h1 fw).2.2.1) = scOf x1 x2 x3 x4 x7 (weight c fw) k0_pay6 := by
  refine (last_whole v f _ _ _).trans ?_
  exact sc_of (load_whole harg1 x1 _) (v7_eq c fw) (load_whole harg2 x2 _) (v13_eq c fw) (load_whole harg3 x3 _) (v20_eq c fw) (load_whole harg4 x4 _)
    (v27_eq c fw) (View.readCov_full _ _ _ _ _) (load_whole harg7 x7 _)

theorem first_weight (f : Copied (F := F) c) :
    copied.view.writes (Elt F) f (runA c i arg1 harg1 arg2 harg2 arg3 harg3 arg4 harg4 arg6 harg6 arg7 harg7 arg8 harg8 arg9 harg9
      arg10 harg10 arg11 harg11 x1 x2 x3 x4 x6 x7 x8 h1 fw).2.2.2.1 = (Memref.isWhole_whole cc0_scratch0).unread (weight c fw) :=
  (Memref.isWhole_whole cc0_scratch0).eq_unread (landed_read c fw copied.view f)

end first

section later

variable (h1 : ¬isFirst i) (x10 x11 : Vec F S1x2048 .f32)

theorem later_gx (v : View sig .tc .vmem S256x2048 .f32) (f : v.ty.Contents (Elt F)) :
    v.read (Elt F) (v.writes (Elt F) f (runB c i arg1 harg1 arg2 harg2 arg3 harg3 arg4 harg4 arg6 harg6 arg7 harg7 arg8 harg8 arg9 harg9
      arg10 harg10 arg11 harg11 x1 x2 x3 x4 x6 x7 x8 h1 fw ((Memref.isWhole_whole cc0_scratch0).unread w) x10 x11).1)
      = gxOf x1 x2 x3 x4 x6 x8 w := by
  refine (last_whole v f _ _ _).trans ?_
  exact gx_of (load_whole harg1 x1 _) (load_w1 w) (load_whole harg2 x2 _) (load_w2 w) (load_whole harg3 x3 _) (load_w3 w)
    (load_whole harg4 x4 _) (load_w4 w) (load_whole harg6 x6 _) (load_whole harg8 x8 _)

theorem later_sh (v : View sig .tc .vmem S1x2048 .f32) (f : v.ty.Contents (Elt F)) :
    v.read (Elt F) (v.writes (Elt F) f (runB c i arg1 harg1 arg2 harg2 arg3 harg3 arg4 harg4 arg6 harg6 arg7 harg7 arg8 harg8 arg9 harg9
      arg10 harg10 arg11 harg11 x1 x2 x3 x4 x6 x7 x8 h1 fw ((Memref.isWhole_whole cc0_scratch0).unread w) x10 x11).2.1)
      = shOf x1 x2 x3 x4 w x10 := by
  refine (last_whole v f _ _ _).trans ?_
  exact sh_of (load_whole harg1 x1 _) (load_w1 w) (load_whole harg2 x2 _) (load_w2 w) (load_whole harg3 x3 _) (load_w3 w)
    (load_whole harg4 x4 _) (load_w4 w) (load_whole harg10 x10 _)

theorem later_sc (v : View sig .tc .vmem S1x2048 .f32) (f : v.ty.Contents (Elt F)) :
    v.read (Elt F) (v.writes (Elt F) f (runB c i arg1 harg1 arg2 harg2 arg3 harg3 arg4 harg4 arg6 harg6 arg7 harg7 arg8 harg8 arg9 harg9
      arg10 harg10 arg11 harg11 x1 x2 x3 x4 x6 x7 x8 h1 fw ((Memref.isWhole_whole cc0_scratch0).unread w) x10 x11).2.2.1)
      = scOf x1 x2 x3 x4 x7 w x11 := by
  refine (last_whole v f _ _ _).trans ?_
  exact sc_of (load_whole harg1 x1 _) (load_w1 w) (load_whole harg2 x2 _) (load_w2 w) (load_whole harg3 x3 _) (load_w3 w)
    (load_whole harg4 x4 _) (load_w4 w) (load_whole harg11 x11 _) (load_whole harg7 x7 _)

end later

end Cert.InGradIdeal.Point

end
-- ==== Proof.GradFrame.lean ====
/- The input-gradient call over its grid: what the buffers hold between points, and the run that follows. -/
module

public import proofs.«01_k».proof.Defs
public import proofs.«01_k».proof.Proof.GradStep
public import proofs.«01_k».proof.Proof.Gen.InGradIdeal.Points
public import proofs.«01_k».proof.Proof.Gen.InGradIdeal.Launch
public import proofs.«01_k».proof.Proof.Gen.InGrad.Frame
public import Idealize.ShloMosaic.Lib.Pipeline.FrameBody

@[expose] public section

set_option maxRecDepth 16384

noncomputable section

namespace Cert.InGradIdeal.Point

open Cert.InGradIdeal Cert.InGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

abbrev osem : Fin 4 → SemLoc sig := ![SemLoc.dma 17, SemLoc.dma 18, SemLoc.dma 19, SemLoc.dma 20]
theorem osem_own : Pipeline.OwnSemFacts spec0 osem := by decide
def moved : Finset (Ref sig .tc) := {main_v2}
theorem moved_sub : moved ⊆ Pipeline.restRefs sig spec0 := by decide

theorem sems_eq (c : Dev nD) :
    (Pipeline.ownSems0 (Ix := Unit) (Name := ℕ) (U := Pipeline.UD sig nD τ) (Lvl := ℕ) (Val := Elt F) (τ := τ) osem c : sProp 𝕄) = atRest c := by
  rw [Pipeline.ownSems0_eq_of_list c osem [0, 1, 2, 3] (by decide) (by decide)]; rfl
theorem moved_eq (c : Dev nD) :
    (bigSep moved (fun b => ((c : Thread nD τ).loc b) ↦{fullShare} V m c b) : sProp 𝕄) = holds c (V m c main_v2) := by
  rw [BI.bigSep_eq_bigSepL_of_eq [main_v2] (by decide) (by decide)]; rfl

theorem start_eq (c : Dev nD) : (Pipeline.ΦD osem spec0 moved (V m) c : sProp 𝕄)
    = iprop((∃ f, keeps c f) ∗ (∃ r, prngReg c r) ∗ atRest c ∗ holds c (V m c main_v2)) := by
  rw [Pipeline.ΦD_eq, scopedRest0_eq, sems_eq, moved_eq]

theorem region (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The contents between points -/

/-- The weight the call is given. -/
abbrev wt (c : Dev nD) : Vec F S5632x2048 .bf16 := weight c (V m c main_v2)
abbrev wtKept (c : Dev nD) : Copied (F := F) c := (Memref.isWhole_whole cc0_scratch0).unread (wt m c)

abbrev gxAt (c : Dev nD) (t : Fin cfg0.N) : Vec F S256x2048 .f32 :=
  gxOf (iblk m c 0 t) (iblk m c 1 t) (iblk m c 2 t) (iblk m c 3 t) (iblk m c 4 t) (iblk m c 6 t) (wt m c)
abbrev shAt (c : Dev nD) (t : Fin cfg0.N) (p : Vec F S1x2048 .f32) : Vec F S1x2048 .f32 :=
  shOf (iblk m c 0 t) (iblk m c 1 t) (iblk m c 2 t) (iblk m c 3 t) (wt m c) p
abbrev scAt (c : Dev nD) (t : Fin cfg0.N) (p : Vec F S1x2048 .f32) : Vec F S1x2048 .f32 :=
  scOf (iblk m c 0 t) (iblk m c 1 t) (iblk m c 2 t) (iblk m c 3 t) (iblk m c 5 t) (wt m c) p

/-- The two column sums after each point. -/
def shSum (c : Dev nD) : (n : ℕ) → n < cfg0.N → Vec F S1x2048 .f32
  | 0, h => shAt m c ⟨0, h⟩ k0_pay5
  | n + 1, h => shAt m c ⟨n + 1, h⟩ (shSum c n (Nat.lt_of_succ_lt h))
def scSum (c : Dev nD) : (n : ℕ) → n < cfg0.N → Vec F S1x2048 .f32
  | 0, h => scAt m c ⟨0, h⟩ k0_pay6
  | n + 1, h => scAt m c ⟨n + 1, h⟩ (scSum c n (Nat.lt_of_succ_lt h))

/-- Between points: as launched before the first, then with the weight in place. -/
def inv (c : Dev nD) : ℕ → sProp 𝕄
  | 0 => Pipeline.ΦD osem spec0 moved (V m) c
  | _ + 1 => iprop(keeps c (wtKept m c) ∗ (∃ r, prngReg c r) ∗ atRest c ∗ holds c (V m c main_v2))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => gxAt m c t
    | ⟨8, _⟩ => shSum m c t.val t.isLt
    | ⟨9, _⟩ => scSum m c t.val t.isLt
  Φ t := inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = gxAt m c t := by dsimp only [dats]
theorem after_8 (c : Dev nD) (t : Fin cfg0.N) : (dats m 0 c).after 8 t = shSum m c t.val t.isLt := by dsimp only [dats]
theorem after_9 (c : Dev nD) (t : Fin cfg0.N) : (dats m 0 c).after 9 t = scSum m c t.val t.isLt := by dsimp only [dats]

/-! An input's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-! A column sum's buffer holds, after the first point, what the point before left. -/
theorem before_8 (c : Dev nD) (n : ℕ) (h : n + 1 < cfg0.N) (d) :
    (dats m 0 c).before 8 ⟨n + 1, h⟩ d = shSum m c n (Nat.lt_of_succ_lt h) := by
  have hN : n + 1 < 32 := h.trans_eq N_0
  rw [Dat.before_out_kept _ 8 rfl ⟨n + 1, h⟩ (Nat.succ_ne_zero n)
    (Bool.eq_false_iff.mpr fun e => by have := (flush0_8 _).mp e; dsimp only at this; omega) (fun _ => rfl) (fun _ _ => rfl)]
  dsimp only [dats]; rfl
theorem before_9 (c : Dev nD) (n : ℕ) (h : n + 1 < cfg0.N) (d) :
    (dats m 0 c).before 9 ⟨n + 1, h⟩ d = scSum m c n (Nat.lt_of_succ_lt h) := by
  have hN : n + 1 < 32 := h.trans_eq N_0
  rw [Dat.before_out_kept _ 9 rfl ⟨n + 1, h⟩ (Nat.succ_ne_zero n)
    (Bool.eq_false_iff.mpr fun e => by have := (flush0_9 _).mp e; dsimp only at this; omega) (fun _ => rfl) (fun _ _ => rfl)]
  dsimp only [dats]; rfl

/-! ## One point -/

/-- What a point starts with, and what it must leave. -/
def heldBefore (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def heldAfter (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A buffer held at writes that read back as `x` is owned at `x`. -/
theorem owned {sp : Space} {s : Shape} {e : EltTy} (c : Dev nD) (M : Memref sig .tc sp s e) {L : List (View.Piece (Elt F) s e)}
    {x : Vec F s e} (h : ∀ f, M.view.read (Elt F) (M.view.writes (Elt F) f L) = x) :
    (iprop(∃ f, M.view.loc (c : Thread nD τ) ↦[M.view.set]{fullShare} M.view.writes (Elt F) f L) : sProp 𝕄)
      ⊢ owns (c : Thread nD τ) M fullShare x := by
  unfold owns
  iintro ⟨%f, H⟩
  iexists _; isplitr
  swap; · iexact H
  ipureintro; exact h f

set_option maxHeartbeats 3200000 in
theorem point (c : Dev nD) (t : Fin cfg0.N) :
    heldBefore m c t ⊢ wp frame (wpE (defs₀ (F := F)) Variants.none c none) Set.univ (bodyAt0 t) (fun _ => heldAfter m c t) := by
  obtain ⟨n, hn⟩ := t
  unfold heldBefore heldAfter bodyAt0
  simp only [before_0, before_1, before_2, before_3, before_4, before_5, before_6]
  rw [after_0, after_1, after_2, after_3, after_4, after_5, after_6, after_7, after_8, after_9]
  unfold Dat.owesAt Pipeline.owesWithin
  cases n with
  | zero =>
    have h1 : isFirst (grid0.coords ⟨0, hn⟩) := (isFirst_iff _).mpr rfl
    rw [show (dats m 0 c).Φ (Fin.castSucc ⟨0, hn⟩) = Pipeline.ΦD osem spec0 moved (V m) c from rfl, start_eq,
      show (dats m 0 c).Φ (Fin.succ ⟨0, hn⟩) = iprop(keeps c (wtKept m c) ∗ (∃ r, prngReg c r) ∗ atRest c ∗ holds c (V m c main_v2)) from rfl,
      show (dats m 0 c).owed (Fin.castSucc ⟨0, hn⟩) = 0 from rfl, show (dats m 0 c).owed (Fin.succ ⟨0, hn⟩) = 0 from rfl]
    iintro ⟨⟨Hs, Hg, Hq, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords ⟨0, hn⟩) _ _ _ _ _ _ _ _ _ _ _ _ _ _ _ _ _ _ _ _ (iblk m c 0 ⟨0, hn⟩) (iblk m c 1 ⟨0, hn⟩)
      (iblk m c 2 ⟨0, hn⟩) (iblk m c 3 ⟨0, hn⟩) (iblk m c 4 ⟨0, hn⟩) (iblk m c 5 ⟨0, hn⟩) (iblk m c 6 ⟨0, hn⟩) h1 (V m c main_v2)).2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [Hs]; · iexact Hs
    isplitl [Hq]; · iexact Hq
    isplitl [Hw]; · iexact Hw
    isplitl [HW]; · iexact HW
    iintro ⟨H0, H1, H2, H3, H4, H5, H6, H7, H8, H9, ⟨%f, Hs⟩, Hq, Hw, ⟨%W', HW⟩⟩
    rw [first_weight]
    isplitl [Hs Hg Hq Hw]
    · isplitl [Hs]; · iexact Hs
      isplitl [Hg]; · iexact Hg
      isplitl [Hq]; · iexact Hq
      iexact Hw
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (owned c (st0_7 ⟨0, hn⟩) fun f => first_gx ..); iexact H7
    isplitl [H8]; · iapply (owned c (st0_8 ⟨0, hn⟩) fun f => first_sh ..); iexact H8
    iapply (owned c (st0_9 ⟨0, hn⟩) fun f => first_sc ..); iexact H9
  | succ n =>
    have h1 : ¬isFirst (grid0.coords ⟨n + 1, hn⟩) := fun h => Nat.succ_ne_zero n ((isFirst_iff _).mp h)
    simp only [before_8, before_9]
    rw [show (dats m 0 c).Φ (Fin.castSucc ⟨n + 1, hn⟩) = iprop(keeps c (wtKept m c) ∗ (∃ r, prngReg c r) ∗ atRest c ∗ holds c (V m c main_v2)) from rfl,
      show (dats m 0 c).Φ (Fin.succ ⟨n + 1, hn⟩) = iprop(keeps c (wtKept m c) ∗ (∃ r, prngReg c r) ∗ atRest c ∗ holds c (V m c main_v2)) from rfl,
      show (dats m 0 c).owed (Fin.castSucc ⟨n + 1, hn⟩) = 0 from rfl, show (dats m 0 c).owed (Fin.succ ⟨n + 1, hn⟩) = 0 from rfl]
    iintro ⟨⟨Hs, Hg, Hq, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords ⟨n + 1, hn⟩) _ _ _ _ _ _ _ _ _ _ _ _ _ _ _ _ _ _ _ _ (iblk m c 0 ⟨n + 1, hn⟩) (iblk m c 1 ⟨n + 1, hn⟩)
      (iblk m c 2 ⟨n + 1, hn⟩) (iblk m c 3 ⟨n + 1, hn⟩) (iblk m c 4 ⟨n + 1, hn⟩) (iblk m c 5 ⟨n + 1, hn⟩) (iblk m c 6 ⟨n + 1, hn⟩) h1 (V m c main_v2)
      (wtKept m c) (shSum m c n (Nat.lt_of_succ_lt hn)) (scSum m c n (Nat.lt_of_succ_lt hn))).2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [Hs]; · iexact Hs
    isplitl [Hq]; · iexact Hq
    isplitl [Hw]; · iexact Hw
    isplitl [HW]; · iexact HW
    iintro ⟨H0, H1, H2, H3, H4, H5, H6, H7, H8, H9, Hs, Hq, Hw, ⟨%W', HW⟩⟩
    isplitl [Hs Hg Hq Hw]
    · isplitl [Hs]; · iexact Hs
      isplitl [Hg]; · iexact Hg
      isplitl [Hq]; · iexact Hq
      iexact Hw
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (owned c (st0_7 ⟨n + 1, hn⟩) fun f => later_gx ..); iexact H7
    isplitl [H8]; · iapply (owned c (st0_8 ⟨n + 1, hn⟩) fun f => later_sh ..); iexact H8
    iapply (owned c (st0_9 ⟨n + 1, hn⟩) fun f => later_sc ..); iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

/-! ## The run -/

theorem start (c : Dev nD) : Pipeline.ΦD osem spec0 moved (V m) c ⊢ (dats m 0 c).Φ 0 := Idealize.SL.BI.Entails.refl _

theorem finish (c : Dev nD) : (dats m 0 c).Φ (Fin.last cfg0.N) ⊢ Pipeline.ΦD osem spec0 moved (V m) c := by
  rw [show (dats m 0 c).Φ (Fin.last cfg0.N) = iprop(keeps c (wtKept m c) ∗ (∃ r, prngReg c r) ∗ atRest c ∗ holds c (V m c main_v2)) from rfl, start_eq]
  iintro ⟨Hs, Hg, Hq, Hw⟩
  isplitl [Hs]; · iexists _; iexact Hs
  isplitl [Hg]; · iexact Hg
  isplitl [Hq]; · iexact Hq
  iexact Hw

set_option backward.isDefEq.respectTransparency.types false in
/-- Every run ends with the arrays as the points leave them and every semaphore at rest. -/
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_own moved moved_sub m ρ main
    (hbody := fun c => (obligation m c).loose) (hshare := fun c => (dats m 0 c).share_full fun _ => rfl)
    (howed := fun _ _ => rfl) (V := V m) (hmain := region m Variants.none) (hA := A_eq m)
    (hin := start m) (hout := finish m)

/-- A run that leaves the arrays so leaves the arguments as they were. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 5).trans (((dats m 0 c).arrAt_in 5 rfl _).trans ((A_eq m c 5).trans (V_main_arg0 m c))),
    ((h c).1 6).trans (((dats m 0 c).arrAt_in 6 rfl _).trans ((A_eq m c 6).trans (V_main_arg1 m c))),
    (h c).2 main_arg2 (Pipeline.mem_restRefs_of main_arg2 (by decide) (by decide)) |>.trans (V_main_arg2 m c),
    ((h c).1 4).trans (((dats m 0 c).arrAt_in 4 rfl _).trans ((A_eq m c 4).trans (V_main_arg3 m c))),
    ((h c).1 0).trans (((dats m 0 c).arrAt_in 0 rfl _).trans ((A_eq m c 0).trans (V_main_arg4 m c))),
    ((h c).1 1).trans (((dats m 0 c).arrAt_in 1 rfl _).trans ((A_eq m c 1).trans (V_main_arg5 m c))),
    ((h c).1 2).trans (((dats m 0 c).arrAt_in 2 rfl _).trans ((A_eq m c 2).trans (V_main_arg6 m c))),
    ((h c).1 3).trans (((dats m 0 c).arrAt_in 3 rfl _).trans ((A_eq m c 3).trans (V_main_arg7 m c)))⟩

variable (F) in
/-- Every run ends with the arguments as they were and every semaphore at rest. -/
def Unchanged : Prop := ∀ (m : (ℓ : Loc nD τ sig) → Buf (Elt F) ℓ) (ρ : Dev nD → PrngReg), True →
  θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0)

theorem unchanged : Unchanged F := fun m ρ _ => (θ_run defs _ _).mono (fun r h => ⟨kept m r h.1, h.2⟩) (run_main m ρ)

end Cert.InGradIdeal.Point

namespace Cert.InGrad.Frames

open Idealize.ShloMosaic Idealize.ShloMosaic.Tactic

theorem ideal (h : Cert.InGradIdeal.Facts) : Cert.quiescent_InGradIdeal := Cert.InGradIdeal.Point.unchanged (F := Ideal)

theorem same (h : Cert.InGrad.Facts) : Cert.InGradIdeal.Point.Unchanged Bits = Cert.quiescent_InGrad := by
  sl_kernel_rfl

theorem bits (h : Cert.InGrad.Facts) : Cert.quiescent_InGrad := (same h).mp Cert.InGradIdeal.Point.unchanged

end Cert.InGrad.Frames

end
-- ==== Proof.GradPoints.lean ====
/- The input-gradient call's blocks and column sums by the entries of its arguments. -/
module

public import proofs.«01_k».proof.Proof.GradFrame
public import proofs.«01_k».proof.Proof.RealRow
public import proofs.«01_k».proof.Proof.TapsSpec
public import Idealize.ShloMosaic.Lib.Pipeline.ValueKit

@[expose] public section

set_option maxRecDepth 16384

noncomputable section

namespace Cert.InGradIdeal.Point

open Cert.InGradIdeal Cert.InGradIdeal.Gen Idealize.ShloMosaic Idealize.ShloMosaic.TcCoe Idealize.SL.Sem
open Cert.RealRow Cert.Tiles

section Entries

variable (W : FVec Ideal S1x2048x5632 .f32) (P : FVec Ideal S8192x1536 .bf16) (Q : FVec Ideal S8192x1024 .bf16)
  (T : FVec Ideal S8192x2048 .bf16) (C : FVec Ideal S8192x1024 .bf16)

/-- The cotangent behind the projection: the four cotangents against their columns of the weight. -/
def inGrad (n : Fin 8192) (l : Fin 2048) : EReal :=
  ∑ k : Fin 1536, P (ix2 n k) * W (ix3 (0 : Fin 1) l (⟨k.val, by omega⟩ : Fin 5632))
  + ∑ k : Fin 1024, Q (ix2 n k) * W (ix3 (0 : Fin 1) l (⟨1536 + k.val, by omega⟩ : Fin 5632))
  + ∑ k : Fin 2048, T (ix2 n k) * W (ix3 (0 : Fin 1) l (⟨2560 + k.val, by omega⟩ : Fin 5632))
  + ∑ k : Fin 1024, C (ix2 n k) * W (ix3 (0 : Fin 1) l (⟨4608 + k.val, by omega⟩ : Fin 5632))

end Entries

/-! ## The weight's four parts -/

section Parts

variable (w : Vec Ideal S5632x2048 .bf16)

theorem w1_apply (k : Fin 1536) (l : Fin 2048) : w1 w (ix2 k l) = w (ix2 (⟨k.val, by omega⟩ : Fin 5632) l) :=
  congrArg w (funext (Fin.forall_fin_two.mpr ⟨Fin.ext (by show 0 + 1 * k.val = k.val; omega), Fin.ext (by show 0 + 1 * l.val = l.val; omega)⟩))
theorem w2_apply (k : Fin 1024) (l : Fin 2048) : w2 w (ix2 k l) = w (ix2 (⟨1536 + k.val, by omega⟩ : Fin 5632) l) :=
  congrArg w (funext (Fin.forall_fin_two.mpr ⟨Fin.ext (by show 1536 + 1 * k.val = 1536 + k.val; omega), Fin.ext (by show 0 + 1 * l.val = l.val; omega)⟩))
theorem w3_apply (k : Fin 2048) (l : Fin 2048) : w3 w (ix2 k l) = w (ix2 (⟨2560 + k.val, by omega⟩ : Fin 5632) l) :=
  congrArg w (funext (Fin.forall_fin_two.mpr ⟨Fin.ext (by show 2560 + 1 * k.val = 2560 + k.val; omega), Fin.ext (by show 0 + 1 * l.val = l.val; omega)⟩))
theorem w4_apply (k : Fin 1024) (l : Fin 2048) : w4 w (ix2 k l) = w (ix2 (⟨4608 + k.val, by omega⟩ : Fin 5632) l) :=
  congrArg w (funext (Fin.forall_fin_two.mpr ⟨Fin.ext (by show 4608 + 1 * k.val = 4608 + k.val; omega), Fin.ext (by show 0 + 1 * l.val = l.val; omega)⟩))

end Parts

/-! ## A block's payloads at an entry -/

section Payload

variable (x1 : Vec Ideal S256x1536 .bf16) (x2 : Vec Ideal S256x1024 .bf16) (x3 : Vec Ideal S256x2048 .bf16) (x4 : Vec Ideal S256x1024 .bf16)
  (v1 : Vec Ideal S1536x2048 .bf16) (v2 : Vec Ideal S1024x2048 .bf16) (v3 : Vec Ideal S2048x2048 .bf16) (v4 : Vec Ideal S1024x2048 .bf16)
  (u : FVec Ideal S256x2048 .f32)

theorem pay7_apply (i : Fin 256) (l : Fin 2048) : k0_pay7 x1 v1 x2 v2 x3 v3 (ix2 i l)
    = ∑ k : Fin 1536, x1 (ix2 i k) * v1 (ix2 k l) + ∑ k : Fin 1024, x2 (ix2 i k) * v2 (ix2 k l) + ∑ k : Fin 2048, x3 (ix2 i k) * v3 (ix2 k l) := by
  pointwise [k0_pay7]

theorem pay1_apply (i : Fin 256) (l : Fin 2048) : k0_pay1 u x4 v4 (ix2 i l) = u (ix2 i l) + ∑ k : Fin 1024, x4 (ix2 i k) * v4 (ix2 k l) := by
  pointwise [k0_pay1]

theorem pay2_apply (z : Vec Ideal S256x2048 .f32) (s : Vec Ideal S1x2048 .f32) (i : Fin 256) (l : Fin 2048) : k0_pay2 u x4 v4 z s (ix2 i l)
    = (Scalar.ofBits .f32 0x3F9837F0#32 : Ideal .f32) * z (ix2 i l) + k0_pay1 u x4 v4 (ix2 i l) * (1 + s (ix2 (0 : Fin 1) l)) := by
  unfold k0_pay2
  generalize k0_pay1 u x4 v4 = y
  pointwise []

theorem pay3_apply (p : Vec Ideal S1x2048 .f32) (l : Fin 2048) : k0_pay3 u x4 v4 p (ix2 (0 : Fin 1) l)
    = p (ix2 (0 : Fin 1) l) + ∑ i : Fin 256, k0_pay1 u x4 v4 (ix2 i l) := by
  unfold k0_pay3
  generalize k0_pay1 u x4 v4 = y
  pointwise []

theorem pay4_apply (p : Vec Ideal S1x2048 .f32) (x : Vec Ideal S256x2048 .f32) (l : Fin 2048) : k0_pay4 u x4 v4 p x (ix2 (0 : Fin 1) l)
    = p (ix2 (0 : Fin 1) l) + ∑ i : Fin 256, k0_pay1 u x4 v4 (ix2 i l) * x (ix2 i l) := by
  unfold k0_pay4
  generalize k0_pay1 u x4 v4 = y
  pointwise []

end Payload

/-! ## The blocks -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 1]
    ∧ win0_7.index t = ![t.val, 0] ∧ win0_8.index t = ![0, 0] ∧ win0_9.index t = ![0, 0] ∧ t.val < 32 :=
  (by decide +kernel : ∀ t : Fin grid0.N, _)

theorem lt32 (t : Fin cfg0.N) : t.val < 32 := lt_of_lt_of_eq t.isLt N_0

/-- Row `i` of tile `t`. -/
abbrev at_ (t : Fin cfg0.N) (i : Fin 256) : Fin 8192 := ⟨t.val * 256 + i.val, by have := lt32 t; omega⟩

abbrev xs : FVec Ideal S8192x2048 .f32 := m ((c : Thread nD τ).loc main_arg0)
abbrev mods : FVec Ideal S1x6144 .f32 := m ((c : Thread nD τ).loc main_arg1)
abbrev win : FVec Ideal S1x2048x5632 .f32 := m ((c : Thread nD τ).loc main_arg2)
abbrev dz : FVec Ideal S8192x2048 .f32 := m ((c : Thread nD τ).loc main_arg3)
abbrev dqkv : FVec Ideal S8192x1536 .bf16 := m ((c : Thread nD τ).loc main_arg4)
abbrev dga : FVec Ideal S8192x1024 .bf16 := m ((c : Thread nD τ).loc main_arg5)
abbrev dab : FVec Ideal S8192x2048 .bf16 := m ((c : Thread nD τ).loc main_arg6)
abbrev dgc : FVec Ideal S8192x1024 .bf16 := m ((c : Thread nD τ).loc main_arg7)

theorem wt_entry (k : Fin 5632) (l : Fin 2048) : wt m c (ix2 k l) = win m c (ix3 (0 : Fin 1) l k) := by
  have e : wt m c = (show Vec Ideal S5632x2048 .bf16 from Gen.V m c main_v2) := rfl
  rw [e]
  dsimp only
  simp only [Gen.V, hostOps0, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  pointwise []

theorem block0 (t : Fin cfg0.N) (i : Fin 256) (k : Fin 1536) : iblk m c 0 t (ix2 i k) = dqkv m c (ix2 (at_ t i) k) := by
  rw [dqkv, ← V_main_arg4 m c]; blk_point [iblk, idx t]
theorem block1 (t : Fin cfg0.N) (i : Fin 256) (k : Fin 1024) : iblk m c 1 t (ix2 i k) = dga m c (ix2 (at_ t i) k) := by
  rw [dga, ← V_main_arg5 m c]; blk_point [iblk, idx t]
theorem block2 (t : Fin cfg0.N) (i : Fin 256) (k : Fin 2048) : iblk m c 2 t (ix2 i k) = dab m c (ix2 (at_ t i) k) := by
  rw [dab, ← V_main_arg6 m c]; blk_point [iblk, idx t]
theorem block3 (t : Fin cfg0.N) (i : Fin 256) (k : Fin 1024) : iblk m c 3 t (ix2 i k) = dgc m c (ix2 (at_ t i) k) := by
  rw [dgc, ← V_main_arg7 m c]; blk_point [iblk, idx t]
theorem block4 (t : Fin cfg0.N) (i : Fin 256) (l : Fin 2048) : iblk m c 4 t (ix2 i l) = dz m c (ix2 (at_ t i) l) := by
  rw [dz, ← V_main_arg3 m c]; blk_point [iblk, idx t]
theorem block5 (t : Fin cfg0.N) (i : Fin 256) (l : Fin 2048) : iblk m c 5 t (ix2 i l) = xs m c (ix2 (at_ t i) l) := by
  rw [xs, ← V_main_arg0 m c]; blk_point [iblk, idx t]
theorem block6 (t : Fin cfg0.N) (l : Fin 2048) : iblk m c 6 t (ix2 (0 : Fin 1) l) = mods m c (ix2 (0 : Fin 1) (⟨2048 + l.val, by omega⟩ : Fin 6144)) := by
  rw [mods, ← V_main_arg1 m c]; blk_point [iblk, idx t]

/-! ## A tile's outputs -/

abbrev back (n : Fin 8192) (l : Fin 2048) : EReal := inGrad (win m c) (dqkv m c) (dga m c) (dab m c) (dgc m c) n l

theorem tile (t : Fin cfg0.N) (i : Fin 256) (l : Fin 2048) :
    k0_pay1 (k0_pay7 (iblk m c 0 t) (w1 (wt m c)) (iblk m c 1 t) (w2 (wt m c)) (iblk m c 2 t) (w3 (wt m c))) (iblk m c 3 t) (w4 (wt m c)) (ix2 i l)
      = back m c (at_ t i) l := by
  rw [pay1_apply, pay7_apply]
  refine congrArg₂ (· + ·) (congrArg₂ (· + ·) (congrArg₂ (· + ·) ?_ ?_) ?_) ?_ <;> refine Finset.sum_congr rfl fun k _ => ?_
  · rw [block0, w1_apply, wt_entry]
  · rw [block1, w2_apply, wt_entry]
  · rw [block2, w3_apply, wt_entry]
  · rw [block3, w4_apply, wt_entry]

theorem gx_tile (t : Fin cfg0.N) (i : Fin 256) (l : Fin 2048) : gxAt m c t (ix2 i l)
    = (Scalar.ofBits .f32 0x3F9837F0#32 : Ideal .f32) * dz m c (ix2 (at_ t i) l)
      + back m c (at_ t i) l * (1 + mods m c (ix2 (0 : Fin 1) (⟨2048 + l.val, by omega⟩ : Fin 6144))) := by
  rw [gxAt, gxOf, pay2_apply, tile, block4, block6]

theorem sh_tile (t : Fin cfg0.N) (p : Vec Ideal S1x2048 .f32) (l : Fin 2048) : shAt m c t p (ix2 (0 : Fin 1) l)
    = p (ix2 (0 : Fin 1) l) + ∑ i : Fin 256, back m c (at_ t i) l := by
  rw [shAt, shOf, pay3_apply]
  exact congrArg _ (Finset.sum_congr rfl fun i _ => tile m c t i l)

theorem sc_tile (t : Fin cfg0.N) (p : Vec Ideal S1x2048 .f32) (l : Fin 2048) : scAt m c t p (ix2 (0 : Fin 1) l)
    = p (ix2 (0 : Fin 1) l) + ∑ i : Fin 256, xs m c (ix2 (at_ t i) l) * back m c (at_ t i) l := by
  rw [scAt, scOf, pay4_apply]
  exact congrArg _ (Finset.sum_congr rfl fun i _ => by rw [tile, block5, mul_comm])

/-! ## The column sums after the last tile -/

/-- A sum grown tile by tile. -/
theorem grown (g : (n : ℕ) → n < cfg0.N → EReal) (f : Fin 8192 → EReal) (h0 : ∀ h, g 0 h = ∑ i, f (at_ ⟨0, h⟩ i))
    (hs : ∀ n h, g (n + 1) h = g n (Nat.lt_of_succ_lt h) + ∑ i, f (at_ ⟨n + 1, h⟩ i)) (h31 : 31 < cfg0.N) : g 31 h31 = ∑ r, f r := by
  have step : ∀ n (h : n < cfg0.N), g n h = ∑ q : Fin (n + 1), ∑ i, f (at_ ⟨q.val, lt_of_lt_of_le q.isLt h⟩ i) := by
    intro n
    induction n with
    | zero => intro h; rw [h0, Fin.sum_univ_one]; rfl
    | succ n ih => intro h; rw [hs, ih, Fin.sum_univ_castSucc (n := n + 1)]; rfl
  rw [step, Fin.sum_univ_tiles 32 256 rfl]

theorem shSum_last (h : 31 < cfg0.N) (l : Fin 2048) : shSum m c 31 h (ix2 (0 : Fin 1) l) = ∑ r, back m c r l :=
  grown (fun n h => shSum m c n h (ix2 (0 : Fin 1) l)) (fun r => back m c r l)
    (fun h => by
      show shAt m c ⟨0, h⟩ (k0_pay5 (F := Ideal)) _ = _
      rw [sh_tile, show (k0_pay5 (F := Ideal)) (ix2 (0 : Fin 1) l) = 0 by pointwise [k0_pay5], zero_add])
    (fun n h => sh_tile m c ⟨n + 1, h⟩ _ l) h

theorem scSum_last (h : 31 < cfg0.N) (l : Fin 2048) : scSum m c 31 h (ix2 (0 : Fin 1) l) = ∑ r, xs m c (ix2 r l) * back m c r l :=
  grown (fun n h => scSum m c n h (ix2 (0 : Fin 1) l)) (fun r => xs m c (ix2 r l) * back m c r l)
    (fun h => by
      show scAt m c ⟨0, h⟩ (k0_pay6 (F := Ideal)) _ = _
      rw [sc_tile, show (k0_pay6 (F := Ideal)) (ix2 (0 : Fin 1) l) = 0 by pointwise [k0_pay6], zero_add])
    (fun n h => sc_tile m c ⟨n + 1, h⟩ _ l) h

end Cert.InGradIdeal.Point
end
-- ==== Proof.GradRead.lean ====
/- The input-gradient reference at an entry: its product over the joined cotangents, part by part. -/
module

public import proofs.«01_k».proof.Proof.GradPoints
public import proofs.«01_k».proof.Proof.Gen.InGradRefIdeal.Read

@[expose] public section

set_option maxRecDepth 16384

noncomputable section

namespace Cert.InGradRefIdeal.Reals

open Cert.InGradRefIdeal Cert.InGradRefIdeal.Gen Cert.InGradRefIdeal.Read Idealize.ShloMosaic Idealize.ShloMosaic.TcCoe Cert.RealRow Cert.Tiles
open Cert.InGradIdeal.Point (inGrad)

/-- A sum over the joined columns, part by part. -/
theorem parts (f : Fin 5632 → EReal) : ∑ k, f k = ∑ k : Fin 1536, f ⟨k.val, by omega⟩ + ∑ k : Fin 1024, f ⟨1536 + k.val, by omega⟩
    + ∑ k : Fin 2048, f ⟨2560 + k.val, by omega⟩ + ∑ k : Fin 1024, f ⟨4608 + k.val, by omega⟩ :=
  (Fin.sum_univ_add (a := 4608) (b := 1024) f).trans (congrArg (· + _) <|
    (Fin.sum_univ_add (a := 2560) (b := 2048) fun k => f (Fin.castAdd 1024 k)).trans (congrArg (· + _) <|
      Fin.sum_univ_add (a := 1536) (b := 1024) fun k => f (Fin.castAdd 1024 (Fin.castAdd 2048 k))))

variable (X : FVec Ideal S8192x2048 .f32) (M : FVec Ideal S1x6144 .f32) (W : FVec Ideal S1x2048x5632 .f32) (Z : FVec Ideal S8192x2048 .f32)
  (P : FVec Ideal S8192x1536 .bf16) (Q : FVec Ideal S8192x1024 .bf16) (T : FVec Ideal S8192x2048 .bf16) (C : FVec Ideal S8192x1024 .bf16)

theorem joined1 (n : Fin 8192) (k : Fin 1536) : val_main_v4 (F := Ideal) P Q T C (ix2 n (⟨k.val, by omega⟩ : Fin 5632)) = P (ix2 n k) := by
  pointwise [val_main_v4, val_main_v0, val_main_v1, val_main_v2, val_main_v3]
theorem joined2 (n : Fin 8192) (k : Fin 1024) : val_main_v4 (F := Ideal) P Q T C (ix2 n (⟨1536 + k.val, by omega⟩ : Fin 5632)) = Q (ix2 n k) := by
  pointwise [val_main_v4, val_main_v0, val_main_v1, val_main_v2, val_main_v3]
theorem joined3 (n : Fin 8192) (k : Fin 2048) : val_main_v4 (F := Ideal) P Q T C (ix2 n (⟨2560 + k.val, by omega⟩ : Fin 5632)) = T (ix2 n k) := by
  pointwise [val_main_v4, val_main_v0, val_main_v1, val_main_v2, val_main_v3]
  rw [dif_neg (by omega), dif_neg (by omega), dif_pos (by omega)]
  exact congrArg T (congrArg (ix2 n) (Fin.ext (by show 2560 + k.val - 1536 - 1024 = k.val; omega)))
theorem joined4 (n : Fin 8192) (k : Fin 1024) : val_main_v4 (F := Ideal) P Q T C (ix2 n (⟨4608 + k.val, by omega⟩ : Fin 5632)) = C (ix2 n k) := by
  pointwise [val_main_v4, val_main_v0, val_main_v1, val_main_v2, val_main_v3]
  rw [dif_neg (by omega), dif_neg (by omega), dif_neg (by omega)]
  exact congrArg C (congrArg (ix2 n) (Fin.ext (by show 4608 + k.val - 1536 - 1024 - 2048 = k.val; omega)))

theorem v13 (l : Fin 2048) (k : Fin 5632) : val_main_v13 (F := Ideal) W (ix2 l k) = W (ix3 (0 : Fin 1) l k) := by
  pointwise [val_main_v13]

theorem v19 (n : Fin 8192) (l : Fin 2048) : val_main_v19 (F := Ideal) W P Q T C (ix2 n l) = inGrad W P Q T C n l := by
  have e (k : Fin 5632) : val_main_v4 (F := Ideal) P Q T C (lidx_main_v19 (ix2 n l) k) * val_main_v13 (F := Ideal) W (ridx_main_v19 (ix2 n l) k)
      = val_main_v4 (F := Ideal) P Q T C (ix2 n k) * W (ix3 (0 : Fin 1) l k) := by
    rw [← v13 W]
    refine congrArg₂ (· * ·) (congrArg _ ?_) (congrArg _ ?_) <;> exact funext (Fin.forall_fin_two.mpr ⟨rfl, rfl⟩)
  rw [val_main_v19_apply, Finset.sum_congr rfl fun k _ => e k, parts]
  refine congrArg₂ (· + ·) (congrArg₂ (· + ·) (congrArg₂ (· + ·) ?_ ?_) ?_) ?_ <;> refine Finset.sum_congr rfl fun k _ => ?_
  · rw [joined1]
  · rw [joined2]
  · rw [joined3]
  · rw [joined4]

theorem v27 (n : Fin 8192) (l : Fin 2048) : val_main_v27 (F := Ideal) M W Z P Q T C (ix2 n l)
    = (Scalar.ofBits .f32 0x3F9837F0#32 : Ideal .f32) * Z (ix2 n l)
      + inGrad W P Q T C n l * (1 + M (ix2 (0 : Fin 1) (⟨2048 + l.val, by omega⟩ : Fin 6144))) := by
  rw [← v19]
  unfold val_main_v27 val_main_v26
  generalize val_main_v19 (F := Ideal) W P Q T C = y
  pointwise [val_main_v18, val_main_v17, val_main_v25, val_main_v8, val_main_v7, val_main_v6, val_main_cst, val_main_cst_1]

theorem v21 (l : Fin 2048) : val_main_v21 (F := Ideal) W P Q T C (ix2 (0 : Fin 1) l) = ∑ n, inGrad W P Q T C n l := by
  rw [← Finset.sum_congr rfl fun n _ => v19 W P Q T C n l]
  unfold val_main_v21 val_main_v20
  generalize val_main_v19 (F := Ideal) W P Q T C = y
  pointwise [val_main_cst_2]

theorem v24 (l : Fin 2048) : val_main_v24 (F := Ideal) X W P Q T C (ix2 (0 : Fin 1) l) = ∑ n, X (ix2 n l) * inGrad W P Q T C n l := by
  rw [← Finset.sum_congr rfl fun n _ => congrArg (X (ix2 n l) * ·) (v19 W P Q T C n l)]
  unfold val_main_v24 val_main_v23 val_main_v22
  generalize val_main_v19 (F := Ideal) W P Q T C = y
  pointwise [val_main_cst_3]

end Cert.InGradRefIdeal.Reals
end
-- ==== Proof.GradClaim.lean ====
/- The claims about the input-gradient call. -/
module

public import proofs.«01_k».proof.Defs
public import proofs.«01_k».proof.Proof.GradPoints
public import proofs.«01_k».proof.Proof.GradRead
public import proofs.«01_k».proof.Proof.Gen.InGradRefIdeal.Run
public import Idealize.ShloMosaic.Adequacy
public import Idealize.ShloMosaic.Init

@[expose] public section

set_option maxRecDepth 16384

noncomputable section

namespace Cert.InGradIdeal.Point

open Cert.InGradIdeal Cert.InGradIdeal.Gen Idealize.ShloMosaic Idealize.ShloMosaic.TcCoe Idealize.SL.Sem
open Cert.InGradRefIdeal.Read Cert.InGradRefIdeal.Reals Cert.RealRow

variable (m : (ℓ : Loc nD τ sig) → Buf (Elt Ideal) ℓ) (c : Dev nD)

theorem last_lt : 31 < cfg0.N := by rw [show cfg0.N = 32 from N_0]; omega

theorem sums_last (t : Fin cfg0.N) (e : t.val = 31) :
    shSum m c t.val t.isLt = shSum m c 31 last_lt ∧ scSum m c t.val t.isLt = scSum m c 31 last_lt := by
  obtain ⟨n, hn⟩ := t
  cases e
  exact ⟨rfl, rfl⟩

theorem sh_last (a : Fin 1) (l : Fin 2048) : shSum m c 31 last_lt (ix2 a l)
    = val_main_v21 (F := Ideal) (win m c) (dqkv m c) (dga m c) (dab m c) (dgc m c) (ix2 a l) := by
  rw [Subsingleton.elim a 0]
  exact (shSum_last m c _ l).trans (v21 (win m c) (dqkv m c) (dga m c) (dab m c) (dgc m c) l).symm

theorem sc_last (a : Fin 1) (l : Fin 2048) : scSum m c 31 last_lt (ix2 a l)
    = val_main_v24 (F := Ideal) (xs m c) (win m c) (dqkv m c) (dga m c) (dab m c) (dgc m c) (ix2 a l) := by
  rw [Subsingleton.elim a 0]
  exact (scSum_last m c _ l).trans (v24 (xs m c) (win m c) (dqkv m c) (dga m c) (dab m c) (dgc m c) l).symm

theorem res7 : (dats m 0 c).arrAt 7 cfg0.N = val_main_v27 (F := Ideal) (mods m c) (win m c) (dz m c) (dqkv m c) (dga m c) (dab m c) (dgc m c) := by
  refine (dats m 0 c).arrAt_eq_of_covers 7 _ (by decide +kernel) fun t _ y => ?_
  blk_simp
  rw [after_7, eq_ix2 y]
  refine (gx_tile m c t _ _).trans (Eq.trans (v27 (mods m c) (win m c) (dz m c) (dqkv m c) (dga m c) (dab m c) (dgc m c) (at_ t (y 0)) (y 1)).symm (congrArg _ ?_))
  blk_ext [idx t]

theorem res8 : (dats m 0 c).arrAt 8 cfg0.N = val_main_v21 (F := Ideal) (win m c) (dqkv m c) (dga m c) (dab m c) (dgc m c) := by
  refine (dats m 0 c).arrAt_eq_of_covers 8 _ (by decide +kernel) fun t hf y => ?_
  have e31 : t.val = 31 := by have := (flush0_8 t).mp hf; have := lt32 t; omega
  blk_simp
  rw [after_8, eq_ix2 y, (sums_last m c t e31).1]
  refine (sh_last m c (y 0) (y 1)).trans (congrArg _ ?_)
  blk_ext [idx t]

theorem res9 : (dats m 0 c).arrAt 9 cfg0.N = val_main_v24 (F := Ideal) (xs m c) (win m c) (dqkv m c) (dga m c) (dab m c) (dgc m c) := by
  refine (dats m 0 c).arrAt_eq_of_covers 9 _ (by decide +kernel) fun t hf y => ?_
  have e31 : t.val = 31 := by have := (flush0_9 t).mp hf; have := lt32 t; omega
  blk_simp
  rw [after_9, eq_ix2 y, (sums_last m c t e31).2]
  refine (sc_last m c (y 0) (y 1)).trans (congrArg _ ?_)
  blk_ext [idx t]

end Cert.InGradIdeal.Point

namespace Cert.Proof.Grad

open Idealize.ShloMosaic Idealize.SL.Sem Cert.InGradRefIdeal.Read Cert.InGradIdeal.Point

theorem frame_reference : Cert.quiescent_InGradRefIdeal := fun m ρ _ =>
  (θ_run Cert.InGradRefIdeal.defs _ _).mono (fun r h => ⟨fun c => (h c).2.2.2, sem_eq_zero_of_no_sems (by decide) r.2⟩)
    (Cert.InGradRefIdeal.Value.run (F := Ideal) m ρ)

theorem algebraic : Cert.algebraic_InGradIdeal_InGradRefIdeal := by
  intro m ρ m' ρ' hpre hagree
  refine ⟨fun c => (dats m 0 c).arrAt 7 Cert.InGradIdeal.cfg0.N, fun c => (dats m 0 c).arrAt 8 Cert.InGradIdeal.cfg0.N,
    fun c => (dats m 0 c).arrAt 9 Cert.InGradIdeal.cfg0.N,
    (θ_run Cert.InGradIdeal.defs _ _).mono (fun r h c => ⟨(h.1 c).1 7, (h.1 c).1 8, (h.1 c).1 9, kept m r h.1 c⟩) (run_main m ρ), ?_⟩
  refine (θ_run Cert.InGradRefIdeal.defs _ _).mono (fun _ h c => ?_) (Cert.InGradRefIdeal.Value.run (F := Ideal) m' ρ')
  obtain ⟨e0, e1, e2, e3, e4, e5, e6, e7⟩ := hagree c
  obtain ⟨s0, s1, s2, rest⟩ := h c
  refine ⟨s0.trans ?_, s1.trans ?_, s2.trans ?_, rest⟩
  · beta_reduce
    rw [res7 m c, mods, win, dz, dqkv, dga, dab, dgc, ← e1, ← e2, ← e3, ← e4, ← e5, ← e6, ← e7]
    exact val_main_v27_eq _ _ _ _ _ _ _
  · beta_reduce
    rw [res8 m c, win, dqkv, dga, dab, dgc, ← e2, ← e4, ← e5, ← e6, ← e7]
    exact val_main_v21_eq _ _ _ _ _
  · beta_reduce
    rw [res9 m c, xs, win, dqkv, dga, dab, dgc, ← e0, ← e2, ← e4, ← e5, ← e6, ← e7]
    exact val_main_v24_eq _ _ _ _ _ _

end Cert.Proof.Grad

end
-- ==== Proof.InPoints.lean ====
/- The input product's blocks by the entries of its arguments. -/
module

public import proofs.«01_k».proof.Proof.RealRow
public import proofs.«01_k».proof.Proof.Tiles
public import proofs.«01_k».proof.Proof.Gen.InProjIdeal.Frame
public import proofs.«01_k».proof.Proof.Gen.InProjIdeal.Value
public import proofs.«01_k».proof.Proof.Gen.InProjIdeal.Points
public import Idealize.ShloMosaic.Lib.KernelVsHost
public import Idealize.ShloMosaic.Lib.Pipeline.ValueKit

@[expose] public section

set_option maxRecDepth 16384

noncomputable section

namespace Cert.InProjIdeal.Rows

open Cert.InProjIdeal Cert.InProjIdeal.Gen Idealize.ShloMosaic Idealize.ShloMosaic.TcCoe Idealize.SL.Sem
open Cert.RealRow Cert.Tiles

section Entries

variable (X : FVec Ideal S8192x2048 .f32) (M : FVec Ideal S1x6144 .f32) (W : FVec Ideal S1x2048x5632 .f32)

/-- The modulated input. -/
def modulated (n : Fin 8192) (k : Fin 2048) : EReal :=
  X (ix2 n k) * (1 + M (ix2 (0 : Fin 1) (⟨2048 + k.val, by omega⟩ : Fin 6144))) + M (ix2 (0 : Fin 1) (⟨k.val, by omega⟩ : Fin 6144))

/-- Its product with a column of the weight. -/
def column (n : Fin 8192) (j : Fin 5632) : EReal := ∑ k : Fin 2048, modulated X M n k * W (ix3 (0 : Fin 1) k j)

end Entries

/-! ## The stores at an entry -/

section Stores

variable (x0 : Vec Ideal S256x2048 .f32) (x1 x2 : Vec Ideal S1x2048 .f32) (x3 : Vec Ideal S5632x2048 .bf16)

theorem hz : (![0, 0] : Fin 2 → ℕ) = fun _ => 0 := funext (Fin.forall_fin_two.mpr ⟨rfl, rfl⟩)

theorem out4_eq : out0_4 x0 x1 x2 x3 = k0_pay1 x0 x2 x1 := by
  rw [out0_4, View.canon_unit_zero hz, View.ld_unit_zero hz, View.ld_unit_zero hz, View.ld_unit_zero hz]

theorem out4_apply (i : Fin 256) (k : Fin 2048) : out0_4 x0 x1 x2 x3 (ix2 i k)
    = x0 (ix2 i k) * (1 + x2 (ix2 (0 : Fin 1) k)) + x1 (ix2 (0 : Fin 1) k) := by
  rw [out4_eq]
  pointwise [k0_pay1]

theorem part (o n : ℕ) (h : ∀ a : Fin 2, ![o, 0] a + ![n, 2048] a ≤ S5632x2048.size a) (j : Fin n) (k : Fin 2048) (q : Fin 5632) (e : q.val = o + j.val) :
    View.ld x3 (Rect.unit (s := S5632x2048) ![o, 0] ![n, 2048] h) (ix2 j k) = x3 (ix2 q k) :=
  congrArg x3 (funext (Fin.forall_fin_two.mpr ⟨Fin.ext (by show o + 1 * j.val = q.val; omega), Fin.ext (by show 0 + 1 * k.val = k.val; omega)⟩))

theorem out5_apply (i : Fin 256) (j : Fin 1536) : out0_5 x0 x1 x2 x3 (ix2 i j)
    = ∑ k : Fin 2048, out0_4 x0 x1 x2 x3 (ix2 i k) * x3 (ix2 (⟨j.val, by omega⟩ : Fin 5632) k) := by
  have o : out0_5 x0 x1 x2 x3 = k0_pay2 x0 x2 x1 (View.ld x3 r0_2) := by
    rw [out0_5, View.canon_unit_zero hz, View.ld_unit_zero hz, View.ld_unit_zero hz, View.ld_unit_zero hz]
  rw [o, out4_eq]
  unfold k0_pay2
  have p := fun k : Fin 2048 => part x3 0 1536 inb_S5632x2048_S1536x2048_0_0 j k ⟨j.val, by omega⟩ (by show j.val = 0 + j.val; omega)
  rw [← Finset.sum_congr rfl fun k _ => congrArg (k0_pay1 x0 x2 x1 (ix2 i k) * ·) (p k)]
  generalize k0_pay1 x0 x2 x1 = y
  generalize View.ld x3 r0_2 = z
  pointwise []

theorem out6_apply (i : Fin 256) (j : Fin 1024) : out0_6 x0 x1 x2 x3 (ix2 i j)
    = ∑ k : Fin 2048, out0_4 x0 x1 x2 x3 (ix2 i k) * x3 (ix2 (⟨1536 + j.val, by omega⟩ : Fin 5632) k) := by
  have o : out0_6 x0 x1 x2 x3 = k0_pay3 x0 x2 x1 (View.ld x3 r0_4) := by
    rw [out0_6, View.canon_unit_zero hz, View.ld_unit_zero hz, View.ld_unit_zero hz, View.ld_unit_zero hz]
  rw [o, out4_eq]
  unfold k0_pay3
  have p := fun k : Fin 2048 => part x3 1536 1024 inb_S5632x2048_S1024x2048_1536_0 j k ⟨1536 + j.val, by omega⟩ rfl
  rw [← Finset.sum_congr rfl fun k _ => congrArg (k0_pay1 x0 x2 x1 (ix2 i k) * ·) (p k)]
  generalize k0_pay1 x0 x2 x1 = y
  generalize View.ld x3 r0_4 = z
  pointwise []

theorem out7_apply (i : Fin 256) (j : Fin 2048) : out0_7 x0 x1 x2 x3 (ix2 i j)
    = ∑ k : Fin 2048, out0_4 x0 x1 x2 x3 (ix2 i k) * x3 (ix2 (⟨2560 + j.val, by omega⟩ : Fin 5632) k) := by
  have o : out0_7 x0 x1 x2 x3 = k0_pay4 x0 x2 x1 (View.ld x3 r0_6) := by
    rw [out0_7, View.canon_unit_zero hz, View.ld_unit_zero hz, View.ld_unit_zero hz, View.ld_unit_zero hz]
  rw [o, out4_eq]
  unfold k0_pay4
  have p := fun k : Fin 2048 => part x3 2560 2048 inb_S5632x2048_S2048x2048_2560_0 j k ⟨2560 + j.val, by omega⟩ rfl
  rw [← Finset.sum_congr rfl fun k _ => congrArg (k0_pay1 x0 x2 x1 (ix2 i k) * ·) (p k)]
  generalize k0_pay1 x0 x2 x1 = y
  generalize View.ld x3 r0_6 = z
  pointwise []

theorem out8_apply (i : Fin 256) (j : Fin 1024) : out0_8 x0 x1 x2 x3 (ix2 i j)
    = ∑ k : Fin 2048, out0_4 x0 x1 x2 x3 (ix2 i k) * x3 (ix2 (⟨4608 + j.val, by omega⟩ : Fin 5632) k) := by
  have o : out0_8 x0 x1 x2 x3 = k0_pay5 x0 x2 x1 (View.ld x3 r0_7) := by
    rw [out0_8, View.canon_unit_zero hz, View.ld_unit_zero hz, View.ld_unit_zero hz, View.ld_unit_zero hz]
  rw [o, out4_eq]
  unfold k0_pay5
  have p := fun k : Fin 2048 => part x3 4608 1024 inb_S5632x2048_S1024x2048_4608_0 j k ⟨4608 + j.val, by omega⟩ rfl
  rw [← Finset.sum_congr rfl fun k _ => congrArg (k0_pay1 x0 x2 x1 (ix2 i k) * ·) (p k)]
  generalize k0_pay1 x0 x2 x1 = y
  generalize View.ld x3 r0_7 = z
  pointwise []

end Stores

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 1] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ t.val < 32 :=
  (by decide +kernel : ∀ t : Fin grid0.N, _)

theorem lt32 (t : Fin cfg0.N) : t.val < 32 := lt_of_lt_of_eq t.isLt N_0

/-- Row `i` of tile `t`. -/
abbrev at_ (t : Fin cfg0.N) (i : Fin 256) : Fin 8192 := ⟨t.val * 256 + i.val, by have := lt32 t; omega⟩

abbrev xs : FVec Ideal S8192x2048 .f32 := m ((c : Thread nD τ).loc main_arg0)
abbrev mods : FVec Ideal S1x6144 .f32 := m ((c : Thread nD τ).loc main_arg1)
abbrev win : FVec Ideal S1x2048x5632 .f32 := m ((c : Thread nD τ).loc main_arg2)

theorem wt_entry (j : Fin 5632) (k : Fin 2048) :
    (show FVec Ideal S5632x2048 .bf16 from Gen.V m c main_v2) (ix2 j k) = win m c (ix3 (0 : Fin 1) k j) := by
  dsimp only
  simp only [Gen.V, hostOps0, List.flatten_cons, List.flatten_nil, List.append_nil, List.cons_append,
    List.nil_append, StableHlo.TRef.binary, StableHlo.TRef.nullary, StableHlo.TRef.unary, StableHlo.TRef.ternary, StableHlo.TRef.toBuf, StableHlo.TRef.ofBuf, cast_eq]
  after_results_simp
  pointwise []

theorem block0 (t : Fin cfg0.N) (i : Fin 256) (k : Fin 2048) : iblk m c 0 t (ix2 i k) = xs m c (ix2 (at_ t i) k) := by
  rw [xs, ← V_main_arg0 m c]; blk_point [iblk, idx t]
theorem block1 (t : Fin cfg0.N) (k : Fin 2048) : iblk m c 1 t (ix2 (0 : Fin 1) k) = mods m c (ix2 (0 : Fin 1) (⟨k.val, by omega⟩ : Fin 6144)) := by
  rw [mods, ← V_main_arg1 m c]; blk_point [iblk, idx t]
theorem block2 (t : Fin cfg0.N) (k : Fin 2048) : iblk m c 2 t (ix2 (0 : Fin 1) k) = mods m c (ix2 (0 : Fin 1) (⟨2048 + k.val, by omega⟩ : Fin 6144)) := by
  rw [mods, ← V_main_arg1 m c]; blk_point [iblk, idx t]
theorem block3 (t : Fin cfg0.N) (j : Fin 5632) (k : Fin 2048) : iblk m c 3 t (ix2 j k) = win m c (ix3 (0 : Fin 1) k j) := by
  rw [← wt_entry]; blk_point [iblk, idx t]

/-! ## A tile's outputs -/

abbrev blk4 (t : Fin cfg0.N) : Vec Ideal S256x2048 .bf16 := out0_4 (iblk m c 0 t) (iblk m c 1 t) (iblk m c 2 t) (iblk m c 3 t)

theorem h_tile (t : Fin cfg0.N) (i : Fin 256) (k : Fin 2048) : blk4 m c t (ix2 i k) = modulated (xs m c) (mods m c) (at_ t i) k := by
  rw [blk4, out4_apply, block0, block1, block2]; rfl

theorem col (t : Fin cfg0.N) (i : Fin 256) (j : Fin 5632) :
    ∑ k : Fin 2048, blk4 m c t (ix2 i k) * iblk m c 3 t (ix2 j k) = column (xs m c) (mods m c) (win m c) (at_ t i) j :=
  Finset.sum_congr rfl fun k _ => by rw [h_tile, block3]

end Cert.InProjIdeal.Rows
end
-- ==== Proof.InClaim.lean ====
/- The claims about the input product. -/
module

public import proofs.«01_k».proof.Defs
public import proofs.«01_k».proof.Proof.InPoints
public import proofs.«01_k».proof.Proof.Gen.InProjRefIdeal.Run
public import proofs.«01_k».proof.Proof.Gen.InProjRefIdeal.Read
public import Idealize.ShloMosaic.Adequacy
public import Idealize.ShloMosaic.Init

@[expose] public section

set_option maxRecDepth 16384

noncomputable section

/-! ## The reference at an entry -/

namespace Cert.InProjRefIdeal.Reals

open Cert.InProjRefIdeal Cert.InProjRefIdeal.Gen Cert.InProjRefIdeal.Read Idealize.ShloMosaic Idealize.ShloMosaic.TcCoe Cert.RealRow Cert.Tiles
open Cert.InProjIdeal.Rows (modulated column)

variable (X : FVec Ideal S8192x2048 .f32) (M : FVec Ideal S1x6144 .f32) (W : FVec Ideal S1x2048x5632 .f32)

theorem v8 (n : Fin 8192) (k : Fin 2048) : val_main_v8 (F := Ideal) X M (ix2 n k) = modulated X M n k := by
  unfold modulated
  pointwise [val_main_v8, val_main_v7, val_main_v6, val_main_v5, val_main_v4, val_main_v3, val_main_v1, val_main_v0, val_main_cst]

theorem v11 (n : Fin 8192) (k : Fin 2048) : val_main_v11 (F := Ideal) X M (ix2 n k) = modulated X M n k := v8 X M n k

theorem v10 (n : Fin 8192) (j : Fin 5632) : val_main_v10 (F := Ideal) X M W (ix2 n j) = column X M W n j := by
  have e (k : Fin 2048) : val_main_v9 (F := Ideal) W (ix2 k j) = W (ix3 (0 : Fin 1) k j) := by pointwise [val_main_v9]
  rw [val_main_v10_apply]
  refine Finset.sum_congr rfl fun k _ => ?_
  rw [← v8, ← e]
  refine congrArg₂ (· * ·) (congrArg _ ?_) (congrArg _ ?_) <;> exact funext (Fin.forall_fin_two.mpr ⟨rfl, rfl⟩)

theorem v13 (n : Fin 8192) (j : Fin 1536) : val_main_v13 (F := Ideal) X M W (ix2 n j) = column X M W n ⟨j.val, by omega⟩ := by
  rw [← v10]
  unfold val_main_v13 val_main_v12
  generalize val_main_v10 (F := Ideal) X M W = y
  pointwise []
theorem v14 (n : Fin 8192) (j : Fin 1024) : val_main_v14 (F := Ideal) X M W (ix2 n j) = column X M W n ⟨1536 + j.val, by omega⟩ := by
  rw [← v10]
  unfold val_main_v14
  generalize val_main_v10 (F := Ideal) X M W = y
  pointwise []
theorem v15 (n : Fin 8192) (j : Fin 2048) : val_main_v15 (F := Ideal) X M W (ix2 n j) = column X M W n ⟨2560 + j.val, by omega⟩ := by
  rw [← v10]
  unfold val_main_v15
  generalize val_main_v10 (F := Ideal) X M W = y
  pointwise []
theorem v16 (n : Fin 8192) (j : Fin 1024) : val_main_v16 (F := Ideal) X M W (ix2 n j) = column X M W n ⟨4608 + j.val, by omega⟩ := by
  rw [← v10]
  unfold val_main_v16
  generalize val_main_v10 (F := Ideal) X M W = y
  pointwise []

end Cert.InProjRefIdeal.Reals

/-! ## The call's arrays -/

namespace Cert.InProjIdeal.Rows

open Cert.InProjIdeal Cert.InProjIdeal.Gen Idealize.ShloMosaic Idealize.ShloMosaic.TcCoe Idealize.SL.Sem
open Cert.InProjRefIdeal.Read Cert.InProjRefIdeal.Reals Cert.RealRow

variable (m : (ℓ : Loc nD τ sig) → Buf (Elt Ideal) ℓ) (c : Dev nD)

theorem res4 : (dats m 0 c).arrAt 4 cfg0.N = val_main_v11 (F := Ideal) (xs m c) (mods m c) := by
  refine (dats m 0 c).arrAt_eq_of_covers 4 _ (by decide +kernel) fun t _ y => ?_
  blk_simp
  rw [after0_4, eq_ix2 y]
  refine (h_tile m c t _ _).trans (Eq.trans (v11 (xs m c) (mods m c) (at_ t (y 0)) (y 1)).symm (congrArg _ ?_))
  blk_ext [idx t]

theorem res5 : (dats m 0 c).arrAt 5 cfg0.N = val_main_v13 (F := Ideal) (xs m c) (mods m c) (win m c) := by
  refine (dats m 0 c).arrAt_eq_of_covers 5 _ (by decide +kernel) fun t _ y => ?_
  blk_simp
  rw [after0_5, eq_ix2 y]
  refine (out5_apply _ _ _ _ _ _).trans ((col m c t (y 0) _).trans (Eq.trans (v13 (xs m c) (mods m c) (win m c) (at_ t (y 0)) (y 1)).symm (congrArg _ ?_)))
  blk_ext [idx t]

theorem res6 : (dats m 0 c).arrAt 6 cfg0.N = val_main_v14 (F := Ideal) (xs m c) (mods m c) (win m c) := by
  refine (dats m 0 c).arrAt_eq_of_covers 6 _ (by decide +kernel) fun t _ y => ?_
  blk_simp
  rw [after0_6, eq_ix2 y]
  refine (out6_apply _ _ _ _ _ _).trans ((col m c t (y 0) _).trans (Eq.trans (v14 (xs m c) (mods m c) (win m c) (at_ t (y 0)) (y 1)).symm (congrArg _ ?_)))
  blk_ext [idx t]

theorem res7 : (dats m 0 c).arrAt 7 cfg0.N = val_main_v15 (F := Ideal) (xs m c) (mods m c) (win m c) := by
  refine (dats m 0 c).arrAt_eq_of_covers 7 _ (by decide +kernel) fun t _ y => ?_
  blk_simp
  rw [after0_7, eq_ix2 y]
  refine (out7_apply _ _ _ _ _ _).trans ((col m c t (y 0) _).trans (Eq.trans (v15 (xs m c) (mods m c) (win m c) (at_ t (y 0)) (y 1)).symm (congrArg _ ?_)))
  blk_ext [idx t]

theorem res8 : (dats m 0 c).arrAt 8 cfg0.N = val_main_v16 (F := Ideal) (xs m c) (mods m c) (win m c) := by
  refine (dats m 0 c).arrAt_eq_of_covers 8 _ (by decide +kernel) fun t _ y => ?_
  blk_simp
  rw [after0_8, eq_ix2 y]
  refine (out8_apply _ _ _ _ _ _).trans ((col m c t (y 0) _).trans (Eq.trans (v16 (xs m c) (mods m c) (win m c) (at_ t (y 0)) (y 1)).symm (congrArg _ ?_)))
  blk_ext [idx t]

end Cert.InProjIdeal.Rows

namespace Cert.Proof.Input

open Idealize.ShloMosaic Idealize.SL.Sem Cert.InProjRefIdeal.Read Cert.InProjIdeal.Rows Cert.InProjIdeal.Gen

theorem frame_reference : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

theorem algebraic : Cert.algebraic_InProjIdeal_InProjRefIdeal := by
  intro m ρ m' ρ' hpre hagree
  refine ⟨fun c => (dats m 0 c).arrAt 4 Cert.InProjIdeal.cfg0.N, fun c => (dats m 0 c).arrAt 5 Cert.InProjIdeal.cfg0.N,
    fun c => (dats m 0 c).arrAt 6 Cert.InProjIdeal.cfg0.N, fun c => (dats m 0 c).arrAt 7 Cert.InProjIdeal.cfg0.N,
    fun c => (dats m 0 c).arrAt 8 Cert.InProjIdeal.cfg0.N, Cert.InProjIdeal.Value.run_blocks (F := Ideal) m ρ, ?_⟩
  refine (θ_run Cert.InProjRefIdeal.defs _ _).mono (fun _ h c => ?_) (Cert.InProjRefIdeal.Value.run (F := Ideal) m' ρ')
  obtain ⟨e0, e1, e2⟩ := hagree c
  obtain ⟨s0, s1, s2, s3, s4, rest⟩ := h c
  refine ⟨s0.trans ?_, s1.trans ?_, s2.trans ?_, s3.trans ?_, s4.trans ?_, rest⟩
  · beta_reduce
    rw [res4 m c, xs, mods, ← e0, ← e1]
    exact val_main_v11_eq _ _
  · beta_reduce
    rw [res5 m c, xs, mods, win, ← e0, ← e1, ← e2]
    exact val_main_v13_eq _ _ _
  · beta_reduce
    rw [res6 m c, xs, mods, win, ← e0, ← e1, ← e2]
    exact val_main_v14_eq _ _ _
  · beta_reduce
    rw [res7 m c, xs, mods, win, ← e0, ← e1, ← e2]
    exact val_main_v15_eq _ _ _
  · beta_reduce
    rw [res8 m c, xs, mods, win, ← e0, ← e1, ← e2]
    exact val_main_v16_eq _ _ _

end Cert.Proof.Input

end
-- ==== Proof.MixClaim.lean ====
/- The claims about the attention and convolution branches of the forward pass. -/
module

public import proofs.«01_k».proof.Defs
public import proofs.«01_k».proof.Proof.Gen.MixerRefIdeal.Run
public import Idealize.ShloMosaic.Adequacy
public import Idealize.ShloMosaic.Init

@[expose] public section

noncomputable section

namespace Cert.Proof.Mix

open Idealize.ShloMosaic Idealize.SL.Sem

theorem frame_reference : Cert.quiescent_MixerRefIdeal := fun m ρ _ =>
  (θ_run Cert.MixerRefIdeal.defs _ _).mono (fun r h => ⟨fun c => (h c).2.2.2.2, sem_eq_zero_of_no_sems (by decide) r.2⟩)
    (Cert.MixerRefIdeal.Value.run (F := Ideal) m ρ)

theorem preserves : Cert.preserves_Mixer_MixerIdeal := IdealRules.named_const.statement _ _ _ _ _ rfl

end Cert.Proof.Mix

end
-- ==== Proof.lean ====
module

public import proofs.«01_k».proof.Defs
public import proofs.«01_k».proof.Proof.Gen.ConvNorm
public import proofs.«01_k».proof.Proof.Gen.ConvNorm.Skeleton
public import proofs.«01_k».proof.Proof.Gen.ConvNorm.Launch
public import proofs.«01_k».proof.Proof.Gen.ConvNorm.Points
public import proofs.«01_k».proof.Proof.Gen.ConvNorm.Frame
public import proofs.«01_k».proof.Proof.Gen.ConvNormIdeal
public import proofs.«01_k».proof.Proof.Gen.ConvNormIdeal.Skeleton
public import proofs.«01_k».proof.Proof.Gen.ConvNormIdeal.Launch
public import proofs.«01_k».proof.Proof.Gen.ConvNormIdeal.Points
public import proofs.«01_k».proof.Proof.Gen.ConvNormIdeal.Frame
public import proofs.«01_k».proof.Proof.Gen.ConvNormRefIdeal
public import proofs.«01_k».proof.Proof.Gen.Pre_norm_finite
public import proofs.«01_k».proof.Proof.Gen.ConvNormIdeal.Value
public import proofs.«01_k».proof.Proof.Gen.ConvNormRefIdeal.Run
public import proofs.«01_k».proof.Proof.Gen.ConvNormRefIdeal.Read
public import proofs.«01_k».proof.Proof.NormClaim
public import proofs.«01_k».proof.Proof.Gen.OutNorm
public import proofs.«01_k».proof.Proof.Gen.OutNorm.Frame
public import proofs.«01_k».proof.Proof.Gen.OutNormIdeal.Frame
public import proofs.«01_k».proof.Proof.Gen.Pre_out_finite
public import proofs.«01_k».proof.Proof.Gen.OutNormIdeal.Value
public import proofs.«01_k».proof.Proof.Gen.OutNormRefIdeal.Run
public import proofs.«01_k».proof.Proof.Gen.OutNormRefIdeal.Read
public import proofs.«01_k».proof.Proof.OutClaim
public import proofs.«01_k».proof.Proof.AttnClaim
public import proofs.«01_k».proof.Proof.BiasClaim
public import proofs.«01_k».proof.Proof.TapsClaim
public import proofs.«01_k».proof.Proof.GradClaim
public import proofs.«01_k».proof.Proof.InClaim
public import proofs.«01_k».proof.Proof.MixClaim
public import proofs.«01_k».proof.Proof.Gen.Attn.Frame
public import proofs.«01_k».proof.Proof.Gen.Attn.Skeleton
public import proofs.«01_k».proof.Proof.Gen.AttnIdeal.Frame
public import proofs.«01_k».proof.Proof.Gen.AttnIdeal.Skeleton
public import proofs.«01_k».proof.Proof.Gen.Pre_attn_finite
public import proofs.«01_k».proof.Proof.Gen.AttnRefIdeal.Run
public import proofs.«01_k».proof.Proof.Gen.AttnRefIdeal.Read
public import proofs.«01_k».proof.Proof.Gen.RelBias.Frame
public import proofs.«01_k».proof.Proof.Gen.RelBiasIdeal.Frame
public import proofs.«01_k».proof.Proof.Gen.RelBiasIdeal.Value
public import proofs.«01_k».proof.Proof.Gen.RelBiasRefIdeal.Run
public import proofs.«01_k».proof.Proof.Gen.RelBiasRefIdeal.Read
public import proofs.«01_k».proof.Proof.Gen.ConvTaps.Frame
public import proofs.«01_k».proof.Proof.Gen.ConvTapsIdeal.Frame
public import proofs.«01_k».proof.Proof.Gen.ConvTapsIdeal.Value
public import proofs.«01_k».proof.Proof.Gen.ConvTapsRefIdeal.Run
public import proofs.«01_k».proof.Proof.Gen.ConvTapsRefIdeal.Read
public import proofs.«01_k».proof.Proof.Gen.InGrad.Frame
public import proofs.«01_k».proof.Proof.Gen.InGrad.Skeleton
public import proofs.«01_k».proof.Proof.Gen.InGradIdeal.Frame
public import proofs.«01_k».proof.Proof.Gen.InGradIdeal.Skeleton
public import proofs.«01_k».proof.Proof.Gen.InGradRefIdeal.Run
public import proofs.«01_k».proof.Proof.Gen.InGradRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal.Run
public import proofs.«01_k».proof.Proof.Gen.MixerRefIdeal.Read
public import Idealize.ShloMosaic.Adequacy
public import Idealize.ShloMosaic.Init

@[expose] public section

noncomputable section

namespace Cert.Proof

open Idealize.ShloMosaic Idealize.SL.Sem Cert.ConvNorm

theorem claim : Cert.Claim := ⟨Cert.ConvNorm.Gen.facts, Cert.ConvNormIdeal.Gen.facts, Cert.ConvNormRefIdeal.Gen.facts,
  Cert.OutNorm.Gen.facts, Cert.OutNormIdeal.Gen.facts, Cert.OutNormRefIdeal.Gen.facts, Cert.Attn.Gen.facts, Cert.AttnIdeal.Gen.facts, Cert.AttnRefIdeal.Gen.facts,
  Cert.RelBias.Gen.facts, Cert.RelBiasIdeal.Gen.facts, Cert.RelBiasRefIdeal.Gen.facts,
  Cert.ConvTaps.Gen.facts, Cert.ConvTapsIdeal.Gen.facts, Cert.ConvTapsRefIdeal.Gen.facts,
  Cert.InGrad.Gen.facts, Cert.InGradIdeal.Gen.facts, Cert.InGradRefIdeal.Gen.facts,
  Cert.InProj.Gen.facts, Cert.InProjIdeal.Gen.facts, Cert.InProjRefIdeal.Gen.facts,
  Cert.Mixer.Gen.facts, Cert.MixerIdeal.Gen.facts, Cert.MixerRefIdeal.Gen.facts,
  Cert.Pre_norm_finite.Gen.facts, Cert.Pre_out_finite.Gen.facts, Cert.Pre_attn_finite.Gen.facts,
  fun m ρ _ => Cert.ConvNorm.Gen.frame m ρ, fun m ρ _ => Cert.ConvNormIdeal.Gen.frame m ρ, fun m ρ _ => Cert.ConvNormIdeal.Gen.frame m ρ,
  Norm.frame_reference, fun m ρ _ => Norm.frame_reference m ρ trivial,
  fun m ρ _ => Cert.OutNorm.Gen.frame m ρ, fun m ρ _ => Cert.OutNormIdeal.Gen.frame m ρ, fun m ρ _ => Cert.OutNormIdeal.Gen.frame m ρ,
  Out.frame_reference, fun m ρ _ => Out.frame_reference m ρ trivial,
  Cert.Attn.Frames.bits _, Cert.Attn.Frames.ideal _, fun m ρ _ => Cert.Attn.Frames.ideal _ m ρ trivial,
  Attn.frame_reference, fun m ρ _ => Attn.frame_reference m ρ trivial,
  fun m ρ _ => Cert.RelBias.Gen.frame m ρ, fun m ρ _ => Cert.RelBiasIdeal.Gen.frame m ρ, Bias.frame_reference,
  fun m ρ _ => Cert.ConvTaps.Gen.frame m ρ, fun m ρ _ => Cert.ConvTapsIdeal.Gen.frame m ρ, Taps.frame_reference,
  Cert.InGrad.Frames.bits _, Cert.InGrad.Frames.ideal _, Grad.frame_reference,
  fun m ρ _ => Cert.InProj.Gen.frame m ρ, fun m ρ _ => Cert.InProjIdeal.Gen.frame m ρ, Input.frame_reference,
  fun m ρ _ => Cert.Mixer.Gen.frame m ρ, fun m ρ _ => Cert.MixerIdeal.Gen.frame m ρ, Mix.frame_reference,
  trivial, Norm.algebraic, trivial, Out.algebraic, Attn.preserves, Attn.algebraic, trivial, Bias.algebraic,
  trivial, Taps.algebraic, trivial, Grad.algebraic, trivial, Input.algebraic, Mix.preserves⟩

end Cert.Proof

end
